-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_decaying [hPre_finite_decaying : Cert.Pre_finite_decaying.Facts] (m : (ℓ : Loc Cert.KernelIdeal.nD Cert.KernelIdeal.τ Cert.KernelIdeal.sig) → Buf (Elt Ideal) ℓ) : Prop :=
  ∀ c : Dev Cert.KernelIdeal.nD,
    (Cert.Pre_finite_decaying.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_decaying [hPre_finite_decaying : Cert.Pre_finite_decaying.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_decaying.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_decaying [hKernelIdeal : Cert.KernelIdeal.Facts] [hPre_finite_decaying : Cert.Pre_finite_decaying.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_decaying m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_decaying [hReferenceIdeal : Cert.ReferenceIdeal.Facts] [hPre_finite_decaying : Cert.Pre_finite_decaying.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_decaying m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "neg" .f32 0xF149F2CA#32 ⊥

def algebraic_KernelIdeal_ReferenceIdeal_pre_finite_decaying [hKernelIdeal : Cert.KernelIdeal.Facts] [hReferenceIdeal : Cert.ReferenceIdeal.Facts] [hPre_finite_decaying : Cert.Pre_finite_decaying.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_decaying m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v11_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)) (v4 : (c : Dev Cert.Kernel2Ideal.nD) → Buf (Elt Ideal) ((c.tc : Thread Cert.Kernel2Ideal.nD Cert.Kernel2Ideal.τ).loc Cert.Kernel2Ideal.main_v3_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_v3_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_v58) = v1 c
          ∧ r.2.mem ((c.tc : Thread Cert.Reference2Ideal.nD Cert.Reference2Ideal.τ).loc Cert.Reference2Ideal.main_v60) = v2 c
          ∧ r.2.mem ((c.tc : Thread Cert.Reference2Ideal.nD Cert.Reference2Ideal.τ).loc Cert.Reference2Ideal.main_v62) = v3 c
          ∧ r.2.mem ((c.tc : Thread Cert.Reference2Ideal.nD Cert.Reference2Ideal.τ).loc Cert.Reference2Ideal.main_v64) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v36)) (v1 : (c : Dev Cert.Kernel5Ideal.nD) → Buf (Elt Ideal) ((c.tc : Thread Cert.Kernel5Ideal.nD Cert.Kernel5Ideal.τ).loc Cert.Kernel5Ideal.main_v38)) (v2 : (c : Dev Cert.Kernel5Ideal.nD) → Buf (Elt Ideal) ((c.tc : Thread Cert.Kernel5Ideal.nD Cert.Kernel5Ideal.τ).loc Cert.Kernel5Ideal.main_v47)) (v3 : (c : Dev Cert.Kernel5Ideal.nD) → Buf (Elt Ideal) ((c.tc : Thread Cert.Kernel5Ideal.nD Cert.Kernel5Ideal.τ).loc Cert.Kernel5Ideal.main_v48)) (v4 : (c : Dev Cert.Kernel5Ideal.nD) → Buf (Elt Ideal) ((c.tc : Thread Cert.Kernel5Ideal.nD Cert.Kernel5Ideal.τ).loc Cert.Kernel5Ideal.main_v49)) (v5 : (c : Dev Cert.Kernel5Ideal.nD) → Buf (Elt Ideal) ((c.tc : Thread Cert.Kernel5Ideal.nD Cert.Kernel5Ideal.τ).loc Cert.Kernel5Ideal.main_v46)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v36) = v0 c
          ∧ r.2.mem ((c.tc : Thread Cert.Kernel5Ideal.nD Cert.Kernel5Ideal.τ).loc Cert.Kernel5Ideal.main_v38) = v1 c
          ∧ r.2.mem ((c.tc : Thread Cert.Kernel5Ideal.nD Cert.Kernel5Ideal.τ).loc Cert.Kernel5Ideal.main_v47) = v2 c
          ∧ r.2.mem ((c.tc : Thread Cert.Kernel5Ideal.nD Cert.Kernel5Ideal.τ).loc Cert.Kernel5Ideal.main_v48) = v3 c
          ∧ r.2.mem ((c.tc : Thread Cert.Kernel5Ideal.nD Cert.Kernel5Ideal.τ).loc Cert.Kernel5Ideal.main_v49) = v4 c
          ∧ r.2.mem ((c.tc : Thread Cert.Kernel5Ideal.nD Cert.Kernel5Ideal.τ).loc Cert.Kernel5Ideal.main_v46) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_v93) = v1 c
          ∧ r.2.mem ((c.tc : Thread Cert.Reference5Ideal.nD Cert.Reference5Ideal.τ).loc Cert.Reference5Ideal.main_v60) = v2 c
          ∧ r.2.mem ((c.tc : Thread Cert.Reference5Ideal.nD Cert.Reference5Ideal.τ).loc Cert.Reference5Ideal.main_v90) = v3 c
          ∧ r.2.mem ((c.tc : Thread Cert.Reference5Ideal.nD Cert.Reference5Ideal.τ).loc Cert.Reference5Ideal.main_v91) = v4 c
          ∧ r.2.mem ((c.tc : Thread Cert.Reference5Ideal.nD Cert.Reference5Ideal.τ).loc Cert.Reference5Ideal.main_v95) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v6)) (v1 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_v7) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v248) = v0 c
          ∧ r.2.mem ((c.tc : Thread Cert.Reference7Ideal.nD Cert.Reference7Ideal.τ).loc Cert.Reference7Ideal.main_v249) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_decaying : Cert.Pre_finite_decaying.Facts),
    quiescent_Kernel (hKernel := hKernel)
    ∧ quiescent_KernelIdeal (hKernelIdeal := hKernelIdeal)
    ∧ quiescent_KernelIdeal_pre_finite_decaying (hKernelIdeal := hKernelIdeal) (hPre_finite_decaying := hPre_finite_decaying)
    ∧ quiescent_ReferenceIdeal (hReferenceIdeal := hReferenceIdeal)
    ∧ quiescent_ReferenceIdeal_pre_finite_decaying (hReferenceIdeal := hReferenceIdeal) (hPre_finite_decaying := hPre_finite_decaying)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_decaying (hKernelIdeal := hKernelIdeal) (hReferenceIdeal := hReferenceIdeal) (hPre_finite_decaying := hPre_finite_decaying)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_decaying.lean ====
abbrev S8x2048x16x128 : Shape := ⟨4, ![8, 2048, 16, 128]⟩
abbrev S8x2048x2048 : Shape := ⟨3, ![8, 2048, 2048]⟩
abbrev S128 : Shape := ⟨1, ![128]⟩
abbrev S8x16x128x128 : Shape := ⟨4, ![8, 16, 128, 128]⟩
abbrev S_ : Shape := ⟨0, ![]⟩

class Facts : Prop where
  bcast_S_S8x2048x16x128 : S_.BroadcastsInDim S8x2048x16x128 (![] : Fin 0 → Fin S8x2048x16x128.rank)
  reducesTo_S8x2048x16x128_S_d0_1_2_3 : S8x2048x16x128.ReducesTo [0, 1, 2, 3] S_
  h_S_ : 0 < S_.numel
  bcast_S_S8x16x128x128 : S_.BroadcastsInDim S8x16x128x128 (![] : Fin 0 → Fin S8x16x128x128.rank)
  reducesTo_S8x16x128x128_S_d0_1_2_3 : S8x16x128x128.ReducesTo [0, 1, 2, 3] S_

variable [Facts]

def fn_part1 {F : FTy → Type} [FloatOps F] (main_arg6 : FVec F S8x16x128x128 .f32) (main_v5 : IVec S_ 1) (main_v14 : IVec S_ 1) (main_v15 : FVec F S8x2048x16x128 .f32) (main_cst_5 : FVec F S_ .f32) : IVec S_ 1 :=
  let main_v16 : FVec F S8x2048x16x128 .f32 := broadcastInDim S8x2048x16x128 ![] bcast_S_S8x2048x16x128 main_cst_5
  let main_v17 : IVec S8x2048x16x128 1 := cmpf .olt main_v15 main_v16
  let main_c_6 : IVec S_ 1 := constantI S_ 1 1#1
  let main_v18 : IVec S_ 1 := (fun x v => Host.reduce IntOp.andi x v reducesTo_S8x2048x16x128_S_d0_1_2_3 h_S_) main_v17 main_c_6
  let main_v19 : IVec S_ 1 := andi main_v14 main_v18
  let main_v20 : FVec F S8x16x128x128 .f32 := Host.absf main_arg6
  let main_cst_7 : FVec F S_ .f32 := constant S_ .f32 0x7F800000#32
  let main_v21 : FVec F S8x16x128x128 .f32 := broadcastInDim S8x16x128x128 ![] bcast_S_S8x16x128x128 main_cst_7
  let main_v22 : IVec S8x16x128x128 1 := cmpf .olt main_v20 main_v21
  let main_c_8 : IVec S_ 1 := constantI S_ 1 1#1
  let main_v23 : IVec S_ 1 := (fun x v => Host.reduce IntOp.andi x v reducesTo_S8x16x128x128_S_d0_1_2_3 h_S_) main_v22 main_c_8
  let main_v24 : IVec S_ 1 := andi main_v19 main_v23
  let main_v25 : IVec S_ 1 := andi main_v5 main_v24
  main_v25

def fn {F : FTy → Type} [FloatOps F] (main_arg0 : FVec F S8x2048x16x128 .f32) (main_arg1 : FVec F S8x2048x16x128 .f32) (main_arg2 : FVec F S8x2048x16x128 .f32) (main_arg3 : FVec F S8x2048x16x128 .f32) (main_arg4 : FVec F S8x2048x2048 .f32) (main_arg5 : FVec F S128 .f32) (main_arg6 : FVec F S8x16x128x128 .f32) : IVec S_ 1 :=
  let main_cst : FVec F S_ .f32 := constant S_ .f32 0xFF800000#32
  let main_v0 : FVec F S8x2048x16x128 .f32 := broadcastInDim S8x2048x16x128 ![] bcast_S_S8x2048x16x128 main_cst
  let main_v1 : IVec S8x2048x16x128 1 := cmpf .ogt main_arg1 main_v0
  let main_cst_0 : FVec F S_ .f32 := constant S_ .f32 0x00000000#32
  let main_v2 : FVec F S8x2048x16x128 .f32 := broadcastInDim S8x2048x16x128 ![] bcast_S_S8x2048x16x128 main_cst_0
  let main_v3 : IVec S8x2048x16x128 1 := cmpf .ole main_arg1 main_v2
  let main_v4 : IVec S8x2048x16x128 1 := andi main_v1 main_v3
  let main_c : IVec S_ 1 := constantI S_ 1 1#1
  let main_v5 : IVec S_ 1 := (fun x v => Host.reduce IntOp.andi x v reducesTo_S8x2048x16x128_S_d0_1_2_3 h_S_) main_v4 main_c
  let main_v6 : FVec F S8x2048x16x128 .f32 := Host.absf main_arg0
  let main_cst_1 : FVec F S_ .f32 := constant S_ .f32 0x7F800000#32
  let main_v7 : FVec F S8x2048x16x128 .f32 := broadcastInDim S8x2048x16x128 ![] bcast_S_S8x2048x16x128 main_cst_1
  let main_v8 : IVec S8x2048x16x128 1 := cmpf .olt main_v6 main_v7
  let main_c_2 : IVec S_ 1 := constantI S_ 1 1#1
  let main_v9 : IVec S_ 1 := (fun x v => Host.reduce IntOp.andi x v reducesTo_S8x2048x16x128_S_d0_1_2_3 h_S_) main_v8 main_c_2
  let main_v10 : FVec F S8x2048x16x128 .f32 := Host.absf main_arg2
  let main_cst_3 : FVec F S_ .f32 := constant S_ .f32 0x7F800000#32
  let main_v11 : FVec F S8x2048x16x128 .f32 := broadcastInDim S8x2048x16x128 ![] bcast_S_S8x2048x16x128 main_cst_3
  let main_v12 : IVec S8x2048x16x128 1 := cmpf .olt main_v10 main_v11
  let main_c_4 : IVec S_ 1 := constantI S_ 1 1#1
  let main_v13 : IVec S_ 1 := (fun x v => Host.reduce IntOp.andi x v reducesTo_S8x2048x16x128_S_d0_1_2_3 h_S_) main_v12 main_c_4
  let main_v14 : IVec S_ 1 := andi main_v9 main_v13
  let main_v15 : FVec F S8x2048x16x128 .f32 := Host.absf main_arg3
  let main_cst_5 : FVec F S_ .f32 := constant S_ .f32 0x7F800000#32
  fn_part1 (F := F) main_arg6 main_v5 main_v14 main_v15 main_cst_5
-- ==== Kernel.lean ====
abbrev S8x2048x16x128 : Shape := ⟨4, ![8, 2048, 16, 128]⟩
abbrev S8x2048x2048 : Shape := ⟨3, ![8, 2048, 2048]⟩
abbrev S128 : Shape := ⟨1, ![128]⟩
abbrev S8x16x128x128 : Shape := ⟨4, ![8, 16, 128, 128]⟩
abbrev S1x128 : Shape := ⟨2, ![1, 128]⟩
abbrev S1x128x2048 : Shape := ⟨3, ![1, 128, 2048]⟩
abbrev S1x16x128x128 : Shape := ⟨4, ![1, 16, 128, 128]⟩
abbrev S16x128x128 : Shape := ⟨3, ![16, 128, 128]⟩
abbrev S16x136x128 : Shape := ⟨3, ![16, 136, 128]⟩
abbrev S128x128 : Shape := ⟨2, ![128, 128]⟩
abbrev S1x1x128x128 : Shape := ⟨4, ![1, 1, 128, 128]⟩
abbrev S1x128x128 : Shape := ⟨3, ![1, 128, 128]⟩
abbrev S8x128 : Shape := ⟨2, ![8, 128]⟩
abbrev S1x8x128 : Shape := ⟨3, ![1, 8, 128]⟩
abbrev S1x16x128 : Shape := ⟨3, ![1, 16, 128]⟩
abbrev S16x128 : Shape := ⟨2, ![16, 128]⟩
abbrev S16x1x128 : Shape := ⟨3, ![16, 1, 128]⟩
abbrev S16x8x128 : Shape := ⟨3, ![16, 8, 128]⟩
abbrev S8x1x128 : Shape := ⟨3, ![8, 1, 128]⟩
abbrev S8x16x128 : Shape := ⟨3, ![8, 16, 128]⟩
abbrev S1x4x128 : Shape := ⟨3, ![1, 4, 128]⟩
abbrev S4x128 : Shape := ⟨2, ![4, 128]⟩
abbrev S4x1x128 : Shape := ⟨3, ![4, 1, 128]⟩
abbrev S4x32x128 : Shape := ⟨3, ![4, 32, 128]⟩
abbrev S1x2x128 : Shape := ⟨3, ![1, 2, 128]⟩
abbrev S2x128 : Shape := ⟨2, ![2, 128]⟩
abbrev S2x1x128 : Shape := ⟨3, ![2, 1, 128]⟩
abbrev S2x64x128 : Shape := ⟨3, ![2, 64, 128]⟩
abbrev S1x1x128 : Shape := ⟨3, ![1, 1, 128]⟩
abbrev S128x1 : Shape := ⟨2, ![128, 1]⟩

abbrev nBuf : Space → Nat
  | .hbm => 18
  | .vmem => 23
  | .smem => 0
  | _ => 0

abbrev bufTy : (tb : Table) → Fin (tcTables nBuf tb) → BufTy
  | .hbm, ⟨0, _⟩ => ⟨S8x2048x16x128, .f32⟩
  | .hbm, ⟨1, _⟩ => ⟨S8x2048x16x128, .f32⟩
  | .hbm, ⟨2, _⟩ => ⟨S8x2048x16x128, .f32⟩
  | .hbm, ⟨3, _⟩ => ⟨S8x2048x16x128, .f32⟩
  | .hbm, ⟨4, _⟩ => ⟨S8x2048x2048, .f32⟩
  | .hbm, ⟨5, _⟩ => ⟨S128, .f32⟩
  | .hbm, ⟨6, _⟩ => ⟨S8x16x128x128, .f32⟩
  | .hbm, ⟨7, _⟩ => ⟨S8x2048x2048, .f32⟩
  | .hbm, ⟨8, _⟩ => ⟨S8x2048x2048, .bf16⟩
  | .hbm, ⟨9, _⟩ => ⟨S8x2048x2048, .f32⟩
  | .hbm, ⟨10, _⟩ => ⟨S8x2048x2048, .f32⟩
  | .hbm, ⟨11, _⟩ => ⟨S8x2048x2048, .bf16⟩
  | .hbm, ⟨12, _⟩ => ⟨S8x2048x2048, .f32⟩
  | .hbm, ⟨13, _⟩ => ⟨S8x2048x2048, .bf16⟩
  | .hbm, ⟨14, _⟩ => ⟨S8x2048x2048, .bf16⟩
  | .hbm, ⟨15, _⟩ => ⟨S1x128, .f32⟩
  | .hbm, ⟨16, _⟩ => ⟨S8x2048x2048, .bf16⟩
  | .hbm, ⟨17, _⟩ => ⟨S8x16x128x128, .f32⟩
  | .local _ .vmem, ⟨0, _⟩ => ⟨S1x128x2048, .bf16⟩
  | .local _ .vmem, ⟨1, _⟩ => ⟨S1x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .bf16⟩
  | .local _ .vmem, ⟨5, _⟩ => ⟨S1x128x2048, .bf16⟩
  | .local _ .vmem, ⟨6, _⟩ => ⟨S1x128x2048, .bf16⟩
  | .local _ .vmem, ⟨7, _⟩ => ⟨S1x128x2048, .bf16⟩
  | .local _ .vmem, ⟨8, _⟩ => ⟨S1x128x2048, .bf16⟩
  | .local _ .vmem, ⟨9, _⟩ => ⟨S1x128x2048, .bf16⟩
  | .local _ .vmem, ⟨10, _⟩ => ⟨S1x128, .f32⟩
  | .local _ .vmem, ⟨11, _⟩ => ⟨S1x16x128x128, .f32⟩
  | .local _ .vmem, ⟨12, _⟩ => ⟨S1x16x128x128, .f32⟩
  | .local _ .vmem, ⟨13, _⟩ => ⟨S1x128x2048, .bf16⟩
  | .local _ .vmem, ⟨14, _⟩ => ⟨S1x128x2048, .bf16⟩
  | .local _ .vmem, ⟨15, _⟩ => ⟨S1x16x128x128, .f32⟩
  | .local _ .vmem, ⟨16, _⟩ => ⟨S1x16x128x128, .f32⟩
  | .local _ .vmem, ⟨17, _⟩ => ⟨S16x128x128, .f32⟩
  | .local _ .vmem, ⟨18, _⟩ => ⟨S16x136x128, .f32⟩
  | .local _ .vmem, ⟨19, _⟩ => ⟨S16x136x128, .f32⟩
  | .local _ .vmem, ⟨20, _⟩ => ⟨S16x136x128, .f32⟩
  | .local _ .vmem, ⟨21, _⟩ => ⟨S128x128, .bf16⟩
  | .local _ .vmem, ⟨22, _⟩ => ⟨S128x128, .i32⟩
  | _, _ => ⟨S8x2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![8, 1, 16], ![false, false, false]⟩

def k0_cond3 (i : grid0.Coords) : BitVec 1 :=
  let arg2 : BitVec 32 := BitVec.ofNat 32 (i 2).val
  let c15_i32 : BitVec 32 := 15#32
  let v3956 : BitVec 1 := Scalar.cmpi .eq arg2 c15_i32
  let v3957 : BitVec 32 := Scalar.extui v3956
  let c0_i32_1989 : BitVec 32 := 0#32
  let v3958 : BitVec 1 := Scalar.cmpi .ne v3957 c0_i32_1989
  v3958

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x16x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x16x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KernelIdeal.lean ====
variable {F : FTy → Type} [FloatOps F] [Named F]
def κ : String → Option EReal := fun
  | "log2e" => some (((Real.log 2)⁻¹ : ℝ) : EReal)
  | "neg" => some ⊥
  | _ => none
-- ==== ReferenceIdeal.lean ====
abbrev S8x2048x16x128 : Shape := ⟨4, ![8, 2048, 16, 128]⟩
abbrev S8x2048x2048 : Shape := ⟨3, ![8, 2048, 2048]⟩
abbrev S128 : Shape := ⟨1, ![128]⟩
abbrev S8x16x128x128 : Shape := ⟨4, ![8, 16, 128, 128]⟩
abbrev S_ : Shape := ⟨0, ![]⟩
abbrev S64x64 : Shape := ⟨2, ![64, 64]⟩
abbrev S8x32x64x16x128 : Shape := ⟨5, ![8, 32, 64, 16, 128]⟩
abbrev S32x8x16x64x128 : Shape := ⟨5, ![32, 8, 16, 64, 128]⟩
abbrev S1x8x16x64x128 : Shape := ⟨5, ![1, 8, 16, 64, 128]⟩
abbrev S8x16x64x128 : Shape := ⟨4, ![8, 16, 64, 128]⟩
abbrev S8x16x64x1x128 : Shape := ⟨5, ![8, 16, 64, 1, 128]⟩
abbrev S8x16x1x64x128 : Shape := ⟨5, ![8, 16, 1, 64, 128]⟩
abbrev S8x16x64x64x128 : Shape := ⟨5, ![8, 16, 64, 64, 128]⟩
abbrev S1x1x64x64x1 : Shape := ⟨5, ![1, 1, 64, 64, 1]⟩
abbrev S8x16x64x64 : Shape := ⟨4, ![8, 16, 64, 64]⟩
abbrev S8x16x1x128 : Shape := ⟨4, ![8, 16, 1, 128]⟩
abbrev S8x16x128 : Shape := ⟨3, ![8, 16, 128]⟩
abbrev S8x16x128x1 : Shape := ⟨4, ![8, 16, 128, 1]⟩
abbrev S8x2048x16 : Shape := ⟨3, ![8, 2048, 16]⟩
abbrev S8x2048x16x1 : Shape := ⟨4, ![8, 2048, 16, 1]⟩
abbrev S1x1x1x128 : Shape := ⟨4, ![1, 1, 1, 128]⟩

abbrev nBuf : Space → Nat
  | .hbm => 133
  | .vmem => 0
  | .smem => 0
  | _ => 0

abbrev hbmTy0_0 (i : Nat) : BufTy := match i % 128 with
  | 0 => ⟨S8x2048x16x128, .f32⟩
  | 1 => ⟨S8x2048x16x128, .f32⟩
  | 2 => ⟨S8x2048x16x128, .f32⟩
  | 3 => ⟨S8x2048x16x128, .f32⟩
  | 4 => ⟨S8x2048x2048, .f32⟩
  | 5 => ⟨S128, .f32⟩
  | 6 => ⟨S8x16x128x128, .f32⟩
  | 7 => ⟨S_, .i1⟩
  | 8 => ⟨S64x64, .i1⟩
  | 9 => ⟨S64x64, .i32⟩
  | 10 => ⟨S_, .i32⟩
  | 11 => ⟨S64x64, .i32⟩
  | 12 => ⟨S64x64, .i32⟩
  | 13 => ⟨S64x64, .i32⟩
  | 14 => ⟨S64x64, .i1⟩
  | 15 => ⟨S_, .i1⟩
  | 16 => ⟨S64x64, .i1⟩
  | 17 => ⟨S64x64, .i1⟩
  | 18 => ⟨S8x32x64x16x128, .f32⟩
  | 19 => ⟨S32x8x16x64x128, .f32⟩
  | 20 => ⟨S8x32x64x16x128, .f32⟩
  | 21 => ⟨S32x8x16x64x128, .f32⟩
  | 22 => ⟨S8x32x64x16x128, .f32⟩
  | 23 => ⟨S32x8x16x64x128, .f32⟩
  | 24 => ⟨S8x32x64x16x128, .f32⟩
  | 25 => ⟨S32x8x16x64x128, .f32⟩
  | 26 => ⟨S_, .f32⟩
  | 27 => ⟨S32x8x16x64x128, .f32⟩
  | 28 => ⟨S_, .i32⟩
  | 29 => ⟨S32x8x16x64x128, .f32⟩
  | 30 => ⟨S32x8x16x64x128, .f32⟩
  | 31 => ⟨S32x8x16x64x128, .f32⟩
  | 32 => ⟨S32x8x16x64x128, .f32⟩
  | 33 => ⟨S64x64, .i1⟩
  | 34 => ⟨S_, .i32⟩
  | 35 => ⟨S8x16x128x128, .f32⟩
  | 36 => ⟨S32x8x16x64x128, .f32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S1x8x16x64x128, .f32⟩
  | 44 => ⟨S8x16x64x128, .f32⟩
  | 45 => ⟨S_, .i32⟩
  | 46 => ⟨S_, .i32⟩
  | 47 => ⟨S_, .i32⟩
  | 48 => ⟨S_, .i32⟩
  | 49 => ⟨S1x8x16x64x128, .f32⟩
  | 50 => ⟨S8x16x64x128, .f32⟩
  | 51 => ⟨S_, .i32⟩
  | 52 => ⟨S_, .i32⟩
  | 53 => ⟨S_, .i32⟩
  | 54 => ⟨S_, .i32⟩
  | 55 => ⟨S1x8x16x64x128, .f32⟩
  | 56 => ⟨S8x16x64x128, .f32⟩
  | 57 => ⟨S_, .i32⟩
  | 58 => ⟨S_, .i32⟩
  | 59 => ⟨S_, .i32⟩
  | 60 => ⟨S_, .i32⟩
  | 61 => ⟨S1x8x16x64x128, .f32⟩
  | 62 => ⟨S8x16x64x128, .f32⟩
  | 63 => ⟨S_, .f32⟩
  | 64 => ⟨S_, .f32⟩
  | 65 => ⟨S8x16x64x128, .f32⟩
  | 66 => ⟨S8x16x64x1x128, .f32⟩
  | 67 => ⟨S8x16x1x64x128, .f32⟩
  | 68 => ⟨S8x16x64x64x128, .f32⟩
  | 69 => ⟨S8x16x64x64x128, .f32⟩
  | 70 => ⟨S8x16x64x64x128, .f32⟩
  | 71 => ⟨S1x1x64x64x1, .i1⟩
  | 72 => ⟨S_, .f32⟩
  | 73 => ⟨S_, .f32⟩
  | 74 => ⟨S8x16x64x64x128, .i1⟩
  | 75 => ⟨S8x16x64x64x128, .f32⟩
  | 76 => ⟨S8x16x64x64x128, .f32⟩
  | 77 => ⟨S8x16x64x64x128, .f32⟩
  | 78 => ⟨S8x16x64x1x128, .f32⟩
  | 79 => ⟨S8x16x1x64x128, .f32⟩
  | 80 => ⟨S8x16x64x64x128, .f32⟩
  | 81 => ⟨S8x16x64x64x128, .f32⟩
  | 82 => ⟨S8x16x64x64x128, .f32⟩
  | 83 => ⟨S8x16x64x64x128, .f32⟩
  | 84 => ⟨S_, .f32⟩
  | 85 => ⟨S8x16x64x64, .f32⟩
  | 86 => ⟨S8x16x64x128, .f32⟩
  | 87 => ⟨S8x16x64x128, .f32⟩
  | 88 => ⟨S8x16x64x128, .f32⟩
  | 89 => ⟨S8x16x64x128, .f32⟩
  | 90 => ⟨S8x16x64x128, .f32⟩
  | 91 => ⟨S8x16x1x128, .f32⟩
  | 92 => ⟨S8x16x128, .f32⟩
  | 93 => ⟨S8x16x128, .f32⟩
  | 94 => ⟨S8x16x128x1, .f32⟩
  | 95 => ⟨S8x16x128x128, .f32⟩
  | 96 => ⟨S8x16x128x128, .f32⟩
  | 97 => ⟨S8x16x1x128, .f32⟩
  | 98 => ⟨S8x16x64x128, .f32⟩
  | 99 => ⟨S8x16x64x128, .f32⟩
  | 100 => ⟨S8x16x64x128, .f32⟩
  | 101 => ⟨S8x16x64x128, .f32⟩
  | 102 => ⟨S8x16x128x128, .f32⟩
  | 103 => ⟨S8x16x128x128, .f32⟩
  | 104 => ⟨S1x8x16x64x128, .f32⟩
  | 105 => ⟨S_, .i32⟩
  | 106 => ⟨S_, .i32⟩
  | 107 => ⟨S_, .i32⟩
  | 108 => ⟨S_, .i32⟩
  | 109 => ⟨S32x8x16x64x128, .f32⟩
  | 110 => ⟨S_, .i32⟩
  | 111 => ⟨S_, .i32⟩
  | 112 => ⟨S8x32x64x16x128, .f32⟩
  | 113 => ⟨S8x2048x16x128, .f32⟩
  | 114 => ⟨S8x2048x16x128, .f32⟩
  | 115 => ⟨S_, .f32⟩
  | 116 => ⟨S8x2048x16, .f32⟩
  | 117 => ⟨S8x2048x16x1, .f32⟩
  | 118 => ⟨S_, .f32⟩
  | 119 => ⟨S8x2048x16x1, .f32⟩
  | 120 => ⟨S8x2048x16x1, .f32⟩
  | 121 => ⟨S_, .f32⟩
  | 122 => ⟨S8x2048x16x1, .f32⟩
  | 123 => ⟨S8x2048x16x1, .f32⟩
  | 124 => ⟨S8x2048x16x1, .f32⟩
  | 125 => ⟨S8x2048x16x128, .f32⟩
  | 126 => ⟨S8x2048x16x128, .f32⟩
  | 127 => ⟨S1x1x1x128, .f32⟩
  | _ => ⟨S8x2048x16x128, .f32⟩

abbrev hbmTy0_1 (i : Nat) : BufTy := match i % 128 with
  | 0 => ⟨S8x2048x16x128, .f32⟩
  | 1 => ⟨S8x2048x16x128, .f32⟩
  | 2 => ⟨S8x2048x2048, .f32⟩
  | 3 => ⟨S8x2048x2048, .f32⟩
  | 4 => ⟨S8x2048x2048, .bf16⟩
  | _ => ⟨S8x2048x16x128, .f32⟩

abbrev hbmTy (i : Nat) : BufTy := match i / 128 with
  | 0 => hbmTy0_0 i
  | 1 => hbmTy0_1 i
  | _ => ⟨S8x2048x16x128, .f32⟩

abbrev bufTy : (tb : Table) → Fin (tcTables nBuf tb) → BufTy
  | .hbm, ⟨i, _⟩ => hbmTy i
  | _, _ => ⟨S8x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_0 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_c_0 : Ref sig .tc := ⟨.hbm, 28, rfl⟩
abbrev main_v11_0 : Ref sig .tc := ⟨.hbm, 29, rfl⟩
abbrev main_v11_1 : Ref sig .tc := ⟨.hbm, 30, rfl⟩
abbrev main_v11_2 : Ref sig .tc := ⟨.hbm, 31, rfl⟩
abbrev main_v11_3 : Ref sig .tc := ⟨.hbm, 32, rfl⟩
abbrev main_v11_4 : Ref sig .tc := ⟨.hbm, 33, rfl⟩
abbrev main_v11_5 : Ref sig .tc := ⟨.hbm, 34, rfl⟩
abbrev main_v11_6 : Ref sig .tc := ⟨.hbm, 35, rfl⟩
abbrev main_v11_7 : Ref sig .tc := ⟨.hbm, 36, rfl⟩
abbrev main_while0c_c_11 : Ref sig .tc := ⟨.hbm, 37, rfl⟩
abbrev main_while0c_v30 : Ref sig .tc := ⟨.hbm, 38, rfl⟩
abbrev main_while0b_call1_c : Ref sig .tc := ⟨.hbm, 39, rfl⟩
abbrev main_while0b_call1_c_0 : Ref sig .tc := ⟨.hbm, 40, rfl⟩
abbrev main_while0b_call1_c_1 : Ref sig .tc := ⟨.hbm, 41, rfl⟩
abbrev main_while0b_call1_c_2 : Ref sig .tc := ⟨.hbm, 42, rfl⟩
abbrev main_while0b_call1_v0 : Ref sig .tc := ⟨.hbm, 43, rfl⟩
abbrev main_while0b_v30 : Ref sig .tc := ⟨.hbm, 44, rfl⟩
abbrev main_while0b_call2_c : Ref sig .tc := ⟨.hbm, 45, rfl⟩
abbrev main_while0b_call2_c_0 : Ref sig .tc := ⟨.hbm, 46, rfl⟩
abbrev main_while0b_call2_c_1 : Ref sig .tc := ⟨.hbm, 47, rfl⟩
abbrev main_while0b_call2_c_2 : Ref sig .tc := ⟨.hbm, 48, rfl⟩
abbrev main_while0b_call2_v0 : Ref sig .tc := ⟨.hbm, 49, rfl⟩
abbrev main_while0b_v31 : Ref sig .tc := ⟨.hbm, 50, rfl⟩
abbrev main_while0b_call3_c : Ref sig .tc := ⟨.hbm, 51, rfl⟩
abbrev main_while0b_call3_c_0 : Ref sig .tc := ⟨.hbm, 52, rfl⟩
abbrev main_while0b_call3_c_1 : Ref sig .tc := ⟨.hbm, 53, rfl⟩
abbrev main_while0b_call3_c_2 : Ref sig .tc := ⟨.hbm, 54, rfl⟩
abbrev main_while0b_call3_v0 : Ref sig .tc := ⟨.hbm, 55, rfl⟩
abbrev main_while0b_v32 : Ref sig .tc := ⟨.hbm, 56, rfl⟩
abbrev main_while0b_call4_c : Ref sig .tc := ⟨.hbm, 57, rfl⟩
abbrev main_while0b_call4_c_0 : Ref sig .tc := ⟨.hbm, 58, rfl⟩
abbrev main_while0b_call4_c_1 : Ref sig .tc := ⟨.hbm, 59, rfl⟩
abbrev main_while0b_call4_c_2 : Ref sig .tc := ⟨.hbm, 60, rfl⟩
abbrev main_while0b_call4_v0 : Ref sig .tc := ⟨.hbm, 61, rfl⟩
abbrev main_while0b_v33 : Ref sig .tc := ⟨.hbm, 62, rfl⟩
abbrev main_while0b_call5_call0_cst : Ref sig .tc := ⟨.hbm, 63, rfl⟩
abbrev main_while0b_call5_call0_v0 : Ref sig .tc := ⟨.hbm, 64, rfl⟩
abbrev main_while0b_v34 : Ref sig .tc := ⟨.hbm, 65, rfl⟩
abbrev main_while0b_v35 : Ref sig .tc := ⟨.hbm, 66, rfl⟩
abbrev main_while0b_v36 : Ref sig .tc := ⟨.hbm, 67, rfl⟩
abbrev main_while0b_v37 : Ref sig .tc := ⟨.hbm, 68, rfl⟩
abbrev main_while0b_v38 : Ref sig .tc := ⟨.hbm, 69, rfl⟩
abbrev main_while0b_v39 : Ref sig .tc := ⟨.hbm, 70, rfl⟩
abbrev main_while0b_v40 : Ref sig .tc := ⟨.hbm, 71, rfl⟩
abbrev main_while0b_cst_11 : Ref sig .tc := ⟨.hbm, 72, rfl⟩
abbrev main_while0b_call6_v0 : Ref sig .tc := ⟨.hbm, 73, rfl⟩
abbrev main_while0b_call6_v1 : Ref sig .tc := ⟨.hbm, 74, rfl⟩
abbrev main_while0b_call6_v2 : Ref sig .tc := ⟨.hbm, 75, rfl⟩
abbrev main_while0b_v41 : Ref sig .tc := ⟨.hbm, 76, rfl⟩
abbrev main_while0b_v42 : Ref sig .tc := ⟨.hbm, 77, rfl⟩
abbrev main_while0b_v43 : Ref sig .tc := ⟨.hbm, 78, rfl⟩
abbrev main_while0b_v44 : Ref sig .tc := ⟨.hbm, 79, rfl⟩
abbrev main_while0b_v45 : Ref sig .tc := ⟨.hbm, 80, rfl⟩
abbrev main_while0b_v46 : Ref sig .tc := ⟨.hbm, 81, rfl⟩
abbrev main_while0b_v47 : Ref sig .tc := ⟨.hbm, 82, rfl⟩
abbrev main_while0b_v48 : Ref sig .tc := ⟨.hbm, 83, rfl⟩
abbrev main_while0b_cst_12 : Ref sig .tc := ⟨.hbm, 84, rfl⟩
abbrev main_while0b_v49 : Ref sig .tc := ⟨.hbm, 85, rfl⟩
abbrev main_while0b_v50 : Ref sig .tc := ⟨.hbm, 86, rfl⟩
abbrev main_while0b_v51 : Ref sig .tc := ⟨.hbm, 87, rfl⟩
abbrev main_while0b_v52 : Ref sig .tc := ⟨.hbm, 88, rfl⟩
abbrev main_while0b_v53 : Ref sig .tc := ⟨.hbm, 89, rfl⟩
abbrev main_while0b_v54 : Ref sig .tc := ⟨.hbm, 90, rfl⟩
abbrev main_while0b_v55 : Ref sig .tc := ⟨.hbm, 91, rfl⟩
abbrev main_while0b_v56 : Ref sig .tc := ⟨.hbm, 92, rfl⟩
abbrev main_while0b_v57 : Ref sig .tc := ⟨.hbm, 93, rfl⟩
abbrev main_while0b_v58 : Ref sig .tc := ⟨.hbm, 94, rfl⟩
abbrev main_while0b_v59 : Ref sig .tc := ⟨.hbm, 95, rfl⟩
abbrev main_while0b_v60 : Ref sig .tc := ⟨.hbm, 96, rfl⟩
abbrev main_while0b_v61 : Ref sig .tc := ⟨.hbm, 97, rfl⟩
abbrev main_while0b_v62 : Ref sig .tc := ⟨.hbm, 98, rfl⟩
abbrev main_while0b_v63 : Ref sig .tc := ⟨.hbm, 99, rfl⟩
abbrev main_while0b_v64 : Ref sig .tc := ⟨.hbm, 100, rfl⟩
abbrev main_while0b_v65 : Ref sig .tc := ⟨.hbm, 101, rfl⟩
abbrev main_while0b_v66 : Ref sig .tc := ⟨.hbm, 102, rfl⟩
abbrev main_while0b_v67 : Ref sig .tc := ⟨.hbm, 103, rfl⟩
abbrev main_while0b_call7_v0 : Ref sig .tc := ⟨.hbm, 104, rfl⟩
abbrev main_while0b_call7_c : Ref sig .tc := ⟨.hbm, 105, rfl⟩
abbrev main_while0b_call7_c_0 : Ref sig .tc := ⟨.hbm, 106, rfl⟩
abbrev main_while0b_call7_c_1 : Ref sig .tc := ⟨.hbm, 107, rfl⟩
abbrev main_while0b_call7_c_2 : Ref sig .tc := ⟨.hbm, 108, rfl⟩
abbrev main_while0b_v68 : Ref sig .tc := ⟨.hbm, 109, rfl⟩
abbrev main_while0b_c_13 : Ref sig .tc := ⟨.hbm, 110, rfl⟩
abbrev main_while0b_v69 : Ref sig .tc := ⟨.hbm, 111, rfl⟩
abbrev main_v12 : Ref sig .tc := ⟨.hbm, 112, rfl⟩
abbrev main_v13 : Ref sig .tc := ⟨.hbm, 113, rfl⟩
abbrev main_v14 : Ref sig .tc := ⟨.hbm, 114, rfl⟩
abbrev main_cst_1 : Ref sig .tc := ⟨.hbm, 115, rfl⟩
abbrev main_v15 : Ref sig .tc := ⟨.hbm, 116, rfl⟩
abbrev main_v16 : Ref sig .tc := ⟨.hbm, 117, rfl⟩
abbrev main_cst_2 : Ref sig .tc := ⟨.hbm, 118, rfl⟩
abbrev main_v17 : Ref sig .tc := ⟨.hbm, 119, rfl⟩
abbrev main_v18 : Ref sig .tc := ⟨.hbm, 120, rfl⟩
abbrev main_cst_3 : Ref sig .tc := ⟨.hbm, 121, rfl⟩
abbrev main_v19 : Ref sig .tc := ⟨.hbm, 122, rfl⟩
abbrev main_v20 : Ref sig .tc := ⟨.hbm, 123, rfl⟩
abbrev main_v21 : Ref sig .tc := ⟨.hbm, 124, rfl⟩
abbrev main_v22 : Ref sig .tc := ⟨.hbm, 125, rfl⟩
abbrev main_v23 : Ref sig .tc := ⟨.hbm, 126, rfl⟩
abbrev main_v24 : Ref sig .tc := ⟨.hbm, 127, rfl⟩
abbrev main_v25 : Ref sig .tc := ⟨.hbm, 128, rfl⟩
abbrev main_v26 : Ref sig .tc := ⟨.hbm, 129, rfl⟩
abbrev main_v27 : Ref sig .tc := ⟨.hbm, 130, rfl⟩
abbrev main_v28 : Ref sig .tc := ⟨.hbm, 131, rfl⟩
abbrev main_v29 : Ref sig .tc := ⟨.hbm, 132, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8x2048x1024 : Shape := ⟨3, ![8, 2048, 1024]⟩
abbrev S1024 : Shape := ⟨1, ![1024]⟩
abbrev S1024x8192 : Shape := ⟨2, ![1024, 8192]⟩
abbrev S2x2048 : Shape := ⟨2, ![2, 2048]⟩
abbrev S16384x1024 : Shape := ⟨2, ![16384, 1024]⟩
abbrev S1x1024 : Shape := ⟨2, ![1, 1024]⟩
abbrev S16384x2048 : Shape := ⟨2, ![16384, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1x2048 : Shape := ⟨2, ![1, 2048]⟩
abbrev S1024x2048 : Shape := ⟨2, ![1024, 2048]⟩

abbrev nBuf : Space → Nat
  | .hbm => 12
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x8192, .f32⟩
  | .hbm, ⟨3, _⟩ => ⟨S2x2048, .f32⟩
  | .hbm, ⟨4, _⟩ => ⟨S16384x1024, .f32⟩
  | .hbm, ⟨5, _⟩ => ⟨S1024x8192, .bf16⟩
  | .hbm, ⟨6, _⟩ => ⟨S1x1024, .f32⟩
  | .hbm, ⟨7, _⟩ => ⟨S16384x2048, .bf16⟩
  | .hbm, ⟨8, _⟩ => ⟨S16384x2048, .f32⟩
  | .hbm, ⟨9, _⟩ => ⟨S16384x2048, .bf16⟩
  | .hbm, ⟨10, _⟩ => ⟨S16384x2048, .bf16⟩
  | .hbm, ⟨11, _⟩ => ⟨S16384x2048, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x8192, .bf16⟩
  | .local _ .vmem, ⟨4, _⟩ => ⟨S2x2048, .f32⟩
  | .local _ .vmem, ⟨5, _⟩ => ⟨S256x2048, .bf16⟩
  | .local _ .vmem, ⟨6, _⟩ => ⟨S256x2048, .bf16⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8x2048x1024 : Shape := ⟨3, ![8, 2048, 1024]⟩
abbrev S1024 : Shape := ⟨1, ![1024]⟩
abbrev S1024x8192 : Shape := ⟨2, ![1024, 8192]⟩
abbrev S2x2048 : Shape := ⟨2, ![2, 2048]⟩
abbrev S_ : Shape := ⟨0, ![]⟩
abbrev S2048 : Shape := ⟨1, ![2048]⟩
abbrev S1x2048 : Shape := ⟨2, ![1, 2048]⟩
abbrev S8x2048 : Shape := ⟨2, ![8, 2048]⟩
abbrev S8x2048x1 : Shape := ⟨3, ![8, 2048, 1]⟩
abbrev S1x1x1024 : Shape := ⟨3, ![1, 1, 1024]⟩
abbrev S8x2048x8192 : Shape := ⟨3, ![8, 2048, 8192]⟩
abbrev S8x2048x2048 : Shape := ⟨3, ![8, 2048, 2048]⟩
abbrev S1x1x2048 : Shape := ⟨3, ![1, 1, 2048]⟩
abbrev S16384x2048 : Shape := ⟨2, ![16384, 2048]⟩

abbrev nBuf : Space → Nat
  | .hbm => 97
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x8192, .f32⟩
  | .hbm, ⟨3, _⟩ => ⟨S2x2048, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S1x2048, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S_, .f32⟩
  | .hbm, ⟨14, _⟩ => ⟨S2048, .f32⟩
  | .hbm, ⟨15, _⟩ => ⟨S1x2048, .f32⟩
  | .hbm, ⟨16, _⟩ => ⟨S2x2048, .f32⟩
  | .hbm, ⟨17, _⟩ => ⟨S2x2048, .f32⟩
  | .hbm, ⟨18, _⟩ => ⟨S_, .f32⟩
  | .hbm, ⟨19, _⟩ => ⟨S_, .f32⟩
  | .hbm, ⟨20, _⟩ => ⟨S2x2048, .f32⟩
  | .hbm, ⟨21, _⟩ => ⟨S1x2048, .f32⟩
  | .hbm, ⟨22, _⟩ => ⟨S2048, .f32⟩
  | .hbm, ⟨23, _⟩ => ⟨S1x2048, .f32⟩
  | .hbm, ⟨24, _⟩ => ⟨S2x2048, .f32⟩
  | .hbm, ⟨25, _⟩ => ⟨S2x2048, .f32⟩
  | .hbm, ⟨26, _⟩ => ⟨S1x2048, .f32⟩
  | .hbm, ⟨27, _⟩ => ⟨S2048, .f32⟩
  | .hbm, ⟨28, _⟩ => ⟨S8x2048x1024, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S_, .f32⟩
  | .hbm, ⟨33, _⟩ => ⟨S8x2048x1, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x1, .f32⟩
  | .hbm, ⟨39, _⟩ => ⟨S8x2048x1024, .f32⟩
  | .hbm, ⟨40, _⟩ => ⟨S8x2048x1024, .f32⟩
  | .hbm, ⟨41, _⟩ => ⟨S1x1x1024, .f32⟩
  | .hbm, ⟨42, _⟩ => ⟨S8x2048x1024, .f32⟩
  | .hbm, ⟨43, _⟩ => ⟨S8x2048x1024, .f32⟩
  | .hbm, ⟨44, _⟩ => ⟨S8x2048x8192, .f32⟩
  | .hbm, ⟨45, _⟩ => ⟨S8x2048x2048, .f32⟩
  | .hbm, ⟨46, _⟩ => ⟨S8x2048x2048, .f32⟩
  | .hbm, ⟨47, _⟩ => ⟨S8x2048x2048, .f32⟩
  | .hbm, ⟨48, _⟩ => ⟨S8x2048x2048, .f32⟩
  | .hbm, ⟨49, _⟩ => ⟨S8x2048x2048, .f32⟩
  | .hbm, ⟨50, _⟩ => ⟨S8x2048x2048, .f32⟩
  | .hbm, ⟨51, _⟩ => ⟨S_, .f32⟩
  | .hbm, ⟨52, _⟩ => ⟨S8x2048x2048, .f32⟩
  | .hbm, ⟨53, _⟩ => ⟨S8x2048x2048, .f32⟩
  | .hbm, ⟨54, _⟩ => ⟨S_, .f32⟩
  | .hbm, ⟨55, _⟩ => ⟨S8x2048x2048, .f32⟩
  | .hbm, ⟨56, _⟩ => ⟨S8x2048x2048, .f32⟩
  | .hbm, ⟨57, _⟩ => ⟨S8x2048x2048, .f32⟩
  | .hbm, ⟨58, _⟩ => ⟨S_, .f32⟩
  | .hbm, ⟨59, _⟩ => ⟨S2048, .f32⟩
  | .hbm, ⟨60, _⟩ => ⟨S2048, .f32⟩
  | .hbm, ⟨61, _⟩ => ⟨S8x2048x2048, .f32⟩
  | .hbm, ⟨62, _⟩ => ⟨S8x2048x2048, .f32⟩
  | .hbm, ⟨63, _⟩ => ⟨S_, .f32⟩
  | .hbm, ⟨64, _⟩ => ⟨S8x2048x2048, .f32⟩
  | .hbm, ⟨65, _⟩ => ⟨S8x2048x2048, .f32⟩
  | .hbm, ⟨66, _⟩ => ⟨S_, .f32⟩
  | .hbm, ⟨67, _⟩ => ⟨S8x2048x2048, .f32⟩
  | .hbm, ⟨68, _⟩ => ⟨S8x2048x2048, .f32⟩
  | .hbm, ⟨69, _⟩ => ⟨S1x1x2048, .f32⟩
  | .hbm, ⟨70, _⟩ => ⟨S8x2048x2048, .f32⟩
  | .hbm, ⟨71, _⟩ => ⟨S8x2048x2048, .f32⟩
  | .hbm, ⟨72, _⟩ => ⟨S1x1x2048, .f32⟩
  | .hbm, ⟨73, _⟩ => ⟨S8x2048x2048, .f32⟩
  | .hbm, ⟨74, _⟩ => ⟨S8x2048x2048, .f32⟩
  | .hbm, ⟨75, _⟩ => ⟨S8x2048x2048, .f32⟩
  | .hbm, ⟨76, _⟩ => ⟨S_, .f32⟩
  | .hbm, ⟨77, _⟩ => ⟨S8x2048x2048, .f32⟩
  | .hbm, ⟨78, _⟩ => ⟨S8x2048x2048, .f32⟩
  | .hbm, ⟨79, _⟩ => ⟨S8x2048x2048, .f32⟩
  | .hbm, ⟨80, _⟩ => ⟨S8x2048x2048, .f32⟩
  | .hbm, ⟨81, _⟩ => ⟨S_, .f32⟩
  | .hbm, ⟨82, _⟩ => ⟨S8x2048x2048, .f32⟩
  | .hbm, ⟨83, _⟩ => ⟨S8x2048x2048, .f32⟩
  | .hbm, ⟨84, _⟩ => ⟨S_, .f32⟩
  | .hbm, ⟨85, _⟩ => ⟨S8x2048x2048, .f32⟩
  | .hbm, ⟨86, _⟩ => ⟨S8x2048x2048, .f32⟩
  | .hbm, ⟨87, _⟩ => ⟨S8x2048x2048, .f32⟩
  | .hbm, ⟨88, _⟩ => ⟨S16384x2048, .f32⟩
  | .hbm, ⟨89, _⟩ => ⟨S16384x2048, .bf16⟩
  | .hbm, ⟨90, _⟩ => ⟨S16384x2048, .f32⟩
  | .hbm, ⟨91, _⟩ => ⟨S16384x2048, .f32⟩
  | .hbm, ⟨92, _⟩ => ⟨S16384x2048, .bf16⟩
  | .hbm, ⟨93, _⟩ => ⟨S16384x2048, .f32⟩
  | .hbm, ⟨94, _⟩ => ⟨S16384x2048, .bf16⟩
  | .hbm, ⟨95, _⟩ => ⟨S16384x2048, .f32⟩
  | .hbm, ⟨96, _⟩ => ⟨S16384x2048, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev main_v54 : Ref sig .tc := ⟨.hbm, 78, rfl⟩
abbrev main_call2_v0 : Ref sig .tc := ⟨.hbm, 79, rfl⟩
abbrev main_call2_v1 : Ref sig .tc := ⟨.hbm, 80, rfl⟩
abbrev main_call2_cst : Ref sig .tc := ⟨.hbm, 81, rfl⟩
abbrev main_call2_v2 : Ref sig .tc := ⟨.hbm, 82, rfl⟩
abbrev main_call2_v3 : Ref sig .tc := ⟨.hbm, 83, rfl⟩
abbrev main_call2_cst_0 : Ref sig .tc := ⟨.hbm, 84, rfl⟩
abbrev main_call2_v4 : Ref sig .tc := ⟨.hbm, 85, rfl⟩
abbrev main_call2_v5 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩

abbrev nD : Nat := 1
abbrev τ : Topo := Topo.v7x

variable {F : FTy → Type} [FloatOps F]
-- ==== Kernel3.lean ====
abbrev S8x2048x2048 : Shape := ⟨3, ![8, 2048, 2048]⟩
abbrev S8x2048x1024 : Shape := ⟨3, ![8, 2048, 1024]⟩
abbrev S2048x1024 : Shape := ⟨2, ![2048, 1024]⟩
abbrev S1024 : Shape := ⟨1, ![1024]⟩
abbrev S16384x2048 : Shape := ⟨2, ![16384, 2048]⟩
abbrev S16384x1024 : Shape := ⟨2, ![16384, 1024]⟩
abbrev S1x1024 : Shape := ⟨2, ![1, 1024]⟩
abbrev S1024x2048 : Shape := ⟨2, ![1024, 2048]⟩
abbrev S1024x1024 : Shape := ⟨2, ![1024, 1024]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S8x2048x1024, .f32⟩
  | .hbm, ⟨2, _⟩ => ⟨S2048x1024, .f32⟩
  | .hbm, ⟨3, _⟩ => ⟨S1024, .f32⟩
  | .hbm, ⟨4, _⟩ => ⟨S16384x2048, .f32⟩
  | .hbm, ⟨5, _⟩ => ⟨S16384x2048, .bf16⟩
  | .hbm, ⟨6, _⟩ => ⟨S2048x1024, .bf16⟩
  | .hbm, ⟨7, _⟩ => ⟨S16384x1024, .f32⟩
  | .hbm, ⟨8, _⟩ => ⟨S1x1024, .f32⟩
  | .hbm, ⟨9, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S8x2048x2048 : Shape := ⟨3, ![8, 2048, 2048]⟩
abbrev S8x2048x1024 : Shape := ⟨3, ![8, 2048, 1024]⟩
abbrev S2048x1024 : Shape := ⟨2, ![2048, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x1024, .f32⟩
  | .hbm, ⟨2, _⟩ => ⟨S2048x1024, .f32⟩
  | .hbm, ⟨3, _⟩ => ⟨S1024, .f32⟩
  | .hbm, ⟨4, _⟩ => ⟨S8x2048x1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S16384x1024, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel4.lean ====
abbrev S8x2048x1024 : Shape := ⟨3, ![8, 2048, 1024]⟩
abbrev S2048x1024 : Shape := ⟨2, ![2048, 1024]⟩
abbrev S1024 : Shape := ⟨1, ![1024]⟩
abbrev S16384x1024 : Shape := ⟨2, ![16384, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 13
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S2048x1024, .f32⟩
  | .hbm, ⟨4, _⟩ => ⟨S1024, .f32⟩
  | .hbm, ⟨5, _⟩ => ⟨S16384x1024, .f32⟩
  | .hbm, ⟨6, _⟩ => ⟨S16384x1024, .bf16⟩
  | .hbm, ⟨7, _⟩ => ⟨S16384x1024, .f32⟩
  | .hbm, ⟨8, _⟩ => ⟨S16384x1024, .bf16⟩
  | .hbm, ⟨9, _⟩ => ⟨S2048x1024, .bf16⟩
  | .hbm, ⟨10, _⟩ => ⟨S16384x1024, .f32⟩
  | .hbm, ⟨11, _⟩ => ⟨S1x1024, .f32⟩
  | .hbm, ⟨12, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S8x2048x1024 : Shape := ⟨3, ![8, 2048, 1024]⟩
abbrev S2048x1024 : Shape := ⟨2, ![2048, 1024]⟩
abbrev S1024 : Shape := ⟨1, ![1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S2048x1024, .f32⟩
  | .hbm, ⟨4, _⟩ => ⟨S1024, .f32⟩
  | .hbm, ⟨5, _⟩ => ⟨S8x2048x2048, .f32⟩
  | .hbm, ⟨6, _⟩ => ⟨S8x2048x1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel5.lean ====
abbrev S32x4x1024 : Shape := ⟨3, ![32, 4, 1024]⟩
abbrev S1024 : Shape := ⟨1, ![1024]⟩
abbrev S1024x7168 : Shape := ⟨2, ![1024, 7168]⟩
abbrev S_ : Shape := ⟨0, ![]⟩
abbrev S32x16x1024 : Shape := ⟨3, ![32, 16, 1024]⟩
abbrev S16 : Shape := ⟨1, ![16]⟩
abbrev S32 : Shape := ⟨1, ![32]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S16x1 : Shape := ⟨2, ![16, 1]⟩
abbrev S16x128 : Shape := ⟨2, ![16, 128]⟩
abbrev S1x16x1x128 : Shape := ⟨4, ![1, 16, 1, 128]⟩
abbrev S16x16x1x128 : Shape := ⟨4, ![16, 16, 1, 128]⟩
abbrev S256x128 : Shape := ⟨2, ![256, 128]⟩
abbrev S512x1024 : Shape := ⟨2, ![512, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩
abbrev S32x4x16x64 : Shape := ⟨4, ![32, 4, 16, 64]⟩

abbrev nBuf : Space → Nat
  | .hbm => 90
  | .vmem => 23
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x7168, .f32⟩
  | .hbm, ⟨3, _⟩ => ⟨S_, .i32⟩
  | .hbm, ⟨4, _⟩ => ⟨S_, .f32⟩
  | .hbm, ⟨5, _⟩ => ⟨S32x16x1024, .f32⟩
  | .hbm, ⟨6, _⟩ => ⟨S16, .i32⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S1x32, .f32⟩
  | .hbm, ⟨19, _⟩ => ⟨S4x32, .f32⟩
  | .hbm, ⟨20, _⟩ => ⟨S128, .f32⟩
  | .hbm, ⟨21, _⟩ => ⟨S1x128, .f32⟩
  | .hbm, ⟨22, _⟩ => ⟨S128, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S128, .i32⟩
  | .hbm, ⟨30, _⟩ => ⟨S128, .i32⟩
  | .hbm, ⟨31, _⟩ => ⟨S_, .i32⟩
  | .hbm, ⟨32, _⟩ => ⟨S128, .i32⟩
  | .hbm, ⟨33, _⟩ => ⟨S128, .i1⟩
  | .hbm, ⟨34, _⟩ => ⟨S_, .i32⟩
  | .hbm, ⟨35, _⟩ => ⟨S128, .i32⟩
  | .hbm, ⟨36, _⟩ => ⟨S128, .i1⟩
  | .hbm, ⟨37, _⟩ => ⟨S_, .i32⟩
  | .hbm, ⟨38, _⟩ => ⟨S_, .i1⟩
  | .hbm, ⟨39, _⟩ => ⟨S128, .i1⟩
  | .hbm, ⟨40, _⟩ => ⟨S128, .i1⟩
  | .hbm, ⟨41, _⟩ => ⟨S128, .i1⟩
  | .hbm, ⟨42, _⟩ => ⟨S128, .i32⟩
  | .hbm, ⟨43, _⟩ => ⟨S128, .i32⟩
  | .hbm, ⟨44, _⟩ => ⟨S128, .i32⟩
  | .hbm, ⟨45, _⟩ => ⟨S_, .i32⟩
  | .hbm, ⟨46, _⟩ => ⟨S128, .i32⟩
  | .hbm, ⟨47, _⟩ => ⟨S128, .i1⟩
  | .hbm, ⟨48, _⟩ => ⟨S_, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S1x128, .f32⟩
  | .hbm, ⟨55, _⟩ => ⟨S16, .f32⟩
  | .hbm, ⟨56, _⟩ => ⟨S16x1, .f32⟩
  | .hbm, ⟨57, _⟩ => ⟨S16x128, .f32⟩
  | .hbm, ⟨58, _⟩ => ⟨S16x128, .f32⟩
  | .hbm, ⟨59, _⟩ => ⟨S16x128, .f32⟩
  | .hbm, ⟨60, _⟩ => ⟨S1x16x1x128, .f32⟩
  | .hbm, ⟨61, _⟩ => ⟨S16x16x1x128, .f32⟩
  | .hbm, ⟨62, _⟩ => ⟨S256x128, .f32⟩
  | .hbm, ⟨63, _⟩ => ⟨S1x16x1x128, .f32⟩
  | .hbm, ⟨64, _⟩ => ⟨S16x16x1x128, .f32⟩
  | .hbm, ⟨65, _⟩ => ⟨S256x128, .f32⟩
  | .hbm, ⟨66, _⟩ => ⟨S512x1024, .f32⟩
  | .hbm, ⟨67, _⟩ => ⟨S1024x7168, .bf16⟩
  | .hbm, ⟨68, _⟩ => ⟨S1x1024, .f32⟩
  | .hbm, ⟨69, _⟩ => ⟨S512x1024, .f32⟩
  | .hbm, ⟨70, _⟩ => ⟨S512x1024, .bf16⟩
  | .hbm, ⟨71, _⟩ => ⟨S512x1024, .f32⟩
  | .hbm, ⟨72, _⟩ => ⟨S512x1024, .f32⟩
  | .hbm, ⟨73, _⟩ => ⟨S512x1024, .f32⟩
  | .hbm, ⟨74, _⟩ => ⟨S512x1024, .bf16⟩
  | .hbm, ⟨75, _⟩ => ⟨S32x16x1024, .f32⟩
  | .hbm, ⟨76, _⟩ => ⟨S32x4x1024, .f32⟩
  | .hbm, ⟨77, _⟩ => ⟨S32x16x1024, .bf16⟩
  | .hbm, ⟨78, _⟩ => ⟨S32x4x1024, .bf16⟩
  | .hbm, ⟨79, _⟩ => ⟨S32x16x1024, .f32⟩
  | .hbm, ⟨80, _⟩ => ⟨S32x4x1024, .f32⟩
  | .hbm, ⟨81, _⟩ => ⟨S32x16x1024, .f32⟩
  | .hbm, ⟨82, _⟩ => ⟨S32x4x1024, .f32⟩
  | .hbm, ⟨83, _⟩ => ⟨S32x16x1024, .f32⟩
  | .hbm, ⟨84, _⟩ => ⟨S32x4x1024, .f32⟩
  | .hbm, ⟨85, _⟩ => ⟨S32x16x1024, .bf16⟩
  | .hbm, ⟨86, _⟩ => ⟨S32x4x1024, .bf16⟩
  | .hbm, ⟨87, _⟩ => ⟨S32x4x16x64, .f32⟩
  | .hbm, ⟨88, _⟩ => ⟨S32x4x16x64, .f32⟩
  | .hbm, ⟨89, _⟩ => ⟨S32x4x16x64, .f32⟩
  | .local _ .vmem, ⟨0, _⟩ => ⟨S16x128, .f32⟩
  | .local _ .vmem, ⟨1, _⟩ => ⟨S1x128, .f32⟩
  | .local _ .vmem, ⟨2, _⟩ => ⟨S1x128, .f32⟩
  | .local _ .vmem, ⟨3, _⟩ => ⟨S16x128, .f32⟩
  | .local _ .vmem, ⟨4, _⟩ => ⟨S16x128, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1024x7168, .bf16⟩
  | .local _ .vmem, ⟨9, _⟩ => ⟨S256x128, .f32⟩
  | .local _ .vmem, ⟨10, _⟩ => ⟨S256x128, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v15 : Ref sig .tc := ⟨.hbm, 44, rfl⟩
abbrev main_c_3 : Ref sig .tc := ⟨.hbm, 45, rfl⟩
abbrev main_v16 : Ref sig .tc := ⟨.hbm, 46, rfl⟩
abbrev main_v17 : Ref sig .tc := ⟨.hbm, 47, rfl⟩
abbrev main_cst_4 : Ref sig .tc := ⟨.hbm, 48, rfl⟩
abbrev main_cst_5 : Ref sig .tc := ⟨.hbm, 49, rfl⟩
abbrev main_call2_v0 : Ref sig .tc := ⟨.hbm, 50, rfl⟩
abbrev main_call2_v1 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24_0 : Ref sig .tc := ⟨.hbm, 58, rfl⟩
abbrev main_v24_1 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34_0 : Ref sig .tc := ⟨.hbm, 69, rfl⟩
abbrev main_v34_1 : Ref sig .tc := ⟨.hbm, 70, rfl⟩
abbrev main_v34_2 : Ref sig .tc := ⟨.hbm, 71, rfl⟩
abbrev main_v34_3 : Ref sig .tc := ⟨.hbm, 72, rfl⟩
abbrev main_v34_4 : Ref sig .tc := ⟨.hbm, 73, rfl⟩
abbrev main_v34_5 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc1_stg7_0 : Ref sig .tc := ⟨.vmem, 15, rfl⟩
abbrev cc1_stg7_1 : Ref sig .tc := ⟨.vmem, 16, rfl⟩
abbrev cc1_stg8_0 : Ref sig .tc := ⟨.vmem, 17, rfl⟩
abbrev cc1_stg8_1 : Ref sig .tc := ⟨.vmem, 18, rfl⟩
abbrev cc1_stg9_0 : Ref sig .tc := ⟨.vmem, 19, rfl⟩
abbrev cc1_stg9_1 : Ref sig .tc := ⟨.vmem, 20, rfl⟩
abbrev cc1_stg10_0 : Ref sig .tc := ⟨.vmem, 21, rfl⟩
abbrev cc1_stg10_1 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc1_sem6_0 : DmaSem sig := 13
abbrev cc1_sem6_1 : DmaSem sig := 14
abbrev cc1_sem7_0 : DmaSem sig := 15
abbrev cc1_sem7_1 : DmaSem sig := 16
abbrev cc1_sem8_0 : DmaSem sig := 17
abbrev cc1_sem8_1 : DmaSem sig := 18
abbrev cc1_sem9_0 : DmaSem sig := 19
abbrev cc1_sem9_1 : DmaSem sig := 20
abbrev cc1_sem10_0 : DmaSem sig := 21
abbrev cc1_sem10_1 : DmaSem sig := 22

abbrev nD : Nat := 1
abbrev τ : Topo := Topo.v7x

variable {F : FTy → Type} [FloatOps F]

abbrev grid0 : Pipeline.Grid := .none

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x7168 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== Reference5Ideal.lean ====
abbrev S32x4x1024 : Shape := ⟨3, ![32, 4, 1024]⟩
abbrev S1024 : Shape := ⟨1, ![1024]⟩
abbrev S1024x7168 : Shape := ⟨2, ![1024, 7168]⟩
abbrev S4 : Shape := ⟨1, ![4]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x7168 : Shape := ⟨3, ![32, 4, 7168]⟩
abbrev S32x4x16x64 : Shape := ⟨4, ![32, 4, 16, 64]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S1x4x1x32 : Shape := ⟨4, ![1, 4, 1, 32]⟩
abbrev S32x4x16x32 : Shape := ⟨4, ![32, 4, 16, 32]⟩

abbrev nBuf : Space → Nat
  | .hbm => 125
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x7168, .f32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S32x4x1024, .f32⟩
  | .hbm, ⟨8, _⟩ => ⟨S_, .f32⟩
  | .hbm, ⟨9, _⟩ => ⟨S32x4, .f32⟩
  | .hbm, ⟨10, _⟩ => ⟨S32x4x1, .f32⟩
  | .hbm, ⟨11, _⟩ => ⟨S_, .f32⟩
  | .hbm, ⟨12, _⟩ => ⟨S32x4x1, .f32⟩
  | .hbm, ⟨13, _⟩ => ⟨S32x4x1, .f32⟩
  | .hbm, ⟨14, _⟩ => ⟨S_, .f32⟩
  | .hbm, ⟨15, _⟩ => ⟨S32x4x1, .f32⟩
  | .hbm, ⟨16, _⟩ => ⟨S32x4x1, .f32⟩
  | .hbm, ⟨17, _⟩ => ⟨S32x4x1, .f32⟩
  | .hbm, ⟨18, _⟩ => ⟨S32x4x1024, .f32⟩
  | .hbm, ⟨19, _⟩ => ⟨S32x4x1024, .f32⟩
  | .hbm, ⟨20, _⟩ => ⟨S1x1x1024, .f32⟩
  | .hbm, ⟨21, _⟩ => ⟨S32x4x1024, .f32⟩
  | .hbm, ⟨22, _⟩ => ⟨S32x4x1024, .f32⟩
  | .hbm, ⟨23, _⟩ => ⟨S32x4x7168, .f32⟩
  | .hbm, ⟨24, _⟩ => ⟨S32x4x1024, .f32⟩
  | .hbm, ⟨25, _⟩ => ⟨S32x4x1024, .f32⟩
  | .hbm, ⟨26, _⟩ => ⟨S32x4x1024, .f32⟩
  | .hbm, ⟨27, _⟩ => ⟨S32x4x1024, .f32⟩
  | .hbm, ⟨28, _⟩ => ⟨S32x4x1024, .f32⟩
  | .hbm, ⟨29, _⟩ => ⟨S32x4x1024, .f32⟩
  | .hbm, ⟨30, _⟩ => ⟨S32x4x1024, .f32⟩
  | .hbm, ⟨31, _⟩ => ⟨S32x4x1024, .f32⟩
  | .hbm, ⟨32, _⟩ => ⟨S32x4x1024, .f32⟩
  | .hbm, ⟨33, _⟩ => ⟨S_, .f32⟩
  | .hbm, ⟨34, _⟩ => ⟨S32x4x1024, .f32⟩
  | .hbm, ⟨35, _⟩ => ⟨S32x4x1024, .f32⟩
  | .hbm, ⟨36, _⟩ => ⟨S_, .f32⟩
  | .hbm, ⟨37, _⟩ => ⟨S32x4x1024, .f32⟩
  | .hbm, ⟨38, _⟩ => ⟨S32x4x1024, .f32⟩
  | .hbm, ⟨39, _⟩ => ⟨S32x4x1024, .f32⟩
  | .hbm, ⟨40, _⟩ => ⟨S32x4x16x64, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S4, .f32⟩
  | .hbm, ⟨50, _⟩ => ⟨S4x1, .f32⟩
  | .hbm, ⟨51, _⟩ => ⟨S1x32, .f32⟩
  | .hbm, ⟨52, _⟩ => ⟨S4x32, .f32⟩
  | .hbm, ⟨53, _⟩ => ⟨S4x32, .f32⟩
  | .hbm, ⟨54, _⟩ => ⟨S4x32, .f32⟩
  | .hbm, ⟨55, _⟩ => ⟨S4x32, .f32⟩
  | .hbm, ⟨56, _⟩ => ⟨S1x4x1x32, .f32⟩
  | .hbm, ⟨57, _⟩ => ⟨S4x32, .f32⟩
  | .hbm, ⟨58, _⟩ => ⟨S1x4x1x32, .f32⟩
  | .hbm, ⟨59, _⟩ => ⟨S32x4x16x32, .f32⟩
  | .hbm, ⟨60, _⟩ => ⟨S32x4x16x32, .f32⟩
  | .hbm, ⟨61, _⟩ => ⟨S32x4x16x32, .f32⟩
  | .hbm, ⟨62, _⟩ => ⟨S32x4x16x32, .f32⟩
  | .hbm, ⟨63, _⟩ => ⟨S32x4x16x32, .f32⟩
  | .hbm, ⟨64, _⟩ => ⟨S32x4x16x32, .f32⟩
  | .hbm, ⟨65, _⟩ => ⟨S32x4x16x32, .f32⟩
  | .hbm, ⟨66, _⟩ => ⟨S32x4x16x32, .f32⟩
  | .hbm, ⟨67, _⟩ => ⟨S32x4x16x32, .f32⟩
  | .hbm, ⟨68, _⟩ => ⟨S32x4x16x32, .f32⟩
  | .hbm, ⟨69, _⟩ => ⟨S32x4x16x32, .f32⟩
  | .hbm, ⟨70, _⟩ => ⟨S32x4x16x32, .f32⟩
  | .hbm, ⟨71, _⟩ => ⟨S32x4x16x64, .f32⟩
  | .hbm, ⟨72, _⟩ => ⟨S32x4x16x64, .f32⟩
  | .hbm, ⟨73, _⟩ => ⟨S32, .f32⟩
  | .hbm, ⟨74, _⟩ => ⟨S32, .f32⟩
  | .hbm, ⟨75, _⟩ => ⟨S_, .f32⟩
  | .hbm, ⟨76, _⟩ => ⟨S32, .f32⟩
  | .hbm, ⟨77, _⟩ => ⟨S32, .f32⟩
  | .hbm, ⟨78, _⟩ => ⟨S_, .f32⟩
  | .hbm, ⟨79, _⟩ => ⟨S32, .f32⟩
  | .hbm, ⟨80, _⟩ => ⟨S32, .f32⟩
  | .hbm, ⟨81, _⟩ => ⟨S4, .f32⟩
  | .hbm, ⟨82, _⟩ => ⟨S4x1, .f32⟩
  | .hbm, ⟨83, _⟩ => ⟨S1x32, .f32⟩
  | .hbm, ⟨84, _⟩ => ⟨S4x32, .f32⟩
  | .hbm, ⟨85, _⟩ => ⟨S4x32, .f32⟩
  | .hbm, ⟨86, _⟩ => ⟨S4x32, .f32⟩
  | .hbm, ⟨87, _⟩ => ⟨S4x32, .f32⟩
  | .hbm, ⟨88, _⟩ => ⟨S1x4x1x32, .f32⟩
  | .hbm, ⟨89, _⟩ => ⟨S4x32, .f32⟩
  | .hbm, ⟨90, _⟩ => ⟨S1x4x1x32, .f32⟩
  | .hbm, ⟨91, _⟩ => ⟨S32x4x16x32, .f32⟩
  | .hbm, ⟨92, _⟩ => ⟨S32x4x16x32, .f32⟩
  | .hbm, ⟨93, _⟩ => ⟨S32x4x16x32, .f32⟩
  | .hbm, ⟨94, _⟩ => ⟨S32x4x16x32, .f32⟩
  | .hbm, ⟨95, _⟩ => ⟨S32x4x16x32, .f32⟩
  | .hbm, ⟨96, _⟩ => ⟨S32x4x16x32, .f32⟩
  | .hbm, ⟨97, _⟩ => ⟨S32x4x16x32, .f32⟩
  | .hbm, ⟨98, _⟩ => ⟨S32x4x16x32, .f32⟩
  | .hbm, ⟨99, _⟩ => ⟨S32x4x16x32, .f32⟩
  | .hbm, ⟨100, _⟩ => ⟨S32x4x16x32, .f32⟩
  | .hbm, ⟨101, _⟩ => ⟨S32x4x16x32, .f32⟩
  | .hbm, ⟨102, _⟩ => ⟨S32x4x16x32, .f32⟩
  | .hbm, ⟨103, _⟩ => ⟨S32x4x16x64, .f32⟩
  | .hbm, ⟨104, _⟩ => ⟨S32x4x16x64, .f32⟩
  | .hbm, ⟨105, _⟩ => ⟨S32x4x1024, .f32⟩
  | .hbm, ⟨106, _⟩ => ⟨S32x4x1024, .f32⟩
  | .hbm, ⟨107, _⟩ => ⟨S_, .f32⟩
  | .hbm, ⟨108, _⟩ => ⟨S32x4x1024, .f32⟩
  | .hbm, ⟨109, _⟩ => ⟨S32x4x1024, .f32⟩
  | .hbm, ⟨110, _⟩ => ⟨S_, .f32⟩
  | .hbm, ⟨111, _⟩ => ⟨S32x4x1024, .f32⟩
  | .hbm, ⟨112, _⟩ => ⟨S32x4x1024, .f32⟩
  | .hbm, ⟨113, _⟩ => ⟨S32x4x1024, .f32⟩
  | .hbm, ⟨114, _⟩ => ⟨S32x4x1024, .bf16⟩
  | .hbm, ⟨115, _⟩ => ⟨S32x4x1024, .f32⟩
  | .hbm, ⟨116, _⟩ => ⟨S32x4x1024, .f32⟩
  | .hbm, ⟨117, _⟩ => ⟨S_, .f32⟩
  | .hbm, ⟨118, _⟩ => ⟨S32x4x1024, .f32⟩
  | .hbm, ⟨119, _⟩ => ⟨S32x4x1024, .f32⟩
  | .hbm, ⟨120, _⟩ => ⟨S_, .f32⟩
  | .hbm, ⟨121, _⟩ => ⟨S32x4x1024, .f32⟩
  | .hbm, ⟨122, _⟩ => ⟨S32x4x1024, .f32⟩
  | .hbm, ⟨123, _⟩ => ⟨S32x4x1024, .f32⟩
  | .hbm, ⟨124, _⟩ => ⟨S32x4x1024, .bf16⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_6 : Ref sig .tc := ⟨.hbm, 75, rfl⟩
abbrev main_v64 : Ref sig .tc := ⟨.hbm, 76, rfl⟩
abbrev main_v65 : Ref sig .tc := ⟨.hbm, 77, rfl⟩
abbrev main_cst_7 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_call0_v0 : Ref sig .tc := ⟨.hbm, 105, rfl⟩
abbrev main_call0_v1 : Ref sig .tc := ⟨.hbm, 106, rfl⟩
abbrev main_call0_cst : Ref sig .tc := ⟨.hbm, 107, rfl⟩
abbrev main_call0_v2 : Ref sig .tc := ⟨.hbm, 108, rfl⟩
abbrev main_call0_v3 : Ref sig .tc := ⟨.hbm, 109, rfl⟩
abbrev main_call0_cst_0 : Ref sig .tc := ⟨.hbm, 110, rfl⟩
abbrev main_call0_v4 : Ref sig .tc := ⟨.hbm, 111, rfl⟩
abbrev main_call0_v5 : Ref sig .tc := ⟨.hbm, 112, rfl⟩
abbrev main_v92 : Ref sig .tc := ⟨.hbm, 113, rfl⟩
abbrev main_v93 : Ref sig .tc := ⟨.hbm, 114, rfl⟩
abbrev main_call1_v0 : Ref sig .tc := ⟨.hbm, 115, rfl⟩
abbrev main_call1_v1 : Ref sig .tc := ⟨.hbm, 116, rfl⟩
abbrev main_call1_cst : Ref sig .tc := ⟨.hbm, 117, rfl⟩
abbrev main_call1_v2 : Ref sig .tc := ⟨.hbm, 118, rfl⟩
abbrev main_call1_v3 : Ref sig .tc := ⟨.hbm, 119, rfl⟩
abbrev main_call1_cst_0 : Ref sig .tc := ⟨.hbm, 120, rfl⟩
abbrev main_call1_v4 : Ref sig .tc := ⟨.hbm, 121, rfl⟩
abbrev main_call1_v5 : Ref sig .tc := ⟨.hbm, 122, rfl⟩
abbrev main_v94 : Ref sig .tc := ⟨.hbm, 123, rfl⟩
abbrev main_v95 : Ref sig .tc := ⟨.hbm, 124, rfl⟩

abbrev nD : Nat := 1
abbrev τ : Topo := Topo.v7x

variable {F : FTy → Type} [FloatOps F]
-- ==== Kernel6.lean ====
abbrev S32x16x2048 : Shape := ⟨3, ![32, 16, 2048]⟩
abbrev S32x16x1024 : Shape := ⟨3, ![32, 16, 1024]⟩
abbrev S2048x1024 : Shape := ⟨2, ![2048, 1024]⟩
abbrev S1024 : Shape := ⟨1, ![1024]⟩
abbrev S512x2048 : Shape := ⟨2, ![512, 2048]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S32x4x1024 : Shape := ⟨3, ![32, 4, 1024]⟩

abbrev nBuf : Space → Nat
  | .hbm => 12
  | .vmem => 5
  | .smem => 0
  | _ => 0

abbrev bufTy : (tb : Table) → Fin (tcTables nBuf tb) → BufTy
  | .hbm, ⟨0, _⟩ => ⟨S32x16x2048, .f32⟩
  | .hbm, ⟨1, _⟩ => ⟨S32x16x1024, .f32⟩
  | .hbm, ⟨2, _⟩ => ⟨S2048x1024, .f32⟩
  | .hbm, ⟨3, _⟩ => ⟨S1024, .f32⟩
  | .hbm, ⟨4, _⟩ => ⟨S512x2048, .f32⟩
  | .hbm, ⟨5, _⟩ => ⟨S512x2048, .bf16⟩
  | .hbm, ⟨6, _⟩ => ⟨S2048x1024, .bf16⟩
  | .hbm, ⟨7, _⟩ => ⟨S512x1024, .f32⟩
  | .hbm, ⟨8, _⟩ => ⟨S1x1024, .f32⟩
  | .hbm, ⟨9, _⟩ => ⟨S512x1024, .f32⟩
  | .hbm, ⟨10, _⟩ => ⟨S32x16x1024, .f32⟩
  | .hbm, ⟨11, _⟩ => ⟨S32x4x1024, .f32⟩
  | .local _ .vmem, ⟨0, _⟩ => ⟨S512x2048, .bf16⟩
  | .local _ .vmem, ⟨1, _⟩ => ⟨S2048x1024, .bf16⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S32x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference6Ideal.lean ====
abbrev S32x16x2048 : Shape := ⟨3, ![32, 16, 2048]⟩
abbrev S32x16x1024 : Shape := ⟨3, ![32, 16, 1024]⟩
abbrev S2048x1024 : Shape := ⟨2, ![2048, 1024]⟩
abbrev S1024 : Shape := ⟨1, ![1024]⟩
abbrev S32x4x2048 : Shape := ⟨3, ![32, 4, 2048]⟩
abbrev S32x4x1024 : Shape := ⟨3, ![32, 4, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S32x16x2048, .f32⟩
  | .hbm, ⟨1, _⟩ => ⟨S32x16x1024, .f32⟩
  | .hbm, ⟨2, _⟩ => ⟨S2048x1024, .f32⟩
  | .hbm, ⟨3, _⟩ => ⟨S1024, .f32⟩
  | .hbm, ⟨4, _⟩ => ⟨S32x4x2048, .f32⟩
  | .hbm, ⟨5, _⟩ => ⟨S32x4x1024, .f32⟩
  | .hbm, ⟨6, _⟩ => ⟨S32x4x1024, .f32⟩
  | .hbm, ⟨7, _⟩ => ⟨S32x4x1024, .f32⟩
  | .hbm, ⟨8, _⟩ => ⟨S_, .f32⟩
  | .hbm, ⟨9, _⟩ => ⟨S32x4, .f32⟩
  | .hbm, ⟨10, _⟩ => ⟨S32x4x1, .f32⟩
  | .hbm, ⟨11, _⟩ => ⟨S_, .f32⟩
  | .hbm, ⟨12, _⟩ => ⟨S32x4x1, .f32⟩
  | .hbm, ⟨13, _⟩ => ⟨S32x4x1, .f32⟩
  | .hbm, ⟨14, _⟩ => ⟨S_, .f32⟩
  | .hbm, ⟨15, _⟩ => ⟨S32x4x1, .f32⟩
  | .hbm, ⟨16, _⟩ => ⟨S32x4x1, .f32⟩
  | .hbm, ⟨17, _⟩ => ⟨S32x4x1, .f32⟩
  | .hbm, ⟨18, _⟩ => ⟨S32x4x1024, .f32⟩
  | .hbm, ⟨19, _⟩ => ⟨S32x4x1024, .f32⟩
  | .hbm, ⟨20, _⟩ => ⟨S1x1x1024, .f32⟩
  | .hbm, ⟨21, _⟩ => ⟨S32x4x1024, .f32⟩
  | .hbm, ⟨22, _⟩ => ⟨S32x4x1024, .f32⟩
  | .hbm, ⟨23, _⟩ => ⟨S32x4x1024, .f32⟩
  | _, _ => ⟨S32x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel7.lean ====
abbrev S32x16x1024 : Shape := ⟨3, ![32, 16, 1024]⟩
abbrev S32x30x1024 : Shape := ⟨3, ![32, 30, 1024]⟩
abbrev S31x1024 : Shape := ⟨2, ![31, 1024]⟩
abbrev S1024 : Shape := ⟨1, ![1024]⟩
abbrev S_ : Shape := ⟨0, ![]⟩
abbrev S32x32x1024 : Shape := ⟨3, ![32, 32, 1024]⟩
abbrev S1x1024 : Shape := ⟨2, ![1, 1024]⟩
abbrev S1x16x1024 : Shape := ⟨3, ![1, 16, 1024]⟩
abbrev S1x32x1024 : Shape := ⟨3, ![1, 32, 1024]⟩
abbrev S56x1024 : Shape := ⟨2, ![56, 1024]⟩
abbrev S16x1024 : Shape := ⟨2, ![16, 1024]⟩
abbrev S32x1024 : Shape := ⟨2, ![32, 1024]⟩
abbrev S8x1024 : Shape := ⟨2, ![8, 1024]⟩
abbrev S16x128 : Shape := ⟨2, ![16, 128]⟩
abbrev S24x128 : Shape := ⟨2, ![24, 128]⟩
abbrev S1x128 : Shape := ⟨2, ![1, 128]⟩
abbrev S16 : Shape := ⟨1, ![16]⟩
abbrev S16x1 : Shape := ⟨2, ![16, 1]⟩
abbrev S32x4x1024 : Shape := ⟨3, ![32, 4, 1024]⟩

abbrev nBuf : Space → Nat
  | .hbm => 18
  | .vmem => 15
  | .smem => 0
  | _ => 0

abbrev bufTy : (tb : Table) → Fin (tcTables nBuf tb) → BufTy
  | .hbm, ⟨0, _⟩ => ⟨S32x16x1024, .f32⟩
  | .hbm, ⟨1, _⟩ => ⟨S32x16x1024, .f32⟩
  | .hbm, ⟨2, _⟩ => ⟨S32x30x1024, .f32⟩
  | .hbm, ⟨3, _⟩ => ⟨S31x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S_, .i32⟩
  | .hbm, ⟨8, _⟩ => ⟨S_, .f32⟩
  | .hbm, ⟨9, _⟩ => ⟨S32x32x1024, .f32⟩
  | .hbm, ⟨10, _⟩ => ⟨S32x16x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S32x16x1024, .bf16⟩
  | .hbm, ⟨15, _⟩ => ⟨S32x32x1024, .f32⟩
  | .hbm, ⟨16, _⟩ => ⟨S32x4x1024, .bf16⟩
  | .hbm, ⟨17, _⟩ => ⟨S32x30x1024, .f32⟩
  | .local _ .vmem, ⟨0, _⟩ => ⟨S1x16x1024, .f32⟩
  | .local _ .vmem, ⟨1, _⟩ => ⟨S1x16x1024, .f32⟩
  | .local _ .vmem, ⟨2, _⟩ => ⟨S1x16x1024, .bf16⟩
  | .local _ .vmem, ⟨3, _⟩ => ⟨S1x16x1024, .bf16⟩
  | .local _ .vmem, ⟨4, _⟩ => ⟨S1x32x1024, .f32⟩
  | .local _ .vmem, ⟨5, _⟩ => ⟨S1x32x1024, .f32⟩
  | .local _ .vmem, ⟨6, _⟩ => ⟨S31x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x16x1024, .bf16⟩
  | .local _ .vmem, ⟨11, _⟩ => ⟨S1x16x1024, .bf16⟩
  | .local _ .vmem, ⟨12, _⟩ => ⟨S1x32x1024, .f32⟩
  | .local _ .vmem, ⟨13, _⟩ => ⟨S1x32x1024, .f32⟩
  | .local _ .vmem, ⟨14, _⟩ => ⟨S56x1024, .f32⟩
  | _, _ => ⟨S32x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference7Ideal.lean ====
abbrev S32x16x1024 : Shape := ⟨3, ![32, 16, 1024]⟩
abbrev S32x30x1024 : Shape := ⟨3, ![32, 30, 1024]⟩
abbrev S31x1024 : Shape := ⟨2, ![31, 1024]⟩
abbrev S1024 : Shape := ⟨1, ![1024]⟩
abbrev S32x4x1024 : Shape := ⟨3, ![32, 4, 1024]⟩
abbrev S32x34x1024 : Shape := ⟨3, ![32, 34, 1024]⟩
abbrev S1x1024 : Shape := ⟨2, ![1, 1024]⟩
abbrev S1x1x1024 : Shape := ⟨3, ![1, 1, 1024]⟩
abbrev S_ : Shape := ⟨0, ![]⟩
abbrev S32x4 : Shape := ⟨2, ![32, 4]⟩
abbrev S32x4x1 : Shape := ⟨3, ![32, 4, 1]⟩

abbrev nBuf : Space → Nat
  | .hbm => 271
  | .vmem => 0
  | .smem => 0
  | _ => 0

abbrev hbmTy0_0 (i : Nat) : BufTy := match i % 128 with
  | 0 => ⟨S32x16x1024, .f32⟩
  | 1 => ⟨S32x16x1024, .f32⟩
  | 2 => ⟨S32x30x1024, .f32⟩
  | 3 => ⟨S31x1024, .f32⟩
  | 4 => ⟨S1024, .f32⟩
  | 5 => ⟨S1024, .f32⟩
  | 6 => ⟨S1024, .f32⟩
  | 7 => ⟨S32x4x1024, .f32⟩
  | 8 => ⟨S32x4x1024, .f32⟩
  | 9 => ⟨S32x34x1024, .f32⟩
  | 10 => ⟨S32x4x1024, .f32⟩
  | 11 => ⟨S1x1024, .f32⟩
  | 12 => ⟨S1024, .f32⟩
  | 13 => ⟨S1x1x1024, .f32⟩
  | 14 => ⟨S32x4x1024, .f32⟩
  | 15 => ⟨S32x4x1024, .f32⟩
  | 16 => ⟨S_, .f32⟩
  | 17 => ⟨S32x4x1024, .f32⟩
  | 18 => ⟨S32x4x1024, .f32⟩
  | 19 => ⟨S32x4x1024, .f32⟩
  | 20 => ⟨S1x1024, .f32⟩
  | 21 => ⟨S1024, .f32⟩
  | 22 => ⟨S1x1x1024, .f32⟩
  | 23 => ⟨S32x4x1024, .f32⟩
  | 24 => ⟨S32x4x1024, .f32⟩
  | 25 => ⟨S32x4x1024, .f32⟩
  | 26 => ⟨S32x4x1024, .f32⟩
  | 27 => ⟨S1x1024, .f32⟩
  | 28 => ⟨S1024, .f32⟩
  | 29 => ⟨S1x1x1024, .f32⟩
  | 30 => ⟨S32x4x1024, .f32⟩
  | 31 => ⟨S32x4x1024, .f32⟩
  | 32 => ⟨S32x4x1024, .f32⟩
  | 33 => ⟨S32x4x1024, .f32⟩
  | 34 => ⟨S1x1024, .f32⟩
  | 35 => ⟨S1024, .f32⟩
  | 36 => ⟨S1x1x1024, .f32⟩
  | 37 => ⟨S32x4x1024, .f32⟩
  | 38 => ⟨S32x4x1024, .f32⟩
  | 39 => ⟨S32x4x1024, .f32⟩
  | 40 => ⟨S32x4x1024, .f32⟩
  | 41 => ⟨S1x1024, .f32⟩
  | 42 => ⟨S1024, .f32⟩
  | 43 => ⟨S1x1x1024, .f32⟩
  | 44 => ⟨S32x4x1024, .f32⟩
  | 45 => ⟨S32x4x1024, .f32⟩
  | 46 => ⟨S32x4x1024, .f32⟩
  | 47 => ⟨S32x4x1024, .f32⟩
  | 48 => ⟨S1x1024, .f32⟩
  | 49 => ⟨S1024, .f32⟩
  | 50 => ⟨S1x1x1024, .f32⟩
  | 51 => ⟨S32x4x1024, .f32⟩
  | 52 => ⟨S32x4x1024, .f32⟩
  | 53 => ⟨S32x4x1024, .f32⟩
  | 54 => ⟨S32x4x1024, .f32⟩
  | 55 => ⟨S1x1024, .f32⟩
  | 56 => ⟨S1024, .f32⟩
  | 57 => ⟨S1x1x1024, .f32⟩
  | 58 => ⟨S32x4x1024, .f32⟩
  | 59 => ⟨S32x4x1024, .f32⟩
  | 60 => ⟨S32x4x1024, .f32⟩
  | 61 => ⟨S32x4x1024, .f32⟩
  | 62 => ⟨S1x1024, .f32⟩
  | 63 => ⟨S1024, .f32⟩
  | 64 => ⟨S1x1x1024, .f32⟩
  | 65 => ⟨S32x4x1024, .f32⟩
  | 66 => ⟨S32x4x1024, .f32⟩
  | 67 => ⟨S32x4x1024, .f32⟩
  | 68 => ⟨S32x4x1024, .f32⟩
  | 69 => ⟨S1x1024, .f32⟩
  | 70 => ⟨S1024, .f32⟩
  | 71 => ⟨S1x1x1024, .f32⟩
  | 72 => ⟨S32x4x1024, .f32⟩
  | 73 => ⟨S32x4x1024, .f32⟩
  | 74 => ⟨S32x4x1024, .f32⟩
  | 75 => ⟨S32x4x1024, .f32⟩
  | 76 => ⟨S1x1024, .f32⟩
  | 77 => ⟨S1024, .f32⟩
  | 78 => ⟨S1x1x1024, .f32⟩
  | 79 => ⟨S32x4x1024, .f32⟩
  | 80 => ⟨S32x4x1024, .f32⟩
  | 81 => ⟨S32x4x1024, .f32⟩
  | 82 => ⟨S32x4x1024, .f32⟩
  | 83 => ⟨S1x1024, .f32⟩
  | 84 => ⟨S1024, .f32⟩
  | 85 => ⟨S1x1x1024, .f32⟩
  | 86 => ⟨S32x4x1024, .f32⟩
  | 87 => ⟨S32x4x1024, .f32⟩
  | 88 => ⟨S32x4x1024, .f32⟩
  | 89 => ⟨S32x4x1024, .f32⟩
  | 90 => ⟨S1x1024, .f32⟩
  | 91 => ⟨S1024, .f32⟩
  | 92 => ⟨S1x1x1024, .f32⟩
  | 93 => ⟨S32x4x1024, .f32⟩
  | 94 => ⟨S32x4x1024, .f32⟩
  | 95 => ⟨S32x4x1024, .f32⟩
  | 96 => ⟨S32x4x1024, .f32⟩
  | 97 => ⟨S1x1024, .f32⟩
  | 98 => ⟨S1024, .f32⟩
  | 99 => ⟨S1x1x1024, .f32⟩
  | 100 => ⟨S32x4x1024, .f32⟩
  | 101 => ⟨S32x4x1024, .f32⟩
  | 102 => ⟨S32x4x1024, .f32⟩
  | 103 => ⟨S32x4x1024, .f32⟩
  | 104 => ⟨S1x1024, .f32⟩
  | 105 => ⟨S1024, .f32⟩
  | 106 => ⟨S1x1x1024, .f32⟩
  | 107 => ⟨S32x4x1024, .f32⟩
  | 108 => ⟨S32x4x1024, .f32⟩
  | 109 => ⟨S32x4x1024, .f32⟩
  | 110 => ⟨S32x4x1024, .f32⟩
  | 111 => ⟨S1x1024, .f32⟩
  | 112 => ⟨S1024, .f32⟩
  | 113 => ⟨S1x1x1024, .f32⟩
  | 114 => ⟨S32x4x1024, .f32⟩
  | 115 => ⟨S32x4x1024, .f32⟩
  | 116 => ⟨S32x4x1024, .f32⟩
  | 117 => ⟨S32x4x1024, .f32⟩
  | 118 => ⟨S1x1024, .f32⟩
  | 119 => ⟨S1024, .f32⟩
  | 120 => ⟨S1x1x1024, .f32⟩
  | 121 => ⟨S32x4x1024, .f32⟩
  | 122 => ⟨S32x4x1024, .f32⟩
  | 123 => ⟨S32x4x1024, .f32⟩
  | 124 => ⟨S32x4x1024, .f32⟩
  | 125 => ⟨S1x1024, .f32⟩
  | 126 => ⟨S1024, .f32⟩
  | 127 => ⟨S1x1x1024, .f32⟩
  | _ => ⟨S32x16x1024, .f32⟩

abbrev hbmTy0_1 (i : Nat) : BufTy := match i % 128 with
  | 0 => ⟨S32x4x1024, .f32⟩
  | 1 => ⟨S32x4x1024, .f32⟩
  | 2 => ⟨S32x4x1024, .f32⟩
  | 3 => ⟨S32x4x1024, .f32⟩
  | 4 => ⟨S1x1024, .f32⟩
  | 5 => ⟨S1024, .f32⟩
  | 6 => ⟨S1x1x1024, .f32⟩
  | 7 => ⟨S32x4x1024, .f32⟩
  | 8 => ⟨S32x4x1024, .f32⟩
  | 9 => ⟨S32x4x1024, .f32⟩
  | 10 => ⟨S32x4x1024, .f32⟩
  | 11 => ⟨S1x1024, .f32⟩
  | 12 => ⟨S1024, .f32⟩
  | 13 => ⟨S1x1x1024, .f32⟩
  | 14 => ⟨S32x4x1024, .f32⟩
  | 15 => ⟨S32x4x1024, .f32⟩
  | 16 => ⟨S32x4x1024, .f32⟩
  | 17 => ⟨S32x4x1024, .f32⟩
  | 18 => ⟨S1x1024, .f32⟩
  | 19 => ⟨S1024, .f32⟩
  | 20 => ⟨S1x1x1024, .f32⟩
  | 21 => ⟨S32x4x1024, .f32⟩
  | 22 => ⟨S32x4x1024, .f32⟩
  | 23 => ⟨S32x4x1024, .f32⟩
  | 24 => ⟨S32x4x1024, .f32⟩
  | 25 => ⟨S1x1024, .f32⟩
  | 26 => ⟨S1024, .f32⟩
  | 27 => ⟨S1x1x1024, .f32⟩
  | 28 => ⟨S32x4x1024, .f32⟩
  | 29 => ⟨S32x4x1024, .f32⟩
  | 30 => ⟨S32x4x1024, .f32⟩
  | 31 => ⟨S32x4x1024, .f32⟩
  | 32 => ⟨S1x1024, .f32⟩
  | 33 => ⟨S1024, .f32⟩
  | 34 => ⟨S1x1x1024, .f32⟩
  | 35 => ⟨S32x4x1024, .f32⟩
  | 36 => ⟨S32x4x1024, .f32⟩
  | 37 => ⟨S32x4x1024, .f32⟩
  | 38 => ⟨S32x4x1024, .f32⟩
  | 39 => ⟨S1x1024, .f32⟩
  | 40 => ⟨S1024, .f32⟩
  | 41 => ⟨S1x1x1024, .f32⟩
  | 42 => ⟨S32x4x1024, .f32⟩
  | 43 => ⟨S32x4x1024, .f32⟩
  | 44 => ⟨S32x4x1024, .f32⟩
  | 45 => ⟨S32x4x1024, .f32⟩
  | 46 => ⟨S1x1024, .f32⟩
  | 47 => ⟨S1024, .f32⟩
  | 48 => ⟨S1x1x1024, .f32⟩
  | 49 => ⟨S32x4x1024, .f32⟩
  | 50 => ⟨S32x4x1024, .f32⟩
  | 51 => ⟨S32x4x1024, .f32⟩
  | 52 => ⟨S32x4x1024, .f32⟩
  | 53 => ⟨S1x1024, .f32⟩
  | 54 => ⟨S1024, .f32⟩
  | 55 => ⟨S1x1x1024, .f32⟩
  | 56 => ⟨S32x4x1024, .f32⟩
  | 57 => ⟨S32x4x1024, .f32⟩
  | 58 => ⟨S32x4x1024, .f32⟩
  | 59 => ⟨S32x4x1024, .f32⟩
  | 60 => ⟨S1x1024, .f32⟩
  | 61 => ⟨S1024, .f32⟩
  | 62 => ⟨S1x1x1024, .f32⟩
  | 63 => ⟨S32x4x1024, .f32⟩
  | 64 => ⟨S32x4x1024, .f32⟩
  | 65 => ⟨S32x4x1024, .f32⟩
  | 66 => ⟨S32x4x1024, .f32⟩
  | 67 => ⟨S1x1024, .f32⟩
  | 68 => ⟨S1024, .f32⟩
  | 69 => ⟨S1x1x1024, .f32⟩
  | 70 => ⟨S32x4x1024, .f32⟩
  | 71 => ⟨S32x4x1024, .f32⟩
  | 72 => ⟨S32x4x1024, .f32⟩
  | 73 => ⟨S32x4x1024, .f32⟩
  | 74 => ⟨S1x1024, .f32⟩
  | 75 => ⟨S1024, .f32⟩
  | 76 => ⟨S1x1x1024, .f32⟩
  | 77 => ⟨S32x4x1024, .f32⟩
  | 78 => ⟨S32x4x1024, .f32⟩
  | 79 => ⟨S32x4x1024, .f32⟩
  | 80 => ⟨S32x4x1024, .f32⟩
  | 81 => ⟨S1x1024, .f32⟩
  | 82 => ⟨S1024, .f32⟩
  | 83 => ⟨S1x1x1024, .f32⟩
  | 84 => ⟨S32x4x1024, .f32⟩
  | 85 => ⟨S32x4x1024, .f32⟩
  | 86 => ⟨S32x4x1024, .f32⟩
  | 87 => ⟨S32x4x1024, .f32⟩
  | 88 => ⟨S1x1024, .f32⟩
  | 89 => ⟨S1024, .f32⟩
  | 90 => ⟨S1x1x1024, .f32⟩
  | 91 => ⟨S32x4x1024, .f32⟩
  | 92 => ⟨S32x4x1024, .f32⟩
  | 93 => ⟨S32x4x1024, .f32⟩
  | 94 => ⟨S32x4x1024, .f32⟩
  | 95 => ⟨S1x1024, .f32⟩
  | 96 => ⟨S1024, .f32⟩
  | 97 => ⟨S1x1x1024, .f32⟩
  | 98 => ⟨S32x4x1024, .f32⟩
  | 99 => ⟨S32x4x1024, .f32⟩
  | 100 => ⟨S32x4x1024, .f32⟩
  | 101 => ⟨S1x1x1024, .f32⟩
  | 102 => ⟨S32x4x1024, .f32⟩
  | 103 => ⟨S32x4x1024, .f32⟩
  | 104 => ⟨S_, .f32⟩
  | 105 => ⟨S32x4, .f32⟩
  | 106 => ⟨S32x4x1, .f32⟩
  | 107 => ⟨S_, .f32⟩
  | 108 => ⟨S32x4x1, .f32⟩
  | 109 => ⟨S32x4x1, .f32⟩
  | 110 => ⟨S32x4x1024, .f32⟩
  | 111 => ⟨S32x4x1024, .f32⟩
  | 112 => ⟨S32x4x1024, .f32⟩
  | 113 => ⟨S_, .f32⟩
  | 114 => ⟨S32x4, .f32⟩
  | 115 => ⟨S32x4x1, .f32⟩
  | 116 => ⟨S_, .f32⟩
  | 117 => ⟨S32x4x1, .f32⟩
  | 118 => ⟨S32x4x1, .f32⟩
  | 119 => ⟨S_, .f32⟩
  | 120 => ⟨S32x4x1, .f32⟩
  | 121 => ⟨S32x4x1, .f32⟩
  | 122 => ⟨S32x4x1, .f32⟩
  | 123 => ⟨S32x4x1024, .f32⟩
  | 124 => ⟨S32x4x1024, .f32⟩
  | 125 => ⟨S1x1x1024, .f32⟩
  | 126 => ⟨S32x4x1024, .f32⟩
  | 127 => ⟨S32x4x1024, .f32⟩
  | _ => ⟨S32x16x1024, .f32⟩

abbrev hbmTy0_2 (i : Nat) : BufTy := match i % 128 with
  | 0 => ⟨S1x1x1024, .f32⟩
  | 1 => ⟨S32x4x1024, .f32⟩
  | 2 => ⟨S32x4x1024, .f32⟩
  | 3 => ⟨S32x4x1024, .f32⟩
  | 4 => ⟨S32x4x1024, .f32⟩
  | 5 => ⟨S_, .f32⟩
  | 6 => ⟨S32x4x1024, .f32⟩
  | 7 => ⟨S32x4x1024, .f32⟩
  | 8 => ⟨S_, .f32⟩
  | 9 => ⟨S32x4x1024, .f32⟩
  | 10 => ⟨S32x4x1024, .f32⟩
  | 11 => ⟨S32x4x1024, .f32⟩
  | 12 => ⟨S32x4x1024, .f32⟩
  | 13 => ⟨S32x4x1024, .bf16⟩
  | 14 => ⟨S32x30x1024, .f32⟩
  | _ => ⟨S32x16x1024, .f32⟩

abbrev hbmTy (i : Nat) : BufTy := match i / 128 with
  | 0 => hbmTy0_0 i
  | 1 => hbmTy0_1 i
  | 2 => hbmTy0_2 i
  | _ => ⟨S32x16x1024, .f32⟩

abbrev bufTy : (tb : Table) → Fin (tcTables nBuf tb) → BufTy
  | .hbm, ⟨i, _⟩ => hbmTy i
  | _, _ => ⟨S32x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_cst_0 : Ref sig .tc := ⟨.hbm, 232, rfl⟩
abbrev main_v224 : Ref sig .tc := ⟨.hbm, 233, rfl⟩
abbrev main_v225 : Ref sig .tc := ⟨.hbm, 234, rfl⟩
abbrev main_cst_1 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_cst_2 : Ref sig .tc := ⟨.hbm, 241, rfl⟩
abbrev main_v231 : Ref sig .tc := ⟨.hbm, 242, rfl⟩
abbrev main_v232 : Ref sig .tc := ⟨.hbm, 243, rfl⟩
abbrev main_cst_3 : Ref sig .tc := ⟨.hbm, 244, rfl⟩
abbrev main_v233 : Ref sig .tc := ⟨.hbm, 245, rfl⟩
abbrev main_v234 : Ref sig .tc := ⟨.hbm, 246, rfl⟩
abbrev main_cst_4 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_call0_v0 : Ref sig .tc := ⟨.hbm, 259, rfl⟩
abbrev main_call0_v1 : Ref sig .tc := ⟨.hbm, 260, rfl⟩
abbrev main_call0_cst : Ref sig .tc := ⟨.hbm, 261, rfl⟩
abbrev main_call0_v2 : Ref sig .tc := ⟨.hbm, 262, rfl⟩
abbrev main_call0_v3 : Ref sig .tc := ⟨.hbm, 263, rfl⟩
abbrev main_call0_cst_0 : Ref sig .tc := ⟨.hbm, 264, rfl⟩
abbrev main_call0_v4 : Ref sig .tc := ⟨.hbm, 265, rfl⟩
abbrev main_call0_v5 : Ref sig .tc := ⟨.hbm, 266, rfl⟩
abbrev main_v246 : Ref sig .tc := ⟨.hbm, 267, rfl⟩
abbrev main_v247 : Ref sig .tc := ⟨.hbm, 268, rfl⟩
abbrev main_v248 : Ref sig .tc := ⟨.hbm, 269, rfl⟩
abbrev main_v249 : Ref sig .tc := ⟨.hbm, 270, rfl⟩

abbrev nD : Nat := 1
abbrev τ : Topo := Topo.v7x

variable {F : FTy → Type} [FloatOps F]
-- ==== Proof.Head.lean ====
module

public import proofs.«01_k».proof.Proof.Gen.KernelIdeal.Frame

/-! # What the kernel computes for one head at one grid point, as functions of what it loads

The kernel unrolls sixteen heads. Each does the same arithmetic on its own 128 lanes of the blocks, its own
plane of the carried state and its own planes of the three padded scratches. This module writes that arithmetic
once, with the head's number as an argument. -/

@[expose] public section

set_option maxRecDepth 16384

noncomputable section

namespace Cert.Head

open Cert.KernelIdeal Cert.KernelIdeal.Gen Idealize.ShloMosaic

variable {F : FTy → Type} [FloatOps F] [Named F]

/-- A constant word spread over a 128 by 128 block. -/
def word (w : BitVec 32) : IVec S128x128 32 := broadcast S128x128 w

/-- A float bit pattern spread over a 128 by 128 block. -/
def zeros : FVec F S128x128 .f32 := broadcast S128x128 (Scalar.ofBits .f32 0x00000000#32)

/-- The accumulator a matrix product starts from. -/
def zacc : FVec F S128x128 .f32 := constant S128x128 .f32 0x00000000#32

/-- The row number. -/
def rows : IVec S128x128 32 := iota .tc S128x128 32 [0] iota_S128x128_d0_w32

/-- The divisor of the row number, as the printed remainder guards it. -/
def four : BitVec 32 := Scalar.select (Scalar.cmpi .eq 4#32 0#32) 1#32 4#32

/-- The row number modulo four, as the printed remainder spells it. -/
def rowMod : IVec S128x128 32 :=
  select
    (andi (xori (cmpi .slt (remsi rows (broadcast S128x128 four)) (broadcast S128x128 0#32))
      (broadcastTo S128x128 (broadcast S128x128 (Scalar.cmpi .slt four 0#32) : IVec S128x128 1) broadcasts_S128x128_S128x128))
      (cmpi .ne (remsi rows (broadcast S128x128 four)) (broadcast S128x128 0#32)))
    (addi (remsi rows (broadcast S128x128 four)) (broadcast S128x128 four))
    (remsi rows (broadcast S128x128 four))

/-- Rows at least `j` after the start of their block of four. -/
def same (j : BitVec 32) : IVec S128x128 1 := cmpi .sge rowMod (broadcast S128x128 j)

/-- The base-two log-decays. -/
def scaled (lf : Vec F S1x128x128 .f32) : FVec F S128x128 .f32 :=
  mulf (shapeCast S128x128 lf shapeCasts_S1x128x128_S128x128)
    (broadcast S128x128 (Named.named κ "log2e" 0x3FB8AA3B#32))

/-- The first piece of a split of the log-decays. -/
def piece1 (x : FVec F S128x128 .f32) : FVec F S128x128 .bf16 := truncf .bf16 x bitsLt_bf16_f32

/-- What a piece leaves over. -/
def rest (x : FVec F S128x128 .f32) : FVec F S128x128 .f32 := subf x (extf .f32 (piece1 x) bitsLt_bf16_f32)

/-- A block of prefix sums: the triangle of ones against a piece. -/
def prefixSum (tri : Vec F S128x128 .bf16) (p : FVec F S128x128 .bf16) : FVec F S128x128 .f32 :=
  matmul dot_S128x128_S128x128_S128x128_1_0_0_1_n_n none tri p zacc

/-- The running sum of the base-two log-decays. -/
def bcum (tri : Vec F S128x128 .bf16) (lf : Vec F S1x128x128 .f32) : FVec F S128x128 .f32 :=
  addf (addf (prefixSum tri (piece1 (scaled lf))) (prefixSum tri (piece1 (rest (scaled lf)))))
    (prefixSum tri (piece1 (rest (rest (scaled lf)))))

/-- A block of 128 lanes, widened. -/
def wide (x : Vec F S1x128x128 .bf16) : FVec F S128x128 .f32 :=
  extf .f32 (shapeCast S128x128 x shapeCasts_S1x128x128_S128x128 : FVec F S128x128 .bf16) bitsLt_bf16_f32

/-- A block of 128 lanes. -/
def flat {t : EltTy} (x : Vec F S1x128x128 t) : Vec F S128x128 t := shapeCast S128x128 x shapeCasts_S1x128x128_S128x128

/-- The decay from a middle row. -/
def fade (b mid : FVec F S128x128 .f32) : FVec F S128x128 .f32 := exp2 (subf zeros (absf (subf b mid)))

/-- One level of the divide: where the split bit is the level's, the product of the decayed rows. -/
def level (w : BitVec 32) (split : Vec F S128x128 .i32) (q k d prev : FVec F S128x128 .f32) : FVec F S128x128 .f32 :=
  select (cmpi .eq split (broadcast S128x128 w))
    (matmul dot_S128x128_S128x128_S128x128_1_1_0_0_n_n none
      (truncf .bf16 (mulf q d) bitsLt_bf16_f32) (truncf .bf16 (mulf k d) bitsLt_bf16_f32) zacc) prev

/-- A read of a padded scratch. -/
abbrev Reads (F : FTy → Type) := (B : LoadRect S16x136x128) → B.shape.Idx → Elt F .f32

/-- A plane's rectangle of the padded scratches lies in them. -/
theorem inb_plane (n o : ℕ) (hn : n < 16) (ho : o ≤ 8) :
    ∀ a, (![n, o, 0] : Fin 3 → ℕ) a + S1x128x128.size a ≤ S16x136x128.size a := by
  intro a; fin_cases a <;> simp [S1x128x128, S16x136x128] <;> omega

/-- The zero rows' rectangle lies in the padded scratches. -/
theorem inb_pad (n : ℕ) (hn : n < 16) :
    ∀ a, (![n, 0, 0] : Fin 3 → ℕ) a + S1x8x128.size a ≤ S16x136x128.size a := by
  intro a; fin_cases a <;> simp [S1x8x128, S16x136x128] <;> omega

/-- A row's rectangle lies in the padded scratches. -/
theorem inb_row (n o : ℕ) (hn : n < 16) (ho : o < 136) :
    ∀ a, (![n, o, 0] : Fin 3 → ℕ) a + S1x1x128.size a ≤ S16x136x128.size a := by
  intro a; fin_cases a <;> simp [S1x1x128, S16x136x128] <;> omega

/-- The middle rows of the blocks of 8 lie in the padded scratches. -/
theorem inb_mid4 (n : ℕ) (hn : n < 16) : ∀ a, S1x16x128.size a = 0 ∨
    (![n, 11, 0] : Fin 3 → ℕ) a + (![1, 8, 1] : Fin 3 → ℕ) a * (S1x16x128.size a - 1) < S16x136x128.size a := by
  intro a; fin_cases a <;> simp [S1x16x128, S16x136x128] <;> omega

/-- The middle rows of the blocks of 16 lie in the padded scratches. -/
theorem inb_mid8 (n : ℕ) (hn : n < 16) : ∀ a, S1x8x128.size a = 0 ∨
    (![n, 15, 0] : Fin 3 → ℕ) a + (![1, 16, 1] : Fin 3 → ℕ) a * (S1x8x128.size a - 1) < S16x136x128.size a := by
  intro a; fin_cases a <;> simp [S1x8x128, S16x136x128] <;> omega

/-- The middle rows of the blocks of 32 lie in the padded scratches. -/
theorem inb_mid16 (n : ℕ) (hn : n < 16) : ∀ a, S1x4x128.size a = 0 ∨
    (![n, 23, 0] : Fin 3 → ℕ) a + (![1, 32, 1] : Fin 3 → ℕ) a * (S1x4x128.size a - 1) < S16x136x128.size a := by
  intro a; fin_cases a <;> simp [S1x4x128, S16x136x128] <;> omega

/-- The middle rows of the blocks of 64 lie in the padded scratches. -/
theorem inb_mid32 (n : ℕ) (hn : n < 16) : ∀ a, S1x2x128.size a = 0 ∨
    (![n, 39, 0] : Fin 3 → ℕ) a + (![1, 64, 1] : Fin 3 → ℕ) a * (S1x2x128.size a - 1) < S16x136x128.size a := by
  intro a; fin_cases a <;> simp [S1x2x128, S16x136x128] <;> omega

/-- A head's lanes lie in the blocks. -/
theorem inb_lanes (n : ℕ) (hn : n < 16) :
    ∀ a, (![0, 0, 128 * n] : Fin 3 → ℕ) a + S1x128x128.size a ≤ S1x128x2048.size a := by
  intro a; fin_cases a <;> simp [S1x128x128, S1x128x2048] <;> omega

/-- A head's plane lies in the state. -/
theorem inb_state (n : ℕ) (hn : n < 16) :
    ∀ a, (![n, 0, 0] : Fin 3 → ℕ) a + S1x128x128.size a ≤ S16x128x128.size a := by
  intro a; fin_cases a <;> simp [S1x128x128, S16x128x128] <;> omega

/-- A head's plane lies in the block of the state's array. -/
theorem inb_final (n : ℕ) (hn : n < 16) :
    ∀ a, (![0, n, 0, 0] : Fin 4 → ℕ) a + S1x1x128x128.size a ≤ S1x16x128x128.size a := by
  intro a; fin_cases a <;> simp [S1x1x128x128, S1x16x128x128] <;> omega

/-- Sixteen middle rows, each over its eight rows. -/
def mid4 (rb : Reads F) (n : ℕ) (hn : n < 16) : FVec F S128x128 .f32 :=
  shapeCast S128x128 (broadcastTo S16x8x128 (shapeCast S16x1x128 (shapeCast S16x1x128 (shapeCast S16x128
    (rb (⟨![n, 11, 0], S1x16x128.size, ![1, 8, 1], inb_mid4 n hn⟩ : LoadRect S16x136x128) : Vec F S1x16x128 .f32)
    shapeCasts_S1x16x128_S16x128 : FVec F S16x128 .f32) shapeCasts_S16x128_S16x1x128 : FVec F S16x1x128 .f32)
    shapeCasts_S16x1x128_S16x1x128 : FVec F S16x1x128 .f32)
    broadcasts_S16x1x128_S16x8x128 : FVec F S16x8x128 .f32) shapeCasts_S16x8x128_S128x128

/-- Eight middle rows, each over its sixteen rows. -/
def mid8 (rb : Reads F) (n : ℕ) (hn : n < 16) : FVec F S128x128 .f32 :=
  shapeCast S128x128 (broadcastTo S8x16x128 (shapeCast S8x1x128 (shapeCast S8x1x128 (shapeCast S8x128
    (rb (⟨![n, 15, 0], S1x8x128.size, ![1, 16, 1], inb_mid8 n hn⟩ : LoadRect S16x136x128) : Vec F S1x8x128 .f32)
    shapeCasts_S1x8x128_S8x128 : FVec F S8x128 .f32) shapeCasts_S8x128_S8x1x128 : FVec F S8x1x128 .f32)
    shapeCasts_S8x1x128_S8x1x128 : FVec F S8x1x128 .f32)
    broadcasts_S8x1x128_S8x16x128 : FVec F S8x16x128 .f32) shapeCasts_S8x16x128_S128x128

/-- Four middle rows, each over its 32 rows. -/
def mid16 (rb : Reads F) (n : ℕ) (hn : n < 16) : FVec F S128x128 .f32 :=
  shapeCast S128x128 (broadcastTo S4x32x128 (shapeCast S4x1x128 (shapeCast S4x1x128 (shapeCast S4x128
    (rb (⟨![n, 23, 0], S1x4x128.size, ![1, 32, 1], inb_mid16 n hn⟩ : LoadRect S16x136x128) : Vec F S1x4x128 .f32)
    shapeCasts_S1x4x128_S4x128 : FVec F S4x128 .f32) shapeCasts_S4x128_S4x1x128 : FVec F S4x1x128 .f32)
    shapeCasts_S4x1x128_S4x1x128 : FVec F S4x1x128 .f32)
    broadcasts_S4x1x128_S4x32x128 : FVec F S4x32x128 .f32) shapeCasts_S4x32x128_S128x128

/-- Two middle rows, each over its 64 rows. -/
def mid32 (rb : Reads F) (n : ℕ) (hn : n < 16) : FVec F S128x128 .f32 :=
  shapeCast S128x128 (broadcastTo S2x64x128 (shapeCast S2x1x128 (shapeCast S2x1x128 (shapeCast S2x128
    (rb (⟨![n, 39, 0], S1x2x128.size, ![1, 64, 1], inb_mid32 n hn⟩ : LoadRect S16x136x128) : Vec F S1x2x128 .f32)
    shapeCasts_S1x2x128_S2x128 : FVec F S2x128 .f32) shapeCasts_S2x128_S2x1x128 : FVec F S2x1x128 .f32)
    shapeCasts_S2x1x128_S2x1x128 : FVec F S2x1x128 .f32)
    broadcasts_S2x1x128_S2x64x128 : FVec F S2x64x128 .f32) shapeCasts_S2x64x128_S128x128

/-- The block's middle row over all rows. -/
def mid64 (rb : Reads F) (n : ℕ) (hn : n < 16) : FVec F S128x128 .f32 :=
  broadcastTo S128x128 (shapeCast S1x128 (shapeCast S1x128
    (rb (Rect.unit (s := S16x136x128) ![n, 71, 0] S1x1x128.size (inb_row n 71 hn (by decide))).toLoadRect : Vec F S1x1x128 .f32)
    shapeCasts_S1x1x128_S1x128 : FVec F S1x128 .f32) shapeCasts_S1x128_S1x128 : FVec F S1x128 .f32)
    broadcasts_S1x128_S128x128

/-- A plane's 128 rows from row `o`. -/
def plane (rb : Reads F) (n o : ℕ) (hn : n < 16) (ho : o ≤ 8) : FVec F S128x128 .f32 :=
  shapeCast S128x128 (rb (Rect.unit (s := S16x136x128) ![n, o, 0] S1x128x128.size (inb_plane n o hn ho)).toLoadRect : Vec F S1x128x128 .f32)
    shapeCasts_S1x128x128_S128x128

/-- A plane's last row. -/
def lastRow (rb : Reads F) (n : ℕ) (hn : n < 16) : FVec F S1x128 .f32 :=
  shapeCast S1x128 (rb (Rect.unit (s := S16x136x128) ![n, 135, 0] S1x1x128.size (inb_row n 135 hn (by decide))).toLoadRect : Vec F S1x1x128 .f32)
    shapeCasts_S1x1x128_S1x128

/-- A row's sum, over all lanes. -/
def rowSum (x : FVec F S128x128 .f32) : FVec F S128x1 .f32 :=
  shapeCast S128x1 (multiReduction .add [1] S128 x 0x00000000#32 reduces_S128x128_S128 (.inl rfl) rfl : FVec F S128 .f32)
    shapeCasts_S128_S128x1

/-- A column over all lanes. -/
def spread (x : FVec F S128x1 .f32) : FVec F S128x128 .f32 := broadcastTo S128x128 x broadcasts_S128x1_S128x128

/-- A row over all rows. -/
def spreadRow (x : FVec F S1x128 .f32) : FVec F S128x128 .f32 := broadcastTo S128x128 x broadcasts_S1x128_S128x128

/-- The contribution of the rows `j` before, inside their block of four. -/
def back (j : BitVec 32) (q b bj kj vj : FVec F S128x128 .f32) : FVec F S128x128 .f32 :=
  mulf (spread (rowSum (mulf (mulf q kj)
    (exp2 (select (same j) (subf b bj) (broadcast S128x128 (Named.named κ "neg" 0xF149F2CA#32))))))) vj

/-- What the kernel loads at a grid point: per head its lanes of the five blocks and its plane of the state; the norm's
gain; the triangle and the split bits; the reads of the three padded scratches. -/
structure Loads (F : FTy → Type) where
  /-- Queries. -/
  lq : (n : ℕ) → n < 16 → Vec F S1x128x128 .bf16
  /-- Log-decays. -/
  lf : (n : ℕ) → n < 16 → Vec F S1x128x128 .f32
  /-- Keys. -/
  lk : (n : ℕ) → n < 16 → Vec F S1x128x128 .bf16
  /-- Values. -/
  lv : (n : ℕ) → n < 16 → Vec F S1x128x128 .bf16
  /-- Gates. -/
  lg : (n : ℕ) → n < 16 → Vec F S1x128x128 .bf16
  /-- The norm's gain. -/
  gain : Vec F S1x128 .f32
  /-- The state. -/
  lst : (n : ℕ) → n < 16 → Vec F S1x128x128 .f32
  /-- The triangle of ones. -/
  tri : Vec F S128x128 .bf16
  /-- The split bits. -/
  split : Vec F S128x128 .i32
  /-- Reads of the padded running sums. -/
  rb : Reads F
  /-- Reads of the padded keys. -/
  rk : Reads F
  /-- Reads of the padded values. -/
  rv : Reads F

variable (L : Loads F) (n : ℕ) (hn : n < 16)

/-- The head's running sums. -/
def sums : FVec F S128x128 .f32 := bcum L.tri (L.lf n hn)

/-- The products of queries and keys of different blocks of four, level by level. -/
def attn : FVec F S128x128 .f32 :=
  level 6#32 L.split (wide (L.lq n hn)) (wide (L.lk n hn)) (fade (sums L n hn) (mid64 L.rb n hn))
    (level 5#32 L.split (wide (L.lq n hn)) (wide (L.lk n hn)) (fade (sums L n hn) (mid32 L.rb n hn))
      (level 4#32 L.split (wide (L.lq n hn)) (wide (L.lk n hn)) (fade (sums L n hn) (mid16 L.rb n hn))
        (level 3#32 L.split (wide (L.lq n hn)) (wide (L.lk n hn)) (fade (sums L n hn) (mid8 L.rb n hn))
          (level 2#32 L.split (wide (L.lq n hn)) (wide (L.lk n hn)) (fade (sums L n hn) (mid4 L.rb n hn)) zeros))))

/-- The contribution of a row's own block of four. -/
def near : FVec F S128x128 .f32 :=
  addf (addf (addf
    (mulf (spread (rowSum (mulf (wide (L.lq n hn)) (wide (L.lk n hn))))) (plane L.rv n 8 hn (by decide)))
    (back 1#32 (wide (L.lq n hn)) (sums L n hn) (plane L.rb n 7 hn (by decide)) (plane L.rk n 7 hn (by decide))
      (plane L.rv n 7 hn (by decide))))
    (back 2#32 (wide (L.lq n hn)) (sums L n hn) (plane L.rb n 6 hn (by decide)) (plane L.rk n 6 hn (by decide))
      (plane L.rv n 6 hn (by decide))))
    (back 3#32 (wide (L.lq n hn)) (sums L n hn) (plane L.rb n 5 hn (by decide)) (plane L.rk n 5 hn (by decide))
      (plane L.rv n 5 hn (by decide)))

/-- The head's state. -/
def st : FVec F S128x128 .f32 := flat (L.lst n hn)

/-- The head's output before the norm. -/
def raw : FVec F S128x128 .f32 :=
  addf (addf (near L n hn)
    (matmul dot_S128x128_S128x128_S128x128_1_0_0_1_n_n none (truncf .bf16 (attn L n hn) bitsLt_bf16_f32 : FVec F S128x128 .bf16)
      (flat (L.lv n hn) : FVec F S128x128 .bf16) zacc))
    (matmul dot_S128x128_S128x128_S128x128_1_1_0_0_n_n none
      (truncf .bf16 (mulf (wide (L.lq n hn)) (exp2 (sums L n hn))) bitsLt_bf16_f32 : FVec F S128x128 .bf16)
      (truncf .bf16 (st L n hn) bitsLt_bf16_f32 : FVec F S128x128 .bf16) zacc)

/-- The rows' scale: one over the root of their mean square. -/
def scale (o : FVec F S128x128 .f32) : FVec F S128x1 .f32 :=
  rsqrt (addf (divf (rowSum (mulf o o)) (broadcast S128x1 (Scalar.ofBits .f32 0x43000000#32)))
    (broadcast S128x1 (Scalar.ofBits .f32 0x358637BD#32)))

/-- The rows over their scale, by the gain and the gate. -/
def gated (o : FVec F S128x128 .f32) (gain : Vec F S1x128 .f32) (g : Vec F S1x128x128 .bf16) : Vec F S1x128x128 .bf16 :=
  shapeCast S1x128x128 (truncf .bf16 (mulf (mulf (mulf o (spread (scale o)))
    (spreadRow (shapeCast S1x128 gain shapeCasts_S1x128_S1x128))) (wide g)) bitsLt_bf16_f32 : FVec F S128x128 .bf16)
    shapeCasts_S128x128_S1x128x128

/-- What the kernel stores into the output for the head. -/
def outPiece : Vec F S1x128x128 .bf16 := gated (raw L n hn) L.gain (L.lg n hn)

/-- What the kernel stores into the state for the head. -/
def statePiece : Vec F S1x128x128 .f32 :=
  shapeCast S1x128x128 (addf (mulf (spreadRow (exp2 (lastRow L.rb n hn))) (st L n hn))
    (matmul dot_S128x128_S128x128_S128x128_0_0_1_1_n_n none (flat (L.lv n hn) : FVec F S128x128 .bf16)
      (truncf .bf16 (mulf (wide (L.lk n hn)) (exp2 (subf (spreadRow (lastRow L.rb n hn)) (sums L n hn)))) bitsLt_bf16_f32
        : FVec F S128x128 .bf16) zacc) : FVec F S128x128 .f32)
    shapeCasts_S128x128_S1x128x128

/-- A transposed plane, stored into the carried state. -/
def firstPiece (s0 : Vec F S1x1x128x128 .f32) : Vec F S1x128x128 .f32 :=
  shapeCast S1x128x128 (transpose S128x128 [1, 0] (shapeCast S128x128 s0 shapeCasts_S1x1x128x128_S128x128 : FVec F S128x128 .f32)
    transposes_S128x128_p1_0_S128x128 : FVec F S128x128 .f32) shapeCasts_S128x128_S1x128x128

/-- A transposed plane of the carried state, stored into the final state's block. -/
def lastPiece (s : Vec F S1x128x128 .f32) : Vec F S1x1x128x128 .f32 :=
  shapeCast S1x1x128x128 (transpose S128x128 [1, 0] (flat s : FVec F S128x128 .f32)
    transposes_S128x128_p1_0_S128x128 : FVec F S128x128 .f32) shapeCasts_S128x128_S1x1x128x128

/-- The output block's pieces for the heads below `k`, the last written first. -/
def outPieces (L : Loads F) : (k : ℕ) → k ≤ 16 → List (View.Piece (Elt F) S1x128x2048 .bf16)
  | 0, _ => []
  | k + 1, hk => ⟨Rect.unit ![0, 0, 128 * k] S1x128x128.size (inb_lanes k hk), outPiece L k hk⟩ ::
      outPieces L k (Nat.le_of_succ_le hk)

/-- Pieces that write a plane per head below `k` into the carried state, over earlier pieces. -/
def statePieces (p : (n : ℕ) → n < 16 → Vec F S1x128x128 .f32) (T : List (View.Piece (Elt F) S16x128x128 .f32)) :
    (k : ℕ) → k ≤ 16 → List (View.Piece (Elt F) S16x128x128 .f32)
  | 0, _ => T
  | k + 1, hk => ⟨Rect.unit ![k, 0, 0] S1x128x128.size (inb_state k hk), p k hk⟩ ::
      statePieces p T k (Nat.le_of_succ_le hk)

/-- Pieces that write a plane per head below `k` into the final state's block. -/
def finalPieces (p : (n : ℕ) → n < 16 → Vec F S1x1x128x128 .f32) :
    (k : ℕ) → k ≤ 16 → List (View.Piece (Elt F) S1x16x128x128 .f32)
  | 0, _ => []
  | k + 1, hk => ⟨Rect.unit ![0, k, 0, 0] S1x1x128x128.size (inb_final k hk), p k hk⟩ ::
      finalPieces p k (Nat.le_of_succ_le hk)

/-- The zero rows before a padded plane. -/
def padRows : Vec F S1x8x128 .f32 :=
  shapeCast S1x8x128 (broadcast S8x128 (Scalar.ofBits .f32 0x00000000#32) : FVec F S8x128 .f32) shapeCasts_S8x128_S1x8x128

/-- Pieces that write, per head below `k`, eight zero rows and a plane into a padded scratch. -/
def padPieces (p : (n : ℕ) → n < 16 → FVec F S128x128 .f32) :
    (k : ℕ) → k ≤ 16 → List (View.Piece (Elt F) S16x136x128 .f32)
  | 0, _ => []
  | k + 1, hk =>
      ⟨Rect.unit ![k, 8, 0] S1x128x128.size (inb_plane k 8 hk (Nat.le_refl 8)),
        shapeCast S1x128x128 (p k hk) shapeCasts_S128x128_S1x128x128⟩ ::
      ⟨Rect.unit ![k, 0, 0] S1x8x128.size (inb_pad k hk), padRows⟩ ::
      padPieces p k (Nat.le_of_succ_le hk)

/-- The triangle of ones. -/
def triangle : Vec F S128x128 .bf16 :=
  truncf .bf16 (select (cmpi .sge rows (iota .tc S128x128 32 [1] iota_S128x128_d1_w32))
    (broadcast S128x128 (Scalar.ofBits .f32 0x3F800000#32)) zeros : FVec F S128x128 .f32) bitsLt_bf16_f32

/-- The split bits: the number of the highest bit in which row and column differ, for a row after the column. -/
def splitBits : Vec F S128x128 .i32 :=
  subi (broadcast S128x128 31#32) (ctlz (select (cmpi .sgt rows (iota .tc S128x128 32 [1] iota_S128x128_d1_w32))
    (xori rows (iota .tc S128x128 32 [1] iota_S128x128_d1_w32)) (broadcast S128x128 0#32)))

end Cert.Head

end
-- ==== Proof.Match.lean ====
module

public import proofs.«01_k».proof.Proof.Head

/-! # The pieces each run of the body leaves are the per-head terms

The four cases of a grid point (the first point; a sequence's first tile; a middle tile; a sequence's last tile) differ in
where the state and the two matrices are read from. In each the pieces written into the output and into the
carried state are the per-head terms of Head.lean, at the loads of that case. -/

@[expose] public section

set_option maxRecDepth 16384

noncomputable section

namespace Cert.Head

open Cert.KernelIdeal Cert.KernelIdeal.Gen Idealize.ShloMosaic Idealize.ShloMosaic.TcCoe

variable {F : FTy → Type} [FloatOps F] [Named F]

variable (c : Dev nD) (i : grid0.Coords) (arg3 : Memref sig .tc .vmem S1x128x2048 .bf16) (harg3 : arg3.IsWhole)
  (arg4 : Memref sig .tc .vmem S1x128x2048 .f32) (harg4 : arg4.IsWhole) (arg5 : Memref sig .tc .vmem S1x128x2048 .bf16)
  (harg5 : arg5.IsWhole) (arg6 : Memref sig .tc .vmem S1x128x2048 .bf16) (harg6 : arg6.IsWhole)
  (arg7 : Memref sig .tc .vmem S1x128x2048 .bf16) (harg7 : arg7.IsWhole) (arg8 : Memref sig .tc .vmem S1x128 .f32)
  (harg8 : arg8.IsWhole) (arg9 : Memref sig .tc .vmem S1x16x128x128 .f32) (harg9 : arg9.IsWhole)
  (arg10 : Memref sig .tc .vmem S1x128x2048 .bf16) (harg10 : arg10.IsWhole)
  (arg11 : Memref sig .tc .vmem S1x16x128x128 .f32) (harg11 : arg11.IsWhole)
  (arg12 : Memref sig .tc .vmem S16x128x128 .f32) (harg12 : arg12.IsWhole)
  (arg13 : Memref sig .tc .vmem S16x136x128 .f32) (harg13 : arg13.IsWhole)
  (arg14 : Memref sig .tc .vmem S16x136x128 .f32) (harg14 : arg14.IsWhole)
  (arg15 : Memref sig .tc .vmem S16x136x128 .f32) (harg15 : arg15.IsWhole)
  (arg16 : Memref sig .tc .vmem S128x128 .bf16) (harg16 : arg16.IsWhole) (arg17 : Memref sig .tc .vmem S128x128 .i32)
  (harg17 : arg17.IsWhole)
  (x0 : Vec F S1x128x2048 .bf16) (x1 : Vec F S1x128x2048 .f32) (x2 x3 x4 : Vec F S1x128x2048 .bf16)
  (x5 : Vec F S1x128 .f32) (x6 : Vec F S1x16x128x128 .f32)
  (xs0 : Vec F S16x128x128 .f32) (xs4 : Vec F S128x128 .bf16) (xs5 : Vec F S128x128 .i32)

/-- A head's lanes of a block held whole. -/
def lanes {t : EltTy} (M : Memref sig .tc .vmem S1x128x2048 t) (h : M.IsWhole) (x : Vec F S1x128x2048 t)
    (n : ℕ) (hn : n < 16) : Vec F S1x128x128 t :=
  View.readAt (Elt F) M.view (Rect.unit (s := S1x128x2048) ![0, 0, 128 * n] S1x128x128.size (inb_lanes n hn)).toLoadRect (h.unread x)

/-- The loads of a point, given where the state and the two matrices are read. -/
def loads (lst : (n : ℕ) → n < 16 → Vec F S1x128x128 .f32) (tri : Vec F S128x128 .bf16) (split : Vec F S128x128 .i32) :
    Loads F where
  lq := lanes arg3 harg3 x0
  lf := lanes arg4 harg4 x1
  lk := lanes arg5 harg5 x2
  lv := lanes arg6 harg6 x3
  lg := lanes arg7 harg7 x4
  gain := View.readAt (Elt F) arg8.view (Rect.unit (s := S1x128) ![0, 0] S1x128.size inb_S1x128_S1x128_0_0).toLoadRect (harg8.unread x5)
  lst := lst
  tri := tri
  split := split
  rb := arg13.view.readCov (padPieces (fun n hn => bcum tri (lanes arg4 harg4 x1 n hn)) 16 (Nat.le_refl 16))
  rk := arg14.view.readCov (padPieces (fun n hn => wide (lanes arg5 harg5 x2 n hn)) 16 (Nat.le_refl 16))
  rv := arg15.view.readCov (padPieces (fun n hn => wide (lanes arg6 harg6 x3 n hn)) 16 (Nat.le_refl 16))

/-- A plane of the carried state as the point before left it. -/
def planeOf (n : ℕ) (hn : n < 16) : Vec F S1x128x128 .f32 :=
  View.readAt (Elt F) arg12.view (Rect.unit (s := S16x128x128) ![n, 0, 0] S1x128x128.size (inb_state n hn)).toLoadRect (harg12.unread xs0)

/-- The pieces that bring a sequence's first state into the carried state. -/
def firstPieces : List (View.Piece (Elt F) S16x128x128 .f32) :=
  statePieces (fun n hn => firstPiece (View.readAt (Elt F) arg9.view
    (Rect.unit (s := S1x16x128x128) ![0, n, 0, 0] S1x1x128x128.size (inb_final n hn)).toLoadRect (harg9.unread x6))) [] 16 (Nat.le_refl 16)

/-- A plane of the carried state at a sequence's first tile. -/
def planeFirst (n : ℕ) (hn : n < 16) : Vec F S1x128x128 .f32 :=
  arg12.view.readCov (firstPieces arg9 harg9 x6)
    (Rect.unit (s := S16x128x128) ![n, 0, 0] S1x128x128.size (inb_state n hn)).toLoadRect

/-- The one piece the first point writes into the triangle's scratch. -/
def triPieces : List (View.Piece (Elt F) S128x128 .bf16) :=
  [⟨Rect.unit ![0, 0] S128x128.size inb_S128x128_S128x128_0_0,
    shapeCast S128x128 triangle shapeCasts_S128x128_S128x128⟩]

/-- The one piece the first point writes into the split bits' scratch. -/
def splitPieces : List (View.Piece (Elt F) S128x128 .i32) :=
  [⟨Rect.unit ![0, 0] S128x128.size inb_S128x128_S128x128_0_0,
    shapeCast S128x128 (splitBits (F := F)) shapeCasts_S128x128_S128x128⟩]

/-- The loads of the first point. -/
def loadsA : Loads F := loads arg3 harg3 arg4 harg4 arg5 harg5 arg6 harg6 arg7 harg7 arg8 harg8 arg13 arg14 arg15 x0 x1 x2 x3 x4 x5
  (planeFirst arg9 harg9 arg12 x6)
  (arg16.view.readCov triPieces (Rect.unit (s := S128x128) ![0, 0] S128x128.size inb_S128x128_S128x128_0_0).toLoadRect)
  (arg17.view.readCov splitPieces (Rect.unit (s := S128x128) ![0, 0] S128x128.size inb_S128x128_S128x128_0_0).toLoadRect)

/-- The loads of a middle or last tile. -/
def loadsB : Loads F := loads arg3 harg3 arg4 harg4 arg5 harg5 arg6 harg6 arg7 harg7 arg8 harg8 arg13 arg14 arg15 x0 x1 x2 x3 x4 x5
  (planeOf arg12 harg12 xs0)
  (View.readAt (Elt F) arg16.view (Rect.unit (s := S128x128) ![0, 0] S128x128.size inb_S128x128_S128x128_0_0).toLoadRect (harg16.unread xs4))
  (View.readAt (Elt F) arg17.view (Rect.unit (s := S128x128) ![0, 0] S128x128.size inb_S128x128_S128x128_0_0).toLoadRect (harg17.unread xs5))

/-- The loads of a sequence's first tile, but for the first point. -/
def loadsD : Loads F := loads arg3 harg3 arg4 harg4 arg5 harg5 arg6 harg6 arg7 harg7 arg8 harg8 arg13 arg14 arg15 x0 x1 x2 x3 x4 x5
  (planeFirst arg9 harg9 arg12 x6)
  (View.readAt (Elt F) arg16.view (Rect.unit (s := S128x128) ![0, 0] S128x128.size inb_S128x128_S128x128_0_0).toLoadRect (harg16.unread xs4))
  (View.readAt (Elt F) arg17.view (Rect.unit (s := S128x128) ![0, 0] S128x128.size inb_S128x128_S128x128_0_0).toLoadRect (harg17.unread xs5))

/-- The output's pieces at the first point. -/
theorem outA (hc0 : cond0_0 i) (hc1 : cond0_1 i) (hc2 : ¬cond0_2 i) :
    (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6).1 =
      outPieces (loadsA arg3 harg3 arg4 harg4 arg5 harg5 arg6 harg6 arg7 harg7 arg8 harg8 arg9 harg9 arg12 arg13 arg14 arg15 arg16 arg17 x0 x1 x2 x3 x4 x5 x6) 16 (Nat.le_refl 16) := by
  sl_kernel_rfl

/-- The output's pieces at a middle tile. -/
theorem outB (hc0 : ¬cond0_0 i) (hc1 : ¬cond0_1 i) (hc2 : ¬cond0_2 i) :
    (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs0 xs4 xs5).1 =
      outPieces (loadsB arg3 harg3 arg4 harg4 arg5 harg5 arg6 harg6 arg7 harg7 arg8 harg8 arg12 harg12 arg13 arg14 arg15 arg16 harg16 arg17 harg17 x0 x1 x2 x3 x4 x5 xs0 xs4 xs5) 16 (Nat.le_refl 16) := by
  sl_kernel_rfl

/-- The output's pieces at a sequence's last tile. -/
theorem outC (hc0 : ¬cond0_0 i) (hc1 : ¬cond0_1 i) (hc2 : cond0_2 i) :
    (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs0 xs4 xs5).1 =
      outPieces (loadsB arg3 harg3 arg4 harg4 arg5 harg5 arg6 harg6 arg7 harg7 arg8 harg8 arg12 harg12 arg13 arg14 arg15 arg16 harg16 arg17 harg17 x0 x1 x2 x3 x4 x5 xs0 xs4 xs5) 16 (Nat.le_refl 16) := by
  sl_kernel_rfl

/-- The output's pieces at a sequence's first tile, but for the first point. -/
theorem outD (hc0 : cond0_0 i) (hc1 : ¬cond0_1 i) (hc2 : ¬cond0_2 i) :
    (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs4 xs5).1 =
      outPieces (loadsD arg3 harg3 arg4 harg4 arg5 harg5 arg6 harg6 arg7 harg7 arg8 harg8 arg9 harg9 arg12 arg13 arg14 arg15 arg16 harg16 arg17 harg17 x0 x1 x2 x3 x4 x5 x6 xs4 xs5) 16 (Nat.le_refl 16) := by
  sl_kernel_rfl

/-- The carried state's pieces at the first point. -/
theorem stateA (hc0 : cond0_0 i) (hc1 : cond0_1 i) (hc2 : ¬cond0_2 i) :
    (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6).2.2.1 =
      statePieces (statePiece (loadsA arg3 harg3 arg4 harg4 arg5 harg5 arg6 harg6 arg7 harg7 arg8 harg8 arg9 harg9 arg12 arg13 arg14 arg15 arg16 arg17 x0 x1 x2 x3 x4 x5 x6)) (firstPieces arg9 harg9 x6) 16 (Nat.le_refl 16) := by
  sl_kernel_rfl

/-- The carried state's pieces at a middle tile. -/
theorem stateB (hc0 : ¬cond0_0 i) (hc1 : ¬cond0_1 i) (hc2 : ¬cond0_2 i) :
    (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs0 xs4 xs5).2.2.1 =
      statePieces (statePiece (loadsB arg3 harg3 arg4 harg4 arg5 harg5 arg6 harg6 arg7 harg7 arg8 harg8 arg12 harg12 arg13 arg14 arg15 arg16 harg16 arg17 harg17 x0 x1 x2 x3 x4 x5 xs0 xs4 xs5)) [] 16 (Nat.le_refl 16) := by
  sl_kernel_rfl

/-- The carried state's pieces at a sequence's last tile. -/
theorem stateC (hc0 : ¬cond0_0 i) (hc1 : ¬cond0_1 i) (hc2 : cond0_2 i) :
    (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs0 xs4 xs5).2.2.1 =
      statePieces (statePiece (loadsB arg3 harg3 arg4 harg4 arg5 harg5 arg6 harg6 arg7 harg7 arg8 harg8 arg12 harg12 arg13 arg14 arg15 arg16 harg16 arg17 harg17 x0 x1 x2 x3 x4 x5 xs0 xs4 xs5)) [] 16 (Nat.le_refl 16) := by
  sl_kernel_rfl

/-- The carried state's pieces at a sequence's first tile, but for the first point. -/
theorem stateD (hc0 : cond0_0 i) (hc1 : ¬cond0_1 i) (hc2 : ¬cond0_2 i) :
    (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs4 xs5).2.2.1 =
      statePieces (statePiece (loadsD arg3 harg3 arg4 harg4 arg5 harg5 arg6 harg6 arg7 harg7 arg8 harg8 arg9 harg9 arg12 arg13 arg14 arg15 arg16 harg16 arg17 harg17 x0 x1 x2 x3 x4 x5 x6 xs4 xs5)) (firstPieces arg9 harg9 x6) 16 (Nat.le_refl 16) := by
  sl_kernel_rfl

/-- The triangle's piece at the first point. -/
theorem triA (hc0 : cond0_0 i) (hc1 : cond0_1 i) (hc2 : ¬cond0_2 i) :
    (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6).2.2.2.1 = triPieces := by
  sl_kernel_rfl

/-- The split bits' piece at the first point. -/
theorem splitA (hc0 : cond0_0 i) (hc1 : cond0_1 i) (hc2 : ¬cond0_2 i) :
    (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6).2.2.2.2.1 = splitPieces := by
  sl_kernel_rfl

/-- The final state's pieces at a sequence's last tile: the planes just stored, transposed. -/
theorem finalC (hc0 : ¬cond0_0 i) (hc1 : ¬cond0_1 i) (hc2 : cond0_2 i) :
    (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs0 xs4 xs5).2.1 =
      finalPieces (fun n hn => lastPiece (arg12.view.readCov (statePieces (statePiece (loadsB arg3 harg3 arg4 harg4 arg5 harg5 arg6 harg6 arg7 harg7 arg8 harg8 arg12 harg12 arg13 arg14 arg15 arg16 harg16 arg17 harg17 x0 x1 x2 x3 x4 x5 xs0 xs4 xs5)) [] 16 (Nat.le_refl 16))
        (Rect.unit (s := S16x128x128) ![n, 0, 0] S1x128x128.size (inb_state n hn)).toLoadRect)) 16 (Nat.le_refl 16) := by
  sl_kernel_rfl

end Cert.Head

end
-- ==== Proof.Recurrence.lean ====
/- The recurrence of the layer over the reals, one head at a time: a matrix-valued state is scaled by the decay
   `exp (g t)` of each key lane and takes in the outer product of the token's key and value; the output is the
   query against the state after the token. `state_add` unrolls it over a block of tokens, which is how both
   programs compute it, at blocks of two different lengths. -/
module

public import Mathlib.Analysis.SpecialFunctions.Exp
public import Mathlib.Algebra.BigOperators.Fin

@[expose] public section

noncomputable section

namespace Cert.Recurrence

open Finset

/-- The state after `n` tokens at key lane `d` and value lane `e`, from the state `s` before the first one: log-decays `g`,
    keys `k` and values `v`, each a function of the token and the lane. -/
def state (g k v : ℕ → ℕ → ℝ) (s : ℕ → ℕ → ℝ) : ℕ → ℕ → ℕ → ℝ
  | 0, d, e => s d e
  | n + 1, d, e => Real.exp (g n d) * state g k v s n d e + k n d * v n e

/-- The running sum of the log-decays of a block that starts at token `n`, its first `j` tokens included. -/
def run (g : ℕ → ℕ → ℝ) (n j d : ℕ) : ℝ := ∑ i ∈ range j, g (n + i) d

theorem run_zero (g : ℕ → ℕ → ℝ) (n d : ℕ) : run g n 0 d = 0 := rfl

theorem run_succ (g : ℕ → ℕ → ℝ) (n j d : ℕ) : run g n (j + 1) d = run g n j d + g (n + j) d := sum_range_succ _ _

/-- The running sum does not grow when no log-decay is positive. -/
theorem run_antitone (g : ℕ → ℕ → ℝ) (n d : ℕ) (hg : ∀ t, g t d ≤ 0) : Antitone fun j => run g n j d :=
  antitone_nat_of_succ_le fun j => by simp only [run_succ]; linarith [hg (n + j)]

/-- THE BLOCK FORM OF THE STATE: `j` tokens after token `n`, the state at `n` decayed by the whole block, and each
    token's outer product decayed by the tokens after it. -/
theorem state_add (g k v : ℕ → ℕ → ℝ) (s : ℕ → ℕ → ℝ) (n j d e : ℕ) :
    state g k v s (n + j) d e = Real.exp (run g n j d) * state g k v s n d e
      + ∑ i ∈ range j, k (n + i) d * Real.exp (run g n j d - run g n (i + 1) d) * v (n + i) e := by
  induction j with
  | zero => simp [run_zero]
  | succ j ih =>
    rw [← Nat.add_assoc, state, ih, sum_range_succ, run_succ, sub_self, Real.exp_zero, Real.exp_add, mul_one, mul_add,
      mul_sum]
    have h : ∀ i ∈ range j, Real.exp (g (n + j) d)
        * (k (n + i) d * Real.exp (run g n j d - run g n (i + 1) d) * v (n + i) e)
        = k (n + i) d * Real.exp (run g n j d + g (n + j) d - run g n (i + 1) d) * v (n + i) e := fun i _ => by
      rw [show run g n j d + g (n + j) d - run g n (i + 1) d = g (n + j) d + (run g n j d - run g n (i + 1) d) by ring,
        Real.exp_add]
      ring
    rw [sum_congr rfl h]
    ring

/-- The output at token `t` and value lane `e`: the query `q` of 128 lanes against the state after the token. -/
def out (q g k v : ℕ → ℕ → ℝ) (s : ℕ → ℕ → ℝ) (t e : ℕ) : ℝ := ∑ d ∈ range 128, q t d * state g k v s (t + 1) d e

/-- THE BLOCK FORM OF THE OUTPUT: token `j` of a block that starts at `n` attends to the block's tokens up to itself,
    each product of query and key lane decayed from the key's token to the query's, and to the state before the block. -/
theorem out_block (q g k v : ℕ → ℕ → ℝ) (s : ℕ → ℕ → ℝ) (n j e : ℕ) :
    out q g k v s (n + j) e
      = (∑ i ∈ range (j + 1), (∑ d ∈ range 128, q (n + j) d * k (n + i) d
            * Real.exp (run g n (j + 1) d - run g n (i + 1) d)) * v (n + i) e)
        + ∑ d ∈ range 128, q (n + j) d * Real.exp (run g n (j + 1) d) * state g k v s n d e := by
  unfold out
  simp only [Nat.add_assoc n j 1, state_add g k v s n (j + 1), mul_add, sum_add_distrib, mul_sum, sum_mul]
  rw [add_comm, sum_comm]
  refine congrArg₂ _ (sum_congr rfl fun i _ => sum_congr rfl fun d _ => by ring) (sum_congr rfl fun d _ => by ring)

end Cert.Recurrence

end
-- ==== Proof.Tile.lean ====
/- One block of 128 tokens of one head over the reals, as the kernel computes it: exponentials to base 2, the
   products of query and key by levels. At level `m` two tokens of one block of `2m`, the query's in the upper half and
   the key's in the lower, meet at the middle of the block: each side is scaled by its decay to the middle. -/
module

public import proofs.«01_k».proof.Proof.Recurrence
public import Mathlib.Analysis.SpecialFunctions.Pow.Real
public import Mathlib.Tactic.IntervalCases
public import Mathlib.Tactic.FieldSimp

@[expose] public section

noncomputable section

namespace Cert.Tile

open Finset

/-- The last token of the lower half of the block of `2m` that holds token `t`. -/
def mid (m t : ℕ) : ℕ := t / (2 * m) * (2 * m) + (m - 1)

/-- The decay of lane `d` between token `t` and the middle of its block of `2m`. -/
def decay (b : ℕ → ℕ → ℝ) (m t d : ℕ) : ℝ := Real.rpow 2 (-|b t d - b (mid m t) d|)

/-- The product of query `t` and key `s` at level `m`. -/
def level (q k b : ℕ → ℕ → ℝ) (m t s : ℕ) : ℝ := ∑ d ∈ range 128, q t d * decay b m t d * (k s d * decay b m s d)

/-- The product of query `t` and key `s`, each lane decayed from `s` to `t`. -/
def weight (q k b : ℕ → ℕ → ℝ) (t s : ℕ) : ℝ := ∑ d ∈ range 128, q t d * k s d * Real.rpow 2 (b t d - b s d)

/-- Tokens `t` and `s` part at level `m`: `s` before `t`, in one block of `2m` but not in one block of `m`. -/
def Part (m t s : ℕ) : Prop := s < t ∧ t / (2 * m) = s / (2 * m) ∧ t / m ≠ s / m

theorem mid_le {m t s : ℕ} (hm : 0 < m) (h : Part m t s) : mid m t = mid m s ∧ s ≤ mid m t ∧ mid m t ≤ t := by
  obtain ⟨hst, hb, hne⟩ := h
  have e : t / m / 2 = s / m / 2 := by rw [Nat.div_div_eq_div_mul, Nat.div_div_eq_div_mul, Nat.mul_comm m 2]; exact hb
  have hlt : s / m < t / m := lt_of_le_of_ne (Nat.div_le_div_right hst.le) (Ne.symm hne)
  have hs2 : s / m = 2 * (t / (2 * m)) := by
    rw [Nat.mul_comm 2 m, ← Nat.div_div_eq_div_mul]; omega
  have ht2 : t / m = 2 * (t / (2 * m)) + 1 := by
    rw [Nat.mul_comm 2 m, ← Nat.div_div_eq_div_mul]; omega
  have h1 : s < (s / m + 1) * m := Nat.lt_mul_of_div_lt (Nat.lt_succ_self _) hm
  have h2 : t / m * m ≤ t := Nat.div_mul_le_self t m
  rw [hs2] at h1
  rw [ht2] at h2
  have h3 : (2 * (t / (2 * m)) + 1) * m = t / (2 * m) * (2 * m) + m := by ring
  rw [h3] at h1 h2
  refine ⟨by unfold mid; rw [hb], ?_, ?_⟩ <;> unfold mid <;> omega

/-- Where two tokens part, the level's product is the decayed product: the two decays meet at the middle. -/
theorem level_eq (q k b : ℕ → ℕ → ℝ) {m t s : ℕ} (hm : 0 < m) (hb : ∀ d, Antitone fun t => b t d) (h : Part m t s) :
    level q k b m t s = weight q k b t s := by
  obtain ⟨he, h1, h2⟩ := mid_le hm h
  refine sum_congr rfl fun d _ => ?_
  have a1 : b t d - b (mid m t) d ≤ 0 := sub_nonpos.mpr (hb d h2)
  have a2 : 0 ≤ b s d - b (mid m s) d := sub_nonneg.mpr (he ▸ hb d h1)
  unfold decay
  rw [abs_of_nonpos a1, abs_of_nonneg a2, neg_neg, ← he]
  have e : Real.rpow 2 (b t d - b s d) = Real.rpow 2 (b t d - b (mid m t) d) * Real.rpow 2 (-(b s d - b (mid m t) d)) :=
    (congrArg (Real.rpow 2) (by ring)).trans (Real.rpow_add two_pos _ _)
  rw [e]
  ring

/-- The kernel's matrix of products of queries and keys: the level at which the two tokens part, if it is 4 or more. -/
def attn (q k b : ℕ → ℕ → ℝ) (t s : ℕ) : ℝ := if s < t ∧ t / 4 ≠ s / 4 then weight q k b t s else 0

/-- The tokens of `t`'s block of 4 up to `t`, reached one by one as the kernel does, with the tokens of the blocks
    before it, are the tokens up to `t`. -/
theorem sum_upto (f : ℕ → ℝ) {t : ℕ} (ht : t < 128) :
    (((f t + if 1 ≤ t % 4 then f (t - 1) else 0) + if 2 ≤ t % 4 then f (t - 2) else 0)
      + if 3 ≤ t % 4 then f (t - 3) else 0) + ∑ s ∈ range 128, (if s < t ∧ t / 4 ≠ s / 4 then f s else 0)
      = ∑ i ∈ range (t + 1), f i := by
  have h1 : ∑ s ∈ range 128, (if s < t ∧ t / 4 ≠ s / 4 then f s else 0) = ∑ s ∈ range (t / 4 * 4), f s := by
    rw [← sum_filter]
    refine sum_congr ?_ fun _ _ => rfl
    ext s
    simp only [mem_filter, mem_range]
    omega
  have h2 : t + 1 = t / 4 * 4 + (t % 4 + 1) := by omega
  rw [h1, h2, sum_range_add]
  have h3 : t % 4 < 4 := Nat.mod_lt _ (by norm_num)
  have h4 : t = t / 4 * 4 + t % 4 := by omega
  generalize t / 4 * 4 = a at *
  generalize t % 4 = r at *
  subst h4
  interval_cases r <;> simp [sum_range_succ] <;> ring

/-- THE BLOCK'S OUTPUT as the kernel adds it up: the block of 4, the levels, and the state `s` before the block. -/
def out (q k v b : ℕ → ℕ → ℝ) (s : ℕ → ℕ → ℝ) (t e : ℕ) : ℝ :=
  ((((weight q k b t t * v t e + (if 1 ≤ t % 4 then weight q k b t (t - 1) else 0) * v (t - 1) e)
      + (if 2 ≤ t % 4 then weight q k b t (t - 2) else 0) * v (t - 2) e)
      + (if 3 ≤ t % 4 then weight q k b t (t - 3) else 0) * v (t - 3) e)
      + ∑ j ∈ range 128, attn q k b t j * v j e) + ∑ d ∈ range 128, q t d * Real.rpow 2 (b t d) * s d e

/-- The state after the block as the kernel leaves it. -/
def next (k v b : ℕ → ℕ → ℝ) (s : ℕ → ℕ → ℝ) (d e : ℕ) : ℝ :=
  Real.rpow 2 (b 127 d) * s d e + ∑ i ∈ range 128, v i e * (k i d * Real.rpow 2 (b 127 d - b i d))

/-- Powers of 2 of a logarithm to base 2 are exponentials. -/
theorem rpow_two_mul_inv (x : ℝ) : Real.rpow 2 (x * (Real.log 2)⁻¹) = Real.exp x := by
  rw [show Real.rpow 2 (x * (Real.log 2)⁻¹) = Real.exp (Real.log 2 * (x * (Real.log 2)⁻¹)) from
    Real.rpow_def_of_pos two_pos _]
  have h : Real.log 2 ≠ 0 := (Real.log_pos one_lt_two).ne'
  congr 1
  field_simp

/-- The running sum of a block in base 2, its own token included. -/
def base2 (g : ℕ → ℕ → ℝ) (n t d : ℕ) : ℝ := Recurrence.run g n (t + 1) d * (Real.log 2)⁻¹

theorem base2_antitone (g : ℕ → ℕ → ℝ) (n d : ℕ) (hg : ∀ t, g t d ≤ 0) : Antitone fun t => base2 g n t d :=
  fun _ _ h => mul_le_mul_of_nonneg_right (Recurrence.run_antitone g n d hg (Nat.succ_le_succ h))
    (inv_nonneg.mpr (Real.log_pos one_lt_two).le)

theorem rpow_base2 (g : ℕ → ℕ → ℝ) (n t d : ℕ) :
    Real.rpow 2 (base2 g n t d) = Real.exp (Recurrence.run g n (t + 1) d) := rpow_two_mul_inv _

theorem rpow_base2_sub (g : ℕ → ℕ → ℝ) (n t s d : ℕ) :
    Real.rpow 2 (base2 g n t d - base2 g n s d)
      = Real.exp (Recurrence.run g n (t + 1) d - Recurrence.run g n (s + 1) d) := by
  unfold base2; rw [← sub_mul]; exact rpow_two_mul_inv _

/-- THE BLOCK'S OUTPUT is the recurrence's, token by token. -/
theorem out_eq (q g k v : ℕ → ℕ → ℝ) (s : ℕ → ℕ → ℝ) (n : ℕ) {t : ℕ} (ht : t < 128) (e : ℕ) :
    out (fun i => q (n + i)) (fun i => k (n + i)) (fun i => v (n + i)) (base2 g n) (Recurrence.state g k v s n) t e
      = Recurrence.out q g k v s (n + t) e := by
  rw [Recurrence.out_block]
  unfold out attn
  simp only [ite_mul, zero_mul]
  rw [sum_upto (fun i => weight (fun i => q (n + i)) (fun i => k (n + i)) (base2 g n) t i * v (n + i) e) ht]
  simp only [weight, rpow_base2_sub, rpow_base2]

/-- THE STATE AFTER THE BLOCK is the recurrence's, 128 tokens on. -/
theorem next_eq (g k v : ℕ → ℕ → ℝ) (s : ℕ → ℕ → ℝ) (n d e : ℕ) :
    next (fun i => k (n + i)) (fun i => v (n + i)) (base2 g n) (Recurrence.state g k v s n) d e
      = Recurrence.state g k v s (n + 128) d e := by
  rw [Recurrence.state_add]
  unfold next
  simp only [rpow_base2_sub, rpow_base2]
  exact congrArg₂ _ rfl (sum_congr rfl fun i _ => by ring)

end Cert.Tile

end
-- ==== Proof.Values.lean ====
module

public import proofs.«01_k».proof.Proof.Head
public import proofs.«01_k».proof.Proof.Tile
public import Idealize.ShloMosaic.Lib.Pointwise

/-! # The per-head terms over the extended reals

Where the loads are real, the head's output before the norm is `Tile.out` and its state `Tile.next`. -/

@[expose] public section

set_option maxRecDepth 16384

noncomputable section

namespace Cert.Head

open Cert.KernelIdeal Cert.KernelIdeal.Gen Idealize.ShloMosaic

/-- The named constants read as the numbers they are named for. -/
theorem log2e_eq : Named.named (F := Ideal) Cert.KernelIdeal.κ "log2e" (φ := .f32) 0x3FB8AA3B#32 = (((Real.log 2)⁻¹ : ℝ) : EReal) :=
  IdealRules.named_const.ideal_named_scalar _ _ _ _ rfl

theorem neg_eq : Named.named (F := Ideal) Cert.KernelIdeal.κ "neg" (φ := .f32) 0xF149F2CA#32 = (⊥ : EReal) :=
  IdealRules.named_const.ideal_named_scalar _ _ _ _ rfl

/-- A sum of reals, taken over the extended reals, is the sum over a range of naturals. -/
theorem coe_sum_fin (N : ℕ) (f : ℕ → ℝ) : (∑ x : Fin N, ((f x.val : ℝ) : EReal)) = ((∑ i ∈ Finset.range N, f i : ℝ) : EReal) := by
  induction N with
  | zero => simp
  | succ N ih => rw [Fin.sum_univ_castSucc, Finset.sum_range_succ, EReal.coe_add, ← ih]; rfl

/-- The running sum in base 2. -/
def base (f : ℕ → ℕ → ℝ) (t d : ℕ) : ℝ := (∑ i ∈ Finset.range (t + 1), f i d) * (Real.log 2)⁻¹

/-- A padded scratch's contents: eight rows of zeros, then the plane. -/
def padAt (p : ℕ → ℕ → ℕ → ℝ) (y : S16x136x128.Idx) : EReal :=
  if (y 1).val < 8 then 0 else ((p (y 0).val ((y 1).val - 8) (y 2).val : ℝ) : EReal)

/-- A read of a padded scratch at given coordinates past the zero rows. -/
theorem padAt_of (p : ℕ → ℕ → ℕ → ℝ) (y : S16x136x128.Idx) {n t d : ℕ} (h0 : (y 0).val = n) (h1 : (y 1).val = t + 8) (h2 : (y 2).val = d) :
    padAt p y = ((p n t d : ℝ) : EReal) := by
  unfold padAt; rw [if_neg (by omega), h0, h1, h2]; rfl

section Sums

variable (tri : Vec Ideal S128x128 .bf16) (lf : Vec Ideal S1x128x128 .f32) (f : ℕ → ℕ → ℝ)

/-- The running sums: the pieces the log-decays are split into add up to them. -/
theorem bcum_apply (htri : ∀ t s : Fin 128, tri (ix2 t s) = if s.val ≤ t.val then (1 : EReal) else 0)
    (hlf : ∀ t d : Fin 128, lf (ix3 0 t d) = ((f t.val d.val : ℝ) : EReal)) (t d : Fin 128) :
    bcum tri lf (ix2 t d) = ((base f t.val d.val : ℝ) : EReal) := by
  pointwise [bcum, prefixSum, piece1, rest, scaled, zacc]
  have e : ∀ x : Fin 128, (lf (ix3 0 x d) : EReal) * Named.named (F := Ideal) κ "log2e" (φ := .f32) 1069066811#32
      = ((f x.val d.val * (Real.log 2)⁻¹ : ℝ) : EReal) := fun x => by
    rw [hlf]; exact (congrArg _ log2e_eq).trans (EReal.coe_mul _ _).symm
  have e2 : ∀ x : Fin 128, (tri (ix2 t x) : EReal) * ((f x.val d.val * (Real.log 2)⁻¹ : ℝ) : EReal)
      = (((fun i => if i ≤ t.val then f i d.val * (Real.log 2)⁻¹ else 0) x.val : ℝ) : EReal) := fun x => by
    rw [htri]; by_cases h : x.val ≤ t.val <;> simp [h]
  have e3 : ∀ r : ℝ, (r : EReal) - (r : EReal) = 0 := fun r => by rw [← EReal.coe_sub, sub_self]; rfl
  simp only [e, e2, e3, mul_zero, sub_zero, Finset.sum_const_zero, add_zero]
  refine (coe_sum_fin 128 fun i => if i ≤ t.val then f i d.val * (Real.log 2)⁻¹ else 0).trans ?_
  congr 1
  rw [← Finset.sum_filter, base, Finset.sum_mul]
  refine Finset.sum_congr ?_ fun _ _ => rfl
  ext i
  simp only [Finset.mem_filter, Finset.mem_range]
  have := t.isLt
  omega

end Sums

/-- A vector of rows, each spread over the rows of its block. -/
theorem spread4 (x : Vec Ideal S1x16x128 .f32) (t d : Fin 128) :
    (shapeCast S128x128 (broadcastTo S16x8x128 (shapeCast S16x1x128 (shapeCast S16x1x128 (shapeCast S16x128
      x shapeCasts_S1x16x128_S16x128 : FVec Ideal S16x128 .f32) shapeCasts_S16x128_S16x1x128 : FVec Ideal S16x1x128 .f32)
      shapeCasts_S16x1x128_S16x1x128 : FVec Ideal S16x1x128 .f32)
      broadcasts_S16x1x128_S16x8x128 : FVec Ideal S16x8x128 .f32) shapeCasts_S16x8x128_S128x128 : FVec Ideal S128x128 .f32) (ix2 t d)
      = x (ix3 0 ⟨t.val / 8, by omega⟩ d) := by
  pointwise []

theorem spread8 (x : Vec Ideal S1x8x128 .f32) (t d : Fin 128) :
    (shapeCast S128x128 (broadcastTo S8x16x128 (shapeCast S8x1x128 (shapeCast S8x1x128 (shapeCast S8x128
      x shapeCasts_S1x8x128_S8x128 : FVec Ideal S8x128 .f32) shapeCasts_S8x128_S8x1x128 : FVec Ideal S8x1x128 .f32)
      shapeCasts_S8x1x128_S8x1x128 : FVec Ideal S8x1x128 .f32)
      broadcasts_S8x1x128_S8x16x128 : FVec Ideal S8x16x128 .f32) shapeCasts_S8x16x128_S128x128 : FVec Ideal S128x128 .f32) (ix2 t d)
      = x (ix3 0 ⟨t.val / 16, by omega⟩ d) := by
  pointwise []

theorem spread16 (x : Vec Ideal S1x4x128 .f32) (t d : Fin 128) :
    (shapeCast S128x128 (broadcastTo S4x32x128 (shapeCast S4x1x128 (shapeCast S4x1x128 (shapeCast S4x128
      x shapeCasts_S1x4x128_S4x128 : FVec Ideal S4x128 .f32) shapeCasts_S4x128_S4x1x128 : FVec Ideal S4x1x128 .f32)
      shapeCasts_S4x1x128_S4x1x128 : FVec Ideal S4x1x128 .f32)
      broadcasts_S4x1x128_S4x32x128 : FVec Ideal S4x32x128 .f32) shapeCasts_S4x32x128_S128x128 : FVec Ideal S128x128 .f32) (ix2 t d)
      = x (ix3 0 ⟨t.val / 32, by omega⟩ d) := by
  pointwise []

theorem spread32 (x : Vec Ideal S1x2x128 .f32) (t d : Fin 128) :
    (shapeCast S128x128 (broadcastTo S2x64x128 (shapeCast S2x1x128 (shapeCast S2x1x128 (shapeCast S2x128
      x shapeCasts_S1x2x128_S2x128 : FVec Ideal S2x128 .f32) shapeCasts_S2x128_S2x1x128 : FVec Ideal S2x1x128 .f32)
      shapeCasts_S2x1x128_S2x1x128 : FVec Ideal S2x1x128 .f32)
      broadcasts_S2x1x128_S2x64x128 : FVec Ideal S2x64x128 .f32) shapeCasts_S2x64x128_S128x128 : FVec Ideal S128x128 .f32) (ix2 t d)
      = x (ix3 0 ⟨t.val / 64, by omega⟩ d) := by
  pointwise []

theorem spread64 (x : Vec Ideal S1x1x128 .f32) (t d : Fin 128) :
    (broadcastTo S128x128 (shapeCast S1x128 (shapeCast S1x128 x
      shapeCasts_S1x1x128_S1x128 : FVec Ideal S1x128 .f32) shapeCasts_S1x128_S1x128 : FVec Ideal S1x128 .f32)
      broadcasts_S1x128_S128x128 : FVec Ideal S128x128 .f32) (ix2 t d) = x (ix3 0 0 d) := by
  pointwise []

theorem flat_apply {t : EltTy} (x : Vec Ideal S1x128x128 t) (i j : Fin 128) : flat x (ix2 i j) = x (ix3 0 i j) := by
  pointwise [flat]

theorem wide_apply (x : Vec Ideal S1x128x128 .bf16) (i j : Fin 128) : wide x (ix2 i j) = x (ix3 0 i j) := by
  pointwise [wide]

theorem row_apply (x : Vec Ideal S1x1x128 .f32) (j : Fin 128) :
    (shapeCast S1x128 x shapeCasts_S1x1x128_S1x128 : FVec Ideal S1x128 .f32) (ix2 0 j) = x (ix3 0 0 j) := by
  pointwise []

section Reads

variable (rb : Reads Ideal) (b : ℕ → ℕ → ℕ → ℝ) (hrb : ∀ B x, rb B x = padAt b (B.idx x)) (n : ℕ) (hn : n < 16)
include hrb

theorem mid4_apply (t d : Fin 128) : mid4 rb n hn (ix2 t d) = ((b n (Tile.mid 4 t.val) d.val : ℝ) : EReal) := by
  refine (spread4 _ t d).trans ((hrb _ _).trans (padAt_of _ _ rfl ?_ ?_))
  · show 11 + 8 * (t.val / 8) = _
    unfold Tile.mid; omega
  · show 0 + 1 * d.val = d.val
    omega

theorem mid8_apply (t d : Fin 128) : mid8 rb n hn (ix2 t d) = ((b n (Tile.mid 8 t.val) d.val : ℝ) : EReal) := by
  refine (spread8 _ t d).trans ((hrb _ _).trans (padAt_of _ _ rfl ?_ ?_))
  · show 15 + 16 * (t.val / 16) = _
    unfold Tile.mid; omega
  · show 0 + 1 * d.val = d.val
    omega

theorem mid16_apply (t d : Fin 128) : mid16 rb n hn (ix2 t d) = ((b n (Tile.mid 16 t.val) d.val : ℝ) : EReal) := by
  refine (spread16 _ t d).trans ((hrb _ _).trans (padAt_of _ _ rfl ?_ ?_))
  · show 23 + 32 * (t.val / 32) = _
    unfold Tile.mid; omega
  · show 0 + 1 * d.val = d.val
    omega

theorem mid32_apply (t d : Fin 128) : mid32 rb n hn (ix2 t d) = ((b n (Tile.mid 32 t.val) d.val : ℝ) : EReal) := by
  refine (spread32 _ t d).trans ((hrb _ _).trans (padAt_of _ _ rfl ?_ ?_))
  · show 39 + 64 * (t.val / 64) = _
    unfold Tile.mid; omega
  · show 0 + 1 * d.val = d.val
    omega

theorem mid64_apply (t d : Fin 128) : mid64 rb n hn (ix2 t d) = ((b n (Tile.mid 64 t.val) d.val : ℝ) : EReal) := by
  refine (spread64 _ t d).trans ((hrb _ _).trans (padAt_of _ _ rfl ?_ ?_))
  · show 71 + 1 * 0 = _
    unfold Tile.mid; omega
  · show 0 + 1 * d.val = d.val
    omega

/-- A plane read `j = 8 - o` rows early. -/
theorem plane_apply (o : ℕ) (ho : o ≤ 8) (t d : Fin 128) :
    plane rb n o hn ho (ix2 t d) = if t.val + o < 8 then 0 else ((b n (t.val + o - 8) d.val : ℝ) : EReal) := by
  refine (flat_apply (t := .f32) _ t d).trans ((hrb _ _).trans ?_)
  have h1 : (((Rect.unit (s := S16x136x128) ![n, o, 0] S1x128x128.size (inb_plane n o hn ho)).toLoadRect.idx (ix3 0 t d)) 1).val = t.val + o := by
    show o + 1 * t.val = _
    omega
  by_cases h : t.val + o < 8
  · rw [if_pos h]; unfold padAt; rw [if_pos (by omega)]
  · rw [if_neg h]
    refine padAt_of _ _ rfl (by omega) ?_
    show 0 + 1 * d.val = d.val
    omega

theorem lastRow_apply (d : Fin 128) : lastRow rb n hn (ix2 0 d) = ((b n 127 d.val : ℝ) : EReal) := by
  refine (row_apply _ d).trans ((hrb _ _).trans (padAt_of _ _ rfl rfl ?_))
  show 0 + 1 * d.val = d.val
  omega

end Reads

/-- The decay from the middle row of a block of `2m`. -/
theorem fade_apply (x y : FVec Ideal S128x128 .f32) (b : ℕ → ℕ → ℝ) (m : ℕ) (t d : Fin 128)
    (hx : x (ix2 t d) = ((b t.val d.val : ℝ) : EReal)) (hy : y (ix2 t d) = ((b (Tile.mid m t.val) d.val : ℝ) : EReal)) :
    fade x y (ix2 t d) = ((Tile.decay b m t.val d.val : ℝ) : EReal) := by
  pointwise [fade, zeros]
  rw [hx, hy]
  unfold Tile.decay
  generalize b t.val d.val = u
  generalize b (Tile.mid m t.val) d.val = w
  have e : FloatOps.absf (F := Ideal) (φ := .f32) ((u : EReal) - (w : EReal)) = ((|u - w| : ℝ) : EReal) := by
    show max ((u : EReal) - (w : EReal)) (-((u : EReal) - (w : EReal))) = _
    rw [← EReal.coe_sub, ← EReal.coe_neg, abs_eq_max_neg]
    exact (EReal.coe_strictMono.monotone.map_max).symm
  rw [e, zero_sub, ← EReal.coe_neg]
  rfl

/-- A level of the divide: the decayed product where the two tokens part at it, the levels before elsewhere. -/
theorem level_apply (w : BitVec 32) (sp : Vec Ideal S128x128 .i32) (q k x prev : FVec Ideal S128x128 .f32) (Q K b : ℕ → ℕ → ℝ) (m : ℕ)
    (hm : 0 < m) (hb : ∀ d, Antitone fun t => b t d)
    (hq : ∀ t d : Fin 128, q (ix2 t d) = ((Q t.val d.val : ℝ) : EReal)) (hk : ∀ t d : Fin 128, k (ix2 t d) = ((K t.val d.val : ℝ) : EReal))
    (hx : ∀ t d : Fin 128, x (ix2 t d) = ((Tile.decay b m t.val d.val : ℝ) : EReal))
    (t s : Fin 128) (hs : sp (ix2 t s) = w ↔ Tile.Part m t.val s.val) (P : Prop) [Decidable P]
    (hp : prev (ix2 t s) = if P then ((Tile.weight Q K b t.val s.val : ℝ) : EReal) else 0)
    (P' : Prop) [Decidable P'] (hP : P' ↔ Tile.Part m t.val s.val ∨ P) :
    level w sp q k x prev (ix2 t s) = if P' then ((Tile.weight Q K b t.val s.val : ℝ) : EReal) else 0 := by
  pointwise [level, zacc]
  by_cases h : Tile.Part m t.val s.val
  · have h1 : IntOp.cmpi .eq (sp (ix2 t s)) w = 1#1 := by rw [hs.2 h]; exact IntOp.cmpi_eq_self _
    rw [if_pos (hP.2 (Or.inl h))]
    refine (if_pos h1).trans ?_
    rw [← Tile.level_eq Q K b hm hb h]
    simp only [hq, hk, hx, ← EReal.coe_mul]
    exact coe_sum_fin 128 fun d => Q t.val d * Tile.decay b m t.val d * (K s.val d * Tile.decay b m s.val d)
  · have h1 : ¬ IntOp.cmpi .eq (sp (ix2 t s)) w = 1#1 := by
      intro e
      refine h (hs.1 ?_)
      exact IntOp.cmpi_eq.1 e
    refine (if_neg h1).trans (hp.trans ?_)
    simp only [hP, h, false_or]

/-- The row's number modulo four is at least `j`. -/
theorem same_apply : ∀ j : Fin 4, ∀ t d : Fin 128, same (BitVec.ofNat 32 j.val) (ix2 t d) = BitVec.ofBool (decide (j.val ≤ t.val % 4)) := by
  intro j t d
  pointwise [same, rowMod, rows]
  clear d
  revert j t
  decide +kernel

/-- A row `j` before, inside its block of four. -/
theorem back_apply (j : ℕ) (hj : j < 4) (q b bj kj vj : FVec Ideal S128x128 .f32) (Q K V B : ℕ → ℕ → ℝ)
    (hq : ∀ t d : Fin 128, q (ix2 t d) = ((Q t.val d.val : ℝ) : EReal)) (hb : ∀ t d : Fin 128, b (ix2 t d) = ((B t.val d.val : ℝ) : EReal))
    (hbj : ∀ t d : Fin 128, bj (ix2 t d) = if t.val < j then 0 else ((B (t.val - j) d.val : ℝ) : EReal))
    (hkj : ∀ t d : Fin 128, kj (ix2 t d) = if t.val < j then 0 else ((K (t.val - j) d.val : ℝ) : EReal))
    (hvj : ∀ t d : Fin 128, vj (ix2 t d) = if t.val < j then 0 else ((V (t.val - j) d.val : ℝ) : EReal))
    (t e : Fin 128) :
    back (BitVec.ofNat 32 j) q b bj kj vj (ix2 t e)
      = (((if j ≤ t.val % 4 then Tile.weight Q K B t.val (t.val - j) else 0) * V (t.val - j) e.val : ℝ) : EReal) := by
  have hs : ∀ d : Fin 128, same (BitVec.ofNat 32 j) (ix2 t d) = BitVec.ofBool (decide (j ≤ t.val % 4)) := fun d => same_apply ⟨j, hj⟩ t d
  pointwise [back, spread, rowSum]
  rw [neg_eq]
  by_cases h : j ≤ t.val % 4
  · have hj' : ¬ t.val < j := by have := Nat.mod_le t.val 4; omega
    rw [if_pos h, hvj, if_neg hj', EReal.coe_mul]
    congr 1
    unfold Tile.weight
    rw [← coe_sum_fin 128 fun d => Q t.val d * K (t.val - j) d * Real.rpow 2 (B t.val d - B (t.val - j) d)]
    refine Finset.sum_congr rfl fun d _ => ?_
    rw [hs, hq, hkj, hb, hbj, if_neg hj', if_neg hj', decide_eq_true h]
    show _ * Ideal.exp2 (((B t.val d.val : ℝ) : EReal) - ((B (t.val - j) d.val : ℝ) : EReal)) = _
    rw [← EReal.coe_sub, Ideal.exp2_coe, ← EReal.coe_mul, ← EReal.coe_mul]
  · rw [if_neg h, zero_mul]
    have : ∀ d : Fin 128, (q (ix2 t d) * kj (ix2 t d) : EReal) * FloatOps.exp2 (F := Ideal) (φ := .f32)
        (Scalar.select (same (BitVec.ofNat 32 j) (ix2 t d)) (b (ix2 t d) - bj (ix2 t d)) (⊥ : EReal)) = 0 := fun d => by
      rw [hs, decide_eq_false h]
      show _ * Ideal.exp2 ⊥ = _
      rw [Ideal.exp2_bot, mul_zero]
    simp only [this, Finset.sum_const_zero, zero_mul]
    rfl

/-- The loads of a point over the reals: queries, keys, values, log-decays and the state of every head; the triangle of ones; the
split bits; the three padded scratches at the running sums, the keys and the values. -/
structure Reals (L : Loads Ideal) (q f k v s : ℕ → ℕ → ℕ → ℝ) : Prop where
  lq : ∀ n hn (t d : Fin 128), L.lq n hn (ix3 0 t d) = ((q n t.val d.val : ℝ) : EReal)
  lf : ∀ n hn (t d : Fin 128), L.lf n hn (ix3 0 t d) = ((f n t.val d.val : ℝ) : EReal)
  lk : ∀ n hn (t d : Fin 128), L.lk n hn (ix3 0 t d) = ((k n t.val d.val : ℝ) : EReal)
  lv : ∀ n hn (t d : Fin 128), L.lv n hn (ix3 0 t d) = ((v n t.val d.val : ℝ) : EReal)
  lst : ∀ n hn (e d : Fin 128), L.lst n hn (ix3 0 e d) = ((s n d.val e.val : ℝ) : EReal)
  tri : ∀ t s : Fin 128, L.tri (ix2 t s) = if s.val ≤ t.val then (1 : EReal) else 0
  split : ∀ t s : Fin 128, ∀ j : ℕ, 2 ≤ j → j ≤ 6 → (L.split (ix2 t s) = BitVec.ofNat 32 j ↔ Tile.Part (2 ^ j) t.val s.val)
  rb : ∀ B x, L.rb B x = padAt (fun n => base (f n)) (B.idx x)
  rk : ∀ B x, L.rk B x = padAt k (B.idx x)
  rv : ∀ B x, L.rv B x = padAt v (B.idx x)

/-- Two tokens of different blocks of four part at exactly one of the levels. -/
theorem part_iff : ∀ t s : Fin 128, (s.val < t.val ∧ t.val / 4 ≠ s.val / 4) ↔
    Tile.Part 64 t.val s.val ∨ Tile.Part 32 t.val s.val ∨ Tile.Part 16 t.val s.val ∨ Tile.Part 8 t.val s.val
      ∨ Tile.Part 4 t.val s.val ∨ False := by
  simp only [Tile.Part]
  decide +kernel

section Heads

variable {L : Loads Ideal} {q f k v s : ℕ → ℕ → ℕ → ℝ} (R : Reals L q f k v s) (n : ℕ) (hn : n < 16)
include R

theorem sums_apply (t d : Fin 128) : sums L n hn (ix2 t d) = ((base (f n) t.val d.val : ℝ) : EReal) :=
  bcum_apply _ _ _ R.tri (R.lf n hn) t d

theorem q_apply (t d : Fin 128) : wide (L.lq n hn) (ix2 t d) = ((q n t.val d.val : ℝ) : EReal) := (wide_apply _ t d).trans (R.lq n hn t d)

theorem k_apply (t d : Fin 128) : wide (L.lk n hn) (ix2 t d) = ((k n t.val d.val : ℝ) : EReal) := (wide_apply _ t d).trans (R.lk n hn t d)

/-- The matrix of products of queries and keys of different blocks of four. -/
theorem attn_apply (hf : ∀ t d, f n t d ≤ 0) (t s' : Fin 128) :
    attn L n hn (ix2 t s') = ((Tile.attn (q n) (k n) (base (f n)) t.val s'.val : ℝ) : EReal) := by
  classical
  have hb : ∀ d, Antitone fun t => base (f n) t d := fun d => by
    refine antitone_nat_of_succ_le fun t => ?_
    unfold base
    refine mul_le_mul_of_nonneg_right ?_ (inv_nonneg.mpr (Real.log_pos one_lt_two).le)
    rw [Finset.sum_range_succ _ (t + 1)]
    have := hf (t + 1) d
    linarith
  have z : zeros (F := Ideal) (ix2 t s') = if False then ((Tile.weight (q n) (k n) (base (f n)) t.val s'.val : ℝ) : EReal) else 0 := by
    pointwise [zeros]
  have a2 := level_apply 2#32 L.split (wide (L.lq n hn)) (wide (L.lk n hn)) (fade (sums L n hn) (mid4 L.rb n hn)) zeros (q n) (k n)
    (base (f n)) 4 (by decide) hb (q_apply R n hn) (k_apply R n hn)
    (fun t d => fade_apply _ _ _ 4 t d (sums_apply R n hn t d) (mid4_apply L.rb _ R.rb n hn t d)) t s'
    (R.split t s' 2 (by decide) (by decide)) False z _ Iff.rfl
  have a3 := level_apply 3#32 L.split (wide (L.lq n hn)) (wide (L.lk n hn)) (fade (sums L n hn) (mid8 L.rb n hn)) _ (q n) (k n)
    (base (f n)) 8 (by decide) hb (q_apply R n hn) (k_apply R n hn)
    (fun t d => fade_apply _ _ _ 8 t d (sums_apply R n hn t d) (mid8_apply L.rb _ R.rb n hn t d)) t s'
    (R.split t s' 3 (by decide) (by decide)) _ a2 _ Iff.rfl
  have a4 := level_apply 4#32 L.split (wide (L.lq n hn)) (wide (L.lk n hn)) (fade (sums L n hn) (mid16 L.rb n hn)) _ (q n) (k n)
    (base (f n)) 16 (by decide) hb (q_apply R n hn) (k_apply R n hn)
    (fun t d => fade_apply _ _ _ 16 t d (sums_apply R n hn t d) (mid16_apply L.rb _ R.rb n hn t d)) t s'
    (R.split t s' 4 (by decide) (by decide)) _ a3 _ Iff.rfl
  have a5 := level_apply 5#32 L.split (wide (L.lq n hn)) (wide (L.lk n hn)) (fade (sums L n hn) (mid32 L.rb n hn)) _ (q n) (k n)
    (base (f n)) 32 (by decide) hb (q_apply R n hn) (k_apply R n hn)
    (fun t d => fade_apply _ _ _ 32 t d (sums_apply R n hn t d) (mid32_apply L.rb _ R.rb n hn t d)) t s'
    (R.split t s' 5 (by decide) (by decide)) _ a4 _ Iff.rfl
  have a6 := level_apply 6#32 L.split (wide (L.lq n hn)) (wide (L.lk n hn)) (fade (sums L n hn) (mid64 L.rb n hn)) _ (q n) (k n)
    (base (f n)) 64 (by decide) hb (q_apply R n hn) (k_apply R n hn)
    (fun t d => fade_apply _ _ _ 64 t d (sums_apply R n hn t d) (mid64_apply L.rb _ R.rb n hn t d)) t s'
    (R.split t s' 6 (by decide) (by decide)) _ a5 (s'.val < t.val ∧ t.val / 4 ≠ s'.val / 4) (part_iff t s')
  refine a6.trans ?_
  unfold Tile.attn
  split <;> rfl

/-- The contribution of a row's own block of four. -/
theorem near_apply (t e : Fin 128) : near L n hn (ix2 t e)
    = (((Tile.weight (q n) (k n) (base (f n)) t.val t.val * v n t.val e.val
      + (if 1 ≤ t.val % 4 then Tile.weight (q n) (k n) (base (f n)) t.val (t.val - 1) else 0) * v n (t.val - 1) e.val)
      + (if 2 ≤ t.val % 4 then Tile.weight (q n) (k n) (base (f n)) t.val (t.val - 2) else 0) * v n (t.val - 2) e.val
      + (if 3 ≤ t.val % 4 then Tile.weight (q n) (k n) (base (f n)) t.val (t.val - 3) else 0) * v n (t.val - 3) e.val : ℝ) : EReal) := by
  have pl : ∀ (rb : Reads Ideal) (b : ℕ → ℕ → ℕ → ℝ) (hrb : ∀ B x, rb B x = padAt b (B.idx x)) (o : ℕ) (ho : o ≤ 8) (t d : Fin 128),
      plane rb n o hn ho (ix2 t d) = if t.val < 8 - o then 0 else ((b n (t.val - (8 - o)) d.val : ℝ) : EReal) := by
    intro rb b hrb o ho t d
    rw [plane_apply rb b hrb n hn o ho t d]
    by_cases h : t.val + o < 8
    · rw [if_pos h, if_pos (by omega)]
    · rw [if_neg h, if_neg (by omega), show t.val + o - 8 = t.val - (8 - o) by omega]
  have b1 := fun o ho (hj : 8 - o < 4) => back_apply (8 - o) hj (wide (L.lq n hn)) (sums L n hn) (plane L.rb n o hn ho) (plane L.rk n o hn ho)
    (plane L.rv n o hn ho) (q n) (k n) (v n) (base (f n)) (q_apply R n hn) (sums_apply R n hn) (pl _ _ R.rb o ho) (pl _ _ R.rk o ho)
    (pl _ _ R.rv o ho) t e
  have e0 : mulf (spread (rowSum (mulf (wide (L.lq n hn)) (wide (L.lk n hn))))) (plane L.rv n 8 hn (by decide)) (ix2 t e)
      = ((Tile.weight (q n) (k n) (base (f n)) t.val t.val * v n t.val e.val : ℝ) : EReal) := by
    have hv := pl _ _ R.rv 8 (by decide) t e
    rw [if_neg (by omega)] at hv
    have hq := q_apply R n hn
    have hk := k_apply R n hn
    generalize wide (L.lq n hn) = x at *
    generalize wide (L.lk n hn) = y at *
    generalize plane L.rv n 8 hn (by decide) = z at *
    pointwise [spread, rowSum]
    rw [hv, EReal.coe_mul]
    refine congrArg₂ _ ?_ rfl
    unfold Tile.weight
    rw [← coe_sum_fin 128 fun d => q n t.val d * k n t.val d * Real.rpow 2 (base (f n) t.val d - base (f n) t.val d)]
    refine Finset.sum_congr rfl fun d _ => ?_
    rw [hq, hk, ← EReal.coe_mul, sub_self]
    congr 1
    simp
  unfold near
  refine (addf_apply _ _ _).trans ?_
  rw [addf_apply, addf_apply, e0]
  rw [show (3#32 : BitVec 32) = BitVec.ofNat 32 (8 - 5) from rfl, show (2#32 : BitVec 32) = BitVec.ofNat 32 (8 - 6) from rfl,
    show (1#32 : BitVec 32) = BitVec.ofNat 32 (8 - 7) from rfl, b1 5 (by decide) (by decide), b1 6 (by decide) (by decide), b1 7 (by decide) (by decide)]
  simp only [Ideal.addf_def, ← EReal.coe_add]

/-- THE HEAD'S OUTPUT before the norm. -/
theorem raw_apply (hf : ∀ t d, f n t d ≤ 0) (t e : Fin 128) :
    raw L n hn (ix2 t e) = ((Tile.out (q n) (k n) (v n) (base (f n)) (s n) t.val e.val : ℝ) : EReal) := by
  have ha := attn_apply R n hn hf
  have hnr := near_apply R n hn t e
  have hq := q_apply R n hn
  have hb := sums_apply R n hn
  have hv := fun i j => (flat_apply (L.lv n hn) i j).trans (R.lv n hn i j)
  have hs := fun i j => (flat_apply (L.lst n hn) i j).trans (R.lst n hn i j)
  unfold raw st
  generalize attn L n hn = A at *
  generalize near L n hn = N at *
  generalize wide (L.lq n hn) = x at *
  generalize sums L n hn = B at *
  generalize flat (L.lv n hn) = V at *
  generalize flat (L.lst n hn) = S at *
  pointwise [zacc]
  unfold Tile.out
  rw [EReal.coe_add, EReal.coe_add]
  refine congrArg₂ _ (congrArg₂ _ hnr ?_) ?_
  · rw [← coe_sum_fin 128 fun j => Tile.attn (q n) (k n) (base (f n)) t.val j * v n j e.val]
    exact Finset.sum_congr rfl fun d _ => by rw [ha, hv, ← EReal.coe_mul]
  · rw [← coe_sum_fin 128 fun d => q n t.val d * Real.rpow 2 (base (f n) t.val d) * s n d e.val]
    refine Finset.sum_congr rfl fun d _ => ?_
    rw [hq, hb, hs]
    show _ * Ideal.exp2 _ * _ = _
    rw [Ideal.exp2_coe, ← EReal.coe_mul, ← EReal.coe_mul]

/-- THE HEAD'S STATE after the block. -/
theorem statePiece_apply (e d : Fin 128) :
    statePiece L n hn (ix3 0 e d) = ((Tile.next (k n) (v n) (base (f n)) (s n) d.val e.val : ℝ) : EReal) := by
  have hk := k_apply R n hn
  have hb := sums_apply R n hn
  have hv := fun i j => (flat_apply (L.lv n hn) i j).trans (R.lv n hn i j)
  have hs := fun i j => (flat_apply (L.lst n hn) i j).trans (R.lst n hn i j)
  have hl := lastRow_apply L.rb _ R.rb n hn
  unfold statePiece st
  generalize wide (L.lk n hn) = y at *
  generalize sums L n hn = B at *
  generalize flat (L.lv n hn) = V at *
  generalize flat (L.lst n hn) = S at *
  generalize lastRow L.rb n hn = l at *
  pointwise [zacc, spreadRow]
  unfold Tile.next
  rw [EReal.coe_add, hl, hs]
  refine congrArg₂ _ ?_ ?_
  · show Ideal.exp2 _ * _ = _
    rw [Ideal.exp2_coe, ← EReal.coe_mul]
  · rw [← coe_sum_fin 128 fun i => v n i e.val * (k n i d.val * Real.rpow 2 (base (f n) 127 d.val - base (f n) i d.val))]
    refine Finset.sum_congr rfl fun i _ => ?_
    rw [hv, hk, hb]
    show _ * (_ * Ideal.exp2 (_ - _)) = _
    rw [← EReal.coe_sub, Ideal.exp2_coe, ← EReal.coe_mul, ← EReal.coe_mul]

end Heads

end Cert.Head

end
-- ==== Proof.Blocks.lean ====
module

public import proofs.«01_k».proof.Proof.Match
public import proofs.«01_k».proof.Proof.Values
public import Idealize.ShloMosaic.Lib.WholeRead
public import Idealize.ShloMosaic.Lib.Writes

/-! # Reading the pieces back

A head's lanes are 128 columns of a block; its plane of the state is one of sixteen. The pieces a run leaves,
read at a place, are the head's term there. -/

@[expose] public section

set_option maxRecDepth 16384

noncomputable section

namespace Cert.Head

open Cert.KernelIdeal Cert.KernelIdeal.Gen Idealize.ShloMosaic Idealize.ShloMosaic.TcCoe

/-- Two places of a block of three axes are one when their coordinates are. -/
theorem idx3_ext {s0 s1 s2 : ℕ} {y y' : (⟨3, ![s0, s1, s2]⟩ : Shape).Idx} (h0 : (y 0).val = (y' 0).val) (h1 : (y 1).val = (y' 1).val)
    (h2 : (y 2).val = (y' 2).val) : y = y' := by
  funext a
  apply Fin.ext
  match a with
  | ⟨0, _⟩ => exact h0
  | ⟨1, _⟩ => exact h1
  | ⟨2, _⟩ => exact h2

/-- Two places of a block of four axes are one when their coordinates are. -/
theorem idx4_ext {s0 s1 s2 s3 : ℕ} {y y' : (⟨4, ![s0, s1, s2, s3]⟩ : Shape).Idx} (h0 : (y 0).val = (y' 0).val) (h1 : (y 1).val = (y' 1).val)
    (h2 : (y 2).val = (y' 2).val) (h3 : (y 3).val = (y' 3).val) : y = y' := by
  funext a
  apply Fin.ext
  match a with
  | ⟨0, _⟩ => exact h0
  | ⟨1, _⟩ => exact h1
  | ⟨2, _⟩ => exact h2
  | ⟨3, _⟩ => exact h3

section Any

variable {F : FTy → Type} [FloatOps F] [Named F]

/-- A head's lanes are the block's columns from `128 n`. -/
theorem lanes_apply {t : EltTy} (M : Memref sig .tc .vmem S1x128x2048 t) (h : M.IsWhole) (x : Vec F S1x128x2048 t) (n : ℕ) (hn : n < 16)
    (i d : Fin 128) : lanes M h x n hn (ix3 0 i d) = x (ix3 0 i ⟨128 * n + d.val, by omega⟩) := by
  refine (h.readAt_unread x _ _).trans (congrArg x (idx3_ext rfl ?_ ?_))
  · show 0 + 1 * i.val = i.val
    omega
  · show 128 * n + 1 * d.val = 128 * n + d.val
    omega

/-- A plane of the carried state. -/
theorem planeOf_apply (M : Memref sig .tc .vmem S16x128x128 .f32) (h : M.IsWhole) (x : Vec F S16x128x128 .f32) (n : ℕ) (hn : n < 16)
    (i d : Fin 128) : planeOf M h x n hn (ix3 0 i d) = x (ix3 ⟨n, hn⟩ i d) := by
  refine (h.readAt_unread x _ _).trans (congrArg x (idx3_ext rfl ?_ ?_))
  · show 0 + 1 * i.val = i.val
    omega
  · show 0 + 1 * d.val = d.val
    omega

/-- The state's pieces, read at a head's plane. -/
theorem read_state (V : View sig .tc .vmem S16x128x128 .f32) (f : V.ty.Contents (Elt F)) (p : (n : ℕ) → n < 16 → Vec F S1x128x128 .f32)
    (T : List (View.Piece (Elt F) S16x128x128 .f32)) :
    ∀ (k : ℕ) (hk : k ≤ 16) (n : ℕ) (hn : n < k) (hn' : n < 16) (i d : Fin 128),
    V.read (Elt F) (V.writes (Elt F) f (statePieces p T k hk)) (ix3 ⟨n, hn'⟩ i d) = p n hn' (ix3 0 i d) := by
  intro k
  induction k with
  | zero => intro _ n hn; exact absurd hn (Nat.not_lt_zero n)
  | succ k ih =>
    intro hk n hn hn' i d
    by_cases h : n = k
    · cases h
      have e := View.read_writes_cons_hit V f (Rect.unit (s := S16x128x128) ![k, 0, 0] S1x128x128.size (inb_state k hk)) (p k hk) (statePieces p T k (Nat.le_of_succ_le hk)) (ix3 0 i d : S1x128x128.Idx) (ix3 ⟨k, hn'⟩ i d)
      refine e (idx3_ext rfl ?_ ?_)
      · show 0 + 1 * i.val = i.val
        omega
      · show 0 + 1 * d.val = d.val
        omega
    · have e := View.read_writes_cons_miss_of_axis V f (⟨(Rect.unit (s := S16x128x128) ![k, 0, 0] S1x128x128.size (inb_state k hk)), (p k hk)⟩ : View.Piece (Elt F) S16x128x128 .f32)
        (statePieces p T k (Nat.le_of_succ_le hk)) (ix3 ⟨n, hn'⟩ i d) 0 k 1 rfl rfl rfl (Or.inl (show n < k by omega))
      exact e.trans (ih _ n (by omega) hn' i d)

/-- The final state's pieces, read at a head's plane. -/
theorem read_final (V : View sig .tc .vmem S1x16x128x128 .f32) (f : V.ty.Contents (Elt F)) (p : (n : ℕ) → n < 16 → Vec F S1x1x128x128 .f32) :
    ∀ (k : ℕ) (hk : k ≤ 16) (n : ℕ) (hn : n < k) (hn' : n < 16) (i d : Fin 128),
    V.read (Elt F) (V.writes (Elt F) f (finalPieces p k hk)) (ix4 0 ⟨n, hn'⟩ i d) = p n hn' (ix4 0 0 i d) := by
  intro k
  induction k with
  | zero => intro _ n hn; exact absurd hn (Nat.not_lt_zero n)
  | succ k ih =>
    intro hk n hn hn' i d
    by_cases h : n = k
    · cases h
      have e := View.read_writes_cons_hit V f (Rect.unit (s := S1x16x128x128) ![0, k, 0, 0] S1x1x128x128.size (inb_final k hk)) (p k hk) (finalPieces p k (Nat.le_of_succ_le hk)) (ix4 0 0 i d : S1x1x128x128.Idx) (ix4 0 ⟨k, hn'⟩ i d)
      refine e (idx4_ext rfl rfl ?_ ?_)
      · show 0 + 1 * i.val = i.val
        omega
      · show 0 + 1 * d.val = d.val
        omega
    · have e := View.read_writes_cons_miss_of_axis V f (⟨(Rect.unit (s := S1x16x128x128) ![0, k, 0, 0] S1x1x128x128.size (inb_final k hk)), (p k hk)⟩ : View.Piece (Elt F) S1x16x128x128 .f32)
        (finalPieces p k (Nat.le_of_succ_le hk)) (ix4 0 ⟨n, hn'⟩ i d) 1 k 1 rfl rfl rfl (Or.inl (show n < k by omega))
      exact e.trans (ih _ n (by omega) hn' i d)

/-- The output's pieces, read at a head's lanes. -/
theorem read_out (V : View sig .tc .vmem S1x128x2048 .bf16) (f : V.ty.Contents (Elt F)) (L : Loads F) :
    ∀ (k : ℕ) (hk : k ≤ 16) (n : ℕ) (hn : n < k) (hn' : n < 16) (i d : Fin 128),
    V.read (Elt F) (V.writes (Elt F) f (outPieces L k hk)) (ix3 0 i ⟨128 * n + d.val, by omega⟩) = outPiece L n hn' (ix3 0 i d) := by
  intro k
  induction k with
  | zero => intro _ n hn; exact absurd hn (Nat.not_lt_zero n)
  | succ k ih =>
    intro hk n hn hn' i d
    by_cases h : n = k
    · cases h
      have e := View.read_writes_cons_hit V f (Rect.unit (s := S1x128x2048) ![0, 0, 128 * k] S1x128x128.size (inb_lanes k hk)) (outPiece L k hk) (outPieces L k (Nat.le_of_succ_le hk)) (ix3 0 i d : S1x128x128.Idx) (ix3 0 i ⟨128 * k + d.val, by omega⟩)
      refine e (idx3_ext rfl ?_ ?_)
      · show 0 + 1 * i.val = i.val
        omega
      · show 128 * k + 1 * d.val = 128 * k + d.val
        omega
    · have e := View.read_writes_cons_miss_of_axis V f (⟨(Rect.unit (s := S1x128x2048) ![0, 0, 128 * k] S1x128x128.size (inb_lanes k hk)), (outPiece L k hk)⟩ : View.Piece (Elt F) S1x128x2048 .bf16)
        (outPieces L k (Nat.le_of_succ_le hk)) (ix3 0 i ⟨128 * n + d.val, by omega⟩) 2 (128 * k) 128 rfl rfl rfl (Or.inl (show 128 * n + d.val < 128 * k by omega))
      exact e.trans (ih _ n (by omega) hn' i d)

/-- The padded scratch's pieces, read past the zero rows. -/
theorem read_pad (V : View sig .tc .vmem S16x136x128 .f32) (f : V.ty.Contents (Elt F)) (p : (n : ℕ) → n < 16 → FVec F S128x128 .f32) :
    ∀ (k : ℕ) (hk : k ≤ 16) (n : ℕ) (hn : n < k) (hn' : n < 16) (i : Fin 128) (d : Fin 128),
    V.read (Elt F) (V.writes (Elt F) f (padPieces p k hk)) (ix3 ⟨n, hn'⟩ ⟨8 + i.val, by omega⟩ d) = p n hn' (ix2 i d) := by
  intro k
  induction k with
  | zero => intro _ n hn; exact absurd hn (Nat.not_lt_zero n)
  | succ k ih =>
    intro hk n hn hn' i d
    by_cases h : n = k
    · cases h
      have e := View.read_writes_cons_hit V f (Rect.unit (s := S16x136x128) ![k, 8, 0] S1x128x128.size (inb_plane k 8 hk (Nat.le_refl 8))) (shapeCast S1x128x128 (p k hk) shapeCasts_S128x128_S1x128x128) ((⟨(Rect.unit (s := S16x136x128) ![k, 0, 0] S1x8x128.size (inb_pad k hk)), padRows⟩ : View.Piece (Elt F) S16x136x128 .f32) :: (padPieces p k (Nat.le_of_succ_le hk))) (ix3 0 i d : S1x128x128.Idx) (ix3 ⟨k, hn'⟩ ⟨8 + i.val, by omega⟩ d)
      refine (e (idx3_ext rfl ?_ ?_)).trans ?_
      · show 8 + 1 * i.val = 8 + i.val
        omega
      · show 0 + 1 * d.val = d.val
        omega
      · generalize p k _ = x
        pointwise []
    · have e := View.read_writes_cons_miss_of_axis V f (⟨(Rect.unit (s := S16x136x128) ![k, 8, 0] S1x128x128.size (inb_plane k 8 hk (Nat.le_refl 8))), (shapeCast S1x128x128 (p k hk) shapeCasts_S128x128_S1x128x128)⟩ : View.Piece (Elt F) S16x136x128 .f32)
        ((⟨(Rect.unit (s := S16x136x128) ![k, 0, 0] S1x8x128.size (inb_pad k hk)), padRows⟩ : View.Piece (Elt F) S16x136x128 .f32) :: (padPieces p k (Nat.le_of_succ_le hk))) (ix3 ⟨n, hn'⟩ ⟨8 + i.val, by omega⟩ d) 0 k 1 rfl rfl rfl (Or.inl (show n < k by omega))
      have e' := View.read_writes_cons_miss_of_axis V f (⟨(Rect.unit (s := S16x136x128) ![k, 0, 0] S1x8x128.size (inb_pad k hk)), padRows⟩ : View.Piece (Elt F) S16x136x128 .f32)
        (padPieces p k (Nat.le_of_succ_le hk)) (ix3 ⟨n, hn'⟩ ⟨8 + i.val, by omega⟩ d) 0 k 1 rfl rfl rfl (Or.inl (show n < k by omega))
      exact (e.trans e').trans (ih _ n (by omega) hn' i d)

/-- The padded scratch's pieces, read at a zero row. -/
theorem read_pad_zero (V : View sig .tc .vmem S16x136x128 .f32) (f : V.ty.Contents (Elt F)) (p : (n : ℕ) → n < 16 → FVec F S128x128 .f32) :
    ∀ (k : ℕ) (hk : k ≤ 16) (n : ℕ) (hn : n < k) (hn' : n < 16) (i : Fin 8) (d : Fin 128),
    V.read (Elt F) (V.writes (Elt F) f (padPieces p k hk)) (ix3 ⟨n, hn'⟩ ⟨i.val, by omega⟩ d) = Scalar.ofBits (F := F) .f32 0x00000000#32 := by
  intro k
  induction k with
  | zero => intro _ n hn; exact absurd hn (Nat.not_lt_zero n)
  | succ k ih =>
    intro hk n hn hn' i d
    by_cases h : n = k
    · cases h
      have e := View.read_writes_cons_miss_of_axis V f (⟨(Rect.unit (s := S16x136x128) ![k, 8, 0] S1x128x128.size (inb_plane k 8 hk (Nat.le_refl 8))), (shapeCast S1x128x128 (p k hk) shapeCasts_S128x128_S1x128x128)⟩ : View.Piece (Elt F) S16x136x128 .f32) ((⟨(Rect.unit (s := S16x136x128) ![k, 0, 0] S1x8x128.size (inb_pad k hk)), padRows⟩ : View.Piece (Elt F) S16x136x128 .f32) :: (padPieces p k (Nat.le_of_succ_le hk))) (ix3 ⟨k, hn'⟩ ⟨i.val, by omega⟩ d) 1 8 128 rfl rfl rfl (Or.inl (show i.val < 8 by omega))
      have e' := View.read_writes_cons_hit V f (Rect.unit (s := S16x136x128) ![k, 0, 0] S1x8x128.size (inb_pad k hk)) padRows (padPieces p k (Nat.le_of_succ_le hk)) (ix3 0 i d : S1x8x128.Idx) (ix3 ⟨k, hn'⟩ ⟨i.val, by omega⟩ d)
      refine e.trans ((e' (idx3_ext rfl ?_ ?_)).trans ?_)
      · show 0 + 1 * i.val = i.val
        omega
      · show 0 + 1 * d.val = d.val
        omega
      · pointwise [padRows]
    · have e := View.read_writes_cons_miss_of_axis V f (⟨(Rect.unit (s := S16x136x128) ![k, 8, 0] S1x128x128.size (inb_plane k 8 hk (Nat.le_refl 8))), (shapeCast S1x128x128 (p k hk) shapeCasts_S128x128_S1x128x128)⟩ : View.Piece (Elt F) S16x136x128 .f32)
        ((⟨(Rect.unit (s := S16x136x128) ![k, 0, 0] S1x8x128.size (inb_pad k hk)), padRows⟩ : View.Piece (Elt F) S16x136x128 .f32) :: (padPieces p k (Nat.le_of_succ_le hk))) (ix3 ⟨n, hn'⟩ ⟨i.val, by omega⟩ d) 0 k 1 rfl rfl rfl (Or.inl (show n < k by omega))
      have e' := View.read_writes_cons_miss_of_axis V f (⟨(Rect.unit (s := S16x136x128) ![k, 0, 0] S1x8x128.size (inb_pad k hk)), padRows⟩ : View.Piece (Elt F) S16x136x128 .f32)
        (padPieces p k (Nat.le_of_succ_le hk)) (ix3 ⟨n, hn'⟩ ⟨i.val, by omega⟩ d) 0 k 1 rfl rfl rfl (Or.inl (show n < k by omega))
      exact (e.trans e').trans (ih _ n (by omega) hn' i d)

end Any

/-- A padded scratch over the reals. -/
theorem readCov_pad (V : View sig .tc .vmem S16x136x128 .f32) (p : (n : ℕ) → n < 16 → FVec Ideal S128x128 .f32) (P : ℕ → ℕ → ℕ → ℝ)
    (hp : ∀ n hn (i d : Fin 128), p n hn (ix2 i d) = ((P n i.val d.val : ℝ) : EReal)) (B : LoadRect S16x136x128) (x : B.shape.Idx) :
    V.readCov (Val := Elt Ideal) (padPieces p 16 (Nat.le_refl 16)) B x = padAt P (B.idx x) := by
  show V.read (Elt Ideal) (V.writes (Elt Ideal) V.junk (padPieces p 16 (Nat.le_refl 16))) (B.idx x) = _
  generalize B.idx x = y
  obtain ⟨n, r, d, rfl⟩ : ∃ (n : Fin 16) (r : Fin 136) (d : Fin 128), y = ix3 n r d := ⟨y 0, y 1, y 2, eq_ix3 y⟩
  by_cases h : r.val < 8
  · refine (read_pad_zero V V.junk p 16 (Nat.le_refl 16) n.val n.isLt n.isLt ⟨r.val, h⟩ d).trans ?_
    refine Ideal.ofBits_zero_f32.trans ?_
    unfold padAt
    exact (if_pos h).symm
  · have hr : (⟨8 + (r.val - 8), by omega⟩ : Fin 136) = r := Fin.ext (by show 8 + (r.val - 8) = r.val; omega)
    have := read_pad V V.junk p 16 (Nat.le_refl 16) n.val n.isLt n.isLt ⟨r.val - 8, by omega⟩ d
    rw [hr] at this
    refine this.trans ((hp _ _ _ _).trans (padAt_of P (ix3 n r d) rfl ?_ rfl).symm)
    show r.val = r.val - 8 + 8
    omega

/-- A plane brought in from the state's array, transposed. -/
theorem firstPiece_apply (s0 : Vec Ideal S1x1x128x128 .f32) (e d : Fin 128) : firstPiece s0 (ix3 0 e d) = s0 (ix4 0 0 d e) := by
  pointwise [firstPiece]

/-- A plane sent out to the state's array, transposed. -/
theorem lastPiece_apply (s : Vec Ideal S1x128x128 .f32) (d e : Fin 128) : lastPiece s (ix4 0 0 d e) = s (ix3 0 e d) := by
  pointwise [lastPiece, flat]

/-- The carried state at a sequence's first tile. -/
theorem planeFirst_apply (arg9 : Memref sig .tc .vmem S1x16x128x128 .f32) (harg9 : arg9.IsWhole) (arg12 : Memref sig .tc .vmem S16x128x128 .f32)
    (x6 : Vec Ideal S1x16x128x128 .f32) (n : ℕ) (hn : n < 16) (e d : Fin 128) :
    planeFirst arg9 harg9 arg12 x6 n hn (ix3 0 e d) = x6 (ix4 0 ⟨n, hn⟩ d e) := by
  have h := read_state arg12.view arg12.view.junk (fun n hn => firstPiece (View.readAt (Elt Ideal) arg9.view
    (Rect.unit (s := S1x16x128x128) ![0, n, 0, 0] S1x1x128x128.size (inb_final n hn)).toLoadRect (harg9.unread x6))) [] 16 (Nat.le_refl 16)
    n hn hn e d
  have e1 : (Rect.unit (s := S16x128x128) ![n, 0, 0] S1x128x128.size (inb_state n hn)).toLoadRect.idx (ix3 0 e d : S1x128x128.Idx)
      = (ix3 ⟨n, hn⟩ e d : S16x128x128.Idx) := by
    refine idx3_ext rfl ?_ ?_
    · show 0 + 1 * e.val = e.val
      omega
    · show 0 + 1 * d.val = d.val
      omega
  have e2 := harg9.readAt_unread (Val := Elt Ideal) x6 (Rect.unit (s := S1x16x128x128) ![0, n, 0, 0] S1x1x128x128.size (inb_final n hn)).toLoadRect
    (ix4 0 0 d e : S1x1x128x128.Idx)
  have e3 : (Rect.unit (s := S1x16x128x128) ![0, n, 0, 0] S1x1x128x128.size (inb_final n hn)).toLoadRect.idx (ix4 0 0 d e : S1x1x128x128.Idx)
      = (ix4 0 ⟨n, hn⟩ d e : S1x16x128x128.Idx) := by
    refine idx4_ext rfl rfl ?_ ?_
    · show 0 + 1 * d.val = d.val
      omega
    · show 0 + 1 * e.val = e.val
      omega
  rw [e3] at e2
  unfold planeFirst firstPieces View.readCov
  rw [View.readAt_apply, e1]
  exact h.trans ((firstPiece_apply _ e d).trans e2)

/-- The triangle of ones. -/
theorem triangle_apply : ∀ t s : Fin 128, triangle (F := Ideal) (ix2 t s) = if s.val ≤ t.val then (1 : EReal) else 0 := by
  intro t s
  have h : ∀ t s : Fin 128, IntOp.cmpi .sge (BitVec.ofNat 32 t.val) (BitVec.ofNat 32 s.val) = BitVec.ofBool (decide (s.val ≤ t.val)) := by
    decide +kernel
  pointwise [triangle, rows, zeros]
  rw [h]
  by_cases h' : s.val ≤ t.val
  · rw [decide_eq_true h', if_pos h']; rfl
  · rw [decide_eq_false h', if_neg h']; rfl

/-- The split bits tell the level at which two tokens part. -/
theorem splitBits_apply (t s : Fin 128) (j : ℕ) (h2 : 2 ≤ j) (h6 : j ≤ 6) :
    splitBits (F := Ideal) (ix2 t s) = BitVec.ofNat 32 j ↔ Tile.Part (2 ^ j) t.val s.val := by
  have h : ∀ (i : Fin 5) (t s : Fin 128), (IntOp.subi 31#32 (IntOp.ctlz (Scalar.select (IntOp.cmpi .sgt (BitVec.ofNat 32 t.val) (BitVec.ofNat 32 s.val))
      (IntOp.xori (BitVec.ofNat 32 t.val) (BitVec.ofNat 32 s.val)) 0#32)) = BitVec.ofNat 32 (i.val + 2)
      ↔ s.val < t.val ∧ t.val / (2 * 2 ^ (i.val + 2)) = s.val / (2 * 2 ^ (i.val + 2)) ∧ t.val / 2 ^ (i.val + 2) ≠ s.val / 2 ^ (i.val + 2)) := by
    decide +kernel
  obtain ⟨i, rfl⟩ : ∃ i, j = i + 2 := ⟨j - 2, by omega⟩
  have := h ⟨i, by omega⟩ t s
  unfold Tile.Part
  rw [← this]
  pointwise [splitBits, rows]

end Cert.Head

end
-- ==== Proof.Point.lean ====
module

public import proofs.«01_k».proof.Proof.Blocks

/-! # One grid point over the reals

Given the blocks of a point as reals, the state that enters and the two matrices, each run of the body leaves in the output
the block's outputs, normed and gated, and in the carried state the state after the block. -/

@[expose] public section

set_option maxRecDepth 16384

noncomputable section

namespace Cert.Head

open Cert.KernelIdeal Cert.KernelIdeal.Gen Idealize.ShloMosaic Idealize.ShloMosaic.TcCoe

/-- A lane of a row over the root of the row's mean square, by a gain and a gate. -/
def rms (o : Fin 128 → EReal) (gain g : EReal) (e : Fin 128) : EReal :=
  o e * FloatOps.rsqrt (F := Ideal) (φ := .f32) (FloatOps.divf (F := Ideal) (φ := .f32) (∑ d, o d * o d) (Scalar.ofBits (F := Ideal) .f32 0x43000000#32)
    + Scalar.ofBits (F := Ideal) .f32 0x358637BD#32) * gain * g

/-- The norm and the gate of a head's rows. -/
theorem gated_apply (o : FVec Ideal S128x128 .f32) (gain : Vec Ideal S1x128 .f32) (g : Vec Ideal S1x128x128 .bf16) (i e : Fin 128) :
    gated o gain g (ix3 0 i e) = rms (fun d => o (ix2 i d)) (gain (ix2 0 e)) (g (ix3 0 i e)) e := by
  pointwise [gated, spread, scale, rowSum, spreadRow, wide]
  rfl

/-- The four blocks of a point over the reals. -/
structure Ins (x0 : Vec Ideal S1x128x2048 .bf16) (x1 : Vec Ideal S1x128x2048 .f32) (x2 x3 : Vec Ideal S1x128x2048 .bf16)
    (q f k v : ℕ → ℕ → ℕ → ℝ) : Prop where
  q : ∀ n (hn : n < 16) (t d : Fin 128), x0 (ix3 0 t ⟨128 * n + d.val, by omega⟩) = ((q n t.val d.val : ℝ) : EReal)
  f : ∀ n (hn : n < 16) (t d : Fin 128), x1 (ix3 0 t ⟨128 * n + d.val, by omega⟩) = ((f n t.val d.val : ℝ) : EReal)
  k : ∀ n (hn : n < 16) (t d : Fin 128), x2 (ix3 0 t ⟨128 * n + d.val, by omega⟩) = ((k n t.val d.val : ℝ) : EReal)
  v : ∀ n (hn : n < 16) (t d : Fin 128), x3 (ix3 0 t ⟨128 * n + d.val, by omega⟩) = ((v n t.val d.val : ℝ) : EReal)

/-- The two matrices of the scratches: the triangle of ones and the levels at which two tokens part. -/
structure Mats (tri : Vec Ideal S128x128 .bf16) (split : Vec Ideal S128x128 .i32) : Prop where
  tri : ∀ t s : Fin 128, tri (ix2 t s) = if s.val ≤ t.val then (1 : EReal) else 0
  split : ∀ t s : Fin 128, ∀ j : ℕ, 2 ≤ j → j ≤ 6 → (split (ix2 t s) = BitVec.ofNat 32 j ↔ Tile.Part (2 ^ j) t.val s.val)

section Ideals

variable (c : Dev nD) (i : grid0.Coords) (arg3 : Memref sig .tc .vmem S1x128x2048 .bf16) (harg3 : arg3.IsWhole)
  (arg4 : Memref sig .tc .vmem S1x128x2048 .f32) (harg4 : arg4.IsWhole) (arg5 : Memref sig .tc .vmem S1x128x2048 .bf16)
  (harg5 : arg5.IsWhole) (arg6 : Memref sig .tc .vmem S1x128x2048 .bf16) (harg6 : arg6.IsWhole)
  (arg7 : Memref sig .tc .vmem S1x128x2048 .bf16) (harg7 : arg7.IsWhole) (arg8 : Memref sig .tc .vmem S1x128 .f32)
  (harg8 : arg8.IsWhole) (arg9 : Memref sig .tc .vmem S1x16x128x128 .f32) (harg9 : arg9.IsWhole)
  (arg10 : Memref sig .tc .vmem S1x128x2048 .bf16) (harg10 : arg10.IsWhole)
  (arg11 : Memref sig .tc .vmem S1x16x128x128 .f32) (harg11 : arg11.IsWhole)
  (arg12 : Memref sig .tc .vmem S16x128x128 .f32) (harg12 : arg12.IsWhole)
  (arg13 : Memref sig .tc .vmem S16x136x128 .f32) (harg13 : arg13.IsWhole)
  (arg14 : Memref sig .tc .vmem S16x136x128 .f32) (harg14 : arg14.IsWhole)
  (arg15 : Memref sig .tc .vmem S16x136x128 .f32) (harg15 : arg15.IsWhole)
  (arg16 : Memref sig .tc .vmem S128x128 .bf16) (harg16 : arg16.IsWhole) (arg17 : Memref sig .tc .vmem S128x128 .i32)
  (harg17 : arg17.IsWhole)
  {x0 : Vec Ideal S1x128x2048 .bf16} {x1 : Vec Ideal S1x128x2048 .f32} {x2 x3 : Vec Ideal S1x128x2048 .bf16}
  (x4 : Vec Ideal S1x128x2048 .bf16) (x5 : Vec Ideal S1x128 .f32) {x6 : Vec Ideal S1x16x128x128 .f32}
  {xs0 : Vec Ideal S16x128x128 .f32} {xs4 : Vec Ideal S128x128 .bf16} {xs5 : Vec Ideal S128x128 .i32}
  {q f k v s : ℕ → ℕ → ℕ → ℝ}

/-- The loads of a point over the reals, wherever the state and the matrices come from. -/
theorem reals_loads (I : Ins x0 x1 x2 x3 q f k v) {lst : (n : ℕ) → n < 16 → Vec Ideal S1x128x128 .f32} {tri : Vec Ideal S128x128 .bf16}
    {split : Vec Ideal S128x128 .i32} (M : Mats tri split) (hs : ∀ n hn (e d : Fin 128), lst n hn (ix3 0 e d) = ((s n d.val e.val : ℝ) : EReal)) :
    Reals (loads arg3 harg3 arg4 harg4 arg5 harg5 arg6 harg6 arg7 harg7 arg8 harg8 arg13 arg14 arg15 x0 x1 x2 x3 x4 x5 lst tri split) q f k v s where
  lq n hn t d := (lanes_apply arg3 harg3 x0 n hn t d).trans (I.q n hn t d)
  lf n hn t d := (lanes_apply arg4 harg4 x1 n hn t d).trans (I.f n hn t d)
  lk n hn t d := (lanes_apply arg5 harg5 x2 n hn t d).trans (I.k n hn t d)
  lv n hn t d := (lanes_apply arg6 harg6 x3 n hn t d).trans (I.v n hn t d)
  lst := hs
  tri := M.tri
  split := M.split
  rb B x := readCov_pad arg13.view _ (fun n => base (f n)) (fun n hn i d =>
    bcum_apply tri (lanes arg4 harg4 x1 n hn) (f n) M.tri (fun t d => (lanes_apply arg4 harg4 x1 n hn t d).trans (I.f n hn t d)) i d) B x
  rk B x := readCov_pad arg14.view _ k (fun n hn i d =>
    (wide_apply _ i d).trans ((lanes_apply arg5 harg5 x2 n hn i d).trans (I.k n hn i d))) B x
  rv B x := readCov_pad arg15.view _ v (fun n hn i d =>
    (wide_apply _ i d).trans ((lanes_apply arg6 harg6 x3 n hn i d).trans (I.v n hn i d))) B x

/-- The output's pieces, read back: the block's outputs, normed and gated. -/
theorem out_apply {L : Loads Ideal} (R : Reals L q f k v s) (hf : ∀ n t d, f n t d ≤ 0) (V : View sig .tc .vmem S1x128x2048 .bf16)
    (n : ℕ) (hn : n < 16) (i e : Fin 128) :
    V.read (Elt Ideal) (V.writes (Elt Ideal) V.junk (outPieces L 16 (Nat.le_refl 16))) (ix3 0 i ⟨128 * n + e.val, by omega⟩)
      = rms (fun e => ((Tile.out (q n) (k n) (v n) (base (f n)) (s n) i.val e.val : ℝ) : EReal)) (L.gain (ix2 0 e)) (L.lg n hn (ix3 0 i e)) e := by
  refine (read_out V V.junk L 16 (Nat.le_refl 16) n hn hn i e).trans ?_
  unfold outPiece
  refine (gated_apply _ _ _ i e).trans ?_
  refine congrArg (fun o => rms o (L.gain (ix2 0 e)) (L.lg n hn (ix3 0 i e)) e) (funext fun d => ?_)
  exact raw_apply R n hn (hf n) i d

/-- The carried state's pieces, read back: the state after the block. -/
theorem state_apply {L : Loads Ideal} (R : Reals L q f k v s) (V : View sig .tc .vmem S16x128x128 .f32)
    (T : List (View.Piece (Elt Ideal) S16x128x128 .f32)) (n : ℕ) (hn : n < 16) (e d : Fin 128) :
    V.read (Elt Ideal) (V.writes (Elt Ideal) V.junk (statePieces (statePiece L) T 16 (Nat.le_refl 16))) (ix3 ⟨n, hn⟩ e d)
      = ((Tile.next (k n) (v n) (base (f n)) (s n) d.val e.val : ℝ) : EReal) :=
  (read_state V V.junk (statePiece L) T 16 (Nat.le_refl 16) n hn hn e d).trans (statePiece_apply R n hn e d)

/-- The final state's pieces, read back: the carried state's planes, transposed. -/
theorem final_apply {L : Loads Ideal} (R : Reals L q f k v s) (V : View sig .tc .vmem S1x16x128x128 .f32)
    (n : ℕ) (hn : n < 16) (d e : Fin 128) :
    V.read (Elt Ideal) (V.writes (Elt Ideal) V.junk (finalPieces (fun n hn => lastPiece (arg12.view.readCov (Val := Elt Ideal)
        (statePieces (statePiece L) [] 16 (Nat.le_refl 16))
        (Rect.unit (s := S16x128x128) ![n, 0, 0] S1x128x128.size (inb_state n hn)).toLoadRect)) 16 (Nat.le_refl 16))) (ix4 0 ⟨n, hn⟩ d e)
      = ((Tile.next (k n) (v n) (base (f n)) (s n) d.val e.val : ℝ) : EReal) := by
  refine (read_final V V.junk _ 16 (Nat.le_refl 16) n hn hn d e).trans ((lastPiece_apply _ d e).trans ?_)
  have h := state_apply R arg12.view [] n hn e d
  have e1 : (Rect.unit (s := S16x128x128) ![n, 0, 0] S1x128x128.size (inb_state n hn)).toLoadRect.idx (ix3 0 e d : S1x128x128.Idx)
      = (ix3 ⟨n, hn⟩ e d : S16x128x128.Idx) := by
    refine idx3_ext rfl ?_ ?_
    · show 0 + 1 * e.val = e.val
      omega
    · show 0 + 1 * d.val = d.val
      omega
  unfold View.readCov
  rw [View.readAt_apply, e1]
  exact h

/-- Two places of a matrix are one when their coordinates are. -/
theorem idx2_ext {s0 s1 : ℕ} {y y' : (⟨2, ![s0, s1]⟩ : Shape).Idx} (h0 : (y 0).val = (y' 0).val) (h1 : (y 1).val = (y' 1).val) :
    y = y' := by
  funext a
  apply Fin.ext
  match a with
  | ⟨0, _⟩ => exact h0
  | ⟨1, _⟩ => exact h1

/-- A matrix held whole, read whole. -/
theorem whole_apply {t : EltTy} (M : Memref sig .tc .vmem S128x128 t) (h : M.IsWhole) (x : Vec Ideal S128x128 t) (i j : Fin 128) :
    View.readAt (Elt Ideal) M.view (Rect.unit (s := S128x128) ![0, 0] S128x128.size inb_S128x128_S128x128_0_0).toLoadRect (h.unread x) (ix2 i j)
      = x (ix2 i j) := by
  refine (h.readAt_unread (Val := Elt Ideal) x _ _).trans (congrArg x ?_)
  refine idx2_ext ?_ ?_
  · show 0 + 1 * i.val = i.val
    omega
  · show 0 + 1 * j.val = j.val
    omega

/-- A matrix stored whole, read at a place. -/
theorem stored_apply {t : EltTy} (V : View sig .tc .vmem S128x128 t) (x : Vec Ideal S128x128 t) (i j : Fin 128) :
    V.read (Elt Ideal) (V.writes (Elt Ideal) V.junk [⟨Rect.unit (s := S128x128) ![0, 0] S128x128.size inb_S128x128_S128x128_0_0,
      shapeCast S128x128 x shapeCasts_S128x128_S128x128⟩]) (ix2 i j) = x (ix2 i j) := by
  have e := View.read_writes_cons_hit V V.junk (Rect.unit (s := S128x128) ![0, 0] S128x128.size inb_S128x128_S128x128_0_0)
    (shapeCast S128x128 x shapeCasts_S128x128_S128x128) [] (ix2 i j : S128x128.Idx) (ix2 i j)
  refine (e (idx2_ext ?_ ?_)).trans ?_
  · show 0 + 1 * i.val = i.val
    omega
  · show 0 + 1 * j.val = j.val
    omega
  · pointwise []

/-- A matrix stored whole in the point, read whole. -/
theorem storedRead_apply {t : EltTy} (V : View sig .tc .vmem S128x128 t) (x : Vec Ideal S128x128 t) (i j : Fin 128) :
    V.readCov (Val := Elt Ideal) [⟨Rect.unit (s := S128x128) ![0, 0] S128x128.size inb_S128x128_S128x128_0_0,
      shapeCast S128x128 x shapeCasts_S128x128_S128x128⟩]
      (Rect.unit (s := S128x128) ![0, 0] S128x128.size inb_S128x128_S128x128_0_0).toLoadRect (ix2 i j) = x (ix2 i j) := by
  have e1 : (Rect.unit (s := S128x128) ![0, 0] S128x128.size inb_S128x128_S128x128_0_0).toLoadRect.idx (ix2 i j : S128x128.Idx)
      = (ix2 i j : S128x128.Idx) := by
    refine idx2_ext ?_ ?_
    · show 0 + 1 * i.val = i.val
      omega
    · show 0 + 1 * j.val = j.val
      omega
  unfold View.readCov
  rw [View.readAt_apply, e1]
  exact stored_apply V x i j

/-- The gain is one row, held whole. -/
theorem gain_apply (M : Memref sig .tc .vmem S1x128 .f32) (h : M.IsWhole) (x : Vec Ideal S1x128 .f32) (e : Fin 128) :
    View.readAt (Elt Ideal) M.view (Rect.unit (s := S1x128) ![0, 0] S1x128.size inb_S1x128_S1x128_0_0).toLoadRect (h.unread x) (ix2 0 e)
      = x (ix2 0 e) := by
  refine (h.readAt_unread (Val := Elt Ideal) x _ _).trans (congrArg x (idx2_ext rfl ?_))
  show 0 + 1 * e.val = e.val
  omega

/-- The triangle and the split bits that the first point makes. -/
theorem mats_first : Mats (triangle (F := Ideal)) (splitBits (F := Ideal)) where
  tri := triangle_apply
  split t s j := splitBits_apply t s j

variable (I : Ins x0 x1 x2 x3 q f k v) (hf : ∀ n t d, f n t d ≤ 0)

/-- What a point leaves: in the output `o` the block's outputs, normed and gated; in the carried state `st` the state after the
block; in the scratches `tri` and `sp` the two matrices. -/
structure Leaves (q f k v s : ℕ → ℕ → ℕ → ℝ) (x4 : Vec Ideal S1x128x2048 .bf16) (x5 : Vec Ideal S1x128 .f32) (o : Vec Ideal S1x128x2048 .bf16)
    (st : Vec Ideal S16x128x128 .f32) (tri : Vec Ideal S128x128 .bf16) (sp : Vec Ideal S128x128 .i32) : Prop where
  out : ∀ n (hn : n < 16) (i e : Fin 128), o (ix3 0 i ⟨128 * n + e.val, by omega⟩)
    = rms (fun e => ((Tile.out (q n) (k n) (v n) (base (f n)) (s n) i.val e.val : ℝ) : EReal)) (x5 (ix2 0 e))
      (x4 (ix3 0 i ⟨128 * n + e.val, by omega⟩)) e
  st : ∀ n (hn : n < 16) (e d : Fin 128), st (ix3 ⟨n, hn⟩ e d) = ((Tile.next (k n) (v n) (base (f n)) (s n) d.val e.val : ℝ) : EReal)
  mats : Mats tri sp

include I hf

/-- The output's pieces of a run, read back, where the loads are over the reals. -/
theorem out_loads {lst : (n : ℕ) → n < 16 → Vec Ideal S1x128x128 .f32} {tri : Vec Ideal S128x128 .bf16}
    {split : Vec Ideal S128x128 .i32}
    (R : Reals (loads arg3 harg3 arg4 harg4 arg5 harg5 arg6 harg6 arg7 harg7 arg8 harg8 arg13 arg14 arg15 x0 x1 x2 x3 x4 x5 lst tri split) q f k v s)
    (V : View sig .tc .vmem S1x128x2048 .bf16) (n : ℕ) (hn : n < 16) (i e : Fin 128) :
    V.read (Elt Ideal) (V.writes (Elt Ideal) V.junk (outPieces (loads arg3 harg3 arg4 harg4 arg5 harg5 arg6 harg6 arg7 harg7 arg8 harg8 arg13 arg14 arg15 x0 x1 x2 x3 x4 x5 lst tri split) 16 (Nat.le_refl 16))) (ix3 0 i ⟨128 * n + e.val, by omega⟩)
      = rms (fun e => ((Tile.out (q n) (k n) (v n) (base (f n)) (s n) i.val e.val : ℝ) : EReal)) (x5 (ix2 0 e))
        (x4 (ix3 0 i ⟨128 * n + e.val, by omega⟩)) e := by
  refine (out_apply R hf V n hn i e).trans ?_
  exact congrArg₂ (fun a b => rms (fun e => ((Tile.out (q n) (k n) (v n) (base (f n)) (s n) i.val e.val : ℝ) : EReal)) a b e)
    (gain_apply arg8 harg8 x5 e) (lanes_apply arg7 harg7 x4 n hn i e)

/-- The loads of this case over the reals: the first point. -/
theorem realsA (hs : ∀ n (hn : n < 16) (d e : Fin 128), x6 (ix4 0 ⟨n, hn⟩ d e) = ((s n d.val e.val : ℝ) : EReal)) :
    Reals (loadsA arg3 harg3 arg4 harg4 arg5 harg5 arg6 harg6 arg7 harg7 arg8 harg8 arg9 harg9 arg12 arg13 arg14 arg15 arg16 arg17 x0 x1 x2 x3 x4 x5 x6) q f k v s :=
  reals_loads arg3 harg3 arg4 harg4 arg5 harg5 arg6 harg6 arg7 harg7 arg8 harg8 arg13 arg14 arg15 x4 x5 I (tri := arg16.view.readCov triPieces (Rect.unit (s := S128x128) ![0, 0] S128x128.size inb_S128x128_S128x128_0_0).toLoadRect)
      (split := arg17.view.readCov splitPieces (Rect.unit (s := S128x128) ![0, 0] S128x128.size inb_S128x128_S128x128_0_0).toLoadRect)
      ⟨fun t s => (storedRead_apply arg16.view _ t s).trans (triangle_apply t s), fun t s j h2 h6 => by
        rw [← splitBits_apply t s j h2 h6, ← storedRead_apply arg17.view (splitBits (F := Ideal)) t s]; rfl⟩
      (fun n hn e d => (planeFirst_apply arg9 harg9 arg12 x6 n hn e d).trans (hs n hn d e))

/-- The first point. -/
theorem pointA (hc0 : cond0_0 i) (hc1 : cond0_1 i) (hc2 : ¬cond0_2 i) (hs : ∀ n (hn : n < 16) (d e : Fin 128), x6 (ix4 0 ⟨n, hn⟩ d e) = ((s n d.val e.val : ℝ) : EReal)) :
    Leaves q f k v s x4 x5 (out0_A_7 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6)
      (sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6)
      (sout0_A_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6)
      (sout0_A_5 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6) := by
  have R := realsA arg3 harg3 arg4 harg4 arg5 harg5 arg6 harg6 arg7 harg7 arg8 harg8 arg9 harg9 arg12 arg13 arg14 arg15 arg16 arg17 x4 x5 I hf hs
  refine ⟨fun n hn j e => ?_, fun n hn e d => ?_, ⟨fun t s => ?_, fun t s j h2 h6 => ?_⟩⟩
  · refine Eq.trans ?_ (out_loads arg3 harg3 arg4 harg4 arg5 harg5 arg6 harg6 arg7 harg7 arg8 harg8 arg13 arg14 arg15 x4 x5 I hf R VO0_7 n hn j e)
    exact congrArg (fun l => VO0_7.read (Elt Ideal) (VO0_7.writes (Elt Ideal) VO0_7.junk l) (ix3 0 j ⟨128 * n + e.val, by omega⟩))
      (outA c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 hc0 hc1 hc2)
  · refine Eq.trans ?_ (state_apply R VS0_0 (firstPieces arg9 harg9 x6) n hn e d)
    exact congrArg (fun l => VS0_0.read (Elt Ideal) (VS0_0.writes (Elt Ideal) VS0_0.junk l) (ix3 ⟨n, hn⟩ e d))
      (stateA c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 hc0 hc1 hc2)
  · refine Eq.trans ?_ ((stored_apply VS0_4 triangle t s).trans (triangle_apply t s))
    exact congrArg (fun l => VS0_4.read (Elt Ideal) (VS0_4.writes (Elt Ideal) VS0_4.junk l) (ix2 t s)) (triA c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 hc0 hc1 hc2)
  · rw [← splitBits_apply t s j h2 h6, ← stored_apply VS0_5 (splitBits (F := Ideal)) t s]
    refine Eq.congr ?_ rfl
    exact congrArg (fun l => VS0_5.read (Elt Ideal) (VS0_5.writes (Elt Ideal) VS0_5.junk l) (ix2 t s)) (splitA c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 hc0 hc1 hc2)

/-- The loads of this case over the reals: a middle tile. -/
theorem realsB (hs : ∀ n (hn : n < 16) (e d : Fin 128), xs0 (ix3 ⟨n, hn⟩ e d) = ((s n d.val e.val : ℝ) : EReal)) (M : Mats xs4 xs5) :
    Reals (loadsB arg3 harg3 arg4 harg4 arg5 harg5 arg6 harg6 arg7 harg7 arg8 harg8 arg12 harg12 arg13 arg14 arg15 arg16 harg16 arg17 harg17 x0 x1 x2 x3 x4 x5 xs0 xs4 xs5) q f k v s :=
  reals_loads arg3 harg3 arg4 harg4 arg5 harg5 arg6 harg6 arg7 harg7 arg8 harg8 arg13 arg14 arg15 x4 x5 I
      (tri := View.readAt (Elt Ideal) arg16.view (Rect.unit (s := S128x128) ![0, 0] S128x128.size inb_S128x128_S128x128_0_0).toLoadRect (harg16.unread xs4))
      (split := View.readAt (Elt Ideal) arg17.view (Rect.unit (s := S128x128) ![0, 0] S128x128.size inb_S128x128_S128x128_0_0).toLoadRect (harg17.unread xs5))
      ⟨fun t s => (whole_apply arg16 harg16 xs4 t s).trans (M.tri t s), fun t s j h2 h6 => by
        rw [← M.split t s j h2 h6, ← whole_apply arg17 harg17 xs5 t s]⟩
      (fun n hn e d => (planeOf_apply arg12 harg12 xs0 n hn e d).trans (hs n hn e d))

/-- A middle tile. -/
theorem pointB (hc0 : ¬cond0_0 i) (hc1 : ¬cond0_1 i) (hc2 : ¬cond0_2 i) (x6 : Vec Ideal S1x16x128x128 .f32) (hs : ∀ n (hn : n < 16) (e d : Fin 128), xs0 (ix3 ⟨n, hn⟩ e d) = ((s n d.val e.val : ℝ) : EReal)) (M : Mats xs4 xs5) :
    Leaves q f k v s x4 x5 (out0_B_7 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs0 xs4 xs5)
      (sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs0 xs4 xs5)
      (sout0_B_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs0 xs4 xs5)
      (sout0_B_5 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs0 xs4 xs5) := by
  have R := realsB arg3 harg3 arg4 harg4 arg5 harg5 arg6 harg6 arg7 harg7 arg8 harg8 arg12 harg12 arg13 arg14 arg15 arg16 harg16 arg17 harg17 x4 x5 I hf hs M
  refine ⟨fun n hn j e => ?_, fun n hn e d => ?_, M⟩
  · refine Eq.trans ?_ (out_loads arg3 harg3 arg4 harg4 arg5 harg5 arg6 harg6 arg7 harg7 arg8 harg8 arg13 arg14 arg15 x4 x5 I hf R VO0_7 n hn j e)
    exact congrArg (fun l => VO0_7.read (Elt Ideal) (VO0_7.writes (Elt Ideal) VO0_7.junk l) (ix3 0 j ⟨128 * n + e.val, by omega⟩))
      (outB c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 xs0 xs4 xs5 hc0 hc1 hc2)
  · refine Eq.trans ?_ (state_apply R VS0_0 [] n hn e d)
    exact congrArg (fun l => VS0_0.read (Elt Ideal) (VS0_0.writes (Elt Ideal) VS0_0.junk l) (ix3 ⟨n, hn⟩ e d))
      (stateB c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 xs0 xs4 xs5 hc0 hc1 hc2)

/-- A sequence's last tile. -/
theorem pointC (hc0 : ¬cond0_0 i) (hc1 : ¬cond0_1 i) (hc2 : cond0_2 i) (x6 : Vec Ideal S1x16x128x128 .f32) (hs : ∀ n (hn : n < 16) (e d : Fin 128), xs0 (ix3 ⟨n, hn⟩ e d) = ((s n d.val e.val : ℝ) : EReal)) (M : Mats xs4 xs5) :
    Leaves q f k v s x4 x5 (out0_C_7 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs0 xs4 xs5)
      (sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs0 xs4 xs5)
      (sout0_C_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs0 xs4 xs5)
      (sout0_C_5 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs0 xs4 xs5) := by
  have R := realsB arg3 harg3 arg4 harg4 arg5 harg5 arg6 harg6 arg7 harg7 arg8 harg8 arg12 harg12 arg13 arg14 arg15 arg16 harg16 arg17 harg17 x4 x5 I hf hs M
  refine ⟨fun n hn j e => ?_, fun n hn e d => ?_, M⟩
  · refine Eq.trans ?_ (out_loads arg3 harg3 arg4 harg4 arg5 harg5 arg6 harg6 arg7 harg7 arg8 harg8 arg13 arg14 arg15 x4 x5 I hf R VO0_7 n hn j e)
    exact congrArg (fun l => VO0_7.read (Elt Ideal) (VO0_7.writes (Elt Ideal) VO0_7.junk l) (ix3 0 j ⟨128 * n + e.val, by omega⟩))
      (outC c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 xs0 xs4 xs5 hc0 hc1 hc2)
  · refine Eq.trans ?_ (state_apply R VS0_0 [] n hn e d)
    exact congrArg (fun l => VS0_0.read (Elt Ideal) (VS0_0.writes (Elt Ideal) VS0_0.junk l) (ix3 ⟨n, hn⟩ e d))
      (stateC c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 xs0 xs4 xs5 hc0 hc1 hc2)

/-- The final state that a sequence's last tile sends out. -/
theorem pointC_final (hc0 : ¬cond0_0 i) (hc1 : ¬cond0_1 i) (hc2 : cond0_2 i) (x6 : Vec Ideal S1x16x128x128 .f32) (hs : ∀ n (hn : n < 16) (e d : Fin 128), xs0 (ix3 ⟨n, hn⟩ e d) = ((s n d.val e.val : ℝ) : EReal)) (M : Mats xs4 xs5) (n : ℕ) (hn : n < 16) (d e : Fin 128) :
    out0_C_8 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs0 xs4 xs5 (ix4 0 ⟨n, hn⟩ d e) = ((Tile.next (k n) (v n) (base (f n)) (s n) d.val e.val : ℝ) : EReal) := by
  have R := realsB arg3 harg3 arg4 harg4 arg5 harg5 arg6 harg6 arg7 harg7 arg8 harg8 arg12 harg12 arg13 arg14 arg15 arg16 harg16 arg17 harg17 x4 x5 I hf hs M
  refine Eq.trans ?_ (final_apply arg12 R VO0_8 n hn d e)
  exact congrArg (fun l => VO0_8.read (Elt Ideal) (VO0_8.writes (Elt Ideal) VO0_8.junk l) (ix4 0 ⟨n, hn⟩ d e))
    (finalC c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 xs0 xs4 xs5 hc0 hc1 hc2)

/-- The loads of this case over the reals: a sequence's first tile, but for the first point. -/
theorem realsD (hs : ∀ n (hn : n < 16) (d e : Fin 128), x6 (ix4 0 ⟨n, hn⟩ d e) = ((s n d.val e.val : ℝ) : EReal)) (M : Mats xs4 xs5) :
    Reals (loadsD arg3 harg3 arg4 harg4 arg5 harg5 arg6 harg6 arg7 harg7 arg8 harg8 arg9 harg9 arg12 arg13 arg14 arg15 arg16 harg16 arg17 harg17 x0 x1 x2 x3 x4 x5 x6 xs4 xs5) q f k v s :=
  reals_loads arg3 harg3 arg4 harg4 arg5 harg5 arg6 harg6 arg7 harg7 arg8 harg8 arg13 arg14 arg15 x4 x5 I
      (tri := View.readAt (Elt Ideal) arg16.view (Rect.unit (s := S128x128) ![0, 0] S128x128.size inb_S128x128_S128x128_0_0).toLoadRect (harg16.unread xs4))
      (split := View.readAt (Elt Ideal) arg17.view (Rect.unit (s := S128x128) ![0, 0] S128x128.size inb_S128x128_S128x128_0_0).toLoadRect (harg17.unread xs5))
      ⟨fun t s => (whole_apply arg16 harg16 xs4 t s).trans (M.tri t s), fun t s j h2 h6 => by
        rw [← M.split t s j h2 h6, ← whole_apply arg17 harg17 xs5 t s]⟩
      (fun n hn e d => (planeFirst_apply arg9 harg9 arg12 x6 n hn e d).trans (hs n hn d e))

/-- A sequence's first tile, but for the first point. -/
theorem pointD (hc0 : cond0_0 i) (hc1 : ¬cond0_1 i) (hc2 : ¬cond0_2 i) (hs : ∀ n (hn : n < 16) (d e : Fin 128), x6 (ix4 0 ⟨n, hn⟩ d e) = ((s n d.val e.val : ℝ) : EReal)) (M : Mats xs4 xs5) :
    Leaves q f k v s x4 x5 (out0_D_7 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs4 xs5)
      (sout0_D_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs4 xs5)
      (sout0_D_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs4 xs5)
      (sout0_D_5 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 xs4 xs5) := by
  have R := realsD arg3 harg3 arg4 harg4 arg5 harg5 arg6 harg6 arg7 harg7 arg8 harg8 arg9 harg9 arg12 arg13 arg14 arg15 arg16 harg16 arg17 harg17 x4 x5 I hf hs M
  refine ⟨fun n hn j e => ?_, fun n hn e d => ?_, M⟩
  · refine Eq.trans ?_ (out_loads arg3 harg3 arg4 harg4 arg5 harg5 arg6 harg6 arg7 harg7 arg8 harg8 arg13 arg14 arg15 x4 x5 I hf R VO0_7 n hn j e)
    exact congrArg (fun l => VO0_7.read (Elt Ideal) (VO0_7.writes (Elt Ideal) VO0_7.junk l) (ix3 0 j ⟨128 * n + e.val, by omega⟩))
      (outD c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 xs4 xs5 hc0 hc1 hc2)
  · refine Eq.trans ?_ (state_apply R VS0_0 (firstPieces arg9 harg9 x6) n hn e d)
    exact congrArg (fun l => VS0_0.read (Elt Ideal) (VS0_0.writes (Elt Ideal) VS0_0.junk l) (ix3 ⟨n, hn⟩ e d))
      (stateD c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 xs4 xs5 hc0 hc1 hc2)

end Ideals

end Cert.Head

end
-- ==== Proof.Inputs.lean ====
module

public import proofs.«01_k».proof.Proof.Point
public import Idealize.ShloMosaic.Lib.Pipeline.ValueKit
public import Idealize.ShloMosaic.Lib.Claim

/-! # The blocks of a grid point, read in the launch's arrays

Grid point `16 b + j` reads the tokens `128 j …` of sequence `b`. -/

@[expose] public section

set_option maxRecDepth 16384

noncomputable section

namespace Cert.Head

open Cert.KernelIdeal Cert.KernelIdeal.Gen Idealize.ShloMosaic Idealize.ShloMosaic.TcCoe

variable (m : (ℓ : Loc nD τ sig) → Buf (Elt Ideal) ℓ) (c : Dev nD)

/-- The block that each window of a token array reads at a point. -/
theorem idx_facts : ∀ t : Fin cfg0.N,
    (win0_0.index t = ![t.val / 16, t.val % 16, 0] ∧ win0_1.index t = ![t.val / 16, t.val % 16, 0] ∧ win0_2.index t = ![t.val / 16, t.val % 16, 0])
    ∧ (win0_3.index t = ![t.val / 16, t.val % 16, 0] ∧ win0_4.index t = ![t.val / 16, t.val % 16, 0])
    ∧ (win0_5.index t = ![0, 0] ∧ win0_6.index t = ![t.val / 16, 0, 0, 0]) :=
  (by decide +kernel : ∀ t : Fin grid0.N, _)

/-- The queries of a point. -/
theorem blk0 (t : Fin cfg0.N) (b : Fin 8) (r : Fin 2048) (n : ℕ) (hn : n < 16) (i d : Fin 128) (hb : b.val = t.val / 16)
    (hr : r.val = 128 * (t.val % 16) + i.val) :
    (iblk m c 0 t : Vec Ideal S1x128x2048 .bf16) (ix3 0 i ⟨128 * n + d.val, by omega⟩)
      = m ((c : Thread nD τ).loc main_arg0) (ix4 b r ⟨n, hn⟩ d) := by
  have e := (idx_facts t).1.1
  have e1 : ((cfg0.win 0).blk t).view.emb (ix3 0 i ⟨128 * n + d.val, by omega⟩ : S1x128x2048.Idx) = (ix3 b r ⟨128 * n + d.val, by omega⟩ : S8x2048x2048.Idx) := by
    blk_ext [e]
  unfold iblk
  rw [View.read_apply]
  refine (congrArg (V m c main_v1) e1).trans ?_
  entry_read
  pointwise []
  exact congrArg _ (idx4_ext rfl rfl (show (128 * n + d.val) / 128 = n by omega) (show (128 * n + d.val) % 128 = d.val by omega))

/-- The log-decays of a point. -/
theorem blk1 (t : Fin cfg0.N) (b : Fin 8) (r : Fin 2048) (n : ℕ) (hn : n < 16) (i d : Fin 128) (hb : b.val = t.val / 16)
    (hr : r.val = 128 * (t.val % 16) + i.val) :
    (iblk m c 1 t : Vec Ideal S1x128x2048 .f32) (ix3 0 i ⟨128 * n + d.val, by omega⟩)
      = m ((c : Thread nD τ).loc main_arg1) (ix4 b r ⟨n, hn⟩ d) := by
  have e := (idx_facts t).1.2.1
  have e1 : ((cfg0.win 1).blk t).view.emb (ix3 0 i ⟨128 * n + d.val, by omega⟩ : S1x128x2048.Idx) = (ix3 b r ⟨128 * n + d.val, by omega⟩ : S8x2048x2048.Idx) := by
    blk_ext [e]
  unfold iblk
  rw [View.read_apply]
  refine (congrArg (V m c main_v2) e1).trans ?_
  entry_read
  pointwise []
  exact congrArg _ (idx4_ext rfl rfl (show (128 * n + d.val) / 128 = n by omega) rfl)

/-- The keys of a point. -/
theorem blk2 (t : Fin cfg0.N) (b : Fin 8) (r : Fin 2048) (n : ℕ) (hn : n < 16) (i d : Fin 128) (hb : b.val = t.val / 16)
    (hr : r.val = 128 * (t.val % 16) + i.val) :
    (iblk m c 2 t : Vec Ideal S1x128x2048 .bf16) (ix3 0 i ⟨128 * n + d.val, by omega⟩)
      = m ((c : Thread nD τ).loc main_arg2) (ix4 b r ⟨n, hn⟩ d) := by
  have e := (idx_facts t).1.2.2
  have e1 : ((cfg0.win 2).blk t).view.emb (ix3 0 i ⟨128 * n + d.val, by omega⟩ : S1x128x2048.Idx) = (ix3 b r ⟨128 * n + d.val, by omega⟩ : S8x2048x2048.Idx) := by
    blk_ext [e]
  unfold iblk
  rw [View.read_apply]
  refine (congrArg (V m c main_v4) e1).trans ?_
  entry_read
  pointwise []
  exact congrArg _ (idx4_ext rfl rfl (show (128 * n + d.val) / 128 = n by omega) (show (128 * n + d.val) % 128 = d.val by omega))

/-- The values of a point. -/
theorem blk3 (t : Fin cfg0.N) (b : Fin 8) (r : Fin 2048) (n : ℕ) (hn : n < 16) (i d : Fin 128) (hb : b.val = t.val / 16)
    (hr : r.val = 128 * (t.val % 16) + i.val) :
    (iblk m c 3 t : Vec Ideal S1x128x2048 .bf16) (ix3 0 i ⟨128 * n + d.val, by omega⟩)
      = m ((c : Thread nD τ).loc main_arg3) (ix4 b r ⟨n, hn⟩ d) := by
  have e := (idx_facts t).2.1.1
  have e1 : ((cfg0.win 3).blk t).view.emb (ix3 0 i ⟨128 * n + d.val, by omega⟩ : S1x128x2048.Idx) = (ix3 b r ⟨128 * n + d.val, by omega⟩ : S8x2048x2048.Idx) := by
    blk_ext [e]
  unfold iblk
  rw [View.read_apply]
  refine (congrArg (V m c main_v6) e1).trans ?_
  entry_read
  pointwise []
  exact congrArg _ (idx4_ext rfl rfl (show (128 * n + d.val) / 128 = n by omega) (show (128 * n + d.val) % 128 = d.val by omega))

/-- The gates of a point. -/
theorem blk4 (t : Fin cfg0.N) (b : Fin 8) (r : Fin 2048) (i : Fin 128) (l : Fin 2048) (hb : b.val = t.val / 16)
    (hr : r.val = 128 * (t.val % 16) + i.val) :
    (iblk m c 4 t : Vec Ideal S1x128x2048 .bf16) (ix3 0 i l) = m ((c : Thread nD τ).loc main_arg4) (ix3 b r l) := by
  have e := (idx_facts t).2.1.2
  have e1 : ((cfg0.win 4).blk t).view.emb (ix3 0 i l : S1x128x2048.Idx) = (ix3 b r l : S8x2048x2048.Idx) := by
    blk_ext [e]
  unfold iblk
  rw [View.read_apply]
  refine (congrArg (V m c main_v7) e1).trans ?_
  entry_read
  pointwise []

/-- The norm's gain. -/
theorem blk5 (t : Fin cfg0.N) (e : Fin 128) :
    (iblk m c 5 t : Vec Ideal S1x128 .f32) (ix2 0 e) = m ((c : Thread nD τ).loc main_arg5) (ix1 e) := by
  have h := (idx_facts t).2.2.1
  have e1 : ((cfg0.win 5).blk t).view.emb (ix2 0 e : S1x128.Idx) = (ix2 0 e : S1x128.Idx) := by
    blk_ext [h]
  unfold iblk
  rw [View.read_apply]
  refine (congrArg (V m c main_v8) e1).trans ?_
  entry_read
  pointwise []

/-- The state that enters a sequence. -/
theorem blk6 (t : Fin cfg0.N) (b : Fin 8) (n : ℕ) (hn : n < 16) (d e : Fin 128) (hb : b.val = t.val / 16) :
    (iblk m c 6 t : Vec Ideal S1x16x128x128 .f32) (ix4 0 ⟨n, hn⟩ d e) = m ((c : Thread nD τ).loc main_arg6) (ix4 b ⟨n, hn⟩ d e) := by
  have h := (idx_facts t).2.2.2
  have e1 : ((cfg0.win 6).blk t).view.emb (ix4 0 ⟨n, hn⟩ d e : S1x16x128x128.Idx) = (ix4 b ⟨n, hn⟩ d e : S8x16x128x128.Idx) := by
    blk_ext [h]
  unfold iblk
  rw [View.read_apply]
  refine (congrArg (V m c main_arg6) e1).trans ?_
  rw [V_main_arg6]

end Cert.Head

end
-- ==== Proof.Arrays.lean ====
module

public import proofs.«01_k».proof.Proof.Recurrence
public import Idealize.ShloMosaic.Lib.Pointwise

/-! # The launch's arrays as functions of plain numbers

An array of finite extended reals is read as reals at a sequence, a head, a token (or a lane) and a lane; outside the array the
functions are zero. The recurrence of a sequence and a head is the one over these. -/

@[expose] public section

noncomputable section

namespace Cert.Arrays

open Idealize.ShloMosaic

/-- An array of tokens as reals: sequence, head, token, lane. -/
def tok (x : (⟨4, ![8, 2048, 16, 128]⟩ : Shape).Idx → EReal) (b n t d : ℕ) : ℝ :=
  if h : (b < 8 ∧ n < 16) ∧ t < 2048 ∧ d < 128 then (x (ix4 ⟨b, h.1.1⟩ ⟨t, h.2.1⟩ ⟨n, h.1.2⟩ ⟨d, h.2.2⟩)).toReal else 0

/-- An array of states as reals: sequence, head, key lane, value lane. -/
def ent (x : (⟨4, ![8, 16, 128, 128]⟩ : Shape).Idx → EReal) (b n d e : ℕ) : ℝ :=
  if h : (b < 8 ∧ n < 16) ∧ d < 128 ∧ e < 128 then (x (ix4 ⟨b, h.1.1⟩ ⟨n, h.1.2⟩ ⟨d, h.2.1⟩ ⟨e, h.2.2⟩)).toReal else 0

/-- A finite array is its reals. -/
theorem tok_coe (x : (⟨4, ![8, 2048, 16, 128]⟩ : Shape).Idx → EReal) (hx : ∀ i, x i = ((x i).toReal : ℝ)) (b : Fin 8) (t : Fin 2048)
    (n : Fin 16) (d : Fin 128) : x (ix4 b t n d) = ((tok x b.val n.val t.val d.val : ℝ) : EReal) := by
  unfold tok
  rw [dif_pos ⟨⟨b.isLt, n.isLt⟩, t.isLt, d.isLt⟩]
  exact hx _

/-- A finite array of states is its reals. -/
theorem ent_coe (x : (⟨4, ![8, 16, 128, 128]⟩ : Shape).Idx → EReal) (hx : ∀ i, x i = ((x i).toReal : ℝ)) (b : Fin 8) (n : Fin 16)
    (d e : Fin 128) : x (ix4 b n d e) = ((ent x b.val n.val d.val e.val : ℝ) : EReal) := by
  unfold ent
  rw [dif_pos ⟨⟨b.isLt, n.isLt⟩, d.isLt, e.isLt⟩]
  exact hx _

/-- Reals that are nowhere positive. -/
theorem tok_nonpos (x : (⟨4, ![8, 2048, 16, 128]⟩ : Shape).Idx → EReal) (hx : ∀ i, (x i).toReal ≤ 0) (b n t d : ℕ) : tok x b n t d ≤ 0 := by
  unfold tok
  split
  · exact hx _
  · exact le_refl 0

/-- Log-decays finite and at most zero; queries, keys, values and states finite. -/
structure Tame (q f k v : (⟨4, ![8, 2048, 16, 128]⟩ : Shape).Idx → EReal) (s : (⟨4, ![8, 16, 128, 128]⟩ : Shape).Idx → EReal) : Prop where
  lf : ∀ i, f i = ((f i).toReal : ℝ)
  neg : ∀ i, (f i).toReal ≤ 0
  q : ∀ i, q i = ((q i).toReal : ℝ)
  k : ∀ i, k i = ((k i).toReal : ℝ)
  v : ∀ i, v i = ((v i).toReal : ℝ)
  s : ∀ i, s i = ((s i).toReal : ℝ)

/-- The state of a sequence and a head before a token, from the launch's log-decays, keys, values and state. -/
def state (lf k v : (⟨4, ![8, 2048, 16, 128]⟩ : Shape).Idx → EReal) (s : (⟨4, ![8, 16, 128, 128]⟩ : Shape).Idx → EReal) (b n : ℕ) : ℕ → ℕ → ℕ → ℝ :=
  Recurrence.state (tok lf b n) (tok k b n) (tok v b n) (ent s b n)

/-- The output of a sequence and a head at a token. -/
def out (q lf k v : (⟨4, ![8, 2048, 16, 128]⟩ : Shape).Idx → EReal) (s : (⟨4, ![8, 16, 128, 128]⟩ : Shape).Idx → EReal) (b n : ℕ) : ℕ → ℕ → ℝ :=
  Recurrence.out (tok q b n) (tok lf b n) (tok k b n) (tok v b n) (ent s b n)

end Cert.Arrays

end
-- ==== Proof.Grid.lean ====
module

public import proofs.«01_k».proof.Proof.Inputs
public import proofs.«01_k».proof.Proof.Arrays
public import proofs.«01_k».proof.Proof.Gen.KernelIdeal.Value

/-! # The kernel's results

By induction on the grid points: a point leaves its block's outputs, and in the carried state the recurrence's state after its
block. So the output array holds the recurrence's outputs, normed and gated, and the state array its last states. -/

@[expose] public section

set_option maxRecDepth 16384

noncomputable section

namespace Cert.Head

open Cert.KernelIdeal Cert.KernelIdeal.Gen Idealize.ShloMosaic Idealize.ShloMosaic.TcCoe

variable (m : (ℓ : Loc nD τ sig) → Buf (Elt Ideal) ℓ) (c : Dev nD)

/-- The launch's queries. -/
abbrev aq : (⟨4, ![8, 2048, 16, 128]⟩ : Shape).Idx → EReal := m ((c : Thread nD τ).loc main_arg0)
/-- The launch's log-decays. -/
abbrev af : (⟨4, ![8, 2048, 16, 128]⟩ : Shape).Idx → EReal := m ((c : Thread nD τ).loc main_arg1)
/-- The launch's keys. -/
abbrev ak : (⟨4, ![8, 2048, 16, 128]⟩ : Shape).Idx → EReal := m ((c : Thread nD τ).loc main_arg2)
/-- The launch's values. -/
abbrev av : (⟨4, ![8, 2048, 16, 128]⟩ : Shape).Idx → EReal := m ((c : Thread nD τ).loc main_arg3)
/-- The launch's states. -/
abbrev ast : (⟨4, ![8, 16, 128, 128]⟩ : Shape).Idx → EReal := m ((c : Thread nD τ).loc main_arg6)

/-- A point's share of an array of tokens. -/
def share (x : (⟨4, ![8, 2048, 16, 128]⟩ : Shape).Idx → EReal) (p n i d : ℕ) : ℝ := Arrays.tok x (p / 16) n (128 * (p % 16) + i) d

/-- The states that enter a point. -/
def enters (p n d e : ℕ) : ℝ := Arrays.state (af m c) (ak m c) (av m c) (ast m c) (p / 16) n (128 * (p % 16)) d e

variable (H : Arrays.Tame (aq m c) (af m c) (ak m c) (av m c) (ast m c))

include H

/-- A point's blocks over the reals. -/
theorem ins (t : Fin cfg0.N) : Ins (iblk m c 0 t) (iblk m c 1 t) (iblk m c 2 t) (iblk m c 3 t)
    (share (aq m c) t.val) (share (af m c) t.val) (share (ak m c) t.val) (share (av m c) t.val) := by
  have ht : t.val < 128 := Nat.lt_of_lt_of_eq t.isLt N_0
  have hb : t.val / 16 < 8 := by omega
  have hr : ∀ i : Fin 128, 128 * (t.val % 16) + i.val < 2048 := fun i => by omega
  exact ⟨fun n hn i d => (blk0 m c t ⟨t.val / 16, hb⟩ ⟨_, hr i⟩ n hn i d rfl rfl).trans (Arrays.tok_coe (aq m c) H.q _ _ _ _),
    fun n hn i d => (blk1 m c t ⟨t.val / 16, hb⟩ ⟨_, hr i⟩ n hn i d rfl rfl).trans (Arrays.tok_coe (af m c) H.lf _ _ _ _),
    fun n hn i d => (blk2 m c t ⟨t.val / 16, hb⟩ ⟨_, hr i⟩ n hn i d rfl rfl).trans (Arrays.tok_coe (ak m c) H.k _ _ _ _),
    fun n hn i d => (blk3 m c t ⟨t.val / 16, hb⟩ ⟨_, hr i⟩ n hn i d rfl rfl).trans (Arrays.tok_coe (av m c) H.v _ _ _ _)⟩

theorem share_nonpos (p n t d : ℕ) : share (af m c) p n t d ≤ 0 := Arrays.tok_nonpos _ H.neg _ _ _ _

/-- The state that enters a sequence's first point is the launch's. -/
theorem first_state (t : Fin cfg0.N) (h0 : t.val % 16 = 0) (n : ℕ) (hn : n < 16) (d e : Fin 128) :
    (iblk m c 6 t : Vec Ideal S1x16x128x128 .f32) (ix4 0 ⟨n, hn⟩ d e) = ((enters m c t.val n d.val e.val : ℝ) : EReal) := by
  have ht : t.val < 128 := Nat.lt_of_lt_of_eq t.isLt N_0
  refine (blk6 m c t ⟨t.val / 16, by omega⟩ n hn d e rfl).trans ((Arrays.ent_coe (ast m c) H.s _ _ _ _).trans ?_)
  unfold enters
  rw [h0]
  rfl

/-- What the grid has left after point `p`. -/
abbrev left (p : ℕ) (hp : p < cfg0.N) : Prop :=
  Leaves (share (aq m c) p) (share (af m c) p) (share (ak m c) p) (share (av m c) p) (enters m c p) (iblk m c 4 ⟨p, hp⟩) (iblk m c 5 ⟨p, hp⟩)
    (outsAt0 m c p hp).1 (outsAt0 m c p hp).2.2.1 (outsAt0 m c p hp).2.2.2.1 (outsAt0 m c p hp).2.2.2.2

omit H in
/-- The state after a point's block is the recurrence's 128 tokens on. -/
theorem next_state (p n d e : ℕ) :
    Tile.next (share (ak m c) p n) (share (av m c) p n) (base (share (af m c) p n)) (enters m c p n) d e
      = Arrays.state (af m c) (ak m c) (av m c) (ast m c) (p / 16) n (128 * (p % 16) + 128) d e :=
  Tile.next_eq (Arrays.tok (af m c) (p / 16) n) (Arrays.tok (ak m c) (p / 16) n) (Arrays.tok (av m c) (p / 16) n)
    (Arrays.ent (ast m c) (p / 16) n) (128 * (p % 16)) d e

omit H in
/-- The outputs of a point's block are the recurrence's. -/
theorem out_tok (p n : ℕ) (i : Fin 128) (e : ℕ) :
    Tile.out (share (aq m c) p n) (share (ak m c) p n) (share (av m c) p n) (base (share (af m c) p n)) (enters m c p n) i.val e
      = Arrays.out (aq m c) (af m c) (ak m c) (av m c) (ast m c) (p / 16) n (128 * (p % 16) + i.val) e :=
  Tile.out_eq (Arrays.tok (aq m c) (p / 16) n) (Arrays.tok (af m c) (p / 16) n) (Arrays.tok (ak m c) (p / 16) n) (Arrays.tok (av m c) (p / 16) n)
    (Arrays.ent (ast m c) (p / 16) n) (128 * (p % 16)) i.isLt e

/-- Inside a sequence the state that enters a point is the one the point before left. -/
theorem carried_state (p : ℕ) (hp : p < cfg0.N) (h0 : ¬p % 16 = 0) (ih : left m c (p - 1) (Nat.lt_of_le_of_lt (Nat.sub_le _ _) hp)) (n : ℕ) (hn : n < 16)
    (e d : Fin 128) : (outsAt0 m c (p - 1) (Nat.lt_of_le_of_lt (Nat.sub_le _ _) hp)).2.2.1 (ix3 ⟨n, hn⟩ e d) = ((enters m c p n d.val e.val : ℝ) : EReal) := by
  refine (ih.st n hn e d).trans ?_
  rw [next_state m c]
  unfold enters
  rw [show (p - 1) / 16 = p / 16 by omega, show 128 * ((p - 1) % 16) + 128 = 128 * (p % 16) by omega]

omit H in
/-- A point's five outcomes, named, leave what the named outcomes leave. -/
theorem left_of (p : ℕ) (hp : p < cfg0.N) {o : Vec Ideal S1x128x2048 .bf16} {o8 : Vec Ideal S1x16x128x128 .f32} {st : Vec Ideal S16x128x128 .f32}
    {tri : Vec Ideal S128x128 .bf16} {sp : Vec Ideal S128x128 .i32} (h : outsAt0 m c p hp = (o, o8, st, tri, sp))
    (L : Leaves (share (aq m c) p) (share (af m c) p) (share (ak m c) p) (share (av m c) p) (enters m c p) (iblk m c 4 ⟨p, hp⟩) (iblk m c 5 ⟨p, hp⟩)
      o st tri sp) : left m c p hp := by
  unfold left
  rw [h]
  exact L

omit H in
/-- A point's final-state block, named. -/
theorem final_of (p : ℕ) (hp : p < cfg0.N) {o : Vec Ideal S1x128x2048 .bf16} {o8 : Vec Ideal S1x16x128x128 .f32} {st : Vec Ideal S16x128x128 .f32}
    {tri : Vec Ideal S128x128 .bf16} {sp : Vec Ideal S128x128 .i32} (h : outsAt0 m c p hp = (o, o8, st, tri, sp))
    {y : S1x16x128x128.Idx} {r : EReal} (L : o8 y = r) : (outsAt0 m c p hp).2.1 y = r := by
  rw [h]
  exact L

/-- The first point. -/
theorem left_first (p : ℕ) (hp : p < cfg0.N) (h0 : p % 16 = 0) (h1 : p % 128 = 0) : left m c p hp :=
  left_of m c p hp (outsAt0_A m c ⟨p, hp⟩ h0 h1 (show ¬p % 16 = 15 by omega))
    (pointA (I := ins m c H ⟨p, hp⟩) (hf := share_nonpos m c H p) (hs := first_state m c H ⟨p, hp⟩ h0) ..)

/-- A sequence's first point, but for the first. -/
theorem left_start (p : ℕ) (hp : p < cfg0.N) (h0 : p % 16 = 0) (h1 : ¬p % 128 = 0) (ih : left m c (p - 1) (Nat.lt_of_le_of_lt (Nat.sub_le _ _) hp)) :
    left m c p hp :=
  left_of m c p hp (outsAt0_D m c ⟨p, hp⟩ h0 h1 (show ¬p % 16 = 15 by omega))
    (pointD (I := ins m c H ⟨p, hp⟩) (hf := share_nonpos m c H p) (hs := first_state m c H ⟨p, hp⟩ h0) (M := ih.mats) ..)

/-- A point inside a sequence. -/
theorem left_middle (p : ℕ) (hp : p < cfg0.N) (h0 : ¬p % 16 = 0) (h1 : ¬p % 128 = 0) (h2 : ¬p % 16 = 15) (ih : left m c (p - 1) (Nat.lt_of_le_of_lt (Nat.sub_le _ _) hp)) :
    left m c p hp :=
  left_of m c p hp (outsAt0_B m c ⟨p, hp⟩ h0 h1 h2)
    (pointB (I := ins m c H ⟨p, hp⟩) (hf := share_nonpos m c H p) (hs := carried_state m c H p hp h0 ih) (M := ih.mats) ..)

/-- A sequence's last point. -/
theorem left_end (p : ℕ) (hp : p < cfg0.N) (h0 : ¬p % 16 = 0) (h1 : ¬p % 128 = 0) (h2 : p % 16 = 15) (ih : left m c (p - 1) (Nat.lt_of_le_of_lt (Nat.sub_le _ _) hp)) :
    left m c p hp :=
  left_of m c p hp (outsAt0_C m c ⟨p, hp⟩ h0 h1 h2)
    (pointC (I := ins m c H ⟨p, hp⟩) (hf := share_nonpos m c H p) (hs := carried_state m c H p hp h0 ih) (M := ih.mats) ..)

/-- A sequence's last point sends out the state after its block. -/
theorem final_end (p : ℕ) (hp : p < cfg0.N) (h0 : ¬p % 16 = 0) (h1 : ¬p % 128 = 0) (h2 : p % 16 = 15) (ih : left m c (p - 1) (Nat.lt_of_le_of_lt (Nat.sub_le _ _) hp))
    (n : ℕ) (hn : n < 16) (d e : Fin 128) :
    (outsAt0 m c p hp).2.1 (ix4 0 ⟨n, hn⟩ d e)
      = ((Tile.next (share (ak m c) p n) (share (av m c) p n) (base (share (af m c) p n)) (enters m c p n) d.val e.val : ℝ) : EReal) :=
  final_of m c p hp (outsAt0_C m c ⟨p, hp⟩ h0 h1 h2)
    (pointC_final (I := ins m c H ⟨p, hp⟩) (hf := share_nonpos m c H p) (hs := carried_state m c H p hp h0 ih) (M := ih.mats) (n := n) (hn := hn) (d := d) (e := e) ..)

/-- Every point leaves its block's outputs and the state after it. -/
theorem left_all (p : ℕ) (hp : p < cfg0.N) : left m c p hp := by
  have hN : cfg0.N = 128 := N_0
  induction p with
  | zero => exact left_first m c H 0 hp rfl rfl
  | succ p ih =>
    have ih := ih (Nat.lt_of_succ_lt hp)
    have h1 : ¬(p + 1) % 128 = 0 := by omega
    by_cases h0 : (p + 1) % 16 = 0
    · exact left_start m c H (p + 1) hp h0 h1 ih
    · by_cases h2 : (p + 1) % 16 = 15
      · exact left_end m c H (p + 1) hp h0 h1 h2 ih
      · exact left_middle m c H (p + 1) hp h0 h1 h2 ih

/-- A sequence's last point sends out the recurrence's last state. -/
theorem final_all (p : ℕ) (hp : p < cfg0.N) (h2 : p % 16 = 15) (n : ℕ) (hn : n < 16) (d e : Fin 128) :
    (outsAt0 m c p hp).2.1 (ix4 0 ⟨n, hn⟩ d e)
      = ((Arrays.state (af m c) (ak m c) (av m c) (ast m c) (p / 16) n 2048 d.val e.val : ℝ) : EReal) := by
  refine (final_end m c H p hp (by omega) (by omega) h2 (left_all m c H (p - 1) (Nat.lt_of_le_of_lt (Nat.sub_le _ _) hp)) n hn d e).trans ?_
  rw [next_state m c, h2]

omit H in
/-- The fold the arrays are stated over is what each point leaves. -/
theorem sweep (p : ℕ) (hp : p < cfg0.N) (h : 0 + p < cfg0.N) :
    Pipeline.accAt (fun n h => Value.stAt0 m c n h Value.junk0) (Value.stAt0 m c) 0 p h = outsAt0 m c p hp := by
  exact (Value.outsAt0_sweep m c p hp).symm

/-- THE OUTPUT ARRAY: the recurrence's outputs, normed and gated. -/
theorem G7_apply (b : Fin 8) (t : Fin 2048) (n : ℕ) (hn : n < 16) (e : Fin 128) :
    Value.G7 m c (ix3 b t ⟨128 * n + e.val, by omega⟩)
      = rms (fun e => ((Arrays.out (aq m c) (af m c) (ak m c) (av m c) (ast m c) b.val n t.val e.val : ℝ) : EReal))
        (m ((c : Thread nD τ).loc main_arg5) (ix1 e)) (m ((c : Thread nD τ).loc main_arg4) (ix3 b t ⟨128 * n + e.val, by omega⟩)) e := by
  have hN : cfg0.N = 128 := N_0
  have hp : Value.pt7Of (ix3 b t ⟨128 * n + e.val, by omega⟩) = 16 * b.val + t.val / 128 := by
    show 16 * (b.val / 1 - 0) + 1 * (t.val / 128 - 0) + 1 * ((128 * n + e.val) / 2048 - 0) = _
    omega
  have hl : Value.loc7Of (ix3 b t ⟨128 * n + e.val, by omega⟩) = (ix3 0 ⟨t.val % 128, Nat.mod_lt _ (by decide)⟩ ⟨128 * n + e.val, by omega⟩ : S1x128x2048.Idx) :=
    idx3_ext (show b.val % 1 = 0 by omega) rfl (show (128 * n + e.val) % 2048 = _ from Nat.mod_eq_of_lt (by omega))
  unfold Value.G7
  rw [dif_pos (by omega), hl, Value.fold0_congr m c _ _ _ (by omega) hp, sweep m c _ (by omega)]
  have L := left_all m c H (16 * b.val + t.val / 128) (by omega)
  refine (L.out n hn ⟨t.val % 128, Nat.mod_lt _ (by decide)⟩ e).trans ?_
  have ho : ∀ e : Fin 128, ((Tile.out (share (aq m c) (16 * b.val + t.val / 128) n) (share (ak m c) (16 * b.val + t.val / 128) n)
      (share (av m c) (16 * b.val + t.val / 128) n) (base (share (af m c) (16 * b.val + t.val / 128) n)) (enters m c (16 * b.val + t.val / 128) n)
      (t.val % 128) e.val : ℝ) : EReal) = ((Arrays.out (aq m c) (af m c) (ak m c) (av m c) (ast m c) b.val n t.val e.val : ℝ) : EReal) := fun e => by
    have h := out_tok m c (16 * b.val + t.val / 128) n ⟨t.val % 128, Nat.mod_lt _ (by decide)⟩ e.val
    rw [show (16 * b.val + t.val / 128) / 16 = b.val by omega,
      show 128 * ((16 * b.val + t.val / 128) % 16) + t.val % 128 = t.val by omega] at h
    exact congrArg _ h
  refine (congrArg (fun o => rms o _ _ e) (funext ho)).trans ?_
  exact congrArg₂ (fun x y => rms _ x y e) (blk5 m c _ e) (blk4 m c _ b t _ _ (show b.val = (16 * b.val + t.val / 128) / 16 by omega)
    (show t.val = 128 * ((16 * b.val + t.val / 128) % 16) + t.val % 128 by omega))

/-- THE STATE ARRAY: the recurrence's last states. -/
theorem G8_apply (b : Fin 8) (n : Fin 16) (d e : Fin 128) :
    Value.G8 m c (ix4 b n d e)
      = ((Arrays.state (af m c) (ak m c) (av m c) (ast m c) b.val n.val 2048 d.val e.val : ℝ) : EReal) := by
  have hN : cfg0.N = 128 := N_0
  have hp : Value.pt8Of (ix4 b n d e) = 16 * b.val + 15 := by
    show 16 * (1 * (b.val / 1 - 0) + 1 * (n.val / 16 - 0) + 1 * (d.val / 128 - 0) + 1 * (e.val / 128 - 0)) + 15 = _
    omega
  have hl : Value.loc8Of (ix4 b n d e) = (ix4 0 n d e : S1x16x128x128.Idx) :=
    idx4_ext (show b.val % 1 = 0 by omega) (show n.val % 16 = _ from Nat.mod_eq_of_lt n.isLt) (show d.val % 128 = _ from Nat.mod_eq_of_lt d.isLt)
      (show e.val % 128 = _ from Nat.mod_eq_of_lt e.isLt)
  unfold Value.G8
  rw [dif_pos (by omega), hl, Value.fold0_congr m c _ _ _ (by omega) hp, sweep m c _ (by omega)]
  refine (final_all m c H (16 * b.val + 15) (by omega) (by omega) n.val n.isLt d e).trans ?_
  rw [show (16 * b.val + 15) / 16 = b.val by omega]

end Cert.Head

end
-- ==== Proof.Prefix.lean ====
module

public import Idealize.ShloMosaic.Lib.Pointwise

/-! # Running sums

The host's running sum along an axis of sixty-four, read at a place: the sum of the entries up to and including it. -/

@[expose] public section

noncomputable section

namespace Cert.Loop

open Idealize.ShloMosaic

/-- Adding up a list from a first value is that value and the list's sum. -/
theorem foldl_sum {α : Type} (g : α → EReal) (l : List α) (v : EReal) : l.foldl (fun r a => r + g a) v = v + (l.map g).sum := by
  induction l generalizing v with
  | nil => simp
  | cons a l ih => rw [List.foldl_cons, ih, List.map_cons, List.sum_cons, add_assoc]

/-- The terms of a window that ends at a place are those up to it. -/
theorem window_sum (f : ℕ → ℝ) (j : ℕ) (hj : j < 64) :
    ∑ w ∈ Finset.range 64, (if 63 ≤ j + w then f (j + w - 63) else 0) = ∑ i ∈ Finset.range (j + 1), f i := by
  rw [← Finset.sum_filter]
  refine Finset.sum_nbij' (fun w => j + w - 63) (fun i => i + 63 - j) ?_ ?_ ?_ ?_ ?_
  · intro w hw
    simp only [Finset.mem_filter, Finset.mem_range] at hw ⊢
    omega
  · intro i hi
    simp only [Finset.mem_filter, Finset.mem_range] at hi ⊢
    omega
  · intro w hw
    simp only [Finset.mem_filter, Finset.mem_range] at hw
    omega
  · intro i hi
    simp only [Finset.mem_range] at hi
    omega
  · intro w _
    rfl

/-- The running sum along the axis of sixty-four places, of reals. -/
theorem prefix_apply (h : (⟨4, ![8, 16, 64, 128]⟩ : Shape).ReduceWindows (![1, 1, 64, 1] : Fin 4 → Nat) ![1, 1, 1, 1] ![0, 0, 63, 0] ![0, 0, 0, 0] ⟨4, ![8, 16, 64, 128]⟩)
    (x : (⟨4, ![8, 16, 64, 128]⟩ : Shape).Idx → EReal) (f : ℕ → ℝ) (a : Fin 8) (b : Fin 16) (j : Fin 64) (c : Fin 128)
    (hx : ∀ i : Fin 64, x (ix4 a b i c) = ((f i.val : ℝ) : EReal)) :
    Ideal.hostReduceWindowAdd (s := ⟨4, ![8, 16, 64, 128]⟩) (![1, 1, 64, 1] : Fin 4 → Nat) ![1, 1, 1, 1] ![0, 0, 63, 0] ![0, 0, 0, 0] h x 0 (ix4 a b j c)
      = ((∑ i ∈ Finset.range (j.val + 1), f i : ℝ) : EReal) := by
  unfold Ideal.hostReduceWindowAdd Host.reduceWindow
  dsimp only
  rw [foldl_sum, zero_add, ← Fin.sum_univ_def]
  let G : (⟨4, ![1, 1, 64, 1]⟩ : Shape).Idx → EReal := fun w : (⟨4, ![1, 1, 64, 1]⟩ : Shape).Idx =>
    if hin : ∀ a' : Fin 4, (![0, 0, 63, 0] : Fin 4 → ℕ) a' ≤ ((ix4 a b j c : (⟨4, ![8, 16, 64, 128]⟩ : Shape).Idx) a').val * (![1, 1, 1, 1] : Fin 4 → ℕ) a' + (w a').val
        ∧ ((ix4 a b j c : (⟨4, ![8, 16, 64, 128]⟩ : Shape).Idx) a').val * (![1, 1, 1, 1] : Fin 4 → ℕ) a' + (w a').val - (![0, 0, 63, 0] : Fin 4 → ℕ) a' < (![8, 16, 64, 128] : Fin 4 → ℕ) a'
    then x (fun a' => ⟨_, (hin a').2⟩) else 0
  refine Eq.trans (b := ∑ i, G ((⟨4, ![1, 1, 64, 1]⟩ : Shape).rowMajor.symm i)) (Finset.sum_congr rfl fun i _ => dite_congr rfl (fun _ => rfl) fun _ => rfl) ?_
  rw [Equiv.sum_comp]
  rw [sum_idx4]
  simp only [Finset.univ_unique, Finset.sum_singleton]
  rw [← window_sum f j.val j.isLt, ← Fin.sum_univ_eq_sum_range (fun w => if 63 ≤ j.val + w then f (j.val + w - 63) else 0) 64]
  refine Eq.trans (Finset.sum_congr rfl fun w _ => ?_) (map_sum (⟨⟨Real.toEReal, rfl⟩, EReal.coe_add⟩ : ℝ →+ EReal) _ _).symm
  show _ = (((if 63 ≤ j.val + w.val then f (j.val + w.val - 63) else 0 : ℝ)) : EReal)
  have hw := w.isLt
  have hj := j.isLt
  by_cases hle : 63 ≤ j.val + w.val
  · rw [if_pos hle]
    refine (dif_pos fun a' => by
      match a' with
      | ⟨0, _⟩ => show 0 ≤ a.val * 1 + 0 ∧ a.val * 1 + 0 - 0 < 8; omega
      | ⟨1, _⟩ => show 0 ≤ b.val * 1 + 0 ∧ b.val * 1 + 0 - 0 < 16; omega
      | ⟨2, _⟩ => show 63 ≤ j.val * 1 + w.val ∧ j.val * 1 + w.val - 63 < 64; omega
      | ⟨3, _⟩ => show 0 ≤ c.val * 1 + 0 ∧ c.val * 1 + 0 - 0 < 128; omega).trans ?_
    refine Eq.trans (congrArg x (funext fun a' => Fin.ext ?_)) (hx ⟨j.val + w.val - 63, by omega⟩)
    match a' with
    | ⟨0, _⟩ => show a.val * 1 + 0 - 0 = a.val; omega
    | ⟨1, _⟩ => show b.val * 1 + 0 - 0 = b.val; omega
    | ⟨2, _⟩ => show j.val * 1 + w.val - 63 = j.val + w.val - 63; omega
    | ⟨3, _⟩ => show c.val * 1 + 0 - 0 = c.val; omega
  · rw [if_neg hle]
    refine (dif_neg fun hin => hle ?_).trans rfl
    have h2 := (hin 2).1
    change 63 ≤ j.val * 1 + w.val at h2
    omega

end Cert.Loop

end
-- ==== Proof.Pre.lean ====
module

public import proofs.«01_k».proof.Proof.Gen.Pre_finite_decaying
public import proofs.«01_k».proof.Defs
public import Idealize.ShloMosaic.Lib.ReduceAll
public import Idealize.ShloMosaic.Lib.WordCmp
public import Idealize.ShloMosaic.Lib.Pointwise

/-! # What the precondition says, element by element -/

@[expose] public section

set_option maxRecDepth 16384

noncomputable section

namespace Cert.Pre_finite_decaying

open Idealize.ShloMosaic

/-- An extended real whose absolute value is below infinity is a real. -/
theorem real_of_abs_lt (x : EReal) (h : max x (-x) < ⊤) : x = ((x.toReal : ℝ) : EReal) := by
  obtain ⟨h1, h2⟩ := max_lt_iff.1 h
  refine (EReal.coe_toReal (ne_of_lt h1) ?_).symm
  rintro rfl
  exact absurd h2 (by simp)

/-- The pattern of infinity. -/
theorem ofBits_top : Ideal.ofBits .f32 0x7F800000#32 = ⊤ := by simp [Ideal.ofBits, Ideal.ieee]

/-- The pattern of minus infinity. -/
theorem ofBits_bot : Ideal.ofBits .f32 0xFF800000#32 = ⊥ := by simp [Ideal.ofBits, Ideal.ieee]

/-- The bit of a truth value is set when it is true. -/
theorem bit_one {b : Bool} (h : BitVec.ofBool b = 1#1) : b = true := by
  revert h; cases b <;> decide

/-- Both bits of a set conjunction are set. -/
theorem andi_one {a b : BitVec 1} (h : IntOp.andi a b = 1#1) : a = 1#1 ∧ b = 1#1 := by
  revert a b; decide

/-- An array over which "the absolute value is below infinity" holds throughout is real throughout. -/
theorem real_of_all {s t u : Shape} {axes : List (Fin s.rank)} [Subsingleton t.Idx] (x : FVec Ideal s .f32) (y : FVec Ideal s .f32)
    (hy : ∀ i, y i = Ideal.ofBits .f32 0x7F800000#32) (init : u.Idx → BitVec 1) (h : s.ReducesTo axes t) (hu : 0 < u.numel)
    (j : t.Idx) (e : Host.reduce IntOp.andi (cmpf .olt (Host.absf x) y) init h hu j = 1#1) (i : s.Idx) :
    x i = (((x i : EReal).toReal : ℝ) : EReal) := by
  have := Host.reduce_andi_all _ _ _ _ _ e i
  have h2 : Ideal.cmp .olt (max (x i) (-x i)) (y i) = 1#1 := this
  rw [hy, ofBits_top] at h2
  exact real_of_abs_lt _ (of_decide_eq_true (bit_one h2))

/-- THE PRECONDITION, element by element: the log-forgets are real and at most 0; queries, keys, values and the state are real. -/
theorem decode (q lf k v : FVec Ideal S8x2048x16x128 .f32) (gt : FVec Ideal S8x2048x2048 .f32) (g : FVec Ideal S128 .f32)
    (s : FVec Ideal S8x16x128x128 .f32) (h : fn q lf k v gt g s = fun _ => 1#1) :
    (∀ i, lf i = (((lf i : EReal).toReal : ℝ) : EReal) ∧ (lf i : EReal).toReal ≤ 0)
    ∧ (∀ i, q i = (((q i : EReal).toReal : ℝ) : EReal)) ∧ (∀ i, k i = (((k i : EReal).toReal : ℝ) : EReal))
    ∧ (∀ i, v i = (((v i : EReal).toReal : ℝ) : EReal)) ∧ (∀ i, s i = (((s i : EReal).toReal : ℝ) : EReal)) := by
  haveI : Subsingleton S_.Idx := ⟨fun a b => funext fun x => x.elim0⟩
  have e := congrFun h (fun a => a.elim0)
  simp only [fn, fn_part1] at e
  obtain ⟨e1, e2⟩ := andi_one e
  obtain ⟨e2, e6⟩ := andi_one e2
  obtain ⟨e2, e5⟩ := andi_one e2
  obtain ⟨e2, e4⟩ := andi_one e2
  refine ⟨fun i => ?_, real_of_all _ _ (fun _ => rfl) _ _ _ _ e2, real_of_all _ _ (fun _ => rfl) _ _ _ _ e4,
    real_of_all _ _ (fun _ => rfl) _ _ _ _ e5, real_of_all _ _ (fun _ => rfl) _ _ _ _ e6⟩
  obtain ⟨f1, f2⟩ := andi_one (Host.reduce_andi_all _ _ _ _ _ e1 i)
  have f1 : Ideal.cmp .ogt (lf i) (Ideal.ofBits .f32 0xFF800000#32) = 1#1 := f1
  have f2 : Ideal.cmp .ole (lf i) (Ideal.ofBits .f32 0x00000000#32) = 1#1 := f2
  rw [ofBits_bot] at f1
  rw [Ideal.ofBits_zero_f32] at f2
  replace f1 : (⊥ : EReal) < lf i := of_decide_eq_true (bit_one f1)
  replace f2 : (lf i : EReal) ≤ 0 := of_decide_eq_true (bit_one f2)
  have hr : lf i = (((lf i : EReal).toReal : ℝ) : EReal) :=
    (EReal.coe_toReal (ne_of_lt (lt_of_le_of_lt f2 (by simp))) (ne_of_gt f1)).symm
  refine ⟨hr, ?_⟩
  rw [hr] at f2
  exact_mod_cast f2

end Cert.Pre_finite_decaying

end
-- ==== Proof.Chunk.lean ====
module

public import proofs.«01_k».proof.Proof.Prefix
public import proofs.«01_k».proof.Proof.Pre
public import Idealize.ShloMosaic.Lib.WordCmp
public import proofs.«01_k».proof.Proof.Arrays
public import proofs.«01_k».proof.Proof.Gen.ReferenceIdeal.Run

/-! # One chunk of the reference

The reference takes sixty-four tokens at a time. The values of one chunk, as functions of its queries, keys, values, log-decays and
the state before it, read at a place: the attention within the chunk, the chunk's outputs and the state after it are those of the
recurrence in block form. -/

@[expose] public section

set_option maxRecDepth 16384

noncomputable section

namespace Cert.Loop

open Cert.ReferenceIdeal Cert.ReferenceIdeal.Gen Idealize.ShloMosaic Idealize.ShloMosaic.TcCoe Finset

/-- The chunk of an array of chunks that a counter names. -/
def pick (X : FVec Ideal S32x8x16x64x128 .f32) (i : IVec S_ 32) : FVec Ideal S8x16x64x128 .f32 :=
  shapeCast S8x16x64x128 (Host.dynamicSlice S1x8x16x64x128 X (fun k => (((![i, constantI S_ 32 0#32, constantI S_ 32 0#32, constantI S_ 32 0#32, constantI S_ 32 0#32] : Fin 5 → (⟨S_, .i32⟩ : BufTy).Contents (Elt Ideal))) k (Shape.Idx.first h_S_)).toInt) sliceFits_S32x8x16x64x128_S1x8x16x64x128) shapeCasts_S1x8x16x64x128_S8x16x64x128

/-- The running sums of a chunk's log-decays. -/
def sums (G : FVec Ideal S8x16x64x128 .f32) : FVec Ideal S8x16x64x128 .f32 :=
  Host.reduceWindowAdd ![1, 1, 64, 1] ![1, 1, 1, 1] ![0, 0, 63, 0] ![0, 0, 0, 0] G (broadcastInDim S_ ![] bcast_S_S_ (constant S_ .f32 0x00000000#32)) reduceWindows_S8x16x64x128_S8x16x64x128_w1s1p0_0_w1s1p0_0_w64s1p63_0_w1s1p0_0 h_S_

/-- A chunk's rows, one for each of a square's rows. -/
def down (X : FVec Ideal S8x16x64x128 .f32) : FVec Ideal S8x16x64x64x128 .f32 :=
  broadcastInDim S8x16x64x64x128 ![0, 1, 2, 3, 4] bcast_S8x16x64x1x128_S8x16x64x64x128_0_1_2_3_4 (broadcastInDim S8x16x64x1x128 ![0, 1, 2, 4] bcast_S8x16x64x128_S8x16x64x1x128_0_1_2_4 X)

/-- A chunk's rows, one for each of a square's columns. -/
def across (X : FVec Ideal S8x16x64x128 .f32) : FVec Ideal S8x16x64x64x128 .f32 :=
  broadcastInDim S8x16x64x64x128 ![0, 1, 2, 3, 4] bcast_S8x16x1x64x128_S8x16x64x64x128_0_1_2_3_4 (broadcastInDim S8x16x1x64x128 ![0, 1, 3, 4] bcast_S8x16x64x128_S8x16x1x64x128_0_1_3_4 X)

/-- A square's mask, over sequences, heads and lanes. -/
def spread (M : IVec S64x64 1) : IVec S8x16x64x64x128 1 :=
  broadcastInDim S8x16x64x64x128 ![0, 1, 2, 3, 4] bcast_S1x1x64x64x1_S8x16x64x64x128_0_1_2_3_4 (broadcastInDim S1x1x64x64x1 ![2, 3] bcast_S64x64_S1x1x64x64x1_2_3 M)

/-- The attention weights within a chunk. -/
def weights (Q K B : FVec Ideal S8x16x64x128 .f32) (M : IVec S64x64 1) : FVec Ideal S8x16x64x64 .f32 :=
  Host.reduceAdd (mulf (mulf (down Q) (across K)) (Host.exp (select (spread M) (subf (down B) (across B)) (broadcastInDim S8x16x64x64x128 ![] bcast_S_S8x16x64x64x128 (id (constant S_ .f32 0xFF800000#32)))))) (constant S_ .f32 0x00000000#32) reducesTo_S8x16x64x64x128_S8x16x64x64_d4 h_S_

/-- A chunk's outputs. -/
def outs (Q K V B : FVec Ideal S8x16x64x128 .f32) (M : IVec S64x64 1) (S : FVec Ideal S8x16x128x128 .f32) : FVec Ideal S8x16x64x128 .f32 :=
  addf (Host.dotGeneral dot_S8x16x64x64_S8x16x64x128_S8x16x64x128_3_2_2_3_01_01 none (weights Q K B M) V)
    (Host.dotGeneral dot_S8x16x64x128_S8x16x128x128_S8x16x64x128_3_2_2_3_01_01 none (mulf Q (Host.exp B)) S)

/-- The last row of a chunk's running sums. -/
def last (B : FVec Ideal S8x16x64x128 .f32) : FVec Ideal S8x16x128 .f32 :=
  shapeCast S8x16x128 (extractStridedSlice S8x16x1x128 ![0, 0, 63, 0] B slices_S8x16x64x128_S8x16x1x128_0_0_63_0) shapeCasts_S8x16x1x128_S8x16x128

/-- The state after a chunk. -/
def next (K V B : FVec Ideal S8x16x64x128 .f32) (S : FVec Ideal S8x16x128x128 .f32) : FVec Ideal S8x16x128x128 .f32 :=
  addf (mulf (broadcastInDim S8x16x128x128 ![0, 1, 2, 3] bcast_S8x16x128x1_S8x16x128x128_0_1_2_3 (broadcastInDim S8x16x128x1 ![0, 1, 2] bcast_S8x16x128_S8x16x128x1_0_1_2 (Host.exp (last B)))) S)
    (Host.dotGeneral dot_S8x16x64x128_S8x16x64x128_S8x16x128x128_2_2_3_3_01_01 none (mulf K (Host.exp (subf (broadcastInDim S8x16x64x128 ![0, 1, 2, 3] bcast_S8x16x1x128_S8x16x64x128_0_1_2_3 (broadcastInDim S8x16x1x128 ![0, 1, 3] bcast_S8x16x128_S8x16x1x128_0_1_3 (last B))) B))) V)

/-- The chunks with one of them written. -/
def put (X : FVec Ideal S32x8x16x64x128 .f32) (i : IVec S_ 32) (O : FVec Ideal S8x16x64x128 .f32) : FVec Ideal S32x8x16x64x128 .f32 :=
  Host.dynamicUpdateSlice X (broadcastInDim S1x8x16x64x128 ![1, 2, 3, 4] bcast_S8x16x64x128_S1x8x16x64x128_1_2_3_4 O)
    (fun k => (((![i, constantI S_ 32 0#32, constantI S_ 32 0#32, constantI S_ 32 0#32, constantI S_ 32 0#32] : Fin 5 → (⟨S_, .i32⟩ : BufTy).Contents (Elt Ideal))) k (Shape.Idx.first h_S_)).toInt) updateFits_S32x8x16x64x128_S1x8x16x64x128

theorem down_apply (X : FVec Ideal S8x16x64x128 .f32) (b : Fin 8) (n : Fin 16) (i j : Fin 64) (d : Fin 128) :
    down X (ix5 b n i j d) = X (ix4 b n i d) := by
  pointwise [down]

theorem across_apply (X : FVec Ideal S8x16x64x128 .f32) (b : Fin 8) (n : Fin 16) (i j : Fin 64) (d : Fin 128) :
    across X (ix5 b n i j d) = X (ix4 b n j d) := by
  pointwise [across]

theorem spread_apply (M : IVec S64x64 1) (b : Fin 8) (n : Fin 16) (i j : Fin 64) (d : Fin 128) :
    spread M (ix5 b n i j d) = M (ix2 i j) := by
  pointwise [spread]

theorem last_apply (B : FVec Ideal S8x16x64x128 .f32) (b : Fin 8) (n : Fin 16) (d : Fin 128) : last B (ix3 b n d) = B (ix4 b n 63 d) := by
  pointwise [last]
  try rfl

/-- A sum of reals, taken over the extended reals, is the sum over a range of naturals. -/
theorem sum_coe (N : ℕ) (f : ℕ → ℝ) : (∑ x : Fin N, ((f x.val : ℝ) : EReal)) = ((∑ i ∈ range N, f i : ℝ) : EReal) := by
  rw [← Fin.sum_univ_eq_sum_range]
  exact (map_sum (⟨⟨Real.toEReal, rfl⟩, EReal.coe_add⟩ : ℝ →+ EReal) _ _).symm

section Reals

variable (Q K V B : FVec Ideal S8x16x64x128 .f32) (M : IVec S64x64 1) (S : FVec Ideal S8x16x128x128 .f32) (b : Fin 8) (n : Fin 16)
  (q k v r s : ℕ → ℕ → ℝ)

/-- The running sums of reals. -/
theorem sums_apply (hB : ∀ (i : Fin 64) (d : Fin 128), B (ix4 b n i d) = ((r i.val d.val : ℝ) : EReal)) (i : Fin 64) (d : Fin 128) :
    sums B (ix4 b n i d) = ((∑ j ∈ range (i.val + 1), r j d.val : ℝ) : EReal) := by
  refine Eq.trans (congrArg (fun z : EReal => Ideal.hostReduceWindowAdd (s := S8x16x64x128) ![1, 1, 64, 1] ![1, 1, 1, 1] ![0, 0, 63, 0] ![0, 0, 0, 0]
    reduceWindows_S8x16x64x128_S8x16x64x128_w1s1p0_0_w1s1p0_0_w64s1p63_0_w1s1p0_0 B z (ix4 b n i d)) Ideal.ofBits_zero_f32) ?_
  exact prefix_apply reduceWindows_S8x16x64x128_S8x16x64x128_w1s1p0_0_w1s1p0_0_w64s1p63_0_w1s1p0_0 B (fun j => r j d.val) b n i d fun j => hB j d

/-- A weight: zero above the diagonal, else the scaled products of the two rows. -/
theorem weights_apply (hQ : ∀ (i : Fin 64) (d : Fin 128), Q (ix4 b n i d) = ((q i.val d.val : ℝ) : EReal))
    (hK : ∀ (i : Fin 64) (d : Fin 128), K (ix4 b n i d) = ((k i.val d.val : ℝ) : EReal))
    (hB : ∀ (i : Fin 64) (d : Fin 128), B (ix4 b n i d) = ((r i.val d.val : ℝ) : EReal))
    (hM : ∀ i j : Fin 64, M (ix2 i j) = BitVec.ofBool (decide (j.val ≤ i.val))) (i j : Fin 64) :
    weights Q K B M (ix4 b n i j)
      = ((if j.val ≤ i.val then ∑ d ∈ range 128, q i.val d * k j.val d * Real.exp (r i.val d - r j.val d) else 0 : ℝ) : EReal) := by
  unfold weights
  generalize hX : mulf (mulf (down Q) (across K)) (Host.exp (select (spread M) (subf (down B) (across B)) (broadcastInDim S8x16x64x64x128 ![] bcast_S_S8x16x64x64x128 (id (constant S_ .f32 0xFF800000#32))))) = X
  have hx : ∀ d : Fin 128, X (ix5 b n i j d) = ((if j.val ≤ i.val then q i.val d.val * k j.val d.val * Real.exp (r i.val d.val - r j.val d.val) else 0 : ℝ) : EReal) := by
    intro d
    rw [← hX]
    show down Q (ix5 b n i j d) * across K (ix5 b n i j d) * Ideal.exp (if spread M (ix5 b n i j d) = 1#1 then
      down B (ix5 b n i j d) - across B (ix5 b n i j d) else Ideal.ofBits .f32 0xFF800000#32) = _
    rw [down_apply, across_apply, spread_apply, down_apply, across_apply, hQ, hK, hB, hB, hM]
    by_cases h : j.val ≤ i.val
    · rw [decide_eq_true h, if_pos (by decide), if_pos h, ← EReal.coe_sub, Ideal.exp_coe, ← EReal.coe_mul, ← EReal.coe_mul]
    · rw [decide_eq_false h, if_neg (by decide), if_neg h]
      rw [Pre_finite_decaying.ofBits_bot, Ideal.exp_bot, mul_zero]
      rfl
  pointwise
  simp only [hx, zero_add]
  refine (sum_coe 128 fun d => if j.val ≤ i.val then q i.val d * k j.val d * Real.exp (r i.val d - r j.val d) else 0).trans ?_
  congr 1
  split
  · rfl
  · exact sum_const_zero

/-- A chunk's outputs are the recurrence's. -/
theorem outs_apply (t₀ : ℕ) (g : ℕ → ℕ → ℝ)
    (hQ : ∀ (i : Fin 64) (d : Fin 128), Q (ix4 b n i d) = ((q (t₀ + i.val) d.val : ℝ) : EReal))
    (hK : ∀ (i : Fin 64) (d : Fin 128), K (ix4 b n i d) = ((k (t₀ + i.val) d.val : ℝ) : EReal))
    (hV : ∀ (i : Fin 64) (d : Fin 128), V (ix4 b n i d) = ((v (t₀ + i.val) d.val : ℝ) : EReal))
    (hB : ∀ (i : Fin 64) (d : Fin 128), B (ix4 b n i d) = ((Recurrence.run g t₀ (i.val + 1) d.val : ℝ) : EReal))
    (hM : ∀ i j : Fin 64, M (ix2 i j) = BitVec.ofBool (decide (j.val ≤ i.val)))
    (hS : ∀ d e : Fin 128, S (ix4 b n d e) = ((Recurrence.state g k v s t₀ d.val e.val : ℝ) : EReal)) (i : Fin 64) (e : Fin 128) :
    outs Q K V B M S (ix4 b n i e) = ((Recurrence.out q g k v s (t₀ + i.val) e.val : ℝ) : EReal) := by
  have hW := weights_apply Q K B M b n (fun i d => q (t₀ + i) d) (fun i d => k (t₀ + i) d) (fun i d => Recurrence.run g t₀ (i + 1) d)
    hQ hK hB hM i
  unfold outs
  generalize weights Q K B M = W at hW ⊢
  have hX : ∀ d : Fin 128, mulf Q (Host.exp B) (ix4 b n i d) = ((q (t₀ + i.val) d.val * Real.exp (Recurrence.run g t₀ (i.val + 1) d.val) : ℝ) : EReal) := by
    intro d
    show Q (ix4 b n i d) * Ideal.exp (B (ix4 b n i d)) = _
    rw [hQ, hB, Ideal.exp_coe, ← EReal.coe_mul]
  generalize mulf Q (Host.exp B) = X at hX ⊢
  pointwise
  simp only [hW, hX, hV, hS, ← EReal.coe_mul]
  rw [sum_coe 64 fun j => (if j ≤ i.val then ∑ d ∈ range 128, q (t₀ + i.val) d * k (t₀ + j) d * Real.exp (Recurrence.run g t₀ (i.val + 1) d - Recurrence.run g t₀ (j + 1) d) else 0) * v (t₀ + j) e.val,
    sum_coe 128 fun d => q (t₀ + i.val) d * Real.exp (Recurrence.run g t₀ (i.val + 1) d) * Recurrence.state g k v s t₀ d e.val,
    ← EReal.coe_add, Recurrence.out_block]
  congr 2
  simp only [ite_mul, zero_mul]
  rw [← sum_filter]
  refine sum_congr (ext fun j => ?_) fun _ _ => rfl
  have := i.isLt
  simp only [mem_filter, mem_range]
  omega

/-- The state after a chunk is the recurrence's. -/
theorem next_apply (t₀ : ℕ) (g : ℕ → ℕ → ℝ)
    (hK : ∀ (i : Fin 64) (d : Fin 128), K (ix4 b n i d) = ((k (t₀ + i.val) d.val : ℝ) : EReal))
    (hV : ∀ (i : Fin 64) (d : Fin 128), V (ix4 b n i d) = ((v (t₀ + i.val) d.val : ℝ) : EReal))
    (hB : ∀ (i : Fin 64) (d : Fin 128), B (ix4 b n i d) = ((Recurrence.run g t₀ (i.val + 1) d.val : ℝ) : EReal))
    (hS : ∀ d e : Fin 128, S (ix4 b n d e) = ((Recurrence.state g k v s t₀ d.val e.val : ℝ) : EReal)) (d e : Fin 128) :
    next K V B S (ix4 b n d e) = ((Recurrence.state g k v s (t₀ + 64) d.val e.val : ℝ) : EReal) := by
  have hL : ∀ d : Fin 128, last B (ix3 b n d) = ((Recurrence.run g t₀ 64 d.val : ℝ) : EReal) := fun d => (last_apply B b n d).trans (hB 63 d)
  unfold next
  generalize last B = L at hL ⊢
  have hX : ∀ (i : Fin 64) (d : Fin 128), mulf K (Host.exp (subf (broadcastInDim S8x16x64x128 ![0, 1, 2, 3] bcast_S8x16x1x128_S8x16x64x128_0_1_2_3 (broadcastInDim S8x16x1x128 ![0, 1, 3] bcast_S8x16x128_S8x16x1x128_0_1_3 L)) B)) (ix4 b n i d)
      = ((k (t₀ + i.val) d.val * Real.exp (Recurrence.run g t₀ 64 d.val - Recurrence.run g t₀ (i.val + 1) d.val) : ℝ) : EReal) := by
    intro i d
    have e1 : broadcastInDim S8x16x64x128 ![0, 1, 2, 3] bcast_S8x16x1x128_S8x16x64x128_0_1_2_3 (broadcastInDim S8x16x1x128 ![0, 1, 3] bcast_S8x16x128_S8x16x1x128_0_1_3 L) (ix4 b n i d) = L (ix3 b n d) := by
      pointwise
    show K (ix4 b n i d) * Ideal.exp (broadcastInDim S8x16x64x128 ![0, 1, 2, 3] bcast_S8x16x1x128_S8x16x64x128_0_1_2_3 (broadcastInDim S8x16x1x128 ![0, 1, 3] bcast_S8x16x128_S8x16x1x128_0_1_3 L) (ix4 b n i d) - B (ix4 b n i d)) = _
    rw [e1, hK, hB, hL, ← EReal.coe_sub, Ideal.exp_coe, ← EReal.coe_mul]
  generalize mulf K (Host.exp (subf (broadcastInDim S8x16x64x128 ![0, 1, 2, 3] bcast_S8x16x1x128_S8x16x64x128_0_1_2_3 (broadcastInDim S8x16x1x128 ![0, 1, 3] bcast_S8x16x128_S8x16x1x128_0_1_3 L)) B)) = X at hX ⊢
  have hE : broadcastInDim S8x16x128x128 ![0, 1, 2, 3] bcast_S8x16x128x1_S8x16x128x128_0_1_2_3 (broadcastInDim S8x16x128x1 ![0, 1, 2] bcast_S8x16x128_S8x16x128x1_0_1_2 (Host.exp L)) (ix4 b n d e)
      = ((Real.exp (Recurrence.run g t₀ 64 d.val) : ℝ) : EReal) := by
    have : Host.exp L (ix3 b n d) = ((Real.exp (Recurrence.run g t₀ 64 d.val) : ℝ) : EReal) := by
      show Ideal.exp (L (ix3 b n d)) = _
      rw [hL, Ideal.exp_coe]
    rw [← this]
    generalize Host.exp L = Y
    pointwise
  generalize broadcastInDim S8x16x128x128 ![0, 1, 2, 3] bcast_S8x16x128x1_S8x16x128x128_0_1_2_3 (broadcastInDim S8x16x128x1 ![0, 1, 2] bcast_S8x16x128_S8x16x128x1_0_1_2 (Host.exp L)) = Y at hE ⊢
  pointwise
  simp only [hE, hX, hV, hS, ← EReal.coe_mul]
  rw [sum_coe 64 fun i => k (t₀ + i) d.val * Real.exp (Recurrence.run g t₀ 64 d.val - Recurrence.run g t₀ (i + 1) d.val) * v (t₀ + i) e.val,
    ← EReal.coe_add, Recurrence.state_add]

end Reals

/-- Where a chunk begins among the chunks. -/
theorem start_eq (i : IVec S_ 32) (c : Fin 32) (hi : i (Shape.Idx.first h_S_) = BitVec.ofNat 32 c.val) :
    (fun k => (((![i, constantI S_ 32 0#32, constantI S_ 32 0#32, constantI S_ 32 0#32, constantI S_ 32 0#32] : Fin 5 → (⟨S_, .i32⟩ : BufTy).Contents (Elt Ideal))) k (Shape.Idx.first h_S_)).toInt)
      = ![(c.val : Int), 0, 0, 0, 0] := by
  funext k
  match k with
  | ⟨0, _⟩ =>
    show (i (Shape.Idx.first h_S_)).toInt = _
    rw [hi]
    exact (by decide : ∀ c : Fin 32, (BitVec.ofNat 32 c.val).toInt = (c.val : Int)) c
  | ⟨1, _⟩ => rfl
  | ⟨2, _⟩ => rfl
  | ⟨3, _⟩ => rfl
  | ⟨4, _⟩ => rfl

/-- A chunk picked out of the chunks, read at a place. -/
theorem pick_apply (X : FVec Ideal S32x8x16x64x128 .f32) (i : IVec S_ 32) (c : Fin 32) (hi : i (Shape.Idx.first h_S_) = BitVec.ofNat 32 c.val)
    (b : Fin 8) (n : Fin 16) (t : Fin 64) (d : Fin 128) : pick X i (ix4 b n t d) = X (ix5 c b n t d) := by
  unfold pick
  rw [start_eq i c hi, WordCmp.dynamicSlice_eq_extract S1x8x16x64x128 X _ sliceFits_S32x8x16x64x128_S1x8x16x64x128 ![c.val, 0, 0, 0, 0] ((by decide : ∀ c : Fin 32, S32x8x16x64x128.Slices ![c.val, 0, 0, 0, 0] S1x8x16x64x128) c)
    (fun a => by match a with | ⟨0, _⟩ => rfl | ⟨1, _⟩ => rfl | ⟨2, _⟩ => rfl | ⟨3, _⟩ => rfl | ⟨4, _⟩ => rfl)]
  pointwise

/-- The chunks with one written, read at a place: the chunk written, or the ones before. -/
theorem put_apply (X : FVec Ideal S32x8x16x64x128 .f32) (i : IVec S_ 32) (O : FVec Ideal S8x16x64x128 .f32) (c : Fin 32)
    (hi : i (Shape.Idx.first h_S_) = BitVec.ofNat 32 c.val) (c' : Fin 32) (b : Fin 8) (n : Fin 16) (t : Fin 64) (d : Fin 128) :
    put X i O (ix5 c' b n t d) = if c'.val = c.val then O (ix4 b n t d) else X (ix5 c' b n t d) := by
  unfold put
  rw [start_eq i c hi, WordCmp.dynamicUpdateSlice_eq_update X _ _ updateFits_S32x8x16x64x128_S1x8x16x64x128 ![c.val, 0, 0, 0, 0] ((by decide : ∀ c : Fin 32, S32x8x16x64x128.Slices ![c.val, 0, 0, 0, 0] S1x8x16x64x128) c)
    (fun a => by match a with | ⟨0, _⟩ => rfl | ⟨1, _⟩ => rfl | ⟨2, _⟩ => rfl | ⟨3, _⟩ => rfl | ⟨4, _⟩ => rfl)]
  pointwise
  by_cases h : c'.val = c.val
  · rw [dif_pos (by omega), if_pos h]
  · rw [dif_neg (by omega), if_neg h]

end Cert.Loop

end
-- ==== Proof.Loop.lean ====
module

public import proofs.«01_k».proof.Proof.Chunk
public import Idealize.ShloMosaic.Lib.Tactic

/-! # The reference's loop

Thirty-two trips, one for each chunk. Before a trip the carried state is the recurrence's before that chunk's tokens, and the chunks
already written hold the recurrence's outputs. -/

@[expose] public section

set_option maxRecDepth 16384

noncomputable section

namespace Cert.Loop

open Cert.ReferenceIdeal Cert.ReferenceIdeal.Gen Idealize.ShloMosaic Idealize.ShloMosaic.TcCoe Finset

section Trip

variable (V : Valuation τ sig (Elt Ideal))

/-- The chunks of the queries. -/
abbrev cq : FVec Ideal S32x8x16x64x128 .f32 := V (Proc.devRef .tc main_v11_0)
/-- The chunks of the keys. -/
abbrev ck : FVec Ideal S32x8x16x64x128 .f32 := V (Proc.devRef .tc main_v11_1)
/-- The chunks of the values. -/
abbrev cv : FVec Ideal S32x8x16x64x128 .f32 := V (Proc.devRef .tc main_v11_2)
/-- The chunks of the log-decays. -/
abbrev cf : FVec Ideal S32x8x16x64x128 .f32 := V (Proc.devRef .tc main_v11_3)
/-- The mask of a square. -/
abbrev cm : IVec S64x64 1 := V (Proc.devRef .tc main_v11_4)
/-- The counter. -/
abbrev ci : IVec S_ 32 := V (Proc.devRef .tc main_v11_5)
/-- The carried state. -/
abbrev cs : FVec Ideal S8x16x128x128 .f32 := V (Proc.devRef .tc main_v11_6)
/-- The outputs written so far. -/
abbrev co : FVec Ideal S32x8x16x64x128 .f32 := V (Proc.devRef .tc main_v11_7)

/-- A trip's new state is the chunk's. -/
theorem trip_state : Value.step_main_v11_6 V = next (pick (ck V) (ci V)) (pick (cv V) (ci V)) (sums (pick (cf V) (ci V))) (cs V) := by
  sl_kernel_rfl

/-- A trip writes the chunk's outputs. -/
theorem trip_outs : Value.step_main_v11_7 V
    = put (co V) (ci V) (outs (pick (cq V) (ci V)) (pick (ck V) (ci V)) (pick (cv V) (ci V)) (sums (pick (cf V) (ci V))) (cm V) (cs V)) := by
  sl_kernel_rfl

end Trip

section Invariant

variable (q f k v : (⟨4, ![8, 2048, 16, 128]⟩ : Shape).Idx → EReal) (s : (⟨4, ![8, 16, 128, 128]⟩ : Shape).Idx → EReal)

/-- What holds before a trip. -/
structure Before (j : ℕ) (V : Valuation τ sig (Elt Ideal)) : Prop where
  counter : ci V (Shape.Idx.first h_S_) = BitVec.ofNat 32 j
  mask : ∀ i j : Fin 64, cm V (ix2 i j) = BitVec.ofBool (decide (j.val ≤ i.val))
  queries : ∀ (c : Fin 32) (b : Fin 8) (n : Fin 16) (t : Fin 64) (d : Fin 128),
    cq V (ix5 c b n t d) = ((Arrays.tok q b.val n.val (64 * c.val + t.val) d.val : ℝ) : EReal)
  keys : ∀ (c : Fin 32) (b : Fin 8) (n : Fin 16) (t : Fin 64) (d : Fin 128),
    ck V (ix5 c b n t d) = ((Arrays.tok k b.val n.val (64 * c.val + t.val) d.val : ℝ) : EReal)
  values : ∀ (c : Fin 32) (b : Fin 8) (n : Fin 16) (t : Fin 64) (d : Fin 128),
    cv V (ix5 c b n t d) = ((Arrays.tok v b.val n.val (64 * c.val + t.val) d.val : ℝ) : EReal)
  decays : ∀ (c : Fin 32) (b : Fin 8) (n : Fin 16) (t : Fin 64) (d : Fin 128),
    cf V (ix5 c b n t d) = ((Arrays.tok f b.val n.val (64 * c.val + t.val) d.val : ℝ) : EReal)
  carried : ∀ (b : Fin 8) (n : Fin 16) (d e : Fin 128),
    cs V (ix4 b n d e) = ((Arrays.state f k v s b.val n.val (64 * j) d.val e.val : ℝ) : EReal)
  written : ∀ c : Fin 32, c.val < j → ∀ (b : Fin 8) (n : Fin 16) (t : Fin 64) (e : Fin 128),
    co V (ix5 c b n t e) = ((Arrays.out q f k v s b.val n.val (64 * c.val + t.val) e.val : ℝ) : EReal)

/-- A trip keeps it. -/
theorem Before.step {j : ℕ} {V : Valuation τ sig (Elt Ideal)} (hj : j < 32) (h : Before q f k v s j V) : Before q f k v s (j + 1) (Value.STEP V) := by
  have hi : ci V (Shape.Idx.first h_S_) = BitVec.ofNat 32 (⟨j, hj⟩ : Fin 32).val := h.counter
  have pq := fun b n t d => (pick_apply (cq V) (ci V) ⟨j, hj⟩ hi b n t d).trans (h.queries ⟨j, hj⟩ b n t d)
  have pk := fun b n t d => (pick_apply (ck V) (ci V) ⟨j, hj⟩ hi b n t d).trans (h.keys ⟨j, hj⟩ b n t d)
  have pv := fun b n t d => (pick_apply (cv V) (ci V) ⟨j, hj⟩ hi b n t d).trans (h.values ⟨j, hj⟩ b n t d)
  have pf := fun b n t d => (pick_apply (cf V) (ci V) ⟨j, hj⟩ hi b n t d).trans (h.decays ⟨j, hj⟩ b n t d)
  have ps : ∀ (b : Fin 8) (n : Fin 16) (t : Fin 64) (d : Fin 128), sums (pick (cf V) (ci V)) (ix4 b n t d)
      = ((Recurrence.run (Arrays.tok f b.val n.val) (64 * j) (t.val + 1) d.val : ℝ) : EReal) := fun b n =>
    sums_apply (pick (cf V) (ci V)) b n (fun i d => Arrays.tok f b.val n.val (64 * j + i) d) (pf b n)
  refine ⟨?_, ?_, ?_, ?_, ?_, ?_, ?_, ?_⟩
  · show Value.STEP V (Proc.devRef .tc main_v11_5) (Shape.Idx.first h_S_) = _
    rw [Value.STEP_main_v11_5]
    show ci V (Shape.Idx.first h_S_) + 1#32 = _
    rw [h.counter, BitVec.ofNat_add]
  · intro i l
    exact (congrFun (Value.STEP_main_v11_4 V) (ix2 i l)).trans (h.mask i l)
  · intro c b n t d
    exact (congrFun (Value.STEP_main_v11_0 V) (ix5 c b n t d)).trans (h.queries c b n t d)
  · intro c b n t d
    exact (congrFun (Value.STEP_main_v11_1 V) (ix5 c b n t d)).trans (h.keys c b n t d)
  · intro c b n t d
    exact (congrFun (Value.STEP_main_v11_2 V) (ix5 c b n t d)).trans (h.values c b n t d)
  · intro c b n t d
    exact (congrFun (Value.STEP_main_v11_3 V) (ix5 c b n t d)).trans (h.decays c b n t d)
  · intro b n d e
    refine (congrFun ((Value.STEP_main_v11_6 V).trans (trip_state V)) (ix4 b n d e)).trans ?_
    exact next_apply _ _ _ _ b n (Arrays.tok k b.val n.val) (Arrays.tok v b.val n.val) (Arrays.ent s b.val n.val) (64 * j)
      (Arrays.tok f b.val n.val) (pk b n) (pv b n) (ps b n) (h.carried b n) d e
  · intro c hc b n t e
    refine (congrFun ((Value.STEP_main_v11_7 V).trans (trip_outs V)) (ix5 c b n t e)).trans ?_
    rw [put_apply _ _ _ ⟨j, hj⟩ hi]
    by_cases hcj : c.val = j
    · rw [if_pos hcj, hcj]
      exact outs_apply _ _ _ _ _ _ b n (Arrays.tok q b.val n.val) (Arrays.tok k b.val n.val) (Arrays.tok v b.val n.val) (Arrays.ent s b.val n.val) (64 * j)
        (Arrays.tok f b.val n.val) (pq b n) (pk b n) (pv b n) (ps b n) h.mask (h.carried b n) t e
    · rw [if_neg hcj]
      exact h.written c (by omega) b n t e

/-- It holds before every trip, and after the last. -/
theorem Before.iterate {V : Valuation τ sig (Elt Ideal)} (h : Before q f k v s 0 V) : ∀ j ≤ 32, Before q f k v s j (Value.STEP^[j] V)
  | 0, _ => h
  | j + 1, hj => by
    rw [Function.iterate_succ_apply']
    exact (Before.iterate h j (by omega)).step _ _ _ _ _ (by omega)

end Invariant

end Cert.Loop

end
-- ==== Proof.Entry.lean ====
module

public import proofs.«01_k».proof.Proof.Loop

/-! # Before the reference's loop

What the reference prepares: the four arrays of tokens cut into chunks, the mask of a square, the counter at zero and the state it is
given. -/

@[expose] public section

set_option maxRecDepth 16384

noncomputable section

namespace Cert.Loop

open Cert.ReferenceIdeal Cert.ReferenceIdeal.Gen Idealize.ShloMosaic Idealize.ShloMosaic.TcCoe Finset

/-- An array of tokens cut into chunks. -/
def cut (x : FVec Ideal S8x2048x16x128 .f32) : FVec Ideal S32x8x16x64x128 .f32 :=
  transpose S32x8x16x64x128 [1, 0, 3, 2, 4] (shapeCast S8x32x64x16x128 x shapeCasts_S8x2048x16x128_S8x32x64x16x128) transposes_S8x32x64x16x128_S32x8x16x64x128_1_0_3_2_4

/-- A place of a chunk is a place of the array. -/
theorem cut_apply (x : FVec Ideal S8x2048x16x128 .f32) (c : Fin 32) (b : Fin 8) (n : Fin 16) (t : Fin 64) (d : Fin 128) :
    cut x (ix5 c b n t d) = x (ix4 b ⟨64 * c.val + t.val, by omega⟩ n d) := by
  pointwise [cut]
  simp only [Nat.mul_comm]

variable (m : (ℓ : Loc nD τ sig) → Buf (Elt Ideal) ℓ) (c : Dev nD)

/-- The contents at the loop's entry. -/
abbrev entry : Valuation τ sig (Elt Ideal) := StableHlo.entryContents Value.preI m c

/-- The queries in chunks. -/
theorem entry_q : cq (entry m c) = cut (m ((c : Thread nD τ).loc main_arg0)) := by
  simp only [entry, cq, StableHlo.entryContents, StableHlo.afterL_cons, StableHlo.afterL_nil]
  after_reads_simp
  rfl

/-- The keys in chunks. -/
theorem entry_k : ck (entry m c) = cut (m ((c : Thread nD τ).loc main_arg2)) := by
  simp only [entry, ck, StableHlo.entryContents, StableHlo.afterL_cons, StableHlo.afterL_nil]
  after_reads_simp
  rfl

/-- The values in chunks. -/
theorem entry_v : cv (entry m c) = cut (m ((c : Thread nD τ).loc main_arg3)) := by
  simp only [entry, cv, StableHlo.entryContents, StableHlo.afterL_cons, StableHlo.afterL_nil]
  after_reads_simp
  rfl

/-- The log-decays in chunks. -/
theorem entry_f : cf (entry m c) = cut (m ((c : Thread nD τ).loc main_arg1)) := by
  simp only [entry, cf, StableHlo.entryContents, StableHlo.afterL_cons, StableHlo.afterL_nil]
  after_reads_simp
  rfl

/-- The state given. -/
theorem entry_s : cs (entry m c) = m ((c : Thread nD τ).loc main_arg6) := by
  simp only [entry, cs, StableHlo.entryContents, StableHlo.afterL_cons, StableHlo.afterL_nil]
  after_reads_simp
  rfl

/-- The lower triangle of a square. -/
def tril : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

/-- The mask is the lower triangle. -/
theorem entry_m : cm (entry m c) = tril := by
  simp only [entry, cm, StableHlo.entryContents, StableHlo.afterL_cons, StableHlo.afterL_nil]
  after_reads_simp
  rfl

/-- The lower triangle at a place. -/
theorem tril_apply (i j : Fin 64) : tril (ix2 i j) = BitVec.ofBool (decide (j.val ≤ i.val)) := by
  pointwise [tril]
  revert i j
  decide +kernel

/-- What holds before the first trip. -/
theorem before_entry (H : Arrays.Tame (m ((c : Thread nD τ).loc main_arg0)) (m ((c : Thread nD τ).loc main_arg1)) (m ((c : Thread nD τ).loc main_arg2))
      (m ((c : Thread nD τ).loc main_arg3)) (m ((c : Thread nD τ).loc main_arg6))) :
    Before (m ((c : Thread nD τ).loc main_arg0)) (m ((c : Thread nD τ).loc main_arg1)) (m ((c : Thread nD τ).loc main_arg2))
      (m ((c : Thread nD τ).loc main_arg3)) (m ((c : Thread nD τ).loc main_arg6)) 0 (entry m c) where
  counter := congrFun (Value.ctr_entry m c) _
  mask i j := (congrFun (entry_m m c) _).trans (tril_apply i j)
  queries c' b n t d := (congrFun (entry_q m c) _).trans ((cut_apply _ c' b n t d).trans (Arrays.tok_coe _ H.q b _ n d))
  keys c' b n t d := (congrFun (entry_k m c) _).trans ((cut_apply _ c' b n t d).trans (Arrays.tok_coe _ H.k b _ n d))
  values c' b n t d := (congrFun (entry_v m c) _).trans ((cut_apply _ c' b n t d).trans (Arrays.tok_coe _ H.v b _ n d))
  decays c' b n t d := (congrFun (entry_f m c) _).trans ((cut_apply _ c' b n t d).trans (Arrays.tok_coe _ H.lf b _ n d))
  carried b n d e := (congrFun (entry_s m c) _).trans (Arrays.ent_coe _ H.s b n d e)
  written c' h := absurd h (Nat.not_lt_zero _)

end Cert.Loop

end
-- ==== Proof.Result.lean ====
module

public import proofs.«01_k».proof.Proof.Entry
public import proofs.«01_k».proof.Proof.Point

/-! # The reference's results

After the loop the outputs are put back in the order of the tokens, normed by the row's mean square, and gated. -/

@[expose] public section

set_option maxRecDepth 16384

noncomputable section

namespace Cert.Loop

open Cert.ReferenceIdeal Cert.ReferenceIdeal.Gen Idealize.ShloMosaic Idealize.ShloMosaic.TcCoe Finset

/-- The chunks put back in the order of the tokens. -/
def glue (O : FVec Ideal S32x8x16x64x128 .f32) : FVec Ideal S8x2048x16x128 .f32 :=
  shapeCast S8x2048x16x128 (transpose S8x32x64x16x128 [1, 0, 3, 2, 4] O transposes_S32x8x16x64x128_S8x32x64x16x128_1_0_3_2_4) shapeCasts_S8x32x64x16x128_S8x2048x16x128

/-- The mean squares' reciprocal roots. -/
def scale (o : FVec Ideal S8x2048x16x128 .f32) : FVec Ideal S8x2048x16x1 .f32 :=
  Host.rsqrt (addf (Host.divf (broadcastInDim S8x2048x16x1 ![0, 1, 2] bcast_S8x2048x16_S8x2048x16x1_0_1_2 (Host.reduceAdd (mulf o o) (constant S_ .f32 0x00000000#32) reducesTo_S8x2048x16x128_S8x2048x16_d3 h_S_)) (broadcastInDim S8x2048x16x1 ![] bcast_S_S8x2048x16x1 (constant S_ .f32 0x43000000#32))) (broadcastInDim S8x2048x16x1 ![] bcast_S_S8x2048x16x1 (constant S_ .f32 0x358637BD#32)))

/-- The rows normed and gated. -/
def gated (o : FVec Ideal S8x2048x16x128 .f32) (w : FVec Ideal S128 .f32) (g : FVec Ideal S8x2048x2048 .f32) : FVec Ideal S8x2048x2048 .bf16 :=
  truncf .bf16 (mulf (shapeCast S8x2048x2048 (mulf (mulf o (broadcastInDim S8x2048x16x128 ![0, 1, 2, 3] bcast_S8x2048x16x1_S8x2048x16x128_0_1_2_3 (scale o))) (broadcastInDim S8x2048x16x128 ![0, 1, 2, 3] bcast_S1x1x1x128_S8x2048x16x128_0_1_2_3 (broadcastInDim S1x1x1x128 ![3] bcast_S128_S1x1x1x128_3 w))) shapeCasts_S8x2048x16x128_S8x2048x2048) g) bitsLt_bf16_f32

/-- The first result is the glued outputs, normed and gated. -/
theorem out_eq (V : Valuation τ sig (Elt Ideal)) : Value.out_main_v29 V
    = gated (glue (co V)) (V (Proc.devRef .tc main_arg5)) (V (Proc.devRef .tc main_arg4)) := by
  sl_kernel_rfl

/-- A token's place in its chunk. -/
theorem glue_apply (O : FVec Ideal S32x8x16x64x128 .f32) (b : Fin 8) (t : Fin 2048) (n : Fin 16) (d : Fin 128) :
    glue O (ix4 b t n d) = O (ix5 ⟨t.val / 64, by omega⟩ b n ⟨t.val % 64, by omega⟩ d) := by
  pointwise [glue]

/-- The scale of a row. -/
theorem scale_apply (o : FVec Ideal S8x2048x16x128 .f32) (b : Fin 8) (t : Fin 2048) (n : Fin 16) :
    scale o (ix4 b t n 0) = FloatOps.rsqrt (F := Ideal) (φ := .f32) (FloatOps.divf (F := Ideal) (φ := .f32) (∑ d : Fin 128, o (ix4 b t n d) * o (ix4 b t n d)) (Scalar.ofBits (F := Ideal) .f32 0x43000000#32)
      + Scalar.ofBits (F := Ideal) .f32 0x358637BD#32) := by
  unfold scale
  have hs : ∀ x : FVec Ideal S8x2048x16x128 .f32, Host.reduceAdd x (constant S_ .f32 0x00000000#32) reducesTo_S8x2048x16x128_S8x2048x16_d3 h_S_ (ix3 b t n) = ∑ d : Fin 128, x (ix4 b t n d) := by
    intro x
    pointwise
  have h := hs (mulf o o)
  generalize Host.reduceAdd (mulf o o) (constant S_ .f32 0x00000000#32) reducesTo_S8x2048x16x128_S8x2048x16_d3 h_S_ = X at h ⊢
  have e : broadcastInDim S8x2048x16x1 ![0, 1, 2] bcast_S8x2048x16_S8x2048x16x1_0_1_2 X (ix4 b t n 0) = X (ix3 b t n) := by
    pointwise
  rw [h] at e
  generalize broadcastInDim S8x2048x16x1 ![0, 1, 2] bcast_S8x2048x16_S8x2048x16x1_0_1_2 X = Y at e ⊢
  show FloatOps.rsqrt (F := Ideal) (φ := .f32) (FloatOps.divf (F := Ideal) (φ := .f32) (Y (ix4 b t n 0)) (Scalar.ofBits (F := Ideal) .f32 0x43000000#32)
      + Scalar.ofBits (F := Ideal) .f32 0x358637BD#32) = _
  rw [e]
  rfl

/-- The rows normed and gated, at a place. -/
theorem gated_apply (o : FVec Ideal S8x2048x16x128 .f32) (w : FVec Ideal S128 .f32) (g : FVec Ideal S8x2048x2048 .f32)
    (b : Fin 8) (t : Fin 2048) (n : ℕ) (hn : n < 16) (e : Fin 128) :
    gated o w g (ix3 b t ⟨128 * n + e.val, by omega⟩)
      = Head.rms (fun e => o (ix4 b t ⟨n, hn⟩ e)) (w (ix1 e)) (g (ix3 b t ⟨128 * n + e.val, by omega⟩)) e := by
  unfold gated Head.rms
  rw [← scale_apply o b t ⟨n, hn⟩]
  generalize scale o = Z
  have e1 : (128 * n + e.val) / 128 = n := by omega
  have e2 : (128 * n + e.val) % 128 = e.val := by omega
  pointwise
  simp only [e1, e2]

variable (m : (ℓ : Loc nD τ sig) → Buf (Elt Ideal) ℓ) (c : Dev nD)

section Claims

variable (H : Arrays.Tame (m ((c : Thread nD τ).loc main_arg0)) (m ((c : Thread nD τ).loc main_arg1)) (m ((c : Thread nD τ).loc main_arg2))
      (m ((c : Thread nD τ).loc main_arg3)) (m ((c : Thread nD τ).loc main_arg6)))

include H

/-- The reference's first result at a place. -/
theorem result_out (b : Fin 8) (t : Fin 2048) (n : ℕ) (hn : n < 16) (e : Fin 128) :
    Value.out_main_v29 (Value.STEP^[32] (entry m c)) (ix3 b t ⟨128 * n + e.val, by omega⟩)
      = Head.rms (fun e => ((Arrays.out (m ((c : Thread nD τ).loc main_arg0)) (m ((c : Thread nD τ).loc main_arg1)) (m ((c : Thread nD τ).loc main_arg2))
          (m ((c : Thread nD τ).loc main_arg3)) (m ((c : Thread nD τ).loc main_arg6)) b.val n t.val e.val : ℝ) : EReal))
        (m ((c : Thread nD τ).loc main_arg5) (ix1 e)) (m ((c : Thread nD τ).loc main_arg4) (ix3 b t ⟨128 * n + e.val, by omega⟩)) e := by
  have h := (before_entry m c H).iterate _ _ _ _ _ 32 le_rfl
  have e4 := Value.iter_main_arg4 (F := Ideal) m c 32
  have e5 := Value.iter_main_arg5 (F := Ideal) m c 32
  generalize hV : Value.STEP^[32] (entry m c) = V at h ⊢
  rw [hV] at e4 e5
  refine (congrFun (out_eq V) _).trans ((gated_apply _ _ _ b t n hn e).trans ?_)
  have ho : (fun e : Fin 128 => glue (co V) (ix4 b t ⟨n, hn⟩ e)) = fun e : Fin 128 => ((Arrays.out (m ((c : Thread nD τ).loc main_arg0)) (m ((c : Thread nD τ).loc main_arg1)) (m ((c : Thread nD τ).loc main_arg2))
          (m ((c : Thread nD τ).loc main_arg3)) (m ((c : Thread nD τ).loc main_arg6)) b.val n t.val e.val : ℝ) : EReal) := by
    funext e
    rw [glue_apply, h.written ⟨t.val / 64, by omega⟩ (by show t.val / 64 < 32; omega)]
    show ((Arrays.out _ _ _ _ _ b.val n (64 * (t.val / 64) + t.val % 64) e.val : ℝ) : EReal) = _
    rw [Nat.div_add_mod]
  rw [ho, e4, e5]

/-- The reference's second result at a place. -/
theorem result_state (b : Fin 8) (n : Fin 16) (d e : Fin 128) :
    cs (Value.STEP^[32] (entry m c)) (ix4 b n d e)
      = ((Arrays.state (m ((c : Thread nD τ).loc main_arg1)) (m ((c : Thread nD τ).loc main_arg2))
          (m ((c : Thread nD τ).loc main_arg3)) (m ((c : Thread nD τ).loc main_arg6)) b.val n.val 2048 d.val e.val : ℝ) : EReal) :=
  ((before_entry m c H).iterate _ _ _ _ _ 32 le_rfl).carried b n d e

end Claims

end Cert.Loop

end
-- ==== Proof.Normed.lean ====
module

public import Idealize.ShloMosaic.Lib.Pointwise

/-! # A row over the root of its mean square

The norm that stands before and after each layer's mixers, of one row of 1024 entries. -/

@[expose] public section

noncomputable section

namespace Cert.Normed

open Idealize.ShloMosaic

/-- An entry of a row of 1024 over the root of the row's mean square, by a gain. -/
def normed (y : Fin 1024 → EReal) (gain : EReal) (j : Fin 1024) : EReal :=
  y j * FloatOps.rsqrt (F := Ideal) (φ := .f32) (FloatOps.divf (F := Ideal) (φ := .f32) (∑ k, y k * y k) (Scalar.ofBits (F := Ideal) .f32 0x44800000#32)
    + Scalar.ofBits (F := Ideal) .f32 0x358637BD#32) * gain

/-- An entry of a layer's result: the residual and the normed row of the output projection. -/
def joined (res : EReal) (y : Fin 1024 → EReal) (gain : EReal) (j : Fin 1024) : EReal := res + normed y gain j

/-- A place of an array of flat rows: its row is a token of a sequence. -/
theorem flat_split {d : ℕ} (i : (⟨2, ![16384, d]⟩ : Shape).Idx) :
    ∃ (b : Fin 8) (s : Fin 2048) (j : Fin d), i = ix2 ⟨2048 * b.val + s.val, by omega⟩ j := by
  have h : (i 0).val < 16384 := (i 0).isLt
  refine ⟨⟨(i 0).val / 2048, by omega⟩, ⟨(i 0).val % 2048, by omega⟩, i 1, (eq_ix2 i).trans (congrArg (ix2 · (i 1)) (Fin.ext ?_))⟩
  show (i 0).val = 2048 * ((i 0).val / 2048) + (i 0).val % 2048
  omega

end Cert.Normed

end
-- ==== Proof.Gates.lean ====
module

public import Idealize.ShloMosaic.Lib.Pointwise

/-! # The gates of the odd layer, of one channel

A channel's lower bound is its share of a softmax over the two layers; the forget gate lies between it and one. -/

@[expose] public section

noncomputable section

namespace Cert.Gates

open Idealize.ShloMosaic

/-- The larger of a channel's two weights. -/
def peak (l : Fin 2 → EReal) : EReal := Finset.fold max (Ideal.ofBits FTy.f32 0xFF800000#32) l Finset.univ

/-- A layer's share of a channel: its exponential over the sum of both. -/
def share (l : Fin 2 → EReal) (k : Fin 2) : EReal := Ideal.div (Ideal.exp (l k - peak l)) (∑ x, Ideal.exp (l x - peak l))

/-- A value by its logistic. -/
def silu (z : EReal) : EReal := z * Ideal.logistic z

/-- A forget gate above its lower bound. -/
def forget (lb z : EReal) : EReal := lb + (Ideal.ofBits FTy.f32 0x3F800000#32 - lb) * Ideal.logistic z

/-- The larger of the two, as a maximum. -/
theorem peak_eq (l : Fin 2 → EReal) : peak l = max (l 0) (l 1) := by
  have h : (Ideal.ofBits FTy.f32 0xFF800000#32 : EReal) = ⊥ := by simp [Ideal.ofBits, Ideal.ieee]
  unfold peak
  rw [h]
  show Finset.fold max ⊥ l (Finset.univ : Finset (Fin 2)) = _
  rw [show (Finset.univ : Finset (Fin 2)) = {0, 1} from rfl]
  simp

/-- The exponential of what lies at most as high as the peak is a real that is at least zero. -/
theorem exp_real (a M : EReal) (h : a ≤ M) : ∃ r : ℝ, 0 ≤ r ∧ Ideal.exp (a - M) = (r : EReal) := by
  induction a with
  | bot => exact ⟨0, le_rfl, by rw [EReal.bot_sub]; rfl⟩
  | top =>
    rw [top_le_iff] at h
    subst h
    exact ⟨0, le_rfl, by rw [show ((⊤ : EReal) - ⊤) = ⊥ from rfl]; rfl⟩
  | coe a =>
    induction M with
    | bot => exact absurd h (by simp)
    | top => exact ⟨0, le_rfl, by rw [show ((a : EReal) - ⊤) = ⊥ from rfl]; rfl⟩
    | coe M => exact ⟨Real.exp (a - M), (Real.exp_pos _).le, rfl⟩

/-- Adding the first share and taking it off again leaves the second: the first is a real, or both are the least value. -/
theorem share_cancel (l : Fin 2 → EReal) : share l 0 + share l 1 - share l 0 = share l 1 := by
  have e := peak_eq l
  obtain ⟨r, hr, er⟩ := exp_real (l 0) (peak l) (e ▸ le_max_left _ _)
  obtain ⟨q, hq, eq⟩ := exp_real (l 1) (peak l) (e ▸ le_max_right _ _)
  have hs : (∑ x, Ideal.exp (l x - peak l)) = ((r + q : ℝ) : EReal) := by
    rw [Fin.sum_univ_two, er, eq, EReal.coe_add]
  unfold share
  rw [hs, er, eq]
  by_cases h : r + q = 0
  · have h0 : r = 0 := by linarith
    have h1 : q = 0 := by linarith
    subst h0 h1
    simp [Ideal.div]
  · have hz : ((r + q : ℝ) : EReal) ≠ 0 := by exact_mod_cast h
    have hx : ∀ x : ℝ, Ideal.div (x : EReal) ((r + q : ℝ) : EReal) = ((x * (r + q)⁻¹ : ℝ) : EReal) := fun x => by
      rw [Ideal.div, if_neg hz, ← EReal.coe_inv, ← EReal.coe_mul]
    rw [hx, hx, ← EReal.coe_add, ← EReal.coe_sub]
    congr 1
    ring

end Cert.Gates

end
-- ==== Proof.OddKernel.lean ====
module

public import proofs.«01_k».proof.Proof.Normed
public import proofs.«01_k».proof.Proof.Gates
public import proofs.«01_k».proof.Proof.Gen.Kernel2Ideal.Value
public import Idealize.ShloMosaic.Lib.Pipeline.ValueKit
public import Idealize.ShloMosaic.Lib.ViewIndex

/-! # The odd layer's input projection, by blocks of 256 rows

Each grid point norms 256 rows, multiplies them by the four parts of the weights, and forms the queries, the log-forgets, the keys,
the values and the gate. -/

@[expose] public section

set_option maxRecDepth 16384

noncomputable section

namespace Cert.InOdd

open Cert.Kernel2Ideal Cert.Kernel2Ideal.Gen Idealize.ShloMosaic Idealize.ShloMosaic.TcCoe Cert.Normed Cert.Gates
open Idealize.ShloMosaic.Pipeline (Dat)

/-- A normed row of a block. -/
theorem normed_apply (x0 : Vec Ideal S256x1024 .f32) (x1 : Vec Ideal S1x1024 .f32) (r : Fin 256) (k : Fin 1024) :
    k0_pay6 x0 x1 (ix2 r k) = normed (fun k => x0 (ix2 r k)) (x1 (ix2 0 k)) k := by
  pointwise [k0_pay6]
  rfl

/-- The channels' lower bounds. -/
theorem lower_apply (x3 : Vec Ideal S2x2048 .f32) (j : Fin 2048) : k0_pay7 x3 (ix2 0 j) = share (fun x => x3 (ix2 x j)) 1 := by
  pointwise [k0_pay7]
  exact Fin.sum_univ_one _

/-- One less the lower bounds. -/
theorem upper_apply (x3 : Vec Ideal S2x2048 .f32) (j : Fin 2048) :
    k0_pay9 x3 (ix2 0 j) = Ideal.ofBits FTy.f32 0x3F800000#32 - share (fun x => x3 (ix2 x j)) 1 := by
  unfold k0_pay9
  rw [← lower_apply]
  generalize k0_pay7 x3 = l
  pointwise []

/-- The queries of a block, from its normed rows. -/
theorem query_apply (x0 : Vec Ideal S256x1024 .f32) (x1 : Vec Ideal S1x1024 .f32) (w : Vec Ideal S1024x2048 .bf16) (r : Fin 256) (j : Fin 2048) :
    k0_pay8 x0 x1 w (ix2 r j) = silu (∑ k, normed (fun k => x0 (ix2 r k)) (x1 (ix2 0 k)) k * w (ix2 k j)) := by
  simp only [← normed_apply]
  unfold k0_pay8
  generalize k0_pay6 x0 x1 = h
  pointwise []
  rfl

/-- The forget gates of a block. -/
theorem forget_apply (h : FVec Ideal S256x1024 .bf16) (lb up : FVec Ideal S1x2048 .f32) (w : Vec Ideal S1024x2048 .bf16) (r : Fin 256) (j : Fin 2048) :
    k0_pay1 h lb up w (ix2 r j) = lb (ix2 0 j) + up (ix2 0 j) * Ideal.logistic (∑ k, h (ix2 r k) * w (ix2 k j)) := by
  pointwise [k0_pay1]

/-- The values of a block. -/
theorem value_apply (h : FVec Ideal S256x1024 .bf16) (w : Vec Ideal S1024x2048 .bf16) (r : Fin 256) (j : Fin 2048) :
    k0_pay4 h w (ix2 r j) = ∑ k, h (ix2 r k) * w (ix2 k j) := by
  pointwise [k0_pay4]

/-- The gates of a block. -/
theorem gate_apply (h : FVec Ideal S256x1024 .bf16) (w : Vec Ideal S1024x2048 .bf16) (r : Fin 256) (j : Fin 2048) :
    k0_pay5 h w (ix2 r j) = silu (∑ k, h (ix2 r k) * w (ix2 k j)) := by
  pointwise [k0_pay5]
  rfl

/-- The log-forgets of a block. -/
theorem log_apply (h : FVec Ideal S256x1024 .bf16) (lb up : FVec Ideal S1x2048 .f32) (w : Vec Ideal S1024x2048 .bf16) (r : Fin 256) (j : Fin 2048) :
    k0_pay2 h lb up w (ix2 r j) = Ideal.log (k0_pay1 h lb up w (ix2 r j)) := by
  unfold k0_pay2
  generalize k0_pay1 h lb up w = f
  pointwise []

/-- The keys of a block. -/
theorem key_apply (h : FVec Ideal S256x1024 .bf16) (lb up : FVec Ideal S1x2048 .f32) (w : Vec Ideal S1024x2048 .bf16) (r : Fin 256) (j : Fin 2048) :
    k0_pay3 h lb up w (ix2 r j) = Ideal.ofBits FTy.f32 0x3F800000#32 - k0_pay1 h lb up w (ix2 r j) := by
  unfold k0_pay3
  generalize k0_pay1 h lb up w = f
  pointwise []

/-- The corner of a block. -/
theorem origin : (![0, 0] : Fin 2 → Nat) = fun _ => 0 := funext fun a => by fin_cases a <;> rfl

/-- A projection of a block's normed row: channel `n`. -/
def lin (x0 : Vec Ideal S256x1024 .f32) (x1 : Vec Ideal S1x1024 .f32) (x2 : Vec Ideal S1024x8192 .bf16) (r : Fin 256) (n : Fin 8192) : EReal :=
  ∑ k, normed (fun k => x0 (ix2 r k)) (x1 (ix2 0 k)) k * x2 (ix2 k n)

section Out

variable (x0 : Vec Ideal S256x1024 .f32) (x1 : Vec Ideal S1x1024 .f32) (x2 : Vec Ideal S1024x8192 .bf16) (x3 : Vec Ideal S2x2048 .f32)
  (r : Fin 256) (j : Fin 2048)

/-- The queries that a point leaves. -/
theorem out4 : out0_4 x0 x1 x2 x3 (ix2 r j) = silu (lin x0 x1 x2 r ⟨j.val, by omega⟩) := by
  unfold out0_4
  rw [View.canon_unit_zero origin, View.ld_unit_zero origin, View.ld_unit_zero origin]
  refine (query_apply x0 x1 _ r j).trans (congrArg silu (Finset.sum_congr rfl fun k _ => congrArg (normed (fun k => x0 (ix2 r k)) (x1 (ix2 0 k)) k * ·) ?_))
  pointwise []

/-- The projection of the normed rows by a part of the weights. -/
theorem part_apply (w : Vec Ideal S1024x2048 .bf16) (n : Fin 8192) (hw : ∀ k, w (ix2 k j) = x2 (ix2 k n)) :
    ∑ k, k0_pay10 x0 x1 x2 x3 (ix2 r k) * w (ix2 k j) = lin x0 x1 x2 r n := by
  refine Finset.sum_congr rfl fun k _ => congrArg₂ (· * ·) ?_ (hw k)
  unfold k0_pay10
  rw [View.ld_unit_zero origin, View.ld_unit_zero origin]
  exact normed_apply x0 x1 r k

/-- The forget gates of a point. -/
theorem gate_forget : k0_pay1 (k0_pay10 x0 x1 x2 x3) (k0_pay11 x0 x1 x2 x3) (k0_pay12 x0 x1 x2 x3) (View.ld x2 r0_5) (ix2 r j)
    = forget (share (fun x => x3 (ix2 x j)) 1) (lin x0 x1 x2 r ⟨2048 + j.val, by omega⟩) := by
  refine (forget_apply _ _ _ _ r j).trans ?_
  rw [part_apply x0 x1 x2 x3 r j _ ⟨2048 + j.val, by omega⟩ (fun k => by pointwise [])]
  unfold k0_pay11 k0_pay12
  rw [View.ld_unit_zero origin, lower_apply, upper_apply]
  rfl

/-- The log-forgets that a point leaves. -/
theorem out5 : out0_5 x0 x1 x2 x3 (ix2 r j) = Ideal.log (forget (share (fun x => x3 (ix2 x j)) 1) (lin x0 x1 x2 r ⟨2048 + j.val, by omega⟩)) := by
  unfold out0_5
  rw [View.canon_unit_zero origin]
  exact (log_apply _ _ _ _ r j).trans (congrArg Ideal.log (gate_forget x0 x1 x2 x3 r j))

/-- The keys that a point leaves. -/
theorem out6 : out0_6 x0 x1 x2 x3 (ix2 r j)
    = Ideal.ofBits FTy.f32 0x3F800000#32 - forget (share (fun x => x3 (ix2 x j)) 1) (lin x0 x1 x2 r ⟨2048 + j.val, by omega⟩) := by
  unfold out0_6
  rw [View.canon_unit_zero origin]
  exact (key_apply _ _ _ _ r j).trans (congrArg (Ideal.ofBits FTy.f32 0x3F800000#32 - ·) (gate_forget x0 x1 x2 x3 r j))

/-- The values that a point leaves. -/
theorem out7 : out0_7 x0 x1 x2 x3 (ix2 r j) = lin x0 x1 x2 r ⟨4096 + j.val, by omega⟩ := by
  unfold out0_7
  rw [View.canon_unit_zero origin]
  exact (value_apply _ _ r j).trans (part_apply x0 x1 x2 x3 r j _ ⟨4096 + j.val, by omega⟩ (fun k => by pointwise []))

/-- The gate that a point leaves. -/
theorem out8 : out0_8 x0 x1 x2 x3 (ix2 r j) = silu (lin x0 x1 x2 r ⟨6144 + j.val, by omega⟩) := by
  unfold out0_8
  rw [View.canon_unit_zero origin]
  exact (gate_apply _ _ r j).trans (congrArg silu (part_apply x0 x1 x2 x3 r j _ ⟨6144 + j.val, by omega⟩ (fun k => by pointwise [])))

end Out

/-! ## The blocks that a point reads -/

variable (m : (ℓ : Loc nD τ sig) → Buf (Elt Ideal) ℓ) (c : Dev nD)

/-- The layer's input, as launched. -/
def input : S8x2048x1024.Idx → EReal := m ((c : Thread nD τ).loc main_arg0)
/-- The norm's gain, as launched. -/
def gain : S1024.Idx → EReal := m ((c : Thread nD τ).loc main_arg1)
/-- The weights, as launched. -/
def weight : S1024x8192.Idx → EReal := m ((c : Thread nD τ).loc main_arg2)
/-- What the lower bounds are shares of, as launched. -/
def layers : S2x2048.Idx → EReal := m ((c : Thread nD τ).loc main_arg3)

/-- The block that each window reads or writes at a point. -/
theorem idx_facts : ∀ t : Fin cfg0.N,
    (win0_0.index t = ![t.val, 0] ∧ win0_1.index t = ![0, 0] ∧ win0_2.index t = ![0, 0] ∧ win0_3.index t = ![0, 0]) ∧
      win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- The input's rows of a point. -/
theorem blk0 (t : Fin cfg0.N) (b : Fin 8) (s : Fin 2048) (r : Fin 256) (k : Fin 1024) (h : 2048 * b.val + s.val = 256 * t.val + r.val) :
    (iblk m c 0 t : Vec Ideal S256x1024 .f32) (ix2 r k) = input m c (ix3 b s k) := by
  have e := (idx_facts t).1.1
  have e1 : ((cfg0.win 0).blk t).view.emb (ix2 r k : S256x1024.Idx) = (ix2 ⟨2048 * b.val + s.val, by omega⟩ k : S16384x1024.Idx) := by
    blk_ext [e]
  unfold iblk
  rw [View.read_apply]
  refine (congrArg (V m c main_v0) e1).trans ?_
  entry_read
  pointwise []
  rfl

/-- The norm's gain. -/
theorem blk1 (t : Fin cfg0.N) (k : Fin 1024) : (iblk m c 1 t : Vec Ideal S1x1024 .f32) (ix2 0 k) = gain m c (ix1 k) := by
  have e := (idx_facts t).1.2.1
  have e1 : ((cfg0.win 1).blk t).view.emb (ix2 0 k : S1x1024.Idx) = (ix2 0 k : S1x1024.Idx) := by
    blk_ext [e]
  unfold iblk
  rw [View.read_apply]
  refine (congrArg (V m c main_v2) e1).trans ?_
  entry_read
  pointwise []
  rfl

/-- The weights. -/
theorem blk2 (t : Fin cfg0.N) (k : Fin 1024) (n : Fin 8192) :
    (iblk m c 2 t : Vec Ideal S1024x8192 .bf16) (ix2 k n) = weight m c (ix2 k n) := by
  have e := (idx_facts t).1.2.2.1
  have e1 : ((cfg0.win 2).blk t).view.emb (ix2 k n : S1024x8192.Idx) = (ix2 k n : S1024x8192.Idx) := by
    blk_ext [e]
  unfold iblk
  rw [View.read_apply]
  refine (congrArg (V m c main_v1) e1).trans ?_
  entry_read
  pointwise []
  rfl

/-- What the lower bounds are shares of. -/
theorem blk3 (t : Fin cfg0.N) (x : Fin 2) (j : Fin 2048) :
    (iblk m c 3 t : Vec Ideal S2x2048 .f32) (ix2 x j) = layers m c (ix2 x j) := by
  have e := (idx_facts t).1.2.2.2
  have e1 : ((cfg0.win 3).blk t).view.emb (ix2 x j : S2x2048.Idx) = (ix2 x j : S2x2048.Idx) := by
    blk_ext [e]
  unfold iblk
  rw [View.read_apply]
  refine (congrArg (V m c main_arg3) e1).trans ?_
  entry_read
  rfl

/-- The projection of a normed token: channel `n`. -/
def proj (b : Fin 8) (s : Fin 2048) (n : Fin 8192) : EReal :=
  ∑ k, normed (fun k => input m c (ix3 b s k)) (gain m c (ix1 k)) k * weight m c (ix2 k n)

/-- A channel's lower bound. -/
def bound (j : Fin 2048) : EReal := share (fun x => layers m c (ix2 x j)) 1

/-- A point's projections are its tokens'. -/
theorem lin_blk (t : Fin cfg0.N) (b : Fin 8) (s : Fin 2048) (r : Fin 256) (n : Fin 8192) (h : 2048 * b.val + s.val = 256 * t.val + r.val) :
    lin (iblk m c 0 t) (iblk m c 1 t) (iblk m c 2 t) r n = proj m c b s n := by
  unfold lin proj
  simp only [blk0 m c t b s r _ h, blk1, blk2]

/-- A point's lower bounds. -/
theorem bound_blk (t : Fin cfg0.N) (j : Fin 2048) :
    share (fun x => (iblk m c 3 t : Vec Ideal S2x2048 .f32) (ix2 x j)) 1 = bound m c j := by
  unfold bound
  simp only [blk3]

/-- A flat row is a row of a point. -/
theorem row_split (b : Fin 8) (s : Fin 2048) : ∃ (t : Fin cfg0.N) (r : Fin 256), 2048 * b.val + s.val = 256 * t.val + r.val := by
  have hN : cfg0.N = 64 := by decide
  refine ⟨⟨(2048 * b.val + s.val) / 256, by omega⟩, ⟨(2048 * b.val + s.val) % 256, by omega⟩, ?_⟩
  show _ = 256 * ((2048 * b.val + s.val) / 256) + (2048 * b.val + s.val) % 256
  omega

/-! ## The results at a place: token `s` of sequence `b`, channel `j` -/

/-- The queries. -/
theorem result4 (b : Fin 8) (s j : Fin 2048) :
    ((dats m 0 c).arrAt 4 cfg0.N : S16384x2048.Idx → EReal) (ix2 ⟨2048 * b.val + s.val, by omega⟩ j) = silu (proj m c b s ⟨j.val, by omega⟩) := by
  obtain ⟨t, r, h⟩ := row_split b s
  have e := (idx_facts t).2.1
  have e1 : ((cfg0.win 4).blk t).view.emb (ix2 r j : S256x2048.Idx) = (ix2 ⟨2048 * b.val + s.val, by omega⟩ j : S16384x2048.Idx) := by
    blk_ext [e]
  have g := (dats m 0 c).arrAt_emb_eq_flushed 4 (Value.disjoint4) t (flush0_4 t) (ix2 r j : S256x2048.Idx)
  rw [e1] at g
  refine (g.trans (eq_of_heq (cast_heq _ _))).trans ((congrFun (Value.flushed4 m c t) _).trans ?_)
  refine (out4 (iblk m c 0 t) (iblk m c 1 t) (iblk m c 2 t) (iblk m c 3 t) r j).trans ?_
  rw [lin_blk m c t b s r _ h]

/-- The log-forgets. -/
theorem result5 (b : Fin 8) (s j : Fin 2048) :
    ((dats m 0 c).arrAt 5 cfg0.N : S16384x2048.Idx → EReal) (ix2 ⟨2048 * b.val + s.val, by omega⟩ j)
      = Ideal.log (forget (bound m c j) (proj m c b s ⟨2048 + j.val, by omega⟩)) := by
  obtain ⟨t, r, h⟩ := row_split b s
  have e := (idx_facts t).2.2.1
  have e1 : ((cfg0.win 5).blk t).view.emb (ix2 r j : S256x2048.Idx) = (ix2 ⟨2048 * b.val + s.val, by omega⟩ j : S16384x2048.Idx) := by
    blk_ext [e]
  have g := (dats m 0 c).arrAt_emb_eq_flushed 5 (Value.disjoint5) t (flush0_5 t) (ix2 r j : S256x2048.Idx)
  rw [e1] at g
  refine (g.trans (eq_of_heq (cast_heq _ _))).trans ((congrFun (Value.flushed5 m c t) _).trans ?_)
  refine (out5 (iblk m c 0 t) (iblk m c 1 t) (iblk m c 2 t) (iblk m c 3 t) r j).trans ?_
  rw [lin_blk m c t b s r _ h, bound_blk]

/-- The keys. -/
theorem result6 (b : Fin 8) (s j : Fin 2048) :
    ((dats m 0 c).arrAt 6 cfg0.N : S16384x2048.Idx → EReal) (ix2 ⟨2048 * b.val + s.val, by omega⟩ j)
      = Ideal.ofBits FTy.f32 0x3F800000#32 - forget (bound m c j) (proj m c b s ⟨2048 + j.val, by omega⟩) := by
  obtain ⟨t, r, h⟩ := row_split b s
  have e := (idx_facts t).2.2.2.1
  have e1 : ((cfg0.win 6).blk t).view.emb (ix2 r j : S256x2048.Idx) = (ix2 ⟨2048 * b.val + s.val, by omega⟩ j : S16384x2048.Idx) := by
    blk_ext [e]
  have g := (dats m 0 c).arrAt_emb_eq_flushed 6 (Value.disjoint6) t (flush0_6 t) (ix2 r j : S256x2048.Idx)
  rw [e1] at g
  refine (g.trans (eq_of_heq (cast_heq _ _))).trans ((congrFun (Value.flushed6 m c t) _).trans ?_)
  refine (out6 (iblk m c 0 t) (iblk m c 1 t) (iblk m c 2 t) (iblk m c 3 t) r j).trans ?_
  rw [lin_blk m c t b s r _ h, bound_blk]

/-- The values. -/
theorem result7 (b : Fin 8) (s j : Fin 2048) :
    ((dats m 0 c).arrAt 7 cfg0.N : S16384x2048.Idx → EReal) (ix2 ⟨2048 * b.val + s.val, by omega⟩ j) = proj m c b s ⟨4096 + j.val, by omega⟩ := by
  obtain ⟨t, r, h⟩ := row_split b s
  have e := (idx_facts t).2.2.2.2.1
  have e1 : ((cfg0.win 7).blk t).view.emb (ix2 r j : S256x2048.Idx) = (ix2 ⟨2048 * b.val + s.val, by omega⟩ j : S16384x2048.Idx) := by
    blk_ext [e]
  have g := (dats m 0 c).arrAt_emb_eq_flushed 7 (Value.disjoint7) t (flush0_7 t) (ix2 r j : S256x2048.Idx)
  rw [e1] at g
  refine (g.trans (eq_of_heq (cast_heq _ _))).trans ((congrFun (Value.flushed7 m c t) _).trans ?_)
  refine (out7 (iblk m c 0 t) (iblk m c 1 t) (iblk m c 2 t) (iblk m c 3 t) r j).trans ?_
  rw [lin_blk m c t b s r _ h]

/-- The gate. -/
theorem result8 (b : Fin 8) (s j : Fin 2048) :
    ((dats m 0 c).arrAt 8 cfg0.N : S16384x2048.Idx → EReal) (ix2 ⟨2048 * b.val + s.val, by omega⟩ j) = silu (proj m c b s ⟨6144 + j.val, by omega⟩) := by
  obtain ⟨t, r, h⟩ := row_split b s
  have e := (idx_facts t).2.2.2.2.2
  have e1 : ((cfg0.win 8).blk t).view.emb (ix2 r j : S256x2048.Idx) = (ix2 ⟨2048 * b.val + s.val, by omega⟩ j : S16384x2048.Idx) := by
    blk_ext [e]
  have g := (dats m 0 c).arrAt_emb_eq_flushed 8 (Value.disjoint8) t (flush0_8 t) (ix2 r j : S256x2048.Idx)
  rw [e1] at g
  refine (g.trans (eq_of_heq (cast_heq _ _))).trans ((congrFun (Value.flushed8 m c t) _).trans ?_)
  refine (out8 (iblk m c 0 t) (iblk m c 1 t) (iblk m c 2 t) (iblk m c 3 t) r j).trans ?_
  rw [lin_blk m c t b s r _ h]

end Cert.InOdd

end
-- ==== Proof.OddReference.lean ====
module

public import proofs.«01_k».proof.Defs
public import proofs.«01_k».proof.Proof.Prefix
public import proofs.«01_k».proof.Proof.OddKernel
public import proofs.«01_k».proof.Proof.Gen.Reference2Ideal.Run

/-! # The odd layer's input projection in the reference, at a place -/

@[expose] public section

set_option maxRecDepth 16384

noncomputable section

namespace Cert.InOdd

open Cert.Reference2Ideal Cert.Reference2Ideal.Gen Idealize.ShloMosaic Idealize.ShloMosaic.TcCoe Idealize.SL.Sem Cert.Normed Cert.Gates

/-! ## The lower bounds -/

/-- The softmax over the two layers. -/
def shares (x3 : FVec Ideal S2x2048 .f32) : FVec Ideal S2x2048 .f32 :=
  Host.divf (Host.exp (subf x3 (broadcastInDim S2x2048 ![0, 1] bcast_S1x2048_S2x2048_0_1 (broadcastInDim S1x2048 ![1] bcast_S2048_S1x2048_1 (maximumf (broadcastInDim S2048 ![] bcast_S_S2048 (constant S_ .f32 0xFF800000#32)) (Host.reduce FloatOps.maximumf x3 (constant S_ .f32 0xFF800000#32) reducesTo_S2x2048_S2048_d0 h_S_)))))) (broadcastInDim S2x2048 ![0, 1] bcast_S1x2048_S2x2048_0_1 (broadcastInDim S1x2048 ![1] bcast_S2048_S1x2048_1 (Host.reduceAdd (Host.exp (subf x3 (broadcastInDim S2x2048 ![0, 1] bcast_S1x2048_S2x2048_0_1 (broadcastInDim S1x2048 ![1] bcast_S2048_S1x2048_1 (maximumf (broadcastInDim S2048 ![] bcast_S_S2048 (constant S_ .f32 0xFF800000#32)) (Host.reduce FloatOps.maximumf x3 (constant S_ .f32 0xFF800000#32) reducesTo_S2x2048_S2048_d0 h_S_)))))) (constant S_ .f32 0x00000000#32) reducesTo_S2x2048_S2048_d0 h_S_)))

/-- The running sum of the shares over the layers. -/
def running (y : FVec Ideal S2x2048 .f32) : FVec Ideal S2x2048 .f32 :=
  Host.reduceWindowAdd ![2, 1] ![1, 1] ![1, 0] ![0, 0] y (broadcastInDim S_ ![] bcast_S_S_ (constant S_ .f32 0x00000000#32)) reduceWindows_S2x2048_S2x2048_w2s1p1_0_w1s1p0_0 h_S_

/-- The second layer's lower bounds: its running sum less the first layer's. -/
def bounds (y : FVec Ideal S2x2048 .f32) : FVec Ideal S2048 .f32 :=
  shapeCast S2048 (extractStridedSlice S1x2048 ![1, 0] (subf y (broadcastInDim S2x2048 ![0, 1] bcast_S1x2048_S2x2048_0_1 (broadcastInDim S1x2048 ![1] bcast_S2048_S1x2048_1 (shapeCast S2048 (extractStridedSlice S1x2048 ![0, 0] y slices_S2x2048_S1x2048_0_0) shapeCasts_S1x2048_S2048)))) slices_S2x2048_S1x2048_1_0) shapeCasts_S1x2048_S2048

/-- A channel's share of a layer. -/
theorem shares_apply (x3 : FVec Ideal S2x2048 .f32) (x : Fin 2) (j : Fin 2048) : shares x3 (ix2 x j) = share (fun x => x3 (ix2 x j)) x := by
  have h : ∀ M : EReal, max (Ideal.ofBits FTy.f32 0xFF800000#32) M = M := fun M => by
    rw [show (Ideal.ofBits FTy.f32 0xFF800000#32 : EReal) = ⊥ by simp [Ideal.ofBits, Ideal.ieee]]
    exact max_eq_right bot_le
  pointwise [shares]
  simp only [h]
  rfl

/-- The running sum at a place: the window's two entries, less those before the first layer. -/
theorem running_sum (y : FVec Ideal S2x2048 .f32) (x : Fin 2) (j : Fin 2048) :
    running y (ix2 x j) = ∑ w : Fin 2, (if h : 1 ≤ x.val + w.val then y (ix2 ⟨x.val + w.val - 1, by omega⟩ j) else 0) := by
  refine Eq.trans (congrArg (fun z : EReal => Ideal.hostReduceWindowAdd (s := S2x2048) ![2, 1] ![1, 1] ![1, 0] ![0, 0]
    reduceWindows_S2x2048_S2x2048_w2s1p1_0_w1s1p0_0 y z (ix2 x j)) Ideal.ofBits_zero_f32) ?_
  unfold Ideal.hostReduceWindowAdd Host.reduceWindow
  dsimp only
  rw [Cert.Loop.foldl_sum, zero_add, ← Fin.sum_univ_def]
  let G : (⟨2, ![2, 1]⟩ : Shape).Idx → EReal := fun w : (⟨2, ![2, 1]⟩ : Shape).Idx =>
    if hin : ∀ a' : Fin 2, (![1, 0] : Fin 2 → ℕ) a' ≤ ((ix2 x j : (⟨2, ![2, 2048]⟩ : Shape).Idx) a').val * (![1, 1] : Fin 2 → ℕ) a' + (w a').val
        ∧ ((ix2 x j : (⟨2, ![2, 2048]⟩ : Shape).Idx) a').val * (![1, 1] : Fin 2 → ℕ) a' + (w a').val - (![1, 0] : Fin 2 → ℕ) a' < (![2, 2048] : Fin 2 → ℕ) a'
    then y (fun a' => ⟨_, (hin a').2⟩) else 0
  refine Eq.trans (b := ∑ i, G ((⟨2, ![2, 1]⟩ : Shape).rowMajor.symm i)) (Finset.sum_congr rfl fun i _ => dite_congr rfl (fun _ => rfl) fun _ => rfl) ?_
  rw [Equiv.sum_comp]
  rw [sum_idx2]
  simp only [Finset.univ_unique, Finset.sum_singleton]
  refine Finset.sum_congr rfl fun w _ => ?_
  have hw := w.isLt
  have hx := x.isLt
  have hj := j.isLt
  by_cases hle : 1 ≤ x.val + w.val
  · rw [dif_pos hle]
    refine (dif_pos fun a' => by
      match a' with
      | ⟨0, _⟩ => show 1 ≤ x.val * 1 + w.val ∧ x.val * 1 + w.val - 1 < 2; omega
      | ⟨1, _⟩ => show 0 ≤ j.val * 1 + 0 ∧ j.val * 1 + 0 - 0 < 2048; omega).trans ?_
    refine congrArg y (funext fun a' => Fin.ext ?_)
    match a' with
    | ⟨0, _⟩ => show x.val * 1 + w.val - 1 = x.val + w.val - 1; omega
    | ⟨1, _⟩ => show j.val * 1 + 0 - 0 = j.val; omega
  · rw [dif_neg hle]
    refine dif_neg fun h => hle ?_
    have h0 : 1 ≤ x.val * 1 + w.val := (h 0).1
    omega

/-- The running sum at the first layer. -/
theorem running_zero (y : FVec Ideal S2x2048 .f32) (j : Fin 2048) : running y (ix2 0 j) = y (ix2 0 j) := by
  refine (running_sum y 0 j).trans ((Fin.sum_univ_two _).trans ?_)
  exact zero_add _

/-- The running sum at the second layer. -/
theorem running_one (y : FVec Ideal S2x2048 .f32) (j : Fin 2048) : running y (ix2 1 j) = y (ix2 0 j) + y (ix2 1 j) :=
  (running_sum y 1 j).trans (Fin.sum_univ_two _)

/-- The lower bounds, at a channel. -/
theorem bounds_apply (y : FVec Ideal S2x2048 .f32) (j : Fin 2048) : bounds y (ix1 j) = y (ix2 1 j) - y (ix2 0 j) := by
  pointwise [bounds]

/-- A lower bound of the second layer is its share. -/
theorem bounds_share (x3 : FVec Ideal S2x2048 .f32) (j : Fin 2048) : bounds (running (shares x3)) (ix1 j) = share (fun x => x3 (ix2 x j)) 1 := by
  rw [bounds_apply, running_one, running_zero, shares_apply, shares_apply]
  exact share_cancel _

/-! ## The projection -/

/-- The normed tokens by the weights. -/
def projected (x0 : FVec Ideal S8x2048x1024 .f32) (x1 : FVec Ideal S1024 .f32) (x2 : FVec Ideal S1024x8192 .f32) : FVec Ideal S8x2048x8192 .f32 :=
  Host.dotGeneral dot_S8x2048x1024_S1024x8192_S8x2048x8192_2_0_01_1_n_n none (mulf (mulf x0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x0 x0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 x1))) x2

/-- The projection, at a place. -/
theorem projected_apply (x0 : FVec Ideal S8x2048x1024 .f32) (x1 : FVec Ideal S1024 .f32) (x2 : FVec Ideal S1024x8192 .f32) (b : Fin 8) (s : Fin 2048) (n : Fin 8192) :
    projected x0 x1 x2 (ix3 b s n) = ∑ k, normed (fun k => x0 (ix3 b s k)) (x1 (ix1 k)) k * x2 (ix2 k n) := by
  pointwise [projected]
  rfl

/-- One over one and the exponential of less a value. -/
def sigmoids (z : FVec Ideal S8x2048x2048 .f32) : FVec Ideal S8x2048x2048 .f32 :=
  Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf z)))

/-- The logistic, at a place. -/
theorem sigmoids_apply (z : FVec Ideal S8x2048x2048 .f32) (i : S8x2048x2048.Idx) : sigmoids z i = Ideal.logistic (z i) := by
  pointwise [sigmoids]
  rfl

/-- The forget gates, from lower bounds and the projection's part. -/
def forgets (lb : FVec Ideal S2048 .f32) (z : FVec Ideal S8x2048x2048 .f32) : FVec Ideal S8x2048x2048 .f32 :=
  addf (broadcastInDim S8x2048x2048 ![0, 1, 2] bcast_S1x1x2048_S8x2048x2048_0_1_2 (broadcastInDim S1x1x2048 ![2] bcast_S2048_S1x1x2048_2 lb)) (mulf (broadcastInDim S8x2048x2048 ![0, 1, 2] bcast_S1x1x2048_S8x2048x2048_0_1_2 (broadcastInDim S1x1x2048 ![2] bcast_S2048_S1x1x2048_2 (subf (broadcastInDim S2048 ![] bcast_S_S2048 (constant S_ .f32 0x3F800000#32)) lb))) (sigmoids z))

/-- The forget gates, at a place. -/
theorem forgets_apply (lb : FVec Ideal S2048 .f32) (z : FVec Ideal S8x2048x2048 .f32) (b : Fin 8) (s j : Fin 2048) :
    forgets lb z (ix3 b s j) = forget (lb (ix1 j)) (z (ix3 b s j)) := by
  unfold forgets forget
  rw [← sigmoids_apply]
  generalize sigmoids z = g
  pointwise []

/-! ## The results at a place: token `s` of sequence `b`, channel `j` -/

section Results

variable (y : FVec Ideal S8x2048x8192 .f32) (lb : FVec Ideal S2048 .f32) (b : Fin 8) (s j : Fin 2048)

/-- The queries. -/
theorem first_apply (z : FVec Ideal S8x2048x2048 .f32) :
    (truncf .bf16 (shapeCast S16384x2048 (mulf z (sigmoids z)) shapeCasts_S8x2048x2048_S16384x2048) bitsLt_bf16_f32 : FVec Ideal S16384x2048 .bf16)
      (ix2 ⟨2048 * b.val + s.val, by omega⟩ j) = silu (z (ix3 b s j)) := by
  have e : (2048 * b.val + s.val) / 2048 = b.val := by omega
  have e' : (2048 * b.val + s.val) % 2048 = s.val := by omega
  unfold silu
  rw [← sigmoids_apply]
  generalize sigmoids z = g
  pointwise []

/-- The log-forgets. -/
theorem second_apply (z : FVec Ideal S8x2048x2048 .f32) :
    (shapeCast S16384x2048 (Host.log (forgets lb z)) shapeCasts_S8x2048x2048_S16384x2048 : FVec Ideal S16384x2048 .f32)
      (ix2 ⟨2048 * b.val + s.val, by omega⟩ j) = Ideal.log (forget (lb (ix1 j)) (z (ix3 b s j))) := by
  have e : (2048 * b.val + s.val) / 2048 = b.val := by omega
  have e' : (2048 * b.val + s.val) % 2048 = s.val := by omega
  rw [← forgets_apply]
  generalize forgets lb z = g
  pointwise []

/-- The keys. -/
theorem third_apply (z : FVec Ideal S8x2048x2048 .f32) :
    (truncf .bf16 (shapeCast S16384x2048 (subf (broadcastInDim S8x2048x2048 ![] bcast_S_S8x2048x2048 (constant S_ .f32 0x3F800000#32)) (forgets lb z)) shapeCasts_S8x2048x2048_S16384x2048) bitsLt_bf16_f32 : FVec Ideal S16384x2048 .bf16)
      (ix2 ⟨2048 * b.val + s.val, by omega⟩ j) = Ideal.ofBits FTy.f32 0x3F800000#32 - forget (lb (ix1 j)) (z (ix3 b s j)) := by
  have e : (2048 * b.val + s.val) / 2048 = b.val := by omega
  have e' : (2048 * b.val + s.val) % 2048 = s.val := by omega
  rw [← forgets_apply]
  generalize forgets lb z = g
  pointwise []

/-- The values. -/
theorem fourth_apply (z : FVec Ideal S8x2048x2048 .f32) :
    (truncf .bf16 (shapeCast S16384x2048 z shapeCasts_S8x2048x2048_S16384x2048) bitsLt_bf16_f32 : FVec Ideal S16384x2048 .bf16)
      (ix2 ⟨2048 * b.val + s.val, by omega⟩ j) = z (ix3 b s j) := by
  have e : (2048 * b.val + s.val) / 2048 = b.val := by omega
  have e' : (2048 * b.val + s.val) % 2048 = s.val := by omega
  pointwise []

/-- The first part of the projection. -/
theorem part0 : extractStridedSlice S8x2048x2048 ![0, 0, 0] y slices_S8x2048x8192_S8x2048x2048_0_0_0 (ix3 b s j) = y (ix3 b s ⟨j.val, by omega⟩) := by
  pointwise []

/-- The second part of the projection. -/
theorem part1 : extractStridedSlice S8x2048x2048 ![0, 0, 2048] y slices_S8x2048x8192_S8x2048x2048_0_0_2048 (ix3 b s j) = y (ix3 b s ⟨2048 + j.val, by omega⟩) := by
  pointwise []

/-- The third part of the projection. -/
theorem part2 : extractStridedSlice S8x2048x2048 ![0, 0, 4096] y slices_S8x2048x8192_S8x2048x2048_0_0_4096 (ix3 b s j) = y (ix3 b s ⟨4096 + j.val, by omega⟩) := by
  pointwise []

/-- The fourth part of the projection. -/
theorem part3 : extractStridedSlice S8x2048x2048 ![0, 0, 6144] y slices_S8x2048x8192_S8x2048x2048_0_0_6144 (ix3 b s j) = y (ix3 b s ⟨6144 + j.val, by omega⟩) := by
  pointwise []

end Results

variable (m : (ℓ : Loc Cert.Kernel2Ideal.nD Cert.Kernel2Ideal.τ Cert.Kernel2Ideal.sig) → Buf (Elt Ideal) ℓ) (c : Dev Cert.Kernel2Ideal.nD)

/-- The reference's projection of the kernel's arguments. -/
theorem projected_proj (b : Fin 8) (s : Fin 2048) (n : Fin 8192) : projected (input m c) (gain m c) (weight m c) (ix3 b s n) = proj m c b s n :=
  projected_apply _ _ _ b s n

/-- The reference's lower bounds of the kernel's arguments. -/
theorem bounds_bound (j : Fin 2048) : bounds (running (shares (layers m c))) (ix1 j) = bound m c j := bounds_share _ j

/-- The reference's projection, from its arguments. -/
def projections (m' : (ℓ : Loc nD τ sig) → Buf (Elt Ideal) ℓ) (c : Dev nD) : FVec Ideal S8x2048x8192 .f32 :=
  projected (m' ((c.tc : Thread nD τ).loc main_arg0)) (m' ((c.tc : Thread nD τ).loc main_arg1)) (m' ((c.tc : Thread nD τ).loc main_arg2))

/-- The reference's log-forgets, by the names above. -/
theorem logs_eq (m' : (ℓ : Loc nD τ sig) → Buf (Elt Ideal) ℓ) (c : Dev nD) :
    Value.res_main_v58 m' c = shapeCast S16384x2048 (Host.log (forgets (bounds (running (shares (m' ((c.tc : Thread nD τ).loc main_arg3)))))
      (extractStridedSlice S8x2048x2048 ![0, 0, 2048] (projections m' c) slices_S8x2048x8192_S8x2048x2048_0_0_2048))) shapeCasts_S8x2048x2048_S16384x2048 := by
  unfold Value.res_main_v58 forgets bounds running shares sigmoids projections projected
  rfl

/-- The reference's keys, by the names above. -/
theorem keys_eq (m' : (ℓ : Loc nD τ sig) → Buf (Elt Ideal) ℓ) (c : Dev nD) :
    Value.res_main_v60 m' c = truncf .bf16 (shapeCast S16384x2048 (subf (broadcastInDim S8x2048x2048 ![] bcast_S_S8x2048x2048 (constant S_ .f32 0x3F800000#32)) (forgets (bounds (running (shares (m' ((c.tc : Thread nD τ).loc main_arg3)))))
      (extractStridedSlice S8x2048x2048 ![0, 0, 2048] (projections m' c) slices_S8x2048x8192_S8x2048x2048_0_0_2048))) shapeCasts_S8x2048x2048_S16384x2048) bitsLt_bf16_f32 := by
  unfold Value.res_main_v60 forgets bounds running shares sigmoids projections projected
  rfl

/-- THE VALUES of the odd layer's input projection: the reference's five results are the kernel's. -/
theorem value : Cert.algebraic_Kernel2Ideal_Reference2Ideal := by
  intro m g m' g' _ hm
  refine ⟨fun c => (Kernel2Ideal.Gen.dats m 0 c).arrAt 4 Kernel2Ideal.cfg0.N, fun c => (Kernel2Ideal.Gen.dats m 0 c).arrAt 5 Kernel2Ideal.cfg0.N,
    fun c => (Kernel2Ideal.Gen.dats m 0 c).arrAt 6 Kernel2Ideal.cfg0.N, fun c => (Kernel2Ideal.Gen.dats m 0 c).arrAt 7 Kernel2Ideal.cfg0.N,
    fun c => (Kernel2Ideal.Gen.dats m 0 c).arrAt 8 Kernel2Ideal.cfg0.N, Kernel2Ideal.Value.run_blocks m g, ?_⟩
  refine (θ_run Cert.Reference2Ideal.defs _ _).mono (fun r h c => ?_) (Cert.Reference2Ideal.Value.run m' g')
  obtain ⟨h1, h2, h3, h4, h5, hr⟩ := h c
  obtain ⟨e0, e1, e2, e3⟩ := hm c
  replace h2 := h2.trans (logs_eq m' c)
  replace h3 := h3.trans (keys_eq m' c)
  replace h1 := h1.trans (show _ = truncf .bf16 (shapeCast S16384x2048 (mulf (extractStridedSlice S8x2048x2048 ![0, 0, 0] (projections m' c) slices_S8x2048x8192_S8x2048x2048_0_0_0) (sigmoids (extractStridedSlice S8x2048x2048 ![0, 0, 0] (projections m' c) slices_S8x2048x8192_S8x2048x2048_0_0_0))) shapeCasts_S8x2048x2048_S16384x2048) bitsLt_bf16_f32 by unfold sigmoids projections projected; rfl)
  replace h4 := h4.trans (show _ = truncf .bf16 (shapeCast S16384x2048 (extractStridedSlice S8x2048x2048 ![0, 0, 4096] (projections m' c) slices_S8x2048x8192_S8x2048x2048_0_0_4096) shapeCasts_S8x2048x2048_S16384x2048) bitsLt_bf16_f32 by unfold projections projected; rfl)
  replace h5 := h5.trans (show _ = truncf .bf16 (shapeCast S16384x2048 (mulf (extractStridedSlice S8x2048x2048 ![0, 0, 6144] (projections m' c) slices_S8x2048x8192_S8x2048x2048_0_0_6144) (sigmoids (extractStridedSlice S8x2048x2048 ![0, 0, 6144] (projections m' c) slices_S8x2048x8192_S8x2048x2048_0_0_6144))) shapeCasts_S8x2048x2048_S16384x2048) bitsLt_bf16_f32 by unfold sigmoids projections projected; rfl)
  have ep : projections m' c = projected (input m c) (gain m c) (weight m c) := by
    unfold projections
    rw [e0, e1, e2]
    rfl
  rw [ep] at h1 h2 h3 h4 h5
  rw [e3] at h2 h3
  refine ⟨h1.trans (funext fun i => ?_), h2.trans (funext fun i => ?_), h3.trans (funext fun i => ?_), h4.trans (funext fun i => ?_), h5.trans (funext fun i => ?_), hr⟩
  · obtain ⟨b, s, j, rfl⟩ := flat_split i
    refine (first_apply b s j _).trans (Eq.trans ?_ (result4 m c b s j).symm)
    rw [part0, projected_proj]
  · obtain ⟨b, s, j, rfl⟩ := flat_split i
    refine (second_apply (bounds (running (shares (layers m c)))) b s j _).trans (Eq.trans ?_ (result5 m c b s j).symm)
    rw [part1, projected_proj, bounds_bound]
  · obtain ⟨b, s, j, rfl⟩ := flat_split i
    refine (third_apply (bounds (running (shares (layers m c)))) b s j _).trans (Eq.trans ?_ (result6 m c b s j).symm)
    rw [part1, projected_proj, bounds_bound]
  · obtain ⟨b, s, j, rfl⟩ := flat_split i
    refine (fourth_apply b s j _).trans (Eq.trans ?_ (result7 m c b s j).symm)
    rw [part2, projected_proj]
  · obtain ⟨b, s, j, rfl⟩ := flat_split i
    refine (first_apply b s j _).trans (Eq.trans ?_ (result8 m c b s j).symm)
    rw [part3, projected_proj]

end Cert.InOdd

end
-- ==== Proof.OutKernel.lean ====
module

public import proofs.«01_k».proof.Proof.Normed
public import proofs.«01_k».proof.Proof.Gen.Kernel3Ideal.Value
public import Idealize.ShloMosaic.Lib.Pipeline.ValueKit
public import Idealize.ShloMosaic.Lib.ViewIndex

/-! # The odd layer's output projection, by blocks of 1024 rows

Each grid point takes 1024 rows of the mixer's output, multiplies them by the weights, norms each row and adds the residual. -/

@[expose] public section

set_option maxRecDepth 16384

noncomputable section

namespace Cert.OutOdd

open Cert.Kernel3Ideal Cert.Kernel3Ideal.Gen Idealize.ShloMosaic Idealize.ShloMosaic.TcCoe Cert.Normed
open Idealize.ShloMosaic.Pipeline (Dat)

variable (m : (ℓ : Loc nD τ sig) → Buf (Elt Ideal) ℓ) (c : Dev nD)

/-- The mixer's output, as launched. -/
def mixed : S8x2048x2048.Idx → EReal := m ((c : Thread nD τ).loc main_arg0)
/-- The residual, as launched. -/
def resid : S8x2048x1024.Idx → EReal := m ((c : Thread nD τ).loc main_arg1)
/-- The weights, as launched. -/
def weight : S2048x1024.Idx → EReal := m ((c : Thread nD τ).loc main_arg2)
/-- The norm's gain, as launched. -/
def gain : S1024.Idx → EReal := m ((c : Thread nD τ).loc main_arg3)

/-- The corner of a block. -/
theorem origin : (![0, 0] : Fin 2 → Nat) = fun _ => 0 := funext fun a => by fin_cases a <;> rfl

/-- One block at a place. -/
theorem block_apply (x0 : Vec Ideal S1024x2048 .bf16) (x1 : Vec Ideal S2048x1024 .bf16) (x2 : Vec Ideal S1x1024 .f32) (x3 : Vec Ideal S1024x1024 .f32)
    (r j : Fin 1024) :
    k0_pay1 x0 x1 x2 x3 (ix2 r j) = joined (x3 (ix2 r j)) (fun n => ∑ k : Fin 2048, x0 (ix2 r k) * x1 (ix2 k n)) (x2 (ix2 0 j)) j := by
  pointwise [k0_pay1]
  rfl

/-- What a point leaves in its block of the result. -/
theorem out_apply (x0 : Vec Ideal S1024x2048 .bf16) (x1 : Vec Ideal S2048x1024 .bf16) (x2 : Vec Ideal S1x1024 .f32) (x3 : Vec Ideal S1024x1024 .f32)
    (r j : Fin 1024) :
    out0_4 x0 x1 x2 x3 (ix2 r j) = joined (x3 (ix2 r j)) (fun n => ∑ k : Fin 2048, x0 (ix2 r k) * x1 (ix2 k n)) (x2 (ix2 0 j)) j := by
  unfold out0_4
  rw [View.canon_unit_zero origin, View.ld_unit_zero origin, View.ld_unit_zero origin, View.ld_unit_zero origin, View.ld_unit_zero origin]
  exact block_apply x0 x1 x2 x3 r j

/-- The block that each window reads or writes at a point. -/
theorem idx_facts : ∀ t : Fin cfg0.N,
    (win0_0.index t = ![t.val, 0] ∧ win0_1.index t = ![0, 0] ∧ win0_2.index t = ![0, 0]) ∧ win0_3.index t = ![t.val, 0] ∧ win0_4.index t = ![t.val, 0] :=
  (by decide +kernel : ∀ t : Fin grid0.N, _)

/-- The rows of the mixer's output of a point. -/
theorem blk0 (t : Fin cfg0.N) (b : Fin 8) (s : Fin 2048) (r : Fin 1024) (k : Fin 2048) (h : 2048 * b.val + s.val = 1024 * t.val + r.val) :
    (iblk m c 0 t : Vec Ideal S1024x2048 .bf16) (ix2 r k) = mixed m c (ix3 b s k) := by
  have e := (idx_facts t).1.1
  have e1 : ((cfg0.win 0).blk t).view.emb (ix2 r k : S1024x2048.Idx) = (ix2 ⟨2048 * b.val + s.val, by omega⟩ k : S16384x2048.Idx) := by
    blk_ext [e]
  unfold iblk
  rw [View.read_apply]
  refine (congrArg (V m c main_v1) e1).trans ?_
  entry_read
  pointwise []
  exact congrArg _ (Shape.idx3_ext (show (2048 * b.val + s.val) / 2048 = b.val by omega) (show (2048 * b.val + s.val) % 2048 = s.val by omega) rfl)

/-- The weights. -/
theorem blk1 (t : Fin cfg0.N) (k : Fin 2048) (j : Fin 1024) :
    (iblk m c 1 t : Vec Ideal S2048x1024 .bf16) (ix2 k j) = weight m c (ix2 k j) := by
  have e := (idx_facts t).1.2.1
  have e1 : ((cfg0.win 1).blk t).view.emb (ix2 k j : S2048x1024.Idx) = (ix2 k j : S2048x1024.Idx) := by
    blk_ext [e]
  unfold iblk
  rw [View.read_apply]
  refine (congrArg (V m c main_v2) e1).trans ?_
  entry_read
  pointwise []
  rfl

/-- The norm's gain. -/
theorem blk2 (t : Fin cfg0.N) (j : Fin 1024) :
    (iblk m c 2 t : Vec Ideal S1x1024 .f32) (ix2 0 j) = gain m c (ix1 j) := by
  have e := (idx_facts t).1.2.2
  have e1 : ((cfg0.win 2).blk t).view.emb (ix2 0 j : S1x1024.Idx) = (ix2 0 j : S1x1024.Idx) := by
    blk_ext [e]
  unfold iblk
  rw [View.read_apply]
  refine (congrArg (V m c main_v4) e1).trans ?_
  entry_read
  pointwise []
  rfl

/-- The rows of the residual of a point. -/
theorem blk3 (t : Fin cfg0.N) (b : Fin 8) (s : Fin 2048) (r j : Fin 1024) (h : 2048 * b.val + s.val = 1024 * t.val + r.val) :
    (iblk m c 3 t : Vec Ideal S1024x1024 .f32) (ix2 r j) = resid m c (ix3 b s j) := by
  have e := (idx_facts t).2.1
  have e1 : ((cfg0.win 3).blk t).view.emb (ix2 r j : S1024x1024.Idx) = (ix2 ⟨2048 * b.val + s.val, by omega⟩ j : S16384x1024.Idx) := by
    blk_ext [e]
  unfold iblk
  rw [View.read_apply]
  refine (congrArg (V m c main_v3) e1).trans ?_
  entry_read
  pointwise []
  rfl

/-- The result at a place: token `s` of sequence `b`, entry `j`. -/
theorem result_apply (b : Fin 8) (s : Fin 2048) (j : Fin 1024) :
    ((dats m 0 c).arrAt 4 cfg0.N : S16384x1024.Idx → EReal) (ix2 ⟨2048 * b.val + s.val, by omega⟩ j)
      = joined (resid m c (ix3 b s j))
          (fun n => ∑ k : Fin 2048, mixed m c (ix3 b s k) * weight m c (ix2 k n))
          (gain m c (ix1 j)) j := by
  have hN : cfg0.N = 16 := by decide
  set t : Fin cfg0.N := ⟨(2048 * b.val + s.val) / 1024, by omega⟩ with ht
  set r : Fin 1024 := ⟨(2048 * b.val + s.val) % 1024, by omega⟩ with hr
  have h : 2048 * b.val + s.val = 1024 * t.val + r.val := by
    show _ = 1024 * ((2048 * b.val + s.val) / 1024) + (2048 * b.val + s.val) % 1024
    omega
  have e := (idx_facts t).2.2
  have e1 : ((cfg0.win 4).blk t).view.emb (ix2 r j : S1024x1024.Idx) = (ix2 ⟨2048 * b.val + s.val, by omega⟩ j : S16384x1024.Idx) := by
    blk_ext [e]
  have g := (dats m 0 c).arrAt_emb_eq_flushed 4 (Value.disjoint4) t (flush0_4 t) (ix2 r j : S1024x1024.Idx)
  rw [e1] at g
  refine (g.trans (eq_of_heq (cast_heq _ _))).trans ((congrFun (Value.flushed4 m c t) _).trans ?_)
  refine (out_apply (iblk m c 0 t) (iblk m c 1 t) (iblk m c 2 t) (iblk m c 3 t) r j).trans ?_
  rw [blk3 m c t b s r j h, blk2]
  simp only [blk0 m c t b s r _ h, blk1]

end Cert.OutOdd

end
-- ==== Proof.OutReference.lean ====
module

public import proofs.«01_k».proof.Defs
public import proofs.«01_k».proof.Proof.OutKernel
public import proofs.«01_k».proof.Proof.Gen.Reference3Ideal.Run

/-! # The odd layer's output projection in the reference, at a place -/

@[expose] public section

set_option maxRecDepth 16384

noncomputable section

namespace Cert.OutOdd

open Cert.Reference3Ideal Cert.Reference3Ideal.Gen Idealize.ShloMosaic Idealize.ShloMosaic.TcCoe Idealize.SL.Sem Cert.Normed

/-- The reference's result at token `s` of sequence `b`, entry `j`. -/
theorem reference_apply (x0 : FVec Ideal S8x2048x2048 .f32) (x1 : FVec Ideal S8x2048x1024 .f32) (x2 : FVec Ideal S2048x1024 .f32) (x3 : FVec Ideal S1024 .f32)
   (b : Fin 8) (s : Fin 2048) (j : Fin 1024) :
    ((shapeCast S16384x1024 (addf x1 (mulf (mulf (Host.dotGeneral dot_S8x2048x2048_S2048x1024_S8x2048x1024_2_0_01_1_n_n none x0 x2) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (Host.dotGeneral dot_S8x2048x2048_S2048x1024_S8x2048x1024_2_0_01_1_n_n none x0 x2) (Host.dotGeneral dot_S8x2048x2048_S2048x1024_S8x2048x1024_2_0_01_1_n_n none x0 x2)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 x3)))) shapeCasts_S8x2048x1024_S16384x1024 : S16384x1024.Idx → EReal)) (ix2 ⟨2048 * b.val + s.val, by omega⟩ j)
      = joined (x1 (ix3 b s j)) (fun n => ∑ k : Fin 2048, x0 (ix3 b s k) * x2 (ix2 k n)) (x3 (ix1 j)) j := by
  have e : (2048 * b.val + s.val) / 2048 = b.val := by omega
  have e' : (2048 * b.val + s.val) % 2048 = s.val := by omega
  pointwise []
  rfl

/-- THE VALUES of the odd layer's output projection: the reference's result is the kernel's. -/
theorem value : Cert.algebraic_Kernel3Ideal_Reference3Ideal := by
  intro m g m' g' _ hm
  refine ⟨fun c => (Kernel3Ideal.Gen.dats m 0 c).arrAt 4 Kernel3Ideal.cfg0.N, Kernel3Ideal.Value.run_blocks m g, ?_⟩
  refine (θ_run Cert.Reference3Ideal.defs _ _).mono (fun r h c => ⟨(h c).1.trans ?_, (h c).2⟩) (Cert.Reference3Ideal.Value.run m' g')
  obtain ⟨e0, e1, e2, e3⟩ := hm c
  funext i
  obtain ⟨b, s, j, rfl⟩ := flat_split i
  refine (reference_apply _ _ _ _ b s j).trans (Eq.trans ?_ (result_apply m c b s j).symm)
  rw [e0, e1, e2, e3]
  rfl

end Cert.OutOdd

end
-- ==== Proof.OutEvenKernel.lean ====
module

public import proofs.«01_k».proof.Proof.Normed
public import proofs.«01_k».proof.Proof.Gen.Kernel4Ideal.Value
public import Idealize.ShloMosaic.Lib.Pipeline.ValueKit
public import Idealize.ShloMosaic.Lib.ViewIndex

/-! # The even layer's output projection, by blocks of 1024 rows

Each grid point takes 1024 rows of each mixer's output, multiplies them by the weights' upper and lower half, norms the sum's rows and
adds the residual. -/

@[expose] public section

set_option maxRecDepth 16384

noncomputable section

namespace Cert.OutEven

open Cert.Kernel4Ideal Cert.Kernel4Ideal.Gen Idealize.ShloMosaic Idealize.ShloMosaic.TcCoe Cert.Normed
open Idealize.ShloMosaic.Pipeline (Dat)

variable (m : (ℓ : Loc nD τ sig) → Buf (Elt Ideal) ℓ) (c : Dev nD)

/-- The first mixer's output, as launched. -/
def first : S8x2048x1024.Idx → EReal := m ((c : Thread nD τ).loc main_arg0)
/-- The second mixer's output, as launched. -/
def second : S8x2048x1024.Idx → EReal := m ((c : Thread nD τ).loc main_arg1)
/-- The residual, as launched. -/
def resid : S8x2048x1024.Idx → EReal := m ((c : Thread nD τ).loc main_arg2)
/-- The weights, as launched. -/
def weight : S2048x1024.Idx → EReal := m ((c : Thread nD τ).loc main_arg3)
/-- The norm's gain, as launched. -/
def gain : S1024.Idx → EReal := m ((c : Thread nD τ).loc main_arg4)

/-- The corner of a block. -/
theorem origin : (![0, 0] : Fin 2 → Nat) = fun _ => 0 := funext fun a => by fin_cases a <;> rfl

/-- One block at a place. -/
theorem block_apply (x0 : Vec Ideal S1024x1024 .bf16) (w0 : Vec Ideal S1024x1024 .bf16) (x1 : Vec Ideal S1024x1024 .bf16) (w1 : Vec Ideal S1024x1024 .bf16)
    (x3 : Vec Ideal S1x1024 .f32) (x4 : Vec Ideal S1024x1024 .f32) (r j : Fin 1024) :
    k0_pay1 x0 w0 x1 w1 x3 x4 (ix2 r j)
      = joined (x4 (ix2 r j)) (fun n => (∑ k : Fin 1024, x0 (ix2 r k) * w0 (ix2 k n)) + ∑ k : Fin 1024, x1 (ix2 r k) * w1 (ix2 k n)) (x3 (ix2 0 j)) j := by
  pointwise [k0_pay1]
  rfl

/-- What a point leaves in its block of the result. -/
theorem out_apply (x0 x1 : Vec Ideal S1024x1024 .bf16) (x2 : Vec Ideal S2048x1024 .bf16) (x3 : Vec Ideal S1x1024 .f32) (x4 : Vec Ideal S1024x1024 .f32)
    (r j : Fin 1024) :
    out0_5 x0 x1 x2 x3 x4 (ix2 r j) = joined (x4 (ix2 r j)) (fun n => (∑ k : Fin 1024, x0 (ix2 r k) * x2 (ix2 ⟨k.val, by omega⟩ n))
      + ∑ k : Fin 1024, x1 (ix2 r k) * x2 (ix2 ⟨1024 + k.val, by omega⟩ n)) (x3 (ix2 0 j)) j := by
  have h0 : ∀ k n : Fin 1024, (View.ld x2 r0_1 : Vec Ideal S1024x1024 .bf16) (ix2 k n) = x2 (ix2 ⟨k.val, by omega⟩ n) := fun k n => by pointwise []
  have h1 : ∀ k n : Fin 1024, (View.ld x2 r0_2 : Vec Ideal S1024x1024 .bf16) (ix2 k n) = x2 (ix2 ⟨1024 + k.val, by omega⟩ n) := fun k n => by pointwise []
  unfold out0_5
  rw [View.canon_unit_zero origin, View.ld_unit_zero origin, View.ld_unit_zero origin, View.ld_unit_zero origin, View.ld_unit_zero origin]
  refine (block_apply x0 _ x1 _ x3 x4 r j).trans ?_
  simp only [h0, h1]

/-- The block that each window reads or writes at a point. -/
theorem idx_facts : ∀ t : Fin cfg0.N,
    (win0_0.index t = ![t.val, 0] ∧ win0_1.index t = ![t.val, 0] ∧ win0_2.index t = ![0, 0]) ∧ win0_3.index t = ![0, 0] ∧ win0_4.index t = ![t.val, 0]
      ∧ win0_5.index t = ![t.val, 0] :=
  (by decide +kernel : ∀ t : Fin grid0.N, _)

/-- The first mixer's rows of a point. -/
theorem blk0 (t : Fin cfg0.N) (b : Fin 8) (s : Fin 2048) (r j : Fin 1024) (h : 2048 * b.val + s.val = 1024 * t.val + r.val) :
    (iblk m c 0 t : Vec Ideal S1024x1024 .bf16) (ix2 r j) = first m c (ix3 b s j) := by
  have e := (idx_facts t).1.1
  have e1 : ((cfg0.win 0).blk t).view.emb (ix2 r j : S1024x1024.Idx) = (ix2 ⟨2048 * b.val + s.val, by omega⟩ j : S16384x1024.Idx) := by
    blk_ext [e]
  unfold iblk
  rw [View.read_apply]
  refine (congrArg (V m c main_v1) e1).trans ?_
  entry_read
  pointwise []
  exact congrArg _ (Shape.idx3_ext (show (2048 * b.val + s.val) / 2048 = b.val by omega) (show (2048 * b.val + s.val) % 2048 = s.val by omega) rfl)

/-- The second mixer's rows of a point. -/
theorem blk1 (t : Fin cfg0.N) (b : Fin 8) (s : Fin 2048) (r j : Fin 1024) (h : 2048 * b.val + s.val = 1024 * t.val + r.val) :
    (iblk m c 1 t : Vec Ideal S1024x1024 .bf16) (ix2 r j) = second m c (ix3 b s j) := by
  have e := (idx_facts t).1.2.1
  have e1 : ((cfg0.win 1).blk t).view.emb (ix2 r j : S1024x1024.Idx) = (ix2 ⟨2048 * b.val + s.val, by omega⟩ j : S16384x1024.Idx) := by
    blk_ext [e]
  unfold iblk
  rw [View.read_apply]
  refine (congrArg (V m c main_v3) e1).trans ?_
  entry_read
  pointwise []
  exact congrArg _ (Shape.idx3_ext (show (2048 * b.val + s.val) / 2048 = b.val by omega) (show (2048 * b.val + s.val) % 2048 = s.val by omega) rfl)

/-- The weights. -/
theorem blk2 (t : Fin cfg0.N) (k : Fin 2048) (j : Fin 1024) :
    (iblk m c 2 t : Vec Ideal S2048x1024 .bf16) (ix2 k j) = weight m c (ix2 k j) := by
  have e := (idx_facts t).1.2.2
  have e1 : ((cfg0.win 2).blk t).view.emb (ix2 k j : S2048x1024.Idx) = (ix2 k j : S2048x1024.Idx) := by
    blk_ext [e]
  unfold iblk
  rw [View.read_apply]
  refine (congrArg (V m c main_v4) e1).trans ?_
  entry_read
  pointwise []
  rfl

/-- The norm's gain. -/
theorem blk3 (t : Fin cfg0.N) (j : Fin 1024) :
    (iblk m c 3 t : Vec Ideal S1x1024 .f32) (ix2 0 j) = gain m c (ix1 j) := by
  have e := (idx_facts t).2.1
  have e1 : ((cfg0.win 3).blk t).view.emb (ix2 0 j : S1x1024.Idx) = (ix2 0 j : S1x1024.Idx) := by
    blk_ext [e]
  unfold iblk
  rw [View.read_apply]
  refine (congrArg (V m c main_v6) e1).trans ?_
  entry_read
  pointwise []
  rfl

/-- The rows of the residual of a point. -/
theorem blk4 (t : Fin cfg0.N) (b : Fin 8) (s : Fin 2048) (r j : Fin 1024) (h : 2048 * b.val + s.val = 1024 * t.val + r.val) :
    (iblk m c 4 t : Vec Ideal S1024x1024 .f32) (ix2 r j) = resid m c (ix3 b s j) := by
  have e := (idx_facts t).2.2.1
  have e1 : ((cfg0.win 4).blk t).view.emb (ix2 r j : S1024x1024.Idx) = (ix2 ⟨2048 * b.val + s.val, by omega⟩ j : S16384x1024.Idx) := by
    blk_ext [e]
  unfold iblk
  rw [View.read_apply]
  refine (congrArg (V m c main_v5) e1).trans ?_
  entry_read
  pointwise []
  rfl

/-- The result at a place: token `s` of sequence `b`, entry `j`. -/
theorem result_apply (b : Fin 8) (s : Fin 2048) (j : Fin 1024) :
    ((dats m 0 c).arrAt 5 cfg0.N : S16384x1024.Idx → EReal) (ix2 ⟨2048 * b.val + s.val, by omega⟩ j)
      = joined (resid m c (ix3 b s j))
          (fun n => (∑ k : Fin 1024, first m c (ix3 b s k) * weight m c (ix2 ⟨k.val, by omega⟩ n))
            + ∑ k : Fin 1024, second m c (ix3 b s k) * weight m c (ix2 ⟨1024 + k.val, by omega⟩ n))
          (gain m c (ix1 j)) j := by
  have hN : cfg0.N = 16 := by decide
  set t : Fin cfg0.N := ⟨(2048 * b.val + s.val) / 1024, by omega⟩ with ht
  set r : Fin 1024 := ⟨(2048 * b.val + s.val) % 1024, by omega⟩ with hr
  have h : 2048 * b.val + s.val = 1024 * t.val + r.val := by
    show _ = 1024 * ((2048 * b.val + s.val) / 1024) + (2048 * b.val + s.val) % 1024
    omega
  have e := (idx_facts t).2.2.2
  have e1 : ((cfg0.win 5).blk t).view.emb (ix2 r j : S1024x1024.Idx) = (ix2 ⟨2048 * b.val + s.val, by omega⟩ j : S16384x1024.Idx) := by
    blk_ext [e]
  have g := (dats m 0 c).arrAt_emb_eq_flushed 5 (Value.disjoint5) t (flush0_5 t) (ix2 r j : S1024x1024.Idx)
  rw [e1] at g
  refine (g.trans (eq_of_heq (cast_heq _ _))).trans ((congrFun (Value.flushed5 m c t) _).trans ?_)
  refine (out_apply (iblk m c 0 t) (iblk m c 1 t) (iblk m c 2 t) (iblk m c 3 t) (iblk m c 4 t) r j).trans ?_
  rw [blk4 m c t b s r j h, blk3]
  simp only [blk0 m c t b s r _ h, blk1 m c t b s r _ h, blk2]

end Cert.OutEven

end
-- ==== Proof.OutEvenReference.lean ====
module

public import proofs.«01_k».proof.Defs
public import proofs.«01_k».proof.Proof.OutEvenKernel
public import proofs.«01_k».proof.Proof.Gen.Reference4Ideal.Run

/-! # The even layer's output projection in the reference, at a place -/

@[expose] public section

set_option maxRecDepth 16384

noncomputable section

namespace Cert.OutEven

open Cert.Reference4Ideal Cert.Reference4Ideal.Gen Idealize.ShloMosaic Idealize.ShloMosaic.TcCoe Idealize.SL.Sem Cert.Normed

/-- The two mixers' outputs side by side. -/
def beside (x0 x1 : FVec Ideal S8x2048x1024 .f32) : FVec Ideal S8x2048x2048 .f32 :=
  concatenate S8x2048x2048 2 [⟨S8x2048x1024, x0⟩, ⟨S8x2048x1024, x1⟩] concatenates_S8x2048x1024_S8x2048x1024_S8x2048x2048_d2

/-- The first half of a row. -/
theorem beside_first (x0 x1 : FVec Ideal S8x2048x1024 .f32) (b : Fin 8) (s : Fin 2048) (k : Fin 1024) :
    beside x0 x1 (ix3 b s ⟨k.val, by omega⟩) = x0 (ix3 b s k) := by
  pointwise [beside]

/-- The second half of a row. -/
theorem beside_second (x0 x1 : FVec Ideal S8x2048x1024 .f32) (b : Fin 8) (s : Fin 2048) (k : Fin 1024) :
    beside x0 x1 (ix3 b s ⟨1024 + k.val, by omega⟩) = x1 (ix3 b s k) := by
  pointwise [beside]

/-- The reference's result, from the outputs side by side. -/
theorem joined_apply (x : FVec Ideal S8x2048x2048 .f32) (x2 : FVec Ideal S8x2048x1024 .f32) (x3 : FVec Ideal S2048x1024 .f32) (x4 : FVec Ideal S1024 .f32)
   (b : Fin 8) (s : Fin 2048) (j : Fin 1024) :
    ((shapeCast S16384x1024 (addf x2 (mulf (mulf (Host.dotGeneral dot_S8x2048x2048_S2048x1024_S8x2048x1024_2_0_01_1_n_n none x x3) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (Host.dotGeneral dot_S8x2048x2048_S2048x1024_S8x2048x1024_2_0_01_1_n_n none x x3) (Host.dotGeneral dot_S8x2048x2048_S2048x1024_S8x2048x1024_2_0_01_1_n_n none x x3)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 x4)))) shapeCasts_S8x2048x1024_S16384x1024 : S16384x1024.Idx → EReal)) (ix2 ⟨2048 * b.val + s.val, by omega⟩ j)
      = joined (x2 (ix3 b s j)) (fun n => ∑ k : Fin 2048, x (ix3 b s k) * x3 (ix2 k n)) (x4 (ix1 j)) j := by
  have e : (2048 * b.val + s.val) / 2048 = b.val := by omega
  have e' : (2048 * b.val + s.val) % 2048 = s.val := by omega
  pointwise []
  rfl

/-- A sum over a row is the sum over its halves. -/
theorem halves (f : Fin 2048 → EReal) : ∑ k, f k = (∑ k : Fin 1024, f ⟨k.val, by omega⟩) + ∑ k : Fin 1024, f ⟨1024 + k.val, by omega⟩ :=
  Fin.sum_univ_add (a := 1024) (b := 1024) f

/-- The rows side by side by the weights are the halves by the weights' halves. -/
theorem beside_sum (x0 x1 : FVec Ideal S8x2048x1024 .f32) (x3 : FVec Ideal S2048x1024 .f32) (b : Fin 8) (s : Fin 2048) (n : Fin 1024) :
    ∑ k : Fin 2048, beside x0 x1 (ix3 b s k) * x3 (ix2 k n)
      = (∑ k : Fin 1024, x0 (ix3 b s k) * x3 (ix2 ⟨k.val, by omega⟩ n)) + ∑ k : Fin 1024, x1 (ix3 b s k) * x3 (ix2 ⟨1024 + k.val, by omega⟩ n) := by
  rw [halves]
  simp only [beside_first, beside_second]

/-- THE VALUES of the even layer's output projection: the reference's result is the kernel's. -/
theorem value : Cert.algebraic_Kernel4Ideal_Reference4Ideal := by
  intro m g m' g' _ hm
  refine ⟨fun c => (Kernel4Ideal.Gen.dats m 0 c).arrAt 5 Kernel4Ideal.cfg0.N, Kernel4Ideal.Value.run_blocks m g, ?_⟩
  refine (θ_run Cert.Reference4Ideal.defs _ _).mono (fun r h c => ⟨(h c).1.trans ?_, (h c).2⟩) (Cert.Reference4Ideal.Value.run m' g')
  obtain ⟨e0, e1, e2, e3, e4⟩ := hm c
  funext i
  obtain ⟨b, s, j, rfl⟩ := flat_split i
  refine (joined_apply (beside _ _) _ _ _ b s j).trans (Eq.trans ?_ (result_apply m c b s j).symm)
  simp only [beside_sum]
  rw [e0, e1, e2, e3, e4]
  rfl

end Cert.OutEven

end
-- ==== Proof.EvenKernel.lean ====
module

public import proofs.«01_k».proof.Proof.Normed
public import proofs.«01_k».proof.Proof.Gates
public import proofs.«01_k».proof.Proof.Gen.Kernel5Ideal.Frame
public import Idealize.ShloMosaic.Lib.Pipeline.Value
public import Idealize.ShloMosaic.Lib.Pipeline.ValueKit
public import Idealize.ShloMosaic.Lib.ViewIndex

/-! # The even layer's input projection, by blocks of 256 rows

Each grid point norms 256 rows and multiplies them by the seven parts of the weights. Two parts are rotated by position, head by
head, in pieces of 128 channels. -/

@[expose] public section

set_option maxRecDepth 16384

noncomputable section

namespace Cert.InEven

open Cert.Kernel5Ideal Cert.Kernel5Ideal.Gen Idealize.ShloMosaic Idealize.ShloMosaic.TcCoe Cert.Normed Cert.Gates
open Idealize.ShloMosaic.Pipeline (Dat)

/-! ## The tables of cosines and sines -/

/-- The corner of a block. -/
theorem origin : (![0, 0] : Fin 2 → Nat) = fun _ => 0 := funext fun a => by fin_cases a <;> rfl

/-- A table's cosine. -/
theorem cosine_apply (x0 : Vec Ideal S16x128 .f32) (x1 x2 : Vec Ideal S1x128 .f32) (t : Fin 16) (l : Fin 128) :
    out0_3 x0 x1 x2 (ix2 t l) = Ideal.cos (x0 (ix2 t l) * x1 (ix2 0 l)) := by
  unfold out0_3
  rw [View.canon_unit_zero origin, View.ld_unit_zero origin, View.ld_unit_zero origin]
  pointwise [k0_pay2, k0_pay1]

/-- A table's sine, with its sign. -/
theorem sine_apply (x0 : Vec Ideal S16x128 .f32) (x1 x2 : Vec Ideal S1x128 .f32) (t : Fin 16) (l : Fin 128) :
    out0_4 x0 x1 x2 (ix2 t l) = Ideal.sin (x0 (ix2 t l) * x1 (ix2 0 l)) * x2 (ix2 0 l) := by
  unfold out0_4
  rw [View.canon_unit_zero origin, View.ld_unit_zero origin, View.ld_unit_zero origin, View.ld_unit_zero origin]
  pointwise [k0_pay3, k0_pay1]

/-! ## A block's results -/

/-- A normed row of a block. -/
theorem normed_apply (x0 : Vec Ideal S256x1024 .f32) (x1 : Vec Ideal S1x1024 .f32) (r : Fin 256) (k : Fin 1024) :
    k1_pay2 x0 x1 (ix2 r k) = normed (fun k => x0 (ix2 r k)) (x1 (ix2 0 k)) k := by
  pointwise [k1_pay2]
  rfl

/-- A product of a block's normed rows by a part of the weights. -/
theorem product_apply (h : FVec Ideal S256x1024 .bf16) (w : Vec Ideal S1024x1024 .bf16) (r : Fin 256) (j : Fin 1024) :
    k1_pay8 h w (ix2 r j) = ∑ k, h (ix2 r k) * w (ix2 k j) := by
  pointwise [k1_pay8]

/-- The gated values of a block. -/
theorem gated_apply (h : FVec Ideal S256x1024 .bf16) (w w' : Vec Ideal S1024x1024 .bf16) (r : Fin 256) (j : Fin 1024) :
    k1_pay6 h w w' (ix2 r j) = (∑ k, h (ix2 r k) * w (ix2 k j)) * Ideal.logistic (∑ k, h (ix2 r k) * w' (ix2 k j)) := by
  pointwise [k1_pay6]

/-- The gates of a block. -/
theorem gate_apply (h : FVec Ideal S256x1024 .bf16) (w : Vec Ideal S1024x1024 .bf16) (r : Fin 256) (j : Fin 1024) :
    k1_pay7 h w (ix2 r j) = silu (∑ k, h (ix2 r k) * w (ix2 k j)) := by
  pointwise [k1_pay7]
  rfl

/-- The last gates of a block. -/
theorem gate_apply' (h : FVec Ideal S256x1024 .bf16) (w : Vec Ideal S1024x1024 .bf16) (r : Fin 256) (j : Fin 1024) :
    k1_pay1 h (k1_pay42 w) (ix2 r j) = silu (∑ k, h (ix2 r k) * w (ix2 k j)) := by
  pointwise [k1_pay1, k1_pay42]
  rfl

/-- The channel that a channel is rotated with: the other half of its head of 64. -/
def partner (n : Fin 1024) : Fin 1024 := ⟨if n.val % 64 < 32 then n.val + 32 else n.val - 32, by split <;> omega⟩

/-- A channel rotated with its partner by tables of 128 lanes. -/
def turned (y : FVec Ideal S256x1024 .f32) (cos sin : FVec Ideal S256x128 .f32) (r : Fin 256) (n : Fin 1024) : EReal :=
  y (ix2 r n) * cos (ix2 r ⟨n.val % 128, by omega⟩) + y (ix2 r (partner n)) * sin (ix2 r ⟨n.val % 128, by omega⟩)

/-- Whether a lane is in the first half of its head, in words. -/
theorem half_word (r : Fin 256) (l : Fin 128) : k1_pay5 (ix2 r l) = if l.val % 64 < 32 then 1#1 else 0#1 := by
  pointwise [k1_pay5]
  revert l
  decide +kernel

/-- A piece of 128 channels rotated by position. -/
def piece (z cos sin : FVec Ideal S256x128 .f32) : FVec Ideal S256x128 .f32 :=
  addf (mulf z cos) (mulf (select k1_pay5 (dynamicRotate 1 96#32 none z rotates_S256x128_d1) (dynamicRotate 1 32#32 none z rotates_S256x128_d1)) sin)

/-- A piece's lane: itself and its partner, by the tables. -/
theorem piece_apply (z cos sin : FVec Ideal S256x128 .f32) (r : Fin 256) (l : Fin 128) :
    piece z cos sin (ix2 r l) = z (ix2 r l) * cos (ix2 r l)
      + z (ix2 r ⟨if l.val % 64 < 32 then l.val + 32 else l.val - 32, by split <;> omega⟩) * sin (ix2 r l) := by
  have h := half_word r l
  unfold piece
  generalize k1_pay5 = f at h
  pointwise []
  rw [h]
  by_cases hl : l.val % 64 < 32
  · refine congrArg (z (ix2 r l) * cos (ix2 r l) + · * sin (ix2 r l)) ?_
    rw [if_pos hl]
    refine congrArg z (congrArg (ix2 r) (Fin.ext ?_))
    show (l.val + 32) % 128 = if l.val % 64 < 32 then l.val + 32 else l.val - 32
    rw [if_pos hl]
    omega
  · refine congrArg (z (ix2 r l) * cos (ix2 r l) + · * sin (ix2 r l)) ?_
    rw [if_neg hl]
    refine congrArg z (congrArg (ix2 r) (Fin.ext ?_))
    show (l.val + 96) % 128 = if l.val % 64 < 32 then l.val + 32 else l.val - 32
    rw [if_neg hl]
    omega

/-- A piece of the rotated channels. -/
theorem turned_piece (y : FVec Ideal S256x1024 .f32) (cos sin : FVec Ideal S256x128 .f32) (o : ℕ) (ho : o % 128 = 0) (ho' : o + 128 ≤ 1024)
    (h : S256x1024.Slices ![0, o] S256x128) (r : Fin 256) (l : Fin 128) :
    piece (extractStridedSlice S256x128 ![0, o] y h) cos sin (ix2 r l) = turned y cos sin r ⟨o + l.val, by omega⟩ := by
  rw [piece_apply]
  unfold turned partner
  have e : (o + l.val) % 128 = l.val := by omega
  have e' : (o + l.val) % 64 = l.val % 64 := by omega
  pointwise []
  simp only [e, e']
  refine congrArg (fun n => y (ix2 r ⟨o + l.val, by omega⟩) * cos (ix2 r l) + y (ix2 r n) * sin (ix2 r l)) (Fin.ext ?_)
  dsimp only
  split <;> omega

/-- A stored piece of the rotated channels, where its rectangle lies. -/
theorem turned_at (y : FVec Ideal S256x1024 .f32) (cos sin : FVec Ideal S256x128 .f32) (o : ℕ) (ho : o % 128 = 0) (ho' : o + 128 ≤ 1024)
    (h : S256x1024.Slices ![0, o] S256x128) (inb : ∀ a, (![0, o] : Fin 2 → ℕ) a + S256x128.size a ≤ S256x1024.size a) (x : S256x128.Idx) :
    piece (extractStridedSlice S256x128 ![0, o] y h) cos sin x
      = (fun i : S256x1024.Idx => turned y cos sin (i 0) (i 1)) ((Rect.unit (s := S256x1024) ![0, o] S256x128.size inb).emb x) := by
  rw [eq_ix2 x]
  refine (turned_piece y cos sin o ho ho' h (x 0) (x 1)).trans (congrArg₂ (turned y cos sin) (Fin.ext ?_) (Fin.ext ?_))
  · show (x 0).val = 0 + 1 * (x 0).val
    omega
  · show o + (x 1).val = o + 1 * (x 1).val
    omega

/-- The rotated channels, stored piece by piece. -/
theorem turned_canon (y : FVec Ideal S256x1024 .f32) (cos sin : FVec Ideal S256x128 .f32) (r : Fin 256) (n : Fin 1024) :
    (View.canon [⟨r1_14, piece (extractStridedSlice S256x128 ![0, 896] y slices_S256x1024_o0_896_S256x128) cos sin⟩,
      ⟨r1_13, piece (extractStridedSlice S256x128 ![0, 768] y slices_S256x1024_o0_768_S256x128) cos sin⟩,
      ⟨r1_12, piece (extractStridedSlice S256x128 ![0, 640] y slices_S256x1024_o0_640_S256x128) cos sin⟩,
      ⟨r1_11, piece (extractStridedSlice S256x128 ![0, 512] y slices_S256x1024_o0_512_S256x128) cos sin⟩,
      ⟨r1_10, piece (extractStridedSlice S256x128 ![0, 384] y slices_S256x1024_o0_384_S256x128) cos sin⟩,
      ⟨r1_9, piece (extractStridedSlice S256x128 ![0, 256] y slices_S256x1024_o0_256_S256x128) cos sin⟩,
      ⟨r1_8, piece (extractStridedSlice S256x128 ![0, 128] y slices_S256x1024_o0_128_S256x128) cos sin⟩,
      ⟨r1_7, piece (extractStridedSlice S256x128 ![0, 0] y slices_S256x1024_o0_0_S256x128) cos sin⟩] : Vec Ideal S256x1024 .f32) (ix2 r n)
      = turned y cos sin r n := by
  refine View.canon_apply_of_pieces (Val := Elt Ideal) (fun i : S256x1024.Idx => turned y cos sin (i 0) (i 1)) _ ?_ (ix2 r n) (cover1_7 _ _ _ _ _ _ _ _ _)
  intro p hp x
  simp only [List.mem_cons, List.not_mem_nil, or_false] at hp
  rcases hp with rfl | rfl | rfl | rfl | rfl | rfl | rfl | rfl
  · exact turned_at y cos sin 896 (by decide) (by decide) slices_S256x1024_o0_896_S256x128 inb_S256x1024_S256x128_0_896 x
  · exact turned_at y cos sin 768 (by decide) (by decide) slices_S256x1024_o0_768_S256x128 inb_S256x1024_S256x128_0_768 x
  · exact turned_at y cos sin 640 (by decide) (by decide) slices_S256x1024_o0_640_S256x128 inb_S256x1024_S256x128_0_640 x
  · exact turned_at y cos sin 512 (by decide) (by decide) slices_S256x1024_o0_512_S256x128 inb_S256x1024_S256x128_0_512 x
  · exact turned_at y cos sin 384 (by decide) (by decide) slices_S256x1024_o0_384_S256x128 inb_S256x1024_S256x128_0_384 x
  · exact turned_at y cos sin 256 (by decide) (by decide) slices_S256x1024_o0_256_S256x128 inb_S256x1024_S256x128_0_256 x
  · exact turned_at y cos sin 128 (by decide) (by decide) slices_S256x1024_o0_128_S256x128 inb_S256x1024_S256x128_0_128 x
  · exact turned_at y cos sin 0 (by decide) (by decide) slices_S256x1024_o0_0_S256x128 inb_S256x1024_S256x128_0_0 x

/-- A stored piece of the channels that are not rotated, where its rectangle lies. -/
theorem plain_at (y : FVec Ideal S256x1024 .f32) (o : ℕ) (h : S256x1024.Slices ![0, o] S256x128)
    (inb : ∀ a, (![0, o] : Fin 2 → ℕ) a + S256x128.size a ≤ S256x1024.size a) (x : S256x128.Idx) :
    (extractStridedSlice S256x128 ![0, o] y h : FVec Ideal S256x128 .f32) x = y ((Rect.unit (s := S256x1024) ![0, o] S256x128.size inb).emb x) := by
  refine congrArg y (funext fun a => Fin.ext ?_)
  match a with
  | ⟨0, _⟩ => show 0 + (x 0).val = 0 + 1 * (x 0).val; omega
  | ⟨1, _⟩ => show o + (x 1).val = o + 1 * (x 1).val; omega

/-- A projection of a block's normed row: channel `n`. -/
def lin (x0 : Vec Ideal S256x1024 .f32) (x1 : Vec Ideal S1x1024 .f32) (x2 : Vec Ideal S1024x7168 .bf16) (r : Fin 256) (n : Fin 7168) : EReal :=
  ∑ k, normed (fun k => x0 (ix2 r k)) (x1 (ix2 0 k)) k * x2 (ix2 k n)

section Out

variable (x0 : Vec Ideal S256x1024 .f32) (x1 : Vec Ideal S1x1024 .f32) (x2 : Vec Ideal S1024x7168 .bf16) (x3 x4 : Vec Ideal S256x128 .f32)
  (r : Fin 256) (j : Fin 1024)

/-- The projection of the normed rows by a part of the weights. -/
theorem part_apply (w : Vec Ideal S1024x1024 .bf16) (n : Fin 7168) (hw : ∀ k, w (ix2 k j) = x2 (ix2 k n)) :
    ∑ k, k1_pay43 x0 x1 x2 x3 x4 (ix2 r k) * w (ix2 k j) = lin x0 x1 x2 r n := by
  refine Finset.sum_congr rfl fun k _ => congrArg₂ (· * ·) ?_ (hw k)
  unfold k1_pay43
  rw [View.ld_unit_zero origin, View.ld_unit_zero origin]
  exact normed_apply x0 x1 r k

/-- The gated values that a point leaves. -/
theorem out5 : out1_5 x0 x1 x2 x3 x4 (ix2 r j) = lin x0 x1 x2 r ⟨j.val, by omega⟩ * Ideal.logistic (lin x0 x1 x2 r ⟨1024 + j.val, by omega⟩) := by
  unfold out1_5
  rw [View.canon_unit_zero origin]
  refine (gated_apply _ _ _ r j).trans ?_
  rw [part_apply x0 x1 x2 x3 x4 r j _ ⟨j.val, by omega⟩ (fun k => by pointwise []),
    part_apply x0 x1 x2 x3 x4 r j _ ⟨1024 + j.val, by omega⟩ (fun k => by pointwise [])]

/-- The first gate that a point leaves. -/
theorem out6 : out1_6 x0 x1 x2 x3 x4 (ix2 r j) = silu (lin x0 x1 x2 r ⟨2048 + j.val, by omega⟩) := by
  unfold out1_6
  rw [View.canon_unit_zero origin]
  exact (gate_apply _ _ r j).trans (congrArg silu (part_apply x0 x1 x2 x3 x4 r j _ ⟨2048 + j.val, by omega⟩ (fun k => by pointwise [])))

/-- The second gate that a point leaves. -/
theorem out10 : out1_10 x0 x1 x2 x3 x4 (ix2 r j) = silu (lin x0 x1 x2 r ⟨6144 + j.val, by omega⟩) := by
  unfold out1_10
  rw [View.canon_unit_zero origin]
  exact (gate_apply' _ _ r j).trans (congrArg silu (part_apply x0 x1 x2 x3 x4 r j _ ⟨6144 + j.val, by omega⟩ (fun k => by pointwise [])))

/-- A projection rotated by the point's tables, its part of the weights beginning at channel `o`. -/
def rotated (o : ℕ) (ho : o + 1024 ≤ 7168) : EReal :=
  lin x0 x1 x2 r ⟨o + j.val, by omega⟩ * x3 (ix2 r ⟨j.val % 128, by omega⟩)
    + lin x0 x1 x2 r ⟨o + (partner j).val, by omega⟩ * x4 (ix2 r ⟨j.val % 128, by omega⟩)

/-- The tables, as a point holds them. -/
theorem tables : k1_pay44 x0 x1 x2 x3 x4 = x3 ∧ k1_pay45 x0 x1 x2 x3 x4 = x4 := by
  unfold k1_pay44 k1_pay45 k1_pay3 k1_pay4
  rw [View.ld_unit_zero origin, View.ld_unit_zero origin]
  constructor <;> exact shapeCast_self _ _

/-- A projection's channels rotated are a rotated projection. -/
theorem turned_lin (w : Vec Ideal S1024x1024 .bf16) (o : ℕ) (ho : o + 1024 ≤ 7168) (hw : ∀ k n, w (ix2 k n) = x2 (ix2 k ⟨o + n.val, by omega⟩)) :
    turned (k1_pay8 (k1_pay43 x0 x1 x2 x3 x4) w) (k1_pay44 x0 x1 x2 x3 x4) (k1_pay45 x0 x1 x2 x3 x4) r j = rotated x0 x1 x2 x3 x4 r j o ho := by
  obtain ⟨e3, e4⟩ := tables x0 x1 x2 x3 x4
  rw [e3, e4]
  unfold turned rotated
  rw [product_apply, product_apply, part_apply x0 x1 x2 x3 x4 r j w ⟨o + j.val, by omega⟩ (hw · j),
    part_apply x0 x1 x2 x3 x4 r (partner j) w ⟨o + (partner j).val, by omega⟩ (hw · (partner j))]

/-- The queries that a point leaves. -/
theorem out7 : out1_7 x0 x1 x2 x3 x4 (ix2 r j) = rotated x0 x1 x2 x3 x4 r j 3072 (by decide) :=
  (turned_canon (k1_pay47 x0 x1 x2 x3 x4) (k1_pay44 x0 x1 x2 x3 x4) (k1_pay45 x0 x1 x2 x3 x4) r j).trans
    (turned_lin x0 x1 x2 x3 x4 r j _ 3072 (by decide) fun k n => by pointwise [])

/-- The keys that a point leaves. -/
theorem out8 : out1_8 x0 x1 x2 x3 x4 (ix2 r j) = rotated x0 x1 x2 x3 x4 r j 4096 (by decide) :=
  (turned_canon (k1_pay48 x0 x1 x2 x3 x4) (k1_pay44 x0 x1 x2 x3 x4) (k1_pay45 x0 x1 x2 x3 x4) r j).trans
    (turned_lin x0 x1 x2 x3 x4 r j _ 4096 (by decide) fun k n => by pointwise [])

/-- The values that a point leaves. -/
theorem out9 : out1_9 x0 x1 x2 x3 x4 (ix2 r j) = lin x0 x1 x2 r ⟨5120 + j.val, by omega⟩ := by
  refine (View.canon_apply_of_pieces (Val := Elt Ideal) (k1_pay33 (k1_pay43 x0 x1 x2 x3 x4) (View.ld x2 r1_16)) _ ?_ (ix2 r j) (cover1_9 _ _ _ _ _ _ _ _ _)).trans ?_
  · intro p hp x
    simp only [List.mem_cons, List.not_mem_nil, or_false] at hp
    rcases hp with rfl | rfl | rfl | rfl | rfl | rfl | rfl | rfl
    · exact plain_at (k1_pay33 (k1_pay43 x0 x1 x2 x3 x4) (View.ld x2 r1_16)) 896 slices_S256x1024_o0_896_S256x128 inb_S256x1024_S256x128_0_896 x
    · exact plain_at (k1_pay33 (k1_pay43 x0 x1 x2 x3 x4) (View.ld x2 r1_16)) 768 slices_S256x1024_o0_768_S256x128 inb_S256x1024_S256x128_0_768 x
    · exact plain_at (k1_pay33 (k1_pay43 x0 x1 x2 x3 x4) (View.ld x2 r1_16)) 640 slices_S256x1024_o0_640_S256x128 inb_S256x1024_S256x128_0_640 x
    · exact plain_at (k1_pay33 (k1_pay43 x0 x1 x2 x3 x4) (View.ld x2 r1_16)) 512 slices_S256x1024_o0_512_S256x128 inb_S256x1024_S256x128_0_512 x
    · exact plain_at (k1_pay33 (k1_pay43 x0 x1 x2 x3 x4) (View.ld x2 r1_16)) 384 slices_S256x1024_o0_384_S256x128 inb_S256x1024_S256x128_0_384 x
    · exact plain_at (k1_pay33 (k1_pay43 x0 x1 x2 x3 x4) (View.ld x2 r1_16)) 256 slices_S256x1024_o0_256_S256x128 inb_S256x1024_S256x128_0_256 x
    · exact plain_at (k1_pay33 (k1_pay43 x0 x1 x2 x3 x4) (View.ld x2 r1_16)) 128 slices_S256x1024_o0_128_S256x128 inb_S256x1024_S256x128_0_128 x
    · exact plain_at (k1_pay33 (k1_pay43 x0 x1 x2 x3 x4) (View.ld x2 r1_16)) 0 slices_S256x1024_o0_0_S256x128 inb_S256x1024_S256x128_0_0 x
  · exact (product_apply _ _ r j).trans (part_apply x0 x1 x2 x3 x4 r j _ ⟨5120 + j.val, by omega⟩ (fun k => by pointwise []))

end Out

end Cert.InEven

end
-- ==== Proof.EvenEntry.lean ====
module

public import proofs.«01_k».proof.Proof.EvenKernel
public import Idealize.ShloMosaic.Lib.StableHlo.RunRead

/-! # The even layer's input projection: what its calls read

The tables are made by a first call, from positions, frequencies and signs by lane; the second call reads them repeated for every 16
rows of a block, beside the padded tokens, the norm's gain and the weights. -/

@[expose] public section

set_option maxRecDepth 16384

noncomputable section

namespace Cert.InEven

open Cert.Kernel5Ideal Cert.Kernel5Ideal.Gen Idealize.ShloMosaic Idealize.ShloMosaic.TcCoe Cert.Normed Cert.Gates
open Idealize.ShloMosaic.Pipeline (Dat)

variable (m : (ℓ : Loc nD τ sig) → Buf (Elt Ideal) ℓ) (ρ : Dev nD → PrngReg) (c : Dev nD)

/-- The tokens, as launched. -/
def input : S32x4x1024.Idx → EReal := m ((c : Thread nD τ).loc main_arg0)
/-- The norm's gain, as launched. -/
def gain : S1024.Idx → EReal := m ((c : Thread nD τ).loc main_arg1)
/-- The weights, as launched. -/
def weight : S1024x7168.Idx → EReal := m ((c : Thread nD τ).loc main_arg2)

/-- A token's position, `t` steps after the prompt. -/
def position (t : ℕ) : EReal := FloatOps.sitofp (F := Ideal) .f32 (IntOp.addi 16384#32 (BitVec.ofNat 32 t))

/-- A channel's frequency, by its place in its half of a head. -/
def frequency (d : ℕ) : EReal :=
  Ideal.pow (Ideal.ofBits .f32 1176256512#32) (Ideal.div (-FloatOps.sitofp (F := Ideal) .f32 (BitVec.ofNat 32 d)) (Ideal.ofBits .f32 1107296256#32))

/-- A lane's sign: minus in the first half of a head, plus in the second. -/
def sign (l : ℕ) : EReal := if l % 64 < 32 then Ideal.ofBits .f32 0xBF800000#32 else 1

/-! ## What the first call reads -/

/-- The positions, by token and lane. -/
theorem positions_apply (t : Fin 16) (l : Fin 128) : (W7 m ρ c (Proc.devRef .tc main_v23) : S16x128.Idx → EReal) (ix2 t l) = position t.val := by
  simp only [W7, W6, W5, W4, W3]
  after_reads_simp
  pointwise []
  rfl

/-- The frequencies, by lane. -/
theorem frequencies_apply (l : Fin 128) : (W7 m ρ c (Proc.devRef .tc main_v13) : S1x128.Idx → EReal) (ix2 0 l) = frequency (l.val % 32) := by
  simp only [W7, W6, W5, W4, W3]
  after_reads_simp
  pointwise []
  rfl

/-- Which lanes are in the first half of their head. -/
theorem first_half : ∀ l : Fin 128,
    (IntOp.cmpi CmpIPredicate.slt
        (Scalar.select
          (IntOp.andi
            (IntOp.cmpi CmpIPredicate.ne
              (IntOp.cmpi CmpIPredicate.slt
                (IntOp.remsi ArithUnit.host (BitVec.ofNat 32 l)
                  (Scalar.select (IntOp.cmpi CmpIPredicate.eq 64#32 0#32) 1#32 64#32))
                0#32)
              (IntOp.cmpi CmpIPredicate.slt (Scalar.select (IntOp.cmpi CmpIPredicate.eq 64#32 0#32) 1#32 64#32) 0#32))
            (IntOp.cmpi CmpIPredicate.ne
              (IntOp.remsi ArithUnit.host (BitVec.ofNat 32 l)
                (Scalar.select (IntOp.cmpi CmpIPredicate.eq 64#32 0#32) 1#32 64#32))
              0#32))
          (IntOp.addi
            (IntOp.remsi ArithUnit.host (BitVec.ofNat 32 l)
              (Scalar.select (IntOp.cmpi CmpIPredicate.eq 64#32 0#32) 1#32 64#32))
            (Scalar.select (IntOp.cmpi CmpIPredicate.eq 64#32 0#32) 1#32 64#32))
          (IntOp.remsi ArithUnit.host (BitVec.ofNat 32 l)
            (Scalar.select (IntOp.cmpi CmpIPredicate.eq 64#32 0#32) 1#32 64#32)))
        32#32) = if l.val % 64 < 32 then 1#1 else 0#1 := by decide +kernel

/-- The signs, by lane: minus in the first half of a head, plus in the second. -/
theorem signs_apply (l : Fin 128) : (W7 m ρ c (Proc.devRef .tc main_v20) : S1x128.Idx → EReal) (ix2 0 l)
    = sign l.val := by
  simp only [W7, W6, W5, W4, W3]
  after_reads_simp
  simp only [StableHlo.TRef.toBuf, StableHlo.TRef.ofBuf, cast_eq, id]
  pointwise []
  refine (congrArg (fun b => Scalar.select b (Ideal.ofBits FTy.f32 3212836864#32) (1 : EReal)) (first_half l)).trans ?_
  unfold sign
  by_cases h : l.val % 64 < 32
  · rw [if_pos h, if_pos h]; rfl
  · rw [if_neg h, if_neg h]; rfl

/-- The tokens, padded to 16 rows a sequence. -/
theorem padded_apply (b : Fin 32) (t : Fin 16) (h : t.val < 4) (k : Fin 1024) :
    (W7 m ρ c (Proc.devRef .tc main_v0) : S32x16x1024.Idx → EReal) (ix3 b t k) = input m c (ix3 b ⟨t.val, h⟩ k) := by
  simp only [W7, W6, W5, W4, W3, W2, W1, W0]
  after_reads_simp
  simp only [StableHlo.TRef.toBuf, StableHlo.TRef.ofBuf, cast_eq, id]
  pointwise []
  rw [dif_pos h]
  rfl

/-! ## The tables -/

/-- The first call has one point, whose blocks are its arrays. -/
theorem whole : ∀ t : Fin cfg0.N, win0_0.index t = ![0, 0] ∧ win0_1.index t = ![0, 0] ∧ win0_2.index t = ![0, 0] ∧
    win0_3.index t = ![0, 0] ∧ win0_4.index t = ![0, 0] :=
  (by decide +kernel : ∀ t : Fin grid0.N, _)

/-- It writes one point only. -/
theorem single (t t' : Fin cfg0.N) : t = t' := by
  have h : cfg0.N = 1 := by decide
  exact Fin.ext (by omega)

/-- Its positions. -/
theorem whole0 (t : Fin cfg0.N) (s : Fin 16) (l : Fin 128) : (iblk0 (V7 m ρ) c 0 t : Vec Ideal S16x128 .f32) (ix2 s l) = position s.val := by
  have e := (whole t).1
  have e1 : ((cfg0.win 0).blk t).view.emb (ix2 s l : S16x128.Idx) = (ix2 s l : S16x128.Idx) := by
    blk_ext [e]
  unfold iblk0
  rw [View.read_apply]
  exact (congrArg (V7 m ρ c main_v23) e1).trans (positions_apply m ρ c s l)

/-- Its frequencies. -/
theorem whole1 (t : Fin cfg0.N) (l : Fin 128) : (iblk0 (V7 m ρ) c 1 t : Vec Ideal S1x128 .f32) (ix2 0 l) = frequency (l.val % 32) := by
  have e := (whole t).2.1
  have e1 : ((cfg0.win 1).blk t).view.emb (ix2 0 l : S1x128.Idx) = (ix2 0 l : S1x128.Idx) := by
    blk_ext [e]
  unfold iblk0
  rw [View.read_apply]
  exact (congrArg (V7 m ρ c main_v13) e1).trans (frequencies_apply m ρ c l)

/-- Its signs. -/
theorem whole2 (t : Fin cfg0.N) (l : Fin 128) : (iblk0 (V7 m ρ) c 2 t : Vec Ideal S1x128 .f32) (ix2 0 l) = sign l.val := by
  have e := (whole t).2.2.1
  have e1 : ((cfg0.win 2).blk t).view.emb (ix2 0 l : S1x128.Idx) = (ix2 0 l : S1x128.Idx) := by
    blk_ext [e]
  unfold iblk0
  rw [View.read_apply]
  exact (congrArg (V7 m ρ c main_v20) e1).trans (signs_apply m ρ c l)

/-- A token's angle at a lane. -/
def angle (s l : ℕ) : EReal := position s * frequency (l % 32)

/-- The table of cosines. -/
theorem cosines_apply (s : Fin 16) (l : Fin 128) :
    (W8 m ρ c (Proc.devRef .tc main_v24_0) : S16x128.Idx → EReal) (ix2 s l) = Ideal.cos (angle s.val l.val) := by
  obtain ⟨t⟩ : Nonempty (Fin cfg0.N) := ⟨⟨0, by decide⟩⟩
  have e := (whole t).2.2.2.1
  have e1 : ((cfg0.win 3).blk t).view.emb (ix2 s l : S16x128.Idx) = (ix2 s l : S16x128.Idx) := by
    blk_ext [e]
  have g := (dat0 (V7 m ρ) c).arrAt_emb_eq_flushed 3 (fun t t' _ _ h => absurd (single t t') h) t (flush0_3 _) (ix2 s l : S16x128.Idx)
  rw [e1] at g
  refine (congrFun (W8_arr m ρ c 3) _).trans ((g.trans (eq_of_heq (cast_heq _ _))).trans ?_)
  show (cfg0.win 3).cut (grid0.coords t) ((dat0 (V7 m ρ) c).after 3 t) (ix2 s l) = _
  rw [after0_3]
  refine (cosine_apply (iblk0 (V7 m ρ) c 0 t) (iblk0 (V7 m ρ) c 1 t) (iblk0 (V7 m ρ) c 2 t) s l).trans ?_
  rw [whole0, whole1]
  rfl

/-- The table of signed sines. -/
theorem sines_apply (s : Fin 16) (l : Fin 128) :
    (W8 m ρ c (Proc.devRef .tc main_v24_1) : S16x128.Idx → EReal) (ix2 s l) = Ideal.sin (angle s.val l.val) * sign l.val := by
  obtain ⟨t⟩ : Nonempty (Fin cfg0.N) := ⟨⟨0, by decide⟩⟩
  have e := (whole t).2.2.2.2
  have e1 : ((cfg0.win 4).blk t).view.emb (ix2 s l : S16x128.Idx) = (ix2 s l : S16x128.Idx) := by
    blk_ext [e]
  have g := (dat0 (V7 m ρ) c).arrAt_emb_eq_flushed 4 (fun t t' _ _ h => absurd (single t t') h) t (flush0_4 _) (ix2 s l : S16x128.Idx)
  rw [e1] at g
  refine (congrFun (W8_arr m ρ c 4) _).trans ((g.trans (eq_of_heq (cast_heq _ _))).trans ?_)
  show (cfg0.win 4).cut (grid0.coords t) ((dat0 (V7 m ρ) c).after 4 t) (ix2 s l) = _
  rw [after0_4]
  refine (sine_apply (iblk0 (V7 m ρ) c 0 t) (iblk0 (V7 m ρ) c 1 t) (iblk0 (V7 m ρ) c 2 t) s l).trans ?_
  rw [whole0, whole1, whole2]
  rfl

/-! ## What the second call reads -/

/-- The cosines, by row of a block. -/
theorem tile_cosine (r : Fin 256) (l : Fin 128) :
    (W9 m ρ c (Proc.devRef .tc main_v27) : S256x128.Idx → EReal) (ix2 r l) = Ideal.cos (angle (r.val % 16) l.val) := by
  refine Eq.trans ?_ (cosines_apply m ρ c ⟨r.val % 16, by omega⟩ l)
  simp only [W9]
  after_reads_simp
  generalize (W8 m ρ c (Proc.devRef .tc main_v24_0) : S16x128.Idx → EReal) = z
  pointwise []

/-- The signed sines, by row of a block. -/
theorem tile_sine (r : Fin 256) (l : Fin 128) :
    (W9 m ρ c (Proc.devRef .tc main_v30) : S256x128.Idx → EReal) (ix2 r l) = Ideal.sin (angle (r.val % 16) l.val) * sign l.val := by
  refine Eq.trans ?_ (sines_apply m ρ c ⟨r.val % 16, by omega⟩ l)
  simp only [W9]
  after_reads_simp
  generalize (W8 m ρ c (Proc.devRef .tc main_v24_1) : S16x128.Idx → EReal) = z
  pointwise []

/-- The tokens, by flat row. -/
theorem rows_apply (b : Fin 32) (s : Fin 4) (k : Fin 1024) :
    (W9 m ρ c (Proc.devRef .tc main_v31) : S512x1024.Idx → EReal) (ix2 ⟨16 * b.val + s.val, by omega⟩ k) = input m c (ix3 b s k) := by
  refine Eq.trans ?_ ((congrFun (W8_of_ne m ρ c main_v0 (by decide)) _).trans (padded_apply m ρ c b ⟨s.val, by omega⟩ s.isLt k))
  simp only [W9]
  after_reads_simp
  generalize (W8 m ρ c (Proc.devRef .tc main_v0) : S32x16x1024.Idx → EReal) = z
  pointwise []
  exact congrArg (fun t => z (ix3 b t k)) (Fin.ext (by show (16 * b.val + s.val) % 16 = s.val; omega))

/-- The gain, as a row. -/
theorem gains_apply (k : Fin 1024) :
    (W9 m ρ c (Proc.devRef .tc main_v33) : S1x1024.Idx → EReal) (ix2 0 k) = gain m c (ix1 k) := by
  simp only [W9]
  after_reads_simp
  rw [W8_args m ρ c main_arg1 (by decide)]
  pointwise []
  rfl

/-- The weights. -/
theorem weights_apply (k : Fin 1024) (n : Fin 7168) :
    (W9 m ρ c (Proc.devRef .tc main_v32) : S1024x7168.Idx → EReal) (ix2 k n) = weight m c (ix2 k n) := by
  simp only [W9]
  after_reads_simp
  rw [W8_args m ρ c main_arg2 (by decide)]
  pointwise []
  rfl

end Cert.InEven

end
-- ==== Proof.EvenRun.lean ====
module

public import proofs.«01_k».proof.Proof.EvenEntry

/-! # The even layer's input projection: what it leaves

The second call's arrays at a token's row, the results cut from them, and the run with its results named. -/

@[expose] public section

set_option maxRecDepth 16384

noncomputable section

namespace Cert.InEven

open Cert.Kernel5Ideal Cert.Kernel5Ideal.Gen Idealize.ShloMosaic Idealize.ShloMosaic.TcCoe Idealize.SL.Sem Cert.Normed Cert.Gates
open Idealize.ShloMosaic.Pipeline (Dat)

variable (m : (ℓ : Loc nD τ sig) → Buf (Elt Ideal) ℓ) (ρ : Dev nD → PrngReg) (c : Dev nD)

/-! ## A point's blocks -/

/-- Where the second call's blocks lie. -/
theorem idx_facts : ∀ t : Fin cfg1.N,
    (win1_0.index t = ![t.val, 0] ∧ win1_1.index t = ![0, 0] ∧ win1_2.index t = ![0, 0] ∧ win1_3.index t = ![0, 0] ∧ win1_4.index t = ![0, 0]) ∧
      win1_5.index t = ![t.val, 0] ∧ win1_6.index t = ![t.val, 0] ∧ win1_7.index t = ![t.val, 0] ∧ win1_8.index t = ![t.val, 0] ∧
        win1_9.index t = ![t.val, 0] ∧ win1_10.index t = ![t.val, 0] :=
  (by decide +kernel : ∀ t : Fin grid1.N, _)

/-- A block's place tells its point. -/
theorem apart {x y : ℕ} (h : (![x, 0] : Fin 2 → ℕ) = ![y, 0]) : x = y := congrFun h 0

/-- The tokens' rows of a point. -/
theorem blk0 (t : Fin cfg1.N) (b : Fin 32) (s : Fin 4) (r : Fin 256) (k : Fin 1024) (h : 16 * b.val + s.val = 256 * t.val + r.val) :
    (iblk1 (V9 m ρ) c 0 t : Vec Ideal S256x1024 .f32) (ix2 r k) = input m c (ix3 b s k) := by
  have e := (idx_facts t).1.1
  have e1 : ((cfg1.win 0).blk t).view.emb (ix2 r k : S256x1024.Idx) = (ix2 ⟨16 * b.val + s.val, by omega⟩ k : S512x1024.Idx) := by
    blk_ext [e]
  unfold iblk1
  rw [View.read_apply]
  exact (congrArg (V9 m ρ c main_v31) e1).trans (rows_apply m ρ c b s k)

/-- The norm's gain. -/
theorem blk1 (t : Fin cfg1.N) (k : Fin 1024) : (iblk1 (V9 m ρ) c 1 t : Vec Ideal S1x1024 .f32) (ix2 0 k) = gain m c (ix1 k) := by
  have e := (idx_facts t).1.2.1
  have e1 : ((cfg1.win 1).blk t).view.emb (ix2 0 k : S1x1024.Idx) = (ix2 0 k : S1x1024.Idx) := by
    blk_ext [e]
  unfold iblk1
  rw [View.read_apply]
  exact (congrArg (V9 m ρ c main_v33) e1).trans (gains_apply m ρ c k)

/-- The weights. -/
theorem blk2 (t : Fin cfg1.N) (k : Fin 1024) (n : Fin 7168) :
    (iblk1 (V9 m ρ) c 2 t : Vec Ideal S1024x7168 .bf16) (ix2 k n) = weight m c (ix2 k n) := by
  have e := (idx_facts t).1.2.2.1
  have e1 : ((cfg1.win 2).blk t).view.emb (ix2 k n : S1024x7168.Idx) = (ix2 k n : S1024x7168.Idx) := by
    blk_ext [e]
  unfold iblk1
  rw [View.read_apply]
  exact (congrArg (V9 m ρ c main_v32) e1).trans (weights_apply m ρ c k n)

/-- The cosines. -/
theorem blk3 (t : Fin cfg1.N) (r : Fin 256) (l : Fin 128) :
    (iblk1 (V9 m ρ) c 3 t : Vec Ideal S256x128 .f32) (ix2 r l) = Ideal.cos (angle (r.val % 16) l.val) := by
  have e := (idx_facts t).1.2.2.2.1
  have e1 : ((cfg1.win 3).blk t).view.emb (ix2 r l : S256x128.Idx) = (ix2 r l : S256x128.Idx) := by
    blk_ext [e]
  unfold iblk1
  rw [View.read_apply]
  exact (congrArg (V9 m ρ c main_v27) e1).trans (tile_cosine m ρ c r l)

/-- The signed sines. -/
theorem blk4 (t : Fin cfg1.N) (r : Fin 256) (l : Fin 128) :
    (iblk1 (V9 m ρ) c 4 t : Vec Ideal S256x128 .f32) (ix2 r l) = Ideal.sin (angle (r.val % 16) l.val) * sign l.val := by
  have e := (idx_facts t).1.2.2.2.2
  have e1 : ((cfg1.win 4).blk t).view.emb (ix2 r l : S256x128.Idx) = (ix2 r l : S256x128.Idx) := by
    blk_ext [e]
  unfold iblk1
  rw [View.read_apply]
  exact (congrArg (V9 m ρ c main_v30) e1).trans (tile_sine m ρ c r l)

/-- The projection of a normed token: channel `n`. -/
def proj (b : Fin 32) (s : Fin 4) (n : Fin 7168) : EReal :=
  ∑ k, normed (fun k => input m c (ix3 b s k)) (gain m c (ix1 k)) k * weight m c (ix2 k n)

/-- A projection rotated by its token's position, its part of the weights beginning at channel `o`. -/
def turn (b : Fin 32) (s : Fin 4) (j : Fin 1024) (o : ℕ) (ho : o + 1024 ≤ 7168) : EReal :=
  proj m c b s ⟨o + j.val, by omega⟩ * Ideal.cos (angle s.val (j.val % 128))
    + proj m c b s ⟨o + (partner j).val, by omega⟩ * (Ideal.sin (angle s.val (j.val % 128)) * sign (j.val % 128))

/-- A point's projections are its tokens'. -/
theorem lin_blk (t : Fin cfg1.N) (b : Fin 32) (s : Fin 4) (r : Fin 256) (n : Fin 7168) (h : 16 * b.val + s.val = 256 * t.val + r.val) :
    lin (iblk1 (V9 m ρ) c 0 t) (iblk1 (V9 m ρ) c 1 t) (iblk1 (V9 m ρ) c 2 t) r n = proj m c b s n := by
  unfold lin proj
  simp only [blk0 m ρ c t b s r _ h, blk1, blk2]

/-- A point's rotated projections are its tokens'. -/
theorem rotated_blk (t : Fin cfg1.N) (b : Fin 32) (s : Fin 4) (r : Fin 256) (j : Fin 1024) (o : ℕ) (ho : o + 1024 ≤ 7168)
    (h : 16 * b.val + s.val = 256 * t.val + r.val) :
    rotated (iblk1 (V9 m ρ) c 0 t) (iblk1 (V9 m ρ) c 1 t) (iblk1 (V9 m ρ) c 2 t) (iblk1 (V9 m ρ) c 3 t) (iblk1 (V9 m ρ) c 4 t) r j o ho
      = turn m c b s j o ho := by
  have hr : r.val % 16 = s.val := by omega
  unfold rotated turn
  rw [lin_blk m ρ c t b s r _ h, lin_blk m ρ c t b s r _ h, blk3, blk4, hr]

/-- A flat row is a row of a point. -/
theorem row_split (b : Fin 32) (s : Fin 4) : ∃ (t : Fin cfg1.N) (r : Fin 256), 16 * b.val + s.val = 256 * t.val + r.val := by
  have hN : cfg1.N = 2 := by decide
  refine ⟨⟨(16 * b.val + s.val) / 256, by omega⟩, ⟨(16 * b.val + s.val) % 256, by omega⟩, ?_⟩
  show _ = 256 * ((16 * b.val + s.val) / 256) + (16 * b.val + s.val) % 256
  omega

/-! ## The arrays at a token's row -/

/-- The gated values. -/
theorem array5 (b : Fin 32) (s : Fin 4) (j : Fin 1024) :
    (W10 m ρ c (Proc.devRef .tc main_v34_0) : S512x1024.Idx → EReal) (ix2 ⟨16 * b.val + s.val, by omega⟩ j)
      = proj m c b s ⟨j.val, by omega⟩ * Ideal.logistic (proj m c b s ⟨1024 + j.val, by omega⟩) := by
  obtain ⟨t, r, h⟩ := row_split b s
  have e := (idx_facts t).2.1
  have e1 : ((cfg1.win 5).blk t).view.emb (ix2 r j : S256x1024.Idx) = (ix2 ⟨16 * b.val + s.val, by omega⟩ j : S512x1024.Idx) := by
    blk_ext [e]
  have g := (dat1 (V9 m ρ) c).arrAt_emb_eq_flushed 5 (fun t t' _ _ hne => (cfg1.win 5).disjoint_blk fun h =>
    hne (Fin.ext (apart ((idx_facts t).2.1.symm.trans (Eq.trans h (idx_facts t').2.1))))) t (flush1_5 t) (ix2 r j : S256x1024.Idx)
  rw [e1] at g
  refine (congrFun (W10_arr m ρ c 5) _).trans ((g.trans (eq_of_heq (cast_heq _ _))).trans ?_)
  show (cfg1.win 5).cut (grid1.coords t) ((dat1 (V9 m ρ) c).after 5 t) (ix2 r j) = _
  rw [after1_5]
  refine (out5 (iblk1 (V9 m ρ) c 0 t) (iblk1 (V9 m ρ) c 1 t) (iblk1 (V9 m ρ) c 2 t) (iblk1 (V9 m ρ) c 3 t) (iblk1 (V9 m ρ) c 4 t) r j).trans ?_
  rw [lin_blk m ρ c t b s r _ h, lin_blk m ρ c t b s r _ h]

/-- The first gate. -/
theorem array6 (b : Fin 32) (s : Fin 4) (j : Fin 1024) :
    (W10 m ρ c (Proc.devRef .tc main_v34_1) : S512x1024.Idx → EReal) (ix2 ⟨16 * b.val + s.val, by omega⟩ j)
      = silu (proj m c b s ⟨2048 + j.val, by omega⟩) := by
  obtain ⟨t, r, h⟩ := row_split b s
  have e := (idx_facts t).2.2.1
  have e1 : ((cfg1.win 6).blk t).view.emb (ix2 r j : S256x1024.Idx) = (ix2 ⟨16 * b.val + s.val, by omega⟩ j : S512x1024.Idx) := by
    blk_ext [e]
  have g := (dat1 (V9 m ρ) c).arrAt_emb_eq_flushed 6 (fun t t' _ _ hne => (cfg1.win 6).disjoint_blk fun h =>
    hne (Fin.ext (apart ((idx_facts t).2.2.1.symm.trans (Eq.trans h (idx_facts t').2.2.1))))) t (flush1_6 t) (ix2 r j : S256x1024.Idx)
  rw [e1] at g
  refine (congrFun (W10_arr m ρ c 6) _).trans ((g.trans (eq_of_heq (cast_heq _ _))).trans ?_)
  show (cfg1.win 6).cut (grid1.coords t) ((dat1 (V9 m ρ) c).after 6 t) (ix2 r j) = _
  rw [after1_6]
  refine (out6 (iblk1 (V9 m ρ) c 0 t) (iblk1 (V9 m ρ) c 1 t) (iblk1 (V9 m ρ) c 2 t) (iblk1 (V9 m ρ) c 3 t) (iblk1 (V9 m ρ) c 4 t) r j).trans ?_
  rw [lin_blk m ρ c t b s r _ h]

/-- The queries. -/
theorem array7 (b : Fin 32) (s : Fin 4) (j : Fin 1024) :
    (W10 m ρ c (Proc.devRef .tc main_v34_2) : S512x1024.Idx → EReal) (ix2 ⟨16 * b.val + s.val, by omega⟩ j)
      = turn m c b s j 3072 (by decide) := by
  obtain ⟨t, r, h⟩ := row_split b s
  have e := (idx_facts t).2.2.2.1
  have e1 : ((cfg1.win 7).blk t).view.emb (ix2 r j : S256x1024.Idx) = (ix2 ⟨16 * b.val + s.val, by omega⟩ j : S512x1024.Idx) := by
    blk_ext [e]
  have g := (dat1 (V9 m ρ) c).arrAt_emb_eq_flushed 7 (fun t t' _ _ hne => (cfg1.win 7).disjoint_blk fun h =>
    hne (Fin.ext (apart ((idx_facts t).2.2.2.1.symm.trans (Eq.trans h (idx_facts t').2.2.2.1))))) t (flush1_7 t) (ix2 r j : S256x1024.Idx)
  rw [e1] at g
  refine (congrFun (W10_arr m ρ c 7) _).trans ((g.trans (eq_of_heq (cast_heq _ _))).trans ?_)
  show (cfg1.win 7).cut (grid1.coords t) ((dat1 (V9 m ρ) c).after 7 t) (ix2 r j) = _
  rw [after1_7]
  refine (out7 (iblk1 (V9 m ρ) c 0 t) (iblk1 (V9 m ρ) c 1 t) (iblk1 (V9 m ρ) c 2 t) (iblk1 (V9 m ρ) c 3 t) (iblk1 (V9 m ρ) c 4 t) r j).trans ?_
  rw [rotated_blk m ρ c t b s r j _ _ h]

/-- The keys. -/
theorem array8 (b : Fin 32) (s : Fin 4) (j : Fin 1024) :
    (W10 m ρ c (Proc.devRef .tc main_v34_3) : S512x1024.Idx → EReal) (ix2 ⟨16 * b.val + s.val, by omega⟩ j)
      = turn m c b s j 4096 (by decide) := by
  obtain ⟨t, r, h⟩ := row_split b s
  have e := (idx_facts t).2.2.2.2.1
  have e1 : ((cfg1.win 8).blk t).view.emb (ix2 r j : S256x1024.Idx) = (ix2 ⟨16 * b.val + s.val, by omega⟩ j : S512x1024.Idx) := by
    blk_ext [e]
  have g := (dat1 (V9 m ρ) c).arrAt_emb_eq_flushed 8 (fun t t' _ _ hne => (cfg1.win 8).disjoint_blk fun h =>
    hne (Fin.ext (apart ((idx_facts t).2.2.2.2.1.symm.trans (Eq.trans h (idx_facts t').2.2.2.2.1))))) t (flush1_8 t) (ix2 r j : S256x1024.Idx)
  rw [e1] at g
  refine (congrFun (W10_arr m ρ c 8) _).trans ((g.trans (eq_of_heq (cast_heq _ _))).trans ?_)
  show (cfg1.win 8).cut (grid1.coords t) ((dat1 (V9 m ρ) c).after 8 t) (ix2 r j) = _
  rw [after1_8]
  refine (out8 (iblk1 (V9 m ρ) c 0 t) (iblk1 (V9 m ρ) c 1 t) (iblk1 (V9 m ρ) c 2 t) (iblk1 (V9 m ρ) c 3 t) (iblk1 (V9 m ρ) c 4 t) r j).trans ?_
  rw [rotated_blk m ρ c t b s r j _ _ h]

/-- The values. -/
theorem array9 (b : Fin 32) (s : Fin 4) (j : Fin 1024) :
    (W10 m ρ c (Proc.devRef .tc main_v34_4) : S512x1024.Idx → EReal) (ix2 ⟨16 * b.val + s.val, by omega⟩ j)
      = proj m c b s ⟨5120 + j.val, by omega⟩ := by
  obtain ⟨t, r, h⟩ := row_split b s
  have e := (idx_facts t).2.2.2.2.2.1
  have e1 : ((cfg1.win 9).blk t).view.emb (ix2 r j : S256x1024.Idx) = (ix2 ⟨16 * b.val + s.val, by omega⟩ j : S512x1024.Idx) := by
    blk_ext [e]
  have g := (dat1 (V9 m ρ) c).arrAt_emb_eq_flushed 9 (fun t t' _ _ hne => (cfg1.win 9).disjoint_blk fun h =>
    hne (Fin.ext (apart ((idx_facts t).2.2.2.2.2.1.symm.trans (Eq.trans h (idx_facts t').2.2.2.2.2.1))))) t (flush1_9 t) (ix2 r j : S256x1024.Idx)
  rw [e1] at g
  refine (congrFun (W10_arr m ρ c 9) _).trans ((g.trans (eq_of_heq (cast_heq _ _))).trans ?_)
  show (cfg1.win 9).cut (grid1.coords t) ((dat1 (V9 m ρ) c).after 9 t) (ix2 r j) = _
  rw [after1_9]
  refine (out9 (iblk1 (V9 m ρ) c 0 t) (iblk1 (V9 m ρ) c 1 t) (iblk1 (V9 m ρ) c 2 t) (iblk1 (V9 m ρ) c 3 t) (iblk1 (V9 m ρ) c 4 t) r j).trans ?_
  rw [lin_blk m ρ c t b s r _ h]

/-- The second gate. -/
theorem array10 (b : Fin 32) (s : Fin 4) (j : Fin 1024) :
    (W10 m ρ c (Proc.devRef .tc main_v34_5) : S512x1024.Idx → EReal) (ix2 ⟨16 * b.val + s.val, by omega⟩ j)
      = silu (proj m c b s ⟨6144 + j.val, by omega⟩) := by
  obtain ⟨t, r, h⟩ := row_split b s
  have e := (idx_facts t).2.2.2.2.2.2
  have e1 : ((cfg1.win 10).blk t).view.emb (ix2 r j : S256x1024.Idx) = (ix2 ⟨16 * b.val + s.val, by omega⟩ j : S512x1024.Idx) := by
    blk_ext [e]
  have g := (dat1 (V9 m ρ) c).arrAt_emb_eq_flushed 10 (fun t t' _ _ hne => (cfg1.win 10).disjoint_blk fun h =>
    hne (Fin.ext (apart ((idx_facts t).2.2.2.2.2.2.symm.trans (Eq.trans h (idx_facts t').2.2.2.2.2.2))))) t (flush1_10 t) (ix2 r j : S256x1024.Idx)
  rw [e1] at g
  refine (congrFun (W10_arr m ρ c 10) _).trans ((g.trans (eq_of_heq (cast_heq _ _))).trans ?_)
  show (cfg1.win 10).cut (grid1.coords t) ((dat1 (V9 m ρ) c).after 10 t) (ix2 r j) = _
  rw [after1_10]
  refine (out10 (iblk1 (V9 m ρ) c 0 t) (iblk1 (V9 m ρ) c 1 t) (iblk1 (V9 m ρ) c 2 t) (iblk1 (V9 m ρ) c 3 t) (iblk1 (V9 m ρ) c 4 t) r j).trans ?_
  rw [lin_blk m ρ c t b s r _ h]

/-! ## The results at a place: token `s` of sequence `b` -/

/-- A place by its numbers. -/
theorem same_place (z : S512x1024.Idx → EReal) {r r' : Fin 512} {j j' : Fin 1024} (h : r.val = r'.val) (h' : j.val = j'.val) :
    z (ix2 r j) = z (ix2 r' j') := by
  rw [Fin.ext h, Fin.ext h']

/-- The gated values. -/
theorem values_result (b : Fin 32) (s : Fin 4) (j : Fin 1024) :
    (W11 m ρ c (Proc.devRef .tc main_v36) : S32x4x1024.Idx → EReal) (ix3 b s j) = proj m c b s ⟨j.val, by omega⟩ * Ideal.logistic (proj m c b s ⟨1024 + j.val, by omega⟩) := by
  refine Eq.trans ?_ (array5 m ρ c b s j)
  simp only [W11]
  after_reads_simp
  generalize (W10 m ρ c (Proc.devRef .tc main_v34_0) : S512x1024.Idx → EReal) = z
  pointwise []
  exact same_place z (congrArg (· + s.val) (Nat.mul_comm _ _)) rfl

/-- The first gate. -/
theorem gates_result (b : Fin 32) (s : Fin 4) (j : Fin 1024) :
    (W11 m ρ c (Proc.devRef .tc main_v38) : S32x4x1024.Idx → EReal) (ix3 b s j) = silu (proj m c b s ⟨2048 + j.val, by omega⟩) := by
  refine Eq.trans ?_ (array6 m ρ c b s j)
  simp only [W11]
  after_reads_simp
  generalize (W10 m ρ c (Proc.devRef .tc main_v34_1) : S512x1024.Idx → EReal) = z
  pointwise []
  exact same_place z (congrArg (· + s.val) (Nat.mul_comm _ _)) rfl

/-- The second gate. -/
theorem gates'_result (b : Fin 32) (s : Fin 4) (j : Fin 1024) :
    (W11 m ρ c (Proc.devRef .tc main_v46) : S32x4x1024.Idx → EReal) (ix3 b s j) = silu (proj m c b s ⟨6144 + j.val, by omega⟩) := by
  refine Eq.trans ?_ (array10 m ρ c b s j)
  simp only [W11]
  after_reads_simp
  generalize (W10 m ρ c (Proc.devRef .tc main_v34_5) : S512x1024.Idx → EReal) = z
  pointwise []
  exact same_place z (congrArg (· + s.val) (Nat.mul_comm _ _)) rfl

/-- The queries, by head. -/
theorem queries_result (b : Fin 32) (s : Fin 4) (h : Fin 16) (d : Fin 64) :
    (W11 m ρ c (Proc.devRef .tc main_v47) : S32x4x16x64.Idx → EReal) (ix4 b s h d) = turn m c b s ⟨64 * h.val + d.val, by omega⟩ 3072 (by decide) := by
  refine Eq.trans ?_ (array7 m ρ c b s ⟨64 * h.val + d.val, by omega⟩)
  simp only [W11]
  after_reads_simp
  generalize (W10 m ρ c (Proc.devRef .tc main_v34_2) : S512x1024.Idx → EReal) = z
  pointwise []
  exact same_place z (congrArg (· + s.val) (Nat.mul_comm _ _)) (congrArg (· + d.val) (Nat.mul_comm _ _))

/-- The keys, by head. -/
theorem keys_result (b : Fin 32) (s : Fin 4) (h : Fin 16) (d : Fin 64) :
    (W11 m ρ c (Proc.devRef .tc main_v48) : S32x4x16x64.Idx → EReal) (ix4 b s h d) = turn m c b s ⟨64 * h.val + d.val, by omega⟩ 4096 (by decide) := by
  refine Eq.trans ?_ (array8 m ρ c b s ⟨64 * h.val + d.val, by omega⟩)
  simp only [W11]
  after_reads_simp
  generalize (W10 m ρ c (Proc.devRef .tc main_v34_3) : S512x1024.Idx → EReal) = z
  pointwise []
  exact same_place z (congrArg (· + s.val) (Nat.mul_comm _ _)) (congrArg (· + d.val) (Nat.mul_comm _ _))

/-- The values, by head. -/
theorem heads_result (b : Fin 32) (s : Fin 4) (h : Fin 16) (d : Fin 64) :
    (W11 m ρ c (Proc.devRef .tc main_v49) : S32x4x16x64.Idx → EReal) (ix4 b s h d) = proj m c b s ⟨5120 + (64 * h.val + d.val), by omega⟩ := by
  refine Eq.trans ?_ (array9 m ρ c b s ⟨64 * h.val + d.val, by omega⟩)
  simp only [W11]
  after_reads_simp
  generalize (W10 m ρ c (Proc.devRef .tc main_v34_4) : S512x1024.Idx → EReal) = z
  pointwise []
  exact same_place z (congrArg (· + s.val) (Nat.mul_comm _ _)) (congrArg (· + d.val) (Nat.mul_comm _ _))

end Cert.InEven

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- the run's implicit arguments are found by unifying its conclusion with this one
set_option backward.isDefEq.respectTransparency.types false in
/-- THE RUN, its results named: each holds what the last boundary's contents say, and the arguments are unchanged. -/
theorem run_results : θ_run defs (onTc (τ := τ) (main (F := Ideal))) ⟨m, fun _ => 0, ρ⟩ (fun r => ∀ c : Dev nD,
      r.2.mem ((c.tc : Thread nD τ).loc main_v36) = W11 m ρ c (Proc.devRef .tc main_v36)
      ∧ r.2.mem ((c.tc : Thread nD τ).loc main_v38) = W11 m ρ c (Proc.devRef .tc main_v38)
      ∧ r.2.mem ((c.tc : Thread nD τ).loc main_v47) = W11 m ρ c (Proc.devRef .tc main_v47)
      ∧ r.2.mem ((c.tc : Thread nD τ).loc main_v48) = W11 m ρ c (Proc.devRef .tc main_v48)
      ∧ r.2.mem ((c.tc : Thread nD τ).loc main_v49) = W11 m ρ c (Proc.devRef .tc main_v49)
      ∧ r.2.mem ((c.tc : Thread nD τ).loc main_v46) = W11 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ => fun c => ⟨h c _ (mem_uc main_v36 (by decide)), h c _ (mem_uc main_v38 (by decide)), h c _ (mem_uc main_v47 (by decide)), h c _ (mem_uc main_v48 (by decide)), h c _ (mem_uc main_v49 (by decide)), h c _ (mem_uc main_v46 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c)⟩)

end Cert.Kernel5Ideal.Gen

end
-- ==== Proof.EvenReference.lean ====
module

public import proofs.«01_k».proof.Defs
public import proofs.«01_k».proof.Proof.EvenRun
public import proofs.«01_k».proof.Proof.Gen.Reference5Ideal.Run

/-! # The even layer's input projection in the reference, at a place

The reference splits the projection into seven parts, gates three of them, and rotates two of them head by head: each channel of a
head's first half with its partner in the second half, by an angle of position times frequency. -/

@[expose] public section

set_option maxRecDepth 16384

noncomputable section

namespace Cert.InEven

open Cert.Reference5Ideal Cert.Reference5Ideal.Gen Idealize.ShloMosaic Idealize.ShloMosaic.TcCoe Idealize.SL.Sem Cert.Normed Cert.Gates

/-! ## The places of the results -/

/-- A place: sequence, token, channel. -/
theorem three (i : S32x4x1024.Idx) : ∃ (b : Fin 32) (s : Fin 4) (j : Fin 1024), i = ix3 b s j :=
  ⟨i 0, i 1, i 2, funext fun a => by fin_cases a <;> rfl⟩

/-- A place by head: sequence, token, head, channel. -/
theorem four (i : S32x4x16x64.Idx) : ∃ (b : Fin 32) (s : Fin 4) (h : Fin 16) (d : Fin 64), i = ix4 b s h d :=
  ⟨i 0, i 1, i 2, i 3, funext fun a => by fin_cases a <;> rfl⟩

/-! ## The projection -/

/-- The normed tokens by the weights. -/
def projected (x0 : FVec Ideal S32x4x1024 .f32) (x1 : FVec Ideal S1024 .f32) (x2 : FVec Ideal S1024x7168 .f32) : FVec Ideal S32x4x7168 .f32 :=
  Host.dotGeneral dot_S32x4x1024_S1024x7168_S32x4x7168_2_0_01_1_n_n none (mulf (mulf x0 (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf x0 x0) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32)))))) (broadcastInDim S32x4x1024 ![0, 1, 2] bcast_S1x1x1024_S32x4x1024_0_1_2 (broadcastInDim S1x1x1024 ![2] bcast_S1024_S1x1x1024_2 x1))) x2

/-- The projection, at a place. -/
theorem projected_apply (x0 : FVec Ideal S32x4x1024 .f32) (x1 : FVec Ideal S1024 .f32) (x2 : FVec Ideal S1024x7168 .f32) (b : Fin 32) (s : Fin 4) (n : Fin 7168) :
    projected x0 x1 x2 (ix3 b s n) = ∑ k, normed (fun k => x0 (ix3 b s k)) (x1 (ix1 k)) k * x2 (ix2 k n) := by
  pointwise [projected]
  rfl

/-- One over one and the exponential of less a value. -/
def sigmoids (z : FVec Ideal S32x4x1024 .f32) : FVec Ideal S32x4x1024 .f32 :=
  Host.divf (broadcastInDim S32x4x1024 ![] bcast_S_S32x4x1024 (constant S_ .f32 0x3F800000#32)) (addf (broadcastInDim S32x4x1024 ![] bcast_S_S32x4x1024 (constant S_ .f32 0x3F800000#32)) (Host.exp (Host.negf z)))

/-- The logistic, at a place. -/
theorem sigmoids_apply (z : FVec Ideal S32x4x1024 .f32) (i : S32x4x1024.Idx) : sigmoids z i = Ideal.logistic (z i) := by
  pointwise [sigmoids]
  rfl

/-- A gate: a part of the projection by its own logistic. -/
def gate (z : FVec Ideal S32x4x1024 .f32) : FVec Ideal S32x4x1024 .bf16 := truncf .bf16 (mulf z (sigmoids z)) bitsLt_bf16_f32

/-- A gate, at a place. -/
theorem gate_at (z : FVec Ideal S32x4x1024 .f32) (b : Fin 32) (s : Fin 4) (j : Fin 1024) : gate z (ix3 b s j) = silu (z (ix3 b s j)) := by
  unfold silu
  rw [← sigmoids_apply]
  unfold gate
  generalize sigmoids z = g
  pointwise []

/-! ## The rotation -/

/-- The angles: positions by frequencies. -/
def angles : FVec Ideal S4x32 .f32 :=
  mulf (broadcastInDim S4x32 ![0, 1] bcast_S4x1_S4x32_0_1 (broadcastInDim S4x1 ![0] bcast_S4_S4x1_0 (sitofp .f32 (addi (broadcastInDim S4 ![] bcast_S_S4 (constantI S_ 32 16384#32)) (iotaInDim S4 32 0))))) (broadcastInDim S4x32 ![0, 1] bcast_S1x32_S4x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- An angle, at a token and a place in a half of a head. -/
theorem angles_apply (s : Fin 4) (e : Fin 32) : angles (ix2 s e) = position s.val * frequency e.val := by
  pointwise [angles]
  rfl

/-- Heads, each channel rotated with its partner. -/
def rope (z : FVec Ideal S32x4x16x64 .f32) (angles : FVec Ideal S4x32 .f32) : FVec Ideal S32x4x16x64 .f32 :=
  concatenate S32x4x16x64 3 [⟨S32x4x16x32, (subf (mulf (extractStridedSlice S32x4x16x32 ![0, 0, 0, 0] z slices_S32x4x16x64_S32x4x16x32_0_0_0_0) (broadcastInDim S32x4x16x32 ![0, 1, 2, 3] bcast_S1x4x1x32_S32x4x16x32_0_1_2_3 (broadcastInDim S1x4x1x32 ![1, 3] bcast_S4x32_S1x4x1x32_1_3 (Host.cos angles)))) (mulf (extractStridedSlice S32x4x16x32 ![0, 0, 0, 32] z slices_S32x4x16x64_S32x4x16x32_0_0_0_32) (broadcastInDim S32x4x16x32 ![0, 1, 2, 3] bcast_S1x4x1x32_S32x4x16x32_0_1_2_3 (broadcastInDim S1x4x1x32 ![1, 3] bcast_S4x32_S1x4x1x32_1_3 (Host.sin angles)))))⟩, ⟨S32x4x16x32, (addf (mulf (extractStridedSlice S32x4x16x32 ![0, 0, 0, 32] z slices_S32x4x16x64_S32x4x16x32_0_0_0_32) (broadcastInDim S32x4x16x32 ![0, 1, 2, 3] bcast_S1x4x1x32_S32x4x16x32_0_1_2_3 (broadcastInDim S1x4x1x32 ![1, 3] bcast_S4x32_S1x4x1x32_1_3 (Host.cos angles)))) (mulf (extractStridedSlice S32x4x16x32 ![0, 0, 0, 0] z slices_S32x4x16x64_S32x4x16x32_0_0_0_0) (broadcastInDim S32x4x16x32 ![0, 1, 2, 3] bcast_S1x4x1x32_S32x4x16x32_0_1_2_3 (broadcastInDim S1x4x1x32 ![1, 3] bcast_S4x32_S1x4x1x32_1_3 (Host.sin angles)))))⟩] concatenates_S32x4x16x32_S32x4x16x32_S32x4x16x64_d3

/-- Heads rotated, at a place in the first half of a head. -/
theorem rope_first (z : FVec Ideal S32x4x16x64 .f32) (a : FVec Ideal S4x32 .f32) (b : Fin 32) (s : Fin 4) (h : Fin 16) (d : Fin 64) (hd : d.val < 32) :
    rope z a (ix4 b s h d) = z (ix4 b s h d) * Ideal.cos (a (ix2 s ⟨d.val, hd⟩))
      - z (ix4 b s h ⟨d.val + 32, by omega⟩) * Ideal.sin (a (ix2 s ⟨d.val, hd⟩)) := by
  pointwise [rope]
  rw [dif_pos hd]
  exact congrArg (fun e => z (ix4 b s h d) * Ideal.cos (a (ix2 s ⟨d.val, hd⟩)) - z (ix4 b s h e) * Ideal.sin (a (ix2 s ⟨d.val, hd⟩)))
    (Fin.ext (Nat.add_comm 32 d.val))

/-- Heads rotated, at a place in the second half of a head. -/
theorem rope_second (z : FVec Ideal S32x4x16x64 .f32) (a : FVec Ideal S4x32 .f32) (b : Fin 32) (s : Fin 4) (h : Fin 16) (d : Fin 64) (hd : 32 ≤ d.val) :
    rope z a (ix4 b s h d) = z (ix4 b s h d) * Ideal.cos (a (ix2 s ⟨d.val - 32, by omega⟩))
      + z (ix4 b s h ⟨d.val - 32, by omega⟩) * Ideal.sin (a (ix2 s ⟨d.val - 32, by omega⟩)) := by
  pointwise [rope]
  rw [dif_neg (by omega)]
  exact congrArg (fun e => z (ix4 b s h e) * Ideal.cos (a (ix2 s ⟨d.val - 32, by omega⟩)) + z (ix4 b s h ⟨d.val - 32, by omega⟩) * Ideal.sin (a (ix2 s ⟨d.val - 32, by omega⟩)))
    (Fin.ext (by show 32 + (d.val - 32) = d.val; omega))

/-- Minus one, as it is printed. -/
theorem minus_one : (Ideal.ofBits FTy.f32 0xBF800000#32 : EReal) = -1 := by
  simp [Ideal.ofBits, Ideal.ieee]
  rw [← EReal.coe_mul]
  norm_num

/-! ## The parts of the projection -/

section Parts

variable (y : FVec Ideal S32x4x7168 .f32) (b : Fin 32) (s : Fin 4)

/-- The first part, at a place. -/
theorem first_part (j : Fin 1024) : (extractStridedSlice S32x4x1024 ![0, 0, 0] y slices_S32x4x7168_S32x4x1024_0_0_0) (ix3 b s j) = y (ix3 b s ⟨j.val, by omega⟩) := by
  pointwise []

/-- The second part, at a place. -/
theorem second_part (j : Fin 1024) : (extractStridedSlice S32x4x1024 ![0, 0, 1024] y slices_S32x4x7168_S32x4x1024_0_0_1024) (ix3 b s j) = y (ix3 b s ⟨1024 + j.val, by omega⟩) := by
  pointwise []

/-- The third part, at a place. -/
theorem third_part (j : Fin 1024) : (extractStridedSlice S32x4x1024 ![0, 0, 2048] y slices_S32x4x7168_S32x4x1024_0_0_2048) (ix3 b s j) = y (ix3 b s ⟨2048 + j.val, by omega⟩) := by
  pointwise []

/-- The seventh part, at a place. -/
theorem seventh_part (j : Fin 1024) : (extractStridedSlice S32x4x1024 ![0, 0, 6144] y slices_S32x4x7168_S32x4x1024_0_0_6144) (ix3 b s j) = y (ix3 b s ⟨6144 + j.val, by omega⟩) := by
  pointwise []

/-- The fourth part by head, at a place. -/
theorem fourth_part (h : Fin 16) (d : Fin 64) : (shapeCast S32x4x16x64 (extractStridedSlice S32x4x1024 ![0, 0, 3072] y slices_S32x4x7168_S32x4x1024_0_0_3072) shapeCasts_S32x4x1024_S32x4x16x64) (ix4 b s h d) = y (ix3 b s ⟨3072 + (64 * h.val + d.val), by omega⟩) := by
  have e : 64 * h.val + d.val = h.val * 64 + d.val := by omega
  simp only [e]
  pointwise []

/-- The fifth part by head, at a place. -/
theorem fifth_part (h : Fin 16) (d : Fin 64) : (shapeCast S32x4x16x64 (extractStridedSlice S32x4x1024 ![0, 0, 4096] y slices_S32x4x7168_S32x4x1024_0_0_4096) shapeCasts_S32x4x1024_S32x4x16x64) (ix4 b s h d) = y (ix3 b s ⟨4096 + (64 * h.val + d.val), by omega⟩) := by
  have e : 64 * h.val + d.val = h.val * 64 + d.val := by omega
  simp only [e]
  pointwise []

/-- The sixth part by head, at a place. -/
theorem sixth_part (h : Fin 16) (d : Fin 64) : (shapeCast S32x4x16x64 (extractStridedSlice S32x4x1024 ![0, 0, 5120] y slices_S32x4x7168_S32x4x1024_0_0_5120) shapeCasts_S32x4x1024_S32x4x16x64) (ix4 b s h d) = y (ix3 b s ⟨5120 + (64 * h.val + d.val), by omega⟩) := by
  have e : 64 * h.val + d.val = h.val * 64 + d.val := by omega
  simp only [e]
  pointwise []

end Parts

variable (m : (ℓ : Loc Cert.Kernel5Ideal.nD Cert.Kernel5Ideal.τ Cert.Kernel5Ideal.sig) → Buf (Elt Ideal) ℓ) (c : Dev Cert.Kernel5Ideal.nD)

/-- The reference's projection of the kernel's arguments. -/
theorem projected_proj (b : Fin 32) (s : Fin 4) (n : Fin 7168) : projected (input m c) (gain m c) (weight m c) (ix3 b s n) = proj m c b s n :=
  projected_apply _ _ _ b s n

/-- HEADS ROTATED are the kernel's rotated projection: a lane's sign makes of its sum the reference's difference. -/
theorem rope_turn (b : Fin 32) (s : Fin 4) (o : ℕ) (ho : o + 1024 ≤ 7168) (z : FVec Ideal S32x4x16x64 .f32)
    (hz : ∀ (h : Fin 16) (d : Fin 64), z (ix4 b s h d) = proj m c b s ⟨o + (64 * h.val + d.val), by omega⟩) (h : Fin 16) (d : Fin 64) :
    rope z angles (ix4 b s h d) = turn m c b s ⟨64 * h.val + d.val, by omega⟩ o ho := by
  have hm : (64 * h.val + d.val) % 128 % 32 = d.val % 32 := by omega
  have hs : (64 * h.val + d.val) % 128 % 64 = d.val := by omega
  have hh : (64 * h.val + d.val) % 64 = d.val := by omega
  unfold turn angle sign partner
  simp only [hm, hs, hh]
  by_cases hd : d.val < 32
  · rw [rope_first z angles b s h d hd, hz, hz, angles_apply]
    simp only [if_pos hd, Nat.mod_eq_of_lt hd, minus_one, mul_neg, mul_one]
    rw [sub_eq_add_neg]
    rfl
  · have hr : d.val % 32 = d.val - 32 := by omega
    have hp : 64 * h.val + (d.val - 32) = 64 * h.val + d.val - 32 := by omega
    rw [rope_second z angles b s h d (by omega), hz, hz, angles_apply]
    simp only [if_neg hd, hr, hp, mul_one]

/-- The reference's projection, from its arguments. -/
def projections (m' : (ℓ : Loc nD τ sig) → Buf (Elt Ideal) ℓ) (c : Dev nD) : FVec Ideal S32x4x7168 .f32 :=
  projected (m' ((c.tc : Thread nD τ).loc main_arg0)) (m' ((c.tc : Thread nD τ).loc main_arg1)) (m' ((c.tc : Thread nD τ).loc main_arg2))

/-- The reference's queries, by the names above. -/
theorem queries_eq (m' : (ℓ : Loc nD τ sig) → Buf (Elt Ideal) ℓ) (c : Dev nD) :
    Value.res_main_v60 m' c = rope (shapeCast S32x4x16x64 (extractStridedSlice S32x4x1024 ![0, 0, 3072] (projections m' c) slices_S32x4x7168_S32x4x1024_0_0_3072) shapeCasts_S32x4x1024_S32x4x16x64) angles := by
  unfold Value.res_main_v60 rope angles projections projected
  rfl

/-- The reference's keys, by the names above. -/
theorem keys_eq (m' : (ℓ : Loc nD τ sig) → Buf (Elt Ideal) ℓ) (c : Dev nD) :
    Value.res_main_v90 m' c = rope (shapeCast S32x4x16x64 (extractStridedSlice S32x4x1024 ![0, 0, 4096] (projections m' c) slices_S32x4x7168_S32x4x1024_0_0_4096) shapeCasts_S32x4x1024_S32x4x16x64) angles := by
  unfold Value.res_main_v90 rope angles projections projected
  rfl

/-- THE VALUES of the even layer's input projection: the reference's six results are the kernel's. -/
theorem value : Cert.algebraic_Kernel5Ideal_Reference5Ideal := by
  intro m g m' g' _ hm
  refine ⟨fun c => Kernel5Ideal.Gen.W11 m g c (Proc.devRef .tc Kernel5Ideal.main_v36), fun c => Kernel5Ideal.Gen.W11 m g c (Proc.devRef .tc Kernel5Ideal.main_v38),
    fun c => Kernel5Ideal.Gen.W11 m g c (Proc.devRef .tc Kernel5Ideal.main_v47), fun c => Kernel5Ideal.Gen.W11 m g c (Proc.devRef .tc Kernel5Ideal.main_v48),
    fun c => Kernel5Ideal.Gen.W11 m g c (Proc.devRef .tc Kernel5Ideal.main_v49), fun c => Kernel5Ideal.Gen.W11 m g c (Proc.devRef .tc Kernel5Ideal.main_v46),
    Kernel5Ideal.Gen.run_results m g, ?_⟩
  refine (θ_run Cert.Reference5Ideal.defs _ _).mono (fun r h c => ?_) (Cert.Reference5Ideal.Value.run m' g')
  obtain ⟨h1, h2, h3, h4, h5, h6, hr⟩ := h c
  obtain ⟨e0, e1, e2⟩ := hm c
  replace h3 := h3.trans (queries_eq m' c)
  replace h4 := h4.trans (keys_eq m' c)
  replace h1 := h1.trans (show _ = mulf (extractStridedSlice S32x4x1024 ![0, 0, 0] (projections m' c) slices_S32x4x7168_S32x4x1024_0_0_0) (sigmoids (extractStridedSlice S32x4x1024 ![0, 0, 1024] (projections m' c) slices_S32x4x7168_S32x4x1024_0_0_1024)) by unfold sigmoids projections projected; rfl)
  replace h2 := h2.trans (show _ = gate (extractStridedSlice S32x4x1024 ![0, 0, 2048] (projections m' c) slices_S32x4x7168_S32x4x1024_0_0_2048) by unfold gate sigmoids projections projected; rfl)
  replace h5 := h5.trans (show _ = (shapeCast S32x4x16x64 (extractStridedSlice S32x4x1024 ![0, 0, 5120] (projections m' c) slices_S32x4x7168_S32x4x1024_0_0_5120) shapeCasts_S32x4x1024_S32x4x16x64) by unfold projections projected; rfl)
  replace h6 := h6.trans (show _ = gate (extractStridedSlice S32x4x1024 ![0, 0, 6144] (projections m' c) slices_S32x4x7168_S32x4x1024_0_0_6144) by unfold gate sigmoids projections projected; rfl)
  have ep : projections m' c = projected (input m c) (gain m c) (weight m c) := by
    unfold projections
    rw [e0, e1, e2]
    rfl
  rw [ep] at h1 h2 h3 h4 h5 h6
  refine ⟨h1.trans (funext fun i => ?_), h2.trans (funext fun i => ?_), h3.trans (funext fun i => ?_), h4.trans (funext fun i => ?_),
    h5.trans (funext fun i => ?_), h6.trans (funext fun i => ?_), hr⟩
  · obtain ⟨b, s, j, rfl⟩ := three i
    refine Eq.trans ?_ (values_result m g c b s j).symm
    refine (congrArg₂ (· * ·) (first_part _ b s j) ((sigmoids_apply _ _).trans (congrArg Ideal.logistic (second_part _ b s j)))).trans ?_
    rw [projected_proj, projected_proj]
  · obtain ⟨b, s, j, rfl⟩ := three i
    refine (gate_at _ b s j).trans (Eq.trans ?_ (gates_result m g c b s j).symm)
    rw [third_part, projected_proj]
  · obtain ⟨b, s, h, d, rfl⟩ := four i
    refine Eq.trans ?_ (queries_result m g c b s h d).symm
    exact rope_turn m c b s 3072 (by decide) _ (fun h d => (fourth_part _ b s h d).trans (projected_proj m c b s _)) h d
  · obtain ⟨b, s, h, d, rfl⟩ := four i
    refine Eq.trans ?_ (keys_result m g c b s h d).symm
    exact rope_turn m c b s 4096 (by decide) _ (fun h d => (fifth_part _ b s h d).trans (projected_proj m c b s _)) h d
  · obtain ⟨b, s, h, d, rfl⟩ := four i
    refine (sixth_part _ b s h d).trans (Eq.trans ?_ (heads_result m g c b s h d).symm)
    rw [projected_proj]
  · obtain ⟨b, s, j, rfl⟩ := three i
    refine (gate_at _ b s j).trans (Eq.trans ?_ (gates'_result m g c b s j).symm)
    rw [seventh_part, projected_proj]

end Cert.InEven

end
-- ==== Proof.OutSampleKernel.lean ====
module

public import proofs.«01_k».proof.Proof.Normed
public import proofs.«01_k».proof.Proof.Gen.Kernel6Ideal.Frame
public import Idealize.ShloMosaic.Lib.Pipeline.ValueKit
public import Idealize.ShloMosaic.Lib.ViewIndex
public import Idealize.ShloMosaic.Lib.StableHlo.RunRead

/-! # The odd layer's output projection of the sample, by its one block of 512 rows

The one grid point takes the 512 rows of the mixer's output, 16 of each sequence, multiplies them by the weights, norms each row and adds
the residual; the host then keeps the first four rows of each sequence. -/

@[expose] public section

set_option maxRecDepth 16384

noncomputable section

namespace Cert.OutSample

open Cert.Kernel6Ideal Cert.Kernel6Ideal.Gen Idealize.ShloMosaic Idealize.ShloMosaic.TcCoe Cert.Normed
open Idealize.ShloMosaic.Pipeline (Dat)
open Idealize.SL.Sem

variable (m : (ℓ : Loc nD τ sig) → Buf (Elt Ideal) ℓ) (c : Dev nD)

/-- The mixer's output, as launched. -/
def mixed : S32x16x2048.Idx → EReal := m ((c : Thread nD τ).loc main_arg0)
/-- The residual, as launched. -/
def resid : S32x16x1024.Idx → EReal := m ((c : Thread nD τ).loc main_arg1)
/-- The weights, as launched. -/
def weight : S2048x1024.Idx → EReal := m ((c : Thread nD τ).loc main_arg2)
/-- The norm's gain, as launched. -/
def gain : S1024.Idx → EReal := m ((c : Thread nD τ).loc main_arg3)

/-- The corner of a block. -/
theorem origin : (![0, 0] : Fin 2 → Nat) = fun _ => 0 := funext fun a => by fin_cases a <;> rfl

/-- One block at a place. -/
theorem block_apply (x0 : Vec Ideal S512x2048 .bf16) (x1 : Vec Ideal S2048x1024 .bf16) (x2 : Vec Ideal S1x1024 .f32) (x3 : Vec Ideal S512x1024 .f32)
    (r : Fin 512) (j : Fin 1024) :
    k0_pay1 x0 x1 x2 x3 (ix2 r j) = joined (x3 (ix2 r j)) (fun n => ∑ k : Fin 2048, x0 (ix2 r k) * x1 (ix2 k n)) (x2 (ix2 0 j)) j := by
  pointwise [k0_pay1]
  rfl

/-- What a point leaves in its block of the result. -/
theorem out_apply (x0 : Vec Ideal S512x2048 .bf16) (x1 : Vec Ideal S2048x1024 .bf16) (x2 : Vec Ideal S1x1024 .f32) (x3 : Vec Ideal S512x1024 .f32)
    (r : Fin 512) (j : Fin 1024) :
    out0_4 x0 x1 x2 x3 (ix2 r j) = joined (x3 (ix2 r j)) (fun n => ∑ k : Fin 2048, x0 (ix2 r k) * x1 (ix2 k n)) (x2 (ix2 0 j)) j := by
  unfold out0_4
  rw [View.canon_unit_zero origin, View.ld_unit_zero origin, View.ld_unit_zero origin, View.ld_unit_zero origin, View.ld_unit_zero origin]
  exact block_apply x0 x1 x2 x3 r j

/-- The block that each window reads or writes at a point. -/
theorem idx_facts : ∀ t : Fin cfg0.N,
    (win0_0.index t = ![t.val, 0] ∧ win0_1.index t = ![0, 0] ∧ win0_2.index t = ![0, 0]) ∧ win0_3.index t = ![t.val, 0] ∧ win0_4.index t = ![t.val, 0] :=
  (by decide +kernel : ∀ t : Fin grid0.N, _)

/-- The rows of the mixer's output of a point. -/
theorem blk0 (t : Fin cfg0.N) (b : Fin 32) (s : Fin 4) (r : Fin 512) (k : Fin 2048) (h : 16 * b.val + s.val = 512 * t.val + r.val) :
    (iblk m c 0 t : Vec Ideal S512x2048 .bf16) (ix2 r k) = mixed m c (ix3 b ⟨s.val, by omega⟩ k) := by
  have e := (idx_facts t).1.1
  have e1 : ((cfg0.win 0).blk t).view.emb (ix2 r k : S512x2048.Idx) = (ix2 ⟨16 * b.val + s.val, by omega⟩ k : S512x2048.Idx) := by
    blk_ext [e]
  unfold iblk
  rw [View.read_apply]
  refine (congrArg (V m c main_v1) e1).trans ?_
  simp only [V, V0, hostOps0, List.flatten_cons, List.flatten_nil, List.append_nil]
  after_reads_simp
  pointwise []
  exact congrArg (mixed m c) (Shape.idx3_ext (show (16 * b.val + s.val) / 16 = b.val by omega) (show (16 * b.val + s.val) % 16 = s.val by omega) rfl)

/-- The weights. -/
theorem blk1 (t : Fin cfg0.N) (k : Fin 2048) (j : Fin 1024) :
    (iblk m c 1 t : Vec Ideal S2048x1024 .bf16) (ix2 k j) = weight m c (ix2 k j) := by
  have e := (idx_facts t).1.2.1
  have e1 : ((cfg0.win 1).blk t).view.emb (ix2 k j : S2048x1024.Idx) = (ix2 k j : S2048x1024.Idx) := by
    blk_ext [e]
  unfold iblk
  rw [View.read_apply]
  refine (congrArg (V m c main_v2) e1).trans ?_
  simp only [V, V0, hostOps0, List.flatten_cons, List.flatten_nil, List.append_nil]
  after_reads_simp
  pointwise []
  rfl

/-- The norm's gain. -/
theorem blk2 (t : Fin cfg0.N) (j : Fin 1024) :
    (iblk m c 2 t : Vec Ideal S1x1024 .f32) (ix2 0 j) = gain m c (ix1 j) := by
  have e := (idx_facts t).1.2.2
  have e1 : ((cfg0.win 2).blk t).view.emb (ix2 0 j : S1x1024.Idx) = (ix2 0 j : S1x1024.Idx) := by
    blk_ext [e]
  unfold iblk
  rw [View.read_apply]
  refine (congrArg (V m c main_v4) e1).trans ?_
  simp only [V, V0, hostOps0, List.flatten_cons, List.flatten_nil, List.append_nil]
  after_reads_simp
  pointwise []
  rfl

/-- The rows of the residual of a point. -/
theorem blk3 (t : Fin cfg0.N) (b : Fin 32) (s : Fin 4) (r : Fin 512) (j : Fin 1024) (h : 16 * b.val + s.val = 512 * t.val + r.val) :
    (iblk m c 3 t : Vec Ideal S512x1024 .f32) (ix2 r j) = resid m c (ix3 b ⟨s.val, by omega⟩ j) := by
  have e := (idx_facts t).2.1
  have e1 : ((cfg0.win 3).blk t).view.emb (ix2 r j : S512x1024.Idx) = (ix2 ⟨16 * b.val + s.val, by omega⟩ j : S512x1024.Idx) := by
    blk_ext [e]
  unfold iblk
  rw [View.read_apply]
  refine (congrArg (V m c main_v3) e1).trans ?_
  simp only [V, V0, hostOps0, List.flatten_cons, List.flatten_nil, List.append_nil]
  after_reads_simp
  pointwise []
  exact congrArg (resid m c) (Shape.idx3_ext rfl (show (16 * b.val + s.val) % 16 = s.val by omega) rfl)

/-- A flat row is a row of the point. -/
theorem row_split (b : Fin 32) (s : Fin 4) : ∃ (t : Fin cfg0.N) (r : Fin 512), 16 * b.val + s.val = 512 * t.val + r.val := by
  have hN : cfg0.N = 1 := by decide
  refine ⟨⟨(16 * b.val + s.val) / 512, by omega⟩, ⟨(16 * b.val + s.val) % 512, by omega⟩, ?_⟩
  show _ = 512 * ((16 * b.val + s.val) / 512) + (16 * b.val + s.val) % 512
  omega

/-- The call's array at a token's row. -/
theorem array_apply (b : Fin 32) (s : Fin 4) (j : Fin 1024) :
    ((dats m 0 c).arrAt 4 cfg0.N : S512x1024.Idx → EReal) (ix2 ⟨16 * b.val + s.val, by omega⟩ j)
      = joined (resid m c (ix3 b ⟨s.val, by omega⟩ j))
          (fun n => ∑ k : Fin 2048, mixed m c (ix3 b ⟨s.val, by omega⟩ k) * weight m c (ix2 k n))
          (gain m c (ix1 j)) j := by
  obtain ⟨t, r, h⟩ := row_split b s
  have e := (idx_facts t).2.2
  have e1 : ((cfg0.win 4).blk t).view.emb (ix2 r j : S512x1024.Idx) = (ix2 ⟨16 * b.val + s.val, by omega⟩ j : S512x1024.Idx) := by
    blk_ext [e]
  have one : ∀ t t' : Fin cfg0.N, t = t' := fun t t' => Fin.ext (by
    have hN : cfg0.N = 1 := by decide
    omega)
  have g := (dats m 0 c).arrAt_emb_eq_flushed 4 (fun t t' _ _ hne => absurd (one t t') hne) t (flush0_4 t) (ix2 r j : S512x1024.Idx)
  rw [e1] at g
  refine (g.trans (eq_of_heq (cast_heq _ _))).trans ?_
  show (cfg0.win 4).cut (grid0.coords t) ((dats m 0 c).after 4 t) (ix2 r j) = _
  rw [after0_4]
  refine (out_apply (iblk m c 0 t) (iblk m c 1 t) (iblk m c 2 t) (iblk m c 3 t) r j).trans ?_
  rw [blk3 m c t b s r j h, blk2]
  simp only [blk0 m c t b s r _ h, blk1]

/-- What the host leaves: the first four rows of each sequence. -/
def kept : S32x4x1024.Idx → EReal :=
  Pipeline.afterTail₀ cfgs (dats (F := Ideal) m) 0 (V0 m) [hostOps1] c main_v7

/-- THE RUN, its result named: the host leaves `kept`, and the arguments are unchanged. -/
theorem run_kept (ρ : Dev nD → PrngReg) : θ_run defs (onTc (τ := τ) (main (F := Ideal))) ⟨m, fun _ => 0, ρ⟩ (fun r => ∀ c : Dev nD,
      r.2.mem ((c.tc : Thread nD τ).loc main_v7) = kept m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).2 main_v7 (Pipeline.mem_restRefs_of main_v7 (by decide) (by decide)), h.2 c⟩)
    (θ_run_and (run_main m ρ) (unchanged m ρ))

/-- The result at a place: token `s` of sequence `b`, entry `j`. -/
theorem result_apply (b : Fin 32) (s : Fin 4) (j : Fin 1024) :
    kept m c (ix3 b s j)
      = joined (resid m c (ix3 b ⟨s.val, by omega⟩ j))
          (fun n => ∑ k : Fin 2048, mixed m c (ix3 b ⟨s.val, by omega⟩ k) * weight m c (ix2 k n))
          (gain m c (ix1 j)) j := by
  refine Eq.trans ?_ (array_apply m c b s j)
  have a := Pipeline.withArrays_arr spec0 (by decide) c (V0 m c) (fun w => (dats m 0 c).arrAt w cfg0.N) 4
  unfold kept Pipeline.afterTail₀
  simp only [hostOps1, List.flatten_cons, List.flatten_nil, List.append_nil]
  after_reads_simp
  refine Eq.trans ?_ (congrFun a _)
  generalize (Pipeline.withArrays spec0 c (V0 m c) (fun w => (dats m 0 c).arrAt w cfg0.N) (Proc.devRef .tc (Pipeline.arrRef spec0 4)) : S512x1024.Idx → EReal) = z
  pointwise []
  exact congrArg z (congrArg (ix2 · j) (Fin.ext (congrArg (· + s.val) (Nat.mul_comm _ _))))

end Cert.OutSample

end
-- ==== Proof.OutSampleReference.lean ====
module

public import proofs.«01_k».proof.Defs
public import proofs.«01_k».proof.Proof.OutSampleKernel
public import proofs.«01_k».proof.Proof.Gen.Reference6Ideal.Run

/-! # The odd layer's output projection of the sample in the reference, at a place -/

@[expose] public section

set_option maxRecDepth 16384

noncomputable section

namespace Cert.OutSample

open Cert.Reference6Ideal Cert.Reference6Ideal.Gen Idealize.ShloMosaic Idealize.ShloMosaic.TcCoe Idealize.SL.Sem Cert.Normed

/-- The reference's result at token `s` of sequence `b`, entry `j`. -/
theorem reference_apply (x0 : FVec Ideal S32x16x2048 .f32) (x1 : FVec Ideal S32x16x1024 .f32) (x2 : FVec Ideal S2048x1024 .f32) (x3 : FVec Ideal S1024 .f32)
   (b : Fin 32) (s : Fin 4) (j : Fin 1024) :
    ((addf (extractStridedSlice S32x4x1024 ![0, 0, 0] x1 slices_S32x16x1024_S32x4x1024_0_0_0) (mulf (mulf (Host.dotGeneral dot_S32x4x2048_S2048x1024_S32x4x1024_2_0_01_1_n_n none (extractStridedSlice S32x4x2048 ![0, 0, 0] x0 slices_S32x16x2048_S32x4x2048_0_0_0) x2) (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf (Host.dotGeneral dot_S32x4x2048_S2048x1024_S32x4x1024_2_0_01_1_n_n none (extractStridedSlice S32x4x2048 ![0, 0, 0] x0 slices_S32x16x2048_S32x4x2048_0_0_0) x2) (Host.dotGeneral dot_S32x4x2048_S2048x1024_S32x4x1024_2_0_01_1_n_n none (extractStridedSlice S32x4x2048 ![0, 0, 0] x0 slices_S32x16x2048_S32x4x2048_0_0_0) x2)) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32)))))) (broadcastInDim S32x4x1024 ![0, 1, 2] bcast_S1x1x1024_S32x4x1024_0_1_2 (broadcastInDim S1x1x1024 ![2] bcast_S1024_S1x1x1024_2 x3))) : S32x4x1024.Idx → EReal)) (ix3 b s j)
      = joined (x1 (ix3 b ⟨s.val, by omega⟩ j)) (fun n => ∑ k : Fin 2048, x0 (ix3 b ⟨s.val, by omega⟩ k) * x2 (ix2 k n)) (x3 (ix1 j)) j := by
  pointwise []
  rfl

/-- THE VALUES of the sample's output projection: the reference's result is the kernel's. -/
theorem value : Cert.algebraic_Kernel6Ideal_Reference6Ideal := by
  intro m g m' g' _ hm
  refine ⟨fun c => kept m c, run_kept m g, ?_⟩
  refine (θ_run Cert.Reference6Ideal.defs _ _).mono (fun r h c => ⟨(h c).1.trans ?_, (h c).2⟩) (Cert.Reference6Ideal.Value.run m' g')
  obtain ⟨e0, e1, e2, e3⟩ := hm c
  funext i
  rw [eq_ix3 i]
  refine (reference_apply _ _ _ _ (i 0) (i 1) (i 2)).trans (Eq.trans ?_ (result_apply m c (i 0) (i 1) (i 2)).symm)
  rw [e0, e1, e2, e3]
  rfl

end Cert.OutSample

end
-- ==== Proof.ConvPieces.lean ====
module

public import proofs.«01_k».proof.Proof.Gen.Kernel7Ideal.Frame

/-! # The sample's convolution: what the body writes

The body writes the history, the tokens and eight rows of zeros one below the other into a scratch of 56 rows, and takes 128 channels at a
time: the 31 taps' products, grouped by the row within a block of eight at which their windows begin. -/

@[expose] public section

set_option maxRecDepth 16384

noncomputable section

namespace Cert.Conv

open Cert.Kernel7Ideal Cert.Kernel7Ideal.Gen Idealize.ShloMosaic Idealize.ShloMosaic.TcCoe

variable {F : FTy → Type} [FloatOps F]

/-- A window of 24 rows and 128 channels lies in the scratch. -/
theorem inb_window (b n : ℕ) (hb : b + 24 ≤ 56) (hn : n < 8) : ∀ a, (![b, 128 * n] : Fin 2 → ℕ) a + S24x128.size a ≤ S56x1024.size a := by
  intro a; fin_cases a <;> simp [S24x128, S56x1024] <;> omega

/-- A tap's 128 channels lie in the taps. -/
theorem inb_tap (k n : ℕ) (hk : k < 31) (hn : n < 8) : ∀ a, (![k, 128 * n] : Fin 2 → ℕ) a + S1x128.size a ≤ S31x1024.size a := by
  intro a; fin_cases a <;> simp [S1x128, S31x1024] <;> omega

/-- The bias's 128 channels lie in the bias. -/
theorem inb_bias (n : ℕ) (hn : n < 8) : ∀ a, (![0, 128 * n] : Fin 2 → ℕ) a + S1x128.size a ≤ S1x1024.size a := by
  intro a; fin_cases a <;> simp [S1x128, S1x1024] <;> omega

section Chunk

variable (z : (b : ℕ) → b + 24 ≤ 56 → Vec F S24x128 .f32) (w : (k : ℕ) → k < 31 → Vec F S1x128 .f32) (bias : Vec F S1x128 .f32)

/-- A window times a tap. -/
def term (b k : ℕ) (hb : b + 24 ≤ 56) (hk : k < 31) : FVec F S24x128 .f32 :=
  mulf (z b hb) (broadcastTo S24x128 (w k hk) broadcasts_S1x128_S24x128)

/-- Three windows, eight rows apart, times three taps, eight apart. -/
def three (b k : ℕ) (hb : b + 40 ≤ 56) (hk : k + 16 < 31) : FVec F S24x128 .f32 :=
  addf (addf (term z w b k (by omega) (by omega)) (term z w (b + 8) (k + 8) (by omega) (by omega))) (term z w (b + 16) (k + 16) (by omega) (by omega))

/-- Four windows, eight rows apart, times four taps, eight apart. -/
def four (b k : ℕ) (hb : b + 48 ≤ 56) (hk : k + 24 < 31) : FVec F S24x128 .f32 :=
  addf (three z w b k (by omega) (by omega)) (term z w (b + 24) (k + 24) (by omega) (by omega))

/-- The convolution of 128 channels. -/
def chunk : FVec F S16x128 .f32 :=
  addf
    (addf (addf (addf (addf (addf (addf (addf (addf (broadcast S16x128 (Scalar.ofBits .f32 0x00000000#32))
      (extractStridedSlice S16x128 ![0, 0] (four z w 8 6 (by omega) (by omega)) slices_S24x128_o0_0_S16x128))
      (extractStridedSlice S16x128 ![1, 0] (three z w 8 7 (by omega) (by omega)) slices_S24x128_o1_0_S16x128))
      (extractStridedSlice S16x128 ![2, 0] (four z w 0 0 (by omega) (by omega)) slices_S24x128_o2_0_S16x128))
      (extractStridedSlice S16x128 ![3, 0] (four z w 0 1 (by omega) (by omega)) slices_S24x128_o3_0_S16x128))
      (extractStridedSlice S16x128 ![4, 0] (four z w 0 2 (by omega) (by omega)) slices_S24x128_o4_0_S16x128))
      (extractStridedSlice S16x128 ![5, 0] (four z w 0 3 (by omega) (by omega)) slices_S24x128_o5_0_S16x128))
      (extractStridedSlice S16x128 ![6, 0] (four z w 0 4 (by omega) (by omega)) slices_S24x128_o6_0_S16x128))
      (extractStridedSlice S16x128 ![7, 0] (four z w 0 5 (by omega) (by omega)) slices_S24x128_o7_0_S16x128))
    (broadcastTo S16x128 (shapeCast S1x128 bias shapeCasts_S1x128_S1x128) broadcasts_S1x128_S16x128)

end Chunk

/-- Eight times 128 channels side by side. -/
def joinChunks (p : (n : ℕ) → n < 8 → FVec F S16x128 .f32) : FVec F S16x1024 .f32 :=
  concatenate S16x1024 1 [⟨S16x128, p 0 (by omega)⟩, ⟨S16x128, p 1 (by omega)⟩, ⟨S16x128, p 2 (by omega)⟩, ⟨S16x128, p 3 (by omega)⟩,
    ⟨S16x128, p 4 (by omega)⟩, ⟨S16x128, p 5 (by omega)⟩, ⟨S16x128, p 6 (by omega)⟩, ⟨S16x128, p 7 (by omega)⟩]
    concatenates_S16x128_S16x128_S16x128_S16x128_S16x128_S16x128_S16x128_S16x128_S16x1024_d1

variable (c : Dev nD) (i : grid0.Coords) (arg2 : Memref sig .tc .vmem S1x16x1024 .f32) (harg2 : arg2.IsWhole)
  (arg3 : Memref sig .tc .vmem S1x16x1024 .bf16) (harg3 : arg3.IsWhole) (arg4 : Memref sig .tc .vmem S1x32x1024 .f32) (harg4 : arg4.IsWhole)
  (arg5 : Memref sig .tc .vmem S31x1024 .f32) (harg5 : arg5.IsWhole) (arg6 : Memref sig .tc .vmem S1x1024 .f32) (harg6 : arg6.IsWhole)
  (arg7 : Memref sig .tc .vmem S1x1024 .f32) (harg7 : arg7.IsWhole) (arg8 : Memref sig .tc .vmem S1x1024 .f32) (harg8 : arg8.IsWhole)
  (arg9 : Memref sig .tc .vmem S1x16x1024 .bf16) (harg9 : arg9.IsWhole) (arg10 : Memref sig .tc .vmem S1x32x1024 .f32) (harg10 : arg10.IsWhole)
  (arg11 : Memref sig .tc .vmem S56x1024 .f32) (harg11 : arg11.IsWhole)
  (x0 : Vec F S1x16x1024 .f32) (x1 : Vec F S1x16x1024 .bf16) (x2 : Vec F S1x32x1024 .f32) (x3 : Vec F S31x1024 .f32)
  (x4 : Vec F S1x1024 .f32) (x5 : Vec F S1x1024 .f32) (x6 : Vec F S1x1024 .f32)

/-- The scratch's pieces, the last first. -/
def extPieces : List (View.Piece (Elt F) S56x1024 .f32) :=
  [⟨Rect.unit ![48, 0] S8x1024.size inb_S56x1024_S8x1024_48_0, k0_pay6⟩,
   ⟨Rect.unit ![32, 0] S16x1024.size inb_S56x1024_S16x1024_32_0,
    k0_pay5 (View.readAt (Elt F) arg2.view (Rect.unit (s := S1x16x1024) ![0, 0, 0] S1x16x1024.size inb_S1x16x1024_S1x16x1024_0_0_0).toLoadRect (harg2.unread x0))⟩,
   ⟨Rect.unit ![0, 0] S32x1024.size inb_S56x1024_S32x1024_0_0,
    k0_pay4 (View.readAt (Elt F) arg4.view (Rect.unit (s := S1x32x1024) ![0, 0, 0] S1x32x1024.size inb_S1x32x1024_S1x32x1024_0_0_0).toLoadRect (harg4.unread x2))⟩]

/-- A window of the scratch. -/
def window (n : ℕ) (hn : n < 8) (b : ℕ) (hb : b + 24 ≤ 56) : Vec F S24x128 .f32 :=
  arg11.view.readCov (extPieces arg2 harg2 arg4 harg4 x0 x2) (Rect.unit (s := S56x1024) ![b, 128 * n] S24x128.size (inb_window b n hb hn)).toLoadRect

/-- A tap. -/
def tap (n : ℕ) (hn : n < 8) (k : ℕ) (hk : k < 31) : Vec F S1x128 .f32 :=
  View.readAt (Elt F) arg5.view (Rect.unit (s := S31x1024) ![k, 128 * n] S1x128.size (inb_tap k n hk hn)).toLoadRect (harg5.unread x3)

/-- The bias. -/
def biasOf (n : ℕ) (hn : n < 8) : Vec F S1x128 .f32 :=
  View.readAt (Elt F) arg6.view (Rect.unit (s := S1x1024) ![0, 128 * n] S1x128.size (inb_bias n hn)).toLoadRect (harg6.unread x4)

/-- The convolution of all channels. -/
def convolved : FVec F S16x1024 .f32 :=
  joinChunks fun n hn => chunk (window arg2 harg2 arg4 harg4 arg11 x0 x2 n hn) (tap arg5 harg5 x3 n hn) (biasOf arg6 harg6 x4 n hn)

/-- The rows kept for the next call. -/
def tail : Vec F S32x1024 .f32 :=
  arg11.view.readCov (extPieces arg2 harg2 arg4 harg4 x0 x2) (Rect.unit (s := S56x1024) ![4, 0] S32x1024.size inb_S56x1024_S32x1024_4_0).toLoadRect

/-- The one piece of the gated output. -/
theorem out_pieces :
    (kernelRun0_A c i arg2 harg2 arg3 harg3 arg4 harg4 arg5 harg5 arg6 harg6 arg7 harg7 arg8 harg8 arg9 harg9 arg10 harg10 arg11 harg11 x0 x1 x2 x3 x4 x5 x6).1 =
      [⟨Rect.unit ![0, 0, 0] S1x16x1024.size inb_S1x16x1024_S1x16x1024_0_0_0,
        k0_pay2 (k0_pay3 (View.readAt (Elt F) arg3.view (Rect.unit (s := S1x16x1024) ![0, 0, 0] S1x16x1024.size inb_S1x16x1024_S1x16x1024_0_0_0).toLoadRect (harg3.unread x1)))
          (k0_pay95 (convolved arg2 harg2 arg4 harg4 arg5 harg5 arg6 harg6 arg11 x0 x2 x3 x4))
          (View.readAt (Elt F) arg7.view (Rect.unit (s := S1x1024) ![0, 0] S1x1024.size inb_S1x1024_S1x1024_0_0).toLoadRect (harg7.unread x5))
          (View.readAt (Elt F) arg8.view (Rect.unit (s := S1x1024) ![0, 0] S1x1024.size inb_S1x1024_S1x1024_0_0).toLoadRect (harg8.unread x6))⟩] := by
  sl_kernel_rfl

/-- The one piece of the kept rows. -/
theorem tail_pieces :
    (kernelRun0_A c i arg2 harg2 arg3 harg3 arg4 harg4 arg5 harg5 arg6 harg6 arg7 harg7 arg8 harg8 arg9 harg9 arg10 harg10 arg11 harg11 x0 x1 x2 x3 x4 x5 x6).2.1 =
      [⟨Rect.unit ![0, 0, 0] S1x32x1024.size inb_S1x32x1024_S1x32x1024_0_0_0, k0_pay1 (tail arg2 harg2 arg4 harg4 arg11 x0 x2)⟩] := by
  sl_kernel_rfl

end Cert.Conv

end
-- ==== Proof.ConvChunk.lean ====
module

public import proofs.«01_k».proof.Proof.ConvPieces
public import Idealize.ShloMosaic.Lib.Pipeline.ValueKit
public import Idealize.ShloMosaic.Lib.ViewIndex

/-! # The sample's convolution: 128 channels at a place

The taps' products, added in the body's order, are the sum over the taps; and the rows of the scratch are the history's, then the tokens',
then zeros. -/

@[expose] public section

set_option maxRecDepth 16384

noncomputable section

namespace Cert.Conv

open Cert.Kernel7Ideal Cert.Kernel7Ideal.Gen Idealize.ShloMosaic Idealize.ShloMosaic.TcCoe

section Chunk

variable (z : (b : ℕ) → b + 24 ≤ 56 → Vec Ideal S24x128 .f32) (w : (k : ℕ) → k < 31 → Vec Ideal S1x128 .f32) (bias : Vec Ideal S1x128 .f32)
  (l : Fin 128) (e wt : ℕ → EReal) (hz : ∀ b hb (r : Fin 24), z b hb (ix2 r l) = e (b + r.val)) (hw : ∀ k hk, w k hk (ix2 0 l) = wt k)

include hz hw

/-- A window times a tap, at a place. -/
theorem term_apply (b k : ℕ) (hb : b + 24 ≤ 56) (hk : k < 31) (r : Fin 24) : term z w b k hb hk (ix2 r l) = e (b + r.val) * wt k := by
  rw [← hz b hb r, ← hw k hk]
  pointwise [term]

/-- Three windows times three taps, at a place. -/
theorem three_apply (b k : ℕ) (hb : b + 40 ≤ 56) (hk : k + 16 < 31) (r : Fin 24) :
    three z w b k hb hk (ix2 r l) = e (b + r.val) * wt k + e (b + 8 + r.val) * wt (k + 8) + e (b + 16 + r.val) * wt (k + 16) := by
  rw [← term_apply z w l e wt hz hw b k (by omega) (by omega) r, ← term_apply z w l e wt hz hw (b + 8) (k + 8) (by omega) (by omega) r,
    ← term_apply z w l e wt hz hw (b + 16) (k + 16) (by omega) (by omega) r]
  rfl

/-- Four windows times four taps, at a place. -/
theorem four_apply (b k : ℕ) (hb : b + 48 ≤ 56) (hk : k + 24 < 31) (r : Fin 24) :
    four z w b k hb hk (ix2 r l)
      = e (b + r.val) * wt k + e (b + 8 + r.val) * wt (k + 8) + e (b + 16 + r.val) * wt (k + 16) + e (b + 24 + r.val) * wt (k + 24) := by
  rw [← three_apply z w l e wt hz hw b k (by omega) (by omega) r, ← term_apply z w l e wt hz hw (b + 24) (k + 24) (by omega) (by omega) r]
  rfl

/-- The rows of three windows that begin at one row of the blocks of eight. -/
theorem slice_three (o b k : ℕ) (h : S24x128.Slices ![o, 0] S16x128) (hb : b + 40 ≤ 56) (hk : k + 16 < 31) (ho : o < 8) (hbk : b + o = 2 + k) (t : Fin 16) :
    extractStridedSlice S16x128 ![o, 0] (three z w b k hb hk) h (ix2 t l)
      = e (2 + k + t.val) * wt k + e (2 + (k + 8) + t.val) * wt (k + 8) + e (2 + (k + 16) + t.val) * wt (k + 16) := by
  have a := three_apply z w l e wt hz hw b k hb hk ⟨o + t.val, by omega⟩
  rw [show b + (o + t.val) = 2 + k + t.val by omega, show b + 8 + (o + t.val) = 2 + (k + 8) + t.val by omega,
    show b + 16 + (o + t.val) = 2 + (k + 16) + t.val by omega] at a
  rw [← a]
  pointwise []

/-- The rows of four windows that begin at one row of the blocks of eight. -/
theorem slice_four (o b k : ℕ) (h : S24x128.Slices ![o, 0] S16x128) (hb : b + 48 ≤ 56) (hk : k + 24 < 31) (ho : o < 8) (hbk : b + o = 2 + k) (t : Fin 16) :
    extractStridedSlice S16x128 ![o, 0] (four z w b k hb hk) h (ix2 t l)
      = e (2 + k + t.val) * wt k + e (2 + (k + 8) + t.val) * wt (k + 8) + e (2 + (k + 16) + t.val) * wt (k + 16)
        + e (2 + (k + 24) + t.val) * wt (k + 24) := by
  have a := four_apply z w l e wt hz hw b k hb hk ⟨o + t.val, by omega⟩
  rw [show b + (o + t.val) = 2 + k + t.val by omega, show b + 8 + (o + t.val) = 2 + (k + 8) + t.val by omega,
    show b + 16 + (o + t.val) = 2 + (k + 16) + t.val by omega, show b + 24 + (o + t.val) = 2 + (k + 24) + t.val by omega] at a
  rw [← a]
  pointwise []

omit hz hw in
/-- The taps in the body's order are the taps in order. -/
theorem taps_sum (f : ℕ → EReal) :
    0 + (f 6 + f (6 + 8) + f (6 + 16) + f (6 + 24)) + (f 7 + f (7 + 8) + f (7 + 16)) + (f 0 + f (0 + 8) + f (0 + 16) + f (0 + 24))
      + (f 1 + f (1 + 8) + f (1 + 16) + f (1 + 24)) + (f 2 + f (2 + 8) + f (2 + 16) + f (2 + 24)) + (f 3 + f (3 + 8) + f (3 + 16) + f (3 + 24))
      + (f 4 + f (4 + 8) + f (4 + 16) + f (4 + 24)) + (f 5 + f (5 + 8) + f (5 + 16) + f (5 + 24)) = ∑ k ∈ Finset.range 31, f k := by
  simp only [Finset.sum_range_succ, Finset.sum_range_zero]
  abel

/-- THE CONVOLUTION of 128 channels at a place: the sum over the taps, and the bias. -/
theorem chunk_apply (β : EReal) (hβ : bias (ix2 0 l) = β) (t : Fin 16) :
    chunk z w bias (ix2 t l) = (∑ k ∈ Finset.range 31, e (2 + k + t.val) * wt k) + β := by
  have eb : (broadcastTo S16x128 (shapeCast S1x128 bias shapeCasts_S1x128_S1x128) broadcasts_S1x128_S16x128 : FVec Ideal S16x128 .f32) (ix2 t l) = β := by
    rw [← hβ]
    pointwise []
  have e0 : (broadcast S16x128 (Scalar.ofBits .f32 0x00000000#32) : FVec Ideal S16x128 .f32) (ix2 t l) = (0 : EReal) := by
    pointwise []
  unfold chunk
  simp only [addf_apply, eb, e0]
  rw [slice_four z w l e wt hz hw 0 8 6 _ _ _ (by omega) rfl t, slice_three z w l e wt hz hw 1 8 7 _ _ _ (by omega) rfl t,
    slice_four z w l e wt hz hw 2 0 0 _ _ _ (by omega) rfl t, slice_four z w l e wt hz hw 3 0 1 _ _ _ (by omega) rfl t,
    slice_four z w l e wt hz hw 4 0 2 _ _ _ (by omega) rfl t, slice_four z w l e wt hz hw 5 0 3 _ _ _ (by omega) rfl t,
    slice_four z w l e wt hz hw 6 0 4 _ _ _ (by omega) rfl t, slice_four z w l e wt hz hw 7 0 5 _ _ _ (by omega) rfl t]
  exact congrArg (· + β) (taps_sum fun k => e (2 + k + t.val) * wt k)

end Chunk

end Cert.Conv

end
-- ==== Proof.ConvBlock.lean ====
module

public import proofs.«01_k».proof.Proof.ConvChunk
public import proofs.«01_k».proof.Proof.Gates
public import Idealize.ShloMosaic.Lib.WholeRead

/-! # The sample's convolution: a sequence's results at a place

A point holds one sequence: its rows are the history's, then the tokens', then zeros. Its results are the gated, normed convolution and the
last rows. -/

@[expose] public section

set_option maxRecDepth 16384

noncomputable section

namespace Cert.Conv

open Cert.Kernel7Ideal Cert.Kernel7Ideal.Gen Idealize.ShloMosaic Idealize.ShloMosaic.TcCoe Cert.Gates

/-- Two places of an array of two axes whose numbers are the same are one place. -/
theorem idx2_ext {s0 s1 : ℕ} {y y' : (⟨2, ![s0, s1]⟩ : Shape).Idx} (h0 : (y 0).val = (y' 0).val) (h1 : (y 1).val = (y' 1).val) : y = y' := by
  funext a
  fin_cases a
  · exact Fin.ext h0
  · exact Fin.ext h1

/-- An entry of a row less the row's mean. -/
def centered (y : Fin 1024 → EReal) (j : Fin 1024) : EReal :=
  y j - FloatOps.divf (F := Ideal) (φ := .f32) (∑ k, y k) (Scalar.ofBits (F := Ideal) .f32 0x44800000#32)

/-- An entry of a row less the row's mean, over the root of the variance. -/
def scaled (y : Fin 1024 → EReal) (j : Fin 1024) : EReal :=
  centered y j * FloatOps.rsqrt (F := Ideal) (φ := .f32)
    (FloatOps.divf (F := Ideal) (φ := .f32) (∑ k, centered y k * centered y k) (Scalar.ofBits (F := Ideal) .f32 0x44800000#32)
      + Scalar.ofBits (F := Ideal) .f32 0x358637BD#32)

/-- The gated, normed row. -/
def gatedRow (y : Fin 1024 → EReal) (gain bias gate : EReal) (j : Fin 1024) : EReal := silu (scaled y j * gain + bias) * gate

/-- A row of the scratch: the history's, then the tokens', then zeros. -/
def rows (x0 : Vec Ideal S1x16x1024 .f32) (x2 : Vec Ideal S1x32x1024 .f32) (j : Fin 1024) (R : ℕ) : EReal :=
  if h : R < 32 then x2 (ix3 0 ⟨R, h⟩ j) else if h' : R < 48 then x0 (ix3 0 ⟨R - 32, by omega⟩ j) else 0

section Scratch

variable (arg2 : Memref sig .tc .vmem S1x16x1024 .f32) (harg2 : arg2.IsWhole) (arg4 : Memref sig .tc .vmem S1x32x1024 .f32) (harg4 : arg4.IsWhole)
  (arg5 : Memref sig .tc .vmem S31x1024 .f32) (harg5 : arg5.IsWhole) (arg6 : Memref sig .tc .vmem S1x1024 .f32) (harg6 : arg6.IsWhole)
  (arg11 : Memref sig .tc .vmem S56x1024 .f32)
  (x0 : Vec Ideal S1x16x1024 .f32) (x2 : Vec Ideal S1x32x1024 .f32) (x3 : Vec Ideal S31x1024 .f32) (x4 : Vec Ideal S1x1024 .f32)

/-- The scratch at a row. -/
theorem scratch_apply (R : Fin 56) (j : Fin 1024) :
    View.canon (extPieces arg2 harg2 arg4 harg4 x0 x2) (ix2 R j) = rows x0 x2 j R.val := by
  unfold extPieces rows
  by_cases h48 : 48 ≤ R.val
  · have e : (ix2 R j : S56x1024.Idx) = (Rect.unit (s := S56x1024) ![48, 0] S8x1024.size inb_S56x1024_S8x1024_48_0).emb (ix2 ⟨R.val - 48, by omega⟩ j : S8x1024.Idx) := by
      refine idx2_ext ?_ ?_
      · show R.val = 48 + 1 * (R.val - 48)
        omega
      · show j.val = 0 + 1 * j.val
        omega
    rw [e, View.canon_cons_emb, dif_neg (by omega), dif_neg (by omega)]
    pointwise [k0_pay6]
  · rw [View.canon_cons_of_not_mem _ _ (by
      rw [Rect.mem_set_unit]
      exact fun h => h48 (h 0).1)]
    by_cases h32 : 32 ≤ R.val
    · have e : (ix2 R j : S56x1024.Idx) = (Rect.unit (s := S56x1024) ![32, 0] S16x1024.size inb_S56x1024_S16x1024_32_0).emb (ix2 ⟨R.val - 32, by omega⟩ j : S16x1024.Idx) := by
        refine idx2_ext ?_ ?_
        · show R.val = 32 + 1 * (R.val - 32)
          omega
        · show j.val = 0 + 1 * j.val
          omega
      rw [e, View.canon_cons_emb, dif_neg (by omega), dif_pos (by omega)]
      pointwise [k0_pay5]
      refine (harg2.readAt_unread (Val := Elt Ideal) x0 _ _).trans (congrArg x0 (Shape.idx3_ext rfl ?_ ?_))
      · show 0 + 1 * (R.val - 32) = R.val - 32
        omega
      · show 0 + 1 * j.val = j.val
        omega
    · rw [View.canon_cons_of_not_mem _ _ (by
        rw [Rect.mem_set_unit]
        exact fun h => h32 (h 0).1)]
      have e : (ix2 R j : S56x1024.Idx) = (Rect.unit (s := S56x1024) ![0, 0] S32x1024.size inb_S56x1024_S32x1024_0_0).emb (ix2 ⟨R.val, by omega⟩ j : S32x1024.Idx) := by
        refine idx2_ext ?_ ?_
        · show R.val = 0 + 1 * R.val
          omega
        · show j.val = 0 + 1 * j.val
          omega
      rw [e, View.canon_cons_emb, dif_pos (by omega)]
      pointwise [k0_pay4]
      refine (harg4.readAt_unread (Val := Elt Ideal) x2 _ _).trans (congrArg x2 (Shape.idx3_ext rfl ?_ ?_))
      · show 0 + 1 * R.val = R.val
        omega
      · show 0 + 1 * j.val = j.val
        omega

/-- A window of the scratch at a place. -/
theorem window_apply (n : ℕ) (hn : n < 8) (b : ℕ) (hb : b + 24 ≤ 56) (r : Fin 24) (l : Fin 128) :
    window arg2 harg2 arg4 harg4 arg11 x0 x2 n hn b hb (ix2 r l) = rows x0 x2 ⟨128 * n + l.val, by omega⟩ (b + r.val) := by
  unfold window
  rw [View.readCov_eq_canon']
  refine Eq.trans (congrArg (View.canon _) (idx2_ext ?_ ?_)) (scratch_apply arg2 harg2 arg4 harg4 x0 x2 ⟨b + r.val, by omega⟩ ⟨128 * n + l.val, by omega⟩)
  · show b + 1 * r.val = b + r.val
    omega
  · show 128 * n + 1 * l.val = 128 * n + l.val
    omega

/-- A tap at a place. -/
theorem tap_apply (n : ℕ) (hn : n < 8) (k : ℕ) (hk : k < 31) (l : Fin 128) :
    tap arg5 harg5 x3 n hn k hk (ix2 0 l) = x3 (ix2 ⟨k, hk⟩ ⟨128 * n + l.val, by omega⟩) := by
  refine (harg5.readAt_unread (Val := Elt Ideal) x3 _ _).trans (congrArg x3 (idx2_ext rfl ?_))
  show 128 * n + 1 * l.val = 128 * n + l.val
  omega

/-- The bias at a place. -/
theorem bias_apply (n : ℕ) (hn : n < 8) (l : Fin 128) :
    biasOf arg6 harg6 x4 n hn (ix2 0 l) = x4 (ix2 0 ⟨128 * n + l.val, by omega⟩) := by
  refine (harg6.readAt_unread (Val := Elt Ideal) x4 _ _).trans (congrArg x4 (idx2_ext rfl ?_))
  show 128 * n + 1 * l.val = 128 * n + l.val
  omega

/-- A tap's weight, by its number. -/
def weightAt (x3 : Vec Ideal S31x1024 .f32) (j : Fin 1024) (k : ℕ) : EReal := if h : k < 31 then x3 (ix2 ⟨k, h⟩ j) else 0

/-- The convolution of a token, with the bias. -/
def convRow (x0 : Vec Ideal S1x16x1024 .f32) (x2 : Vec Ideal S1x32x1024 .f32) (x3 : Vec Ideal S31x1024 .f32) (x4 : Vec Ideal S1x1024 .f32)
    (t : Fin 16) (j : Fin 1024) : EReal :=
  (∑ k ∈ Finset.range 31, rows x0 x2 j (2 + k + t.val) * weightAt x3 j k) + x4 (ix2 0 j)

/-- Eight times 128 channels side by side, at a place. -/
theorem join_apply (p : (n : ℕ) → n < 8 → FVec Ideal S16x128 .f32) (t : Fin 16) (n : ℕ) (hn : n < 8) (l : Fin 128) :
    joinChunks p (ix2 t ⟨128 * n + l.val, by omega⟩) = p n hn (ix2 t l) := by
  unfold joinChunks
  have at_ : ∀ (a : ℕ) (h : a < 128), a = l.val → p n hn (ix2 t ⟨a, h⟩) = p n hn (ix2 t l) :=
    fun a h e => congrArg (fun i => p n hn (ix2 t i)) (Fin.ext e)
  interval_cases n <;> pointwise [] <;> (repeat' split) <;> first | exact at_ _ _ (by omega) | (exfalso; omega)

/-- The convolution of all channels at a place. -/
theorem convolved_apply (t : Fin 16) (j : Fin 1024) :
    convolved arg2 harg2 arg4 harg4 arg5 harg5 arg6 harg6 arg11 x0 x2 x3 x4 (ix2 t j) = convRow x0 x2 x3 x4 t j := by
  obtain ⟨n, hn, l, rfl⟩ : ∃ (n : ℕ) (hn : n < 8) (l : Fin 128), j = ⟨128 * n + l.val, by omega⟩ :=
    ⟨j.val / 128, by omega, ⟨j.val % 128, by omega⟩, Fin.ext (Nat.div_add_mod _ _).symm⟩
  unfold convolved
  rw [join_apply _ t n hn l]
  refine chunk_apply _ _ _ l _ (weightAt x3 ⟨128 * n + l.val, by omega⟩) (fun b hb r => window_apply arg2 harg2 arg4 harg4 arg11 x0 x2 n hn b hb r l)
    (fun k hk => ?_) _ (bias_apply arg6 harg6 x4 n hn l) t
  rw [tap_apply]
  unfold weightAt
  rw [dif_pos hk]

/-- The kept rows at a place. -/
theorem tail_apply (r : Fin 32) (j : Fin 1024) :
    tail arg2 harg2 arg4 harg4 arg11 x0 x2 (ix2 r j) = rows x0 x2 j (4 + r.val) := by
  unfold tail
  rw [View.readCov_eq_canon']
  refine Eq.trans (congrArg (View.canon _) (idx2_ext ?_ ?_)) (scratch_apply arg2 harg2 arg4 harg4 x0 x2 ⟨4 + r.val, by omega⟩ j)
  · show 4 + 1 * r.val = 4 + r.val
    omega
  · show 0 + 1 * j.val = j.val
    omega

end Scratch

/-- The normed row of the body. -/
theorem scaled_apply (y : FVec Ideal S16x1024 .f32) (t : Fin 16) (j : Fin 1024) :
    k0_pay95 y (ix2 t j) = scaled (fun k => y (ix2 t k)) j := by
  pointwise [k0_pay95]
  rfl

/-- The gated row of the body. -/
theorem gated_apply (g y : FVec Ideal S16x1024 .f32) (x5 x6 : Vec Ideal S1x1024 .f32) (t : Fin 16) (j : Fin 1024) :
    k0_pay2 g y x5 x6 (ix3 0 t j) = silu (y (ix2 t j) * x5 (ix2 0 j) + x6 (ix2 0 j)) * g (ix2 t j) := by
  pointwise [k0_pay2]
  rfl

/-- The gate of the body. -/
theorem gate_apply (x1 : Vec Ideal S1x16x1024 .bf16) (t : Fin 16) (j : Fin 1024) : k0_pay3 x1 (ix2 t j) = x1 (ix3 0 t j) := by
  pointwise [k0_pay3]

/-- The kept rows as written. -/
theorem kept_apply (v : Vec Ideal S32x1024 .f32) (r : Fin 32) (j : Fin 1024) : k0_pay1 v (ix3 0 r j) = v (ix2 r j) := by
  pointwise [k0_pay1]

end Cert.Conv

end
-- ==== Proof.ConvKernel.lean ====
module

public import proofs.«01_k».proof.Proof.ConvBlock
public import Idealize.ShloMosaic.Lib.StableHlo.RunRead

/-! # The sample's convolution, sequence by sequence

Each of the 32 grid points takes one sequence. The host puts two rows of zeros above the history before, and keeps the first four rows of the
gated result and all but the first two of the kept rows after. -/

@[expose] public section

set_option maxRecDepth 16384

noncomputable section

namespace Cert.Conv

open Cert.Kernel7Ideal Cert.Kernel7Ideal.Gen Idealize.ShloMosaic Idealize.ShloMosaic.TcCoe
open Idealize.ShloMosaic.Pipeline (Dat)
open Idealize.SL.Sem

variable (m : (ℓ : Loc nD τ sig) → Buf (Elt Ideal) ℓ) (c : Dev nD)

/-- The tokens' values, as launched. -/
def tokens : S32x16x1024.Idx → EReal := m ((c : Thread nD τ).loc main_arg0)
/-- The gate, as launched. -/
def gate : S32x16x1024.Idx → EReal := m ((c : Thread nD τ).loc main_arg1)
/-- The cache, as launched. -/
def cache : S32x30x1024.Idx → EReal := m ((c : Thread nD τ).loc main_arg2)
/-- The taps, as launched. -/
def taps : S31x1024.Idx → EReal := m ((c : Thread nD τ).loc main_arg3)
/-- The bias, as launched. -/
def bias : S1024.Idx → EReal := m ((c : Thread nD τ).loc main_arg4)
/-- The norm's gain, as launched. -/
def lnGain : S1024.Idx → EReal := m ((c : Thread nD τ).loc main_arg5)
/-- The norm's bias, as launched. -/
def lnBias : S1024.Idx → EReal := m ((c : Thread nD τ).loc main_arg6)

/-- The corner of a block. -/
theorem origin2 : (![0, 0] : Fin 2 → Nat) = fun _ => 0 := funext fun a => by fin_cases a <;> rfl
/-- The corner of a block of three axes. -/
theorem origin3 : (![0, 0, 0] : Fin 3 → Nat) = fun _ => 0 := funext fun a => by fin_cases a <;> rfl

section Outs

variable (i : grid0.Coords) (arg2 : Memref sig .tc .vmem S1x16x1024 .f32) (harg2 : arg2.IsWhole)
  (arg3 : Memref sig .tc .vmem S1x16x1024 .bf16) (harg3 : arg3.IsWhole) (arg4 : Memref sig .tc .vmem S1x32x1024 .f32) (harg4 : arg4.IsWhole)
  (arg5 : Memref sig .tc .vmem S31x1024 .f32) (harg5 : arg5.IsWhole) (arg6 : Memref sig .tc .vmem S1x1024 .f32) (harg6 : arg6.IsWhole)
  (arg7 : Memref sig .tc .vmem S1x1024 .f32) (harg7 : arg7.IsWhole) (arg8 : Memref sig .tc .vmem S1x1024 .f32) (harg8 : arg8.IsWhole)
  (arg9 : Memref sig .tc .vmem S1x16x1024 .bf16) (harg9 : arg9.IsWhole) (arg10 : Memref sig .tc .vmem S1x32x1024 .f32) (harg10 : arg10.IsWhole)
  (arg11 : Memref sig .tc .vmem S56x1024 .f32) (harg11 : arg11.IsWhole)
  (x0 : Vec Ideal S1x16x1024 .f32) (x1 : Vec Ideal S1x16x1024 .bf16) (x2 : Vec Ideal S1x32x1024 .f32) (x3 : Vec Ideal S31x1024 .f32)
  (x4 : Vec Ideal S1x1024 .f32) (x5 : Vec Ideal S1x1024 .f32) (x6 : Vec Ideal S1x1024 .f32)

/-- What a point leaves in its block of the gated result. -/
theorem out_apply (t : Fin 16) (j : Fin 1024) :
    out0_A_7 c i arg2 harg2 arg3 harg3 arg4 harg4 arg5 harg5 arg6 harg6 arg7 harg7 arg8 harg8 arg9 harg9 arg10 harg10 arg11 harg11 x0 x1 x2 x3 x4 x5 x6 (ix3 0 t j)
      = gatedRow (convRow x0 x2 x3 x4 t) (x5 (ix2 0 j)) (x6 (ix2 0 j)) (x1 (ix3 0 t j)) j := by
  unfold out0_A_7
  rw [View.read_writes_junk_apply_eq_canon, out_pieces, View.canon_unit_zero origin3]
  refine (gated_apply _ _ _ _ t j).trans ?_
  rw [scaled_apply, gate_apply]
  simp only [convolved_apply]
  have a1 : View.readAt (Elt Ideal) arg3.view (Rect.unit (s := S1x16x1024) ![0, 0, 0] S1x16x1024.size inb_S1x16x1024_S1x16x1024_0_0_0).toLoadRect (harg3.unread x1) (ix3 0 t j)
      = x1 (ix3 0 t j) := by
    refine (harg3.readAt_unread (Val := Elt Ideal) x1 _ _).trans (congrArg x1 (Shape.idx3_ext rfl ?_ ?_))
    · show 0 + 1 * t.val = t.val
      omega
    · show 0 + 1 * j.val = j.val
      omega
  have a5 : View.readAt (Elt Ideal) arg7.view (Rect.unit (s := S1x1024) ![0, 0] S1x1024.size inb_S1x1024_S1x1024_0_0).toLoadRect (harg7.unread x5) (ix2 0 j)
      = x5 (ix2 0 j) := by
    refine (harg7.readAt_unread (Val := Elt Ideal) x5 _ _).trans (congrArg x5 (idx2_ext rfl ?_))
    show 0 + 1 * j.val = j.val
    omega
  have a6 : View.readAt (Elt Ideal) arg8.view (Rect.unit (s := S1x1024) ![0, 0] S1x1024.size inb_S1x1024_S1x1024_0_0).toLoadRect (harg8.unread x6) (ix2 0 j)
      = x6 (ix2 0 j) := by
    refine (harg8.readAt_unread (Val := Elt Ideal) x6 _ _).trans (congrArg x6 (idx2_ext rfl ?_))
    show 0 + 1 * j.val = j.val
    omega
  rw [a1, a5, a6]
  rfl

/-- What a point leaves in its block of the kept rows. -/
theorem out_kept_apply (r : Fin 32) (j : Fin 1024) :
    out0_A_8 c i arg2 harg2 arg3 harg3 arg4 harg4 arg5 harg5 arg6 harg6 arg7 harg7 arg8 harg8 arg9 harg9 arg10 harg10 arg11 harg11 x0 x1 x2 x3 x4 x5 x6 (ix3 0 r j)
      = rows x0 x2 j (4 + r.val) := by
  unfold out0_A_8
  rw [View.read_writes_junk_apply_eq_canon, tail_pieces, View.canon_unit_zero origin3]
  exact (kept_apply _ r j).trans (tail_apply arg2 harg2 arg4 harg4 arg11 x0 x2 r j)

end Outs

/-- The block that each window reads or writes at a point. -/
theorem idx_facts : ∀ t : Fin cfg0.N,
    (win0_0.index t = ![t.val, 0, 0] ∧ win0_1.index t = ![t.val, 0, 0] ∧ win0_2.index t = ![t.val, 0, 0]) ∧
    (win0_3.index t = ![0, 0] ∧ win0_4.index t = ![0, 0] ∧ win0_5.index t = ![0, 0] ∧ win0_6.index t = ![0, 0]) ∧
    win0_7.index t = ![t.val, 0, 0] ∧ win0_8.index t = ![t.val, 0, 0] :=
  (by decide +kernel : ∀ t : Fin grid0.N, _)

/-- There are as many points as sequences. -/
theorem points : cfg0.N = 32 := by decide

/-- The point of a sequence. -/
def point (b : Fin 32) : Fin cfg0.N := ⟨b.val, by rw [points]; exact b.isLt⟩

/-- The tokens of a point. -/
theorem blk0 (b : Fin 32) (t : Fin 16) (j : Fin 1024) :
    (iblk m c 0 (point b) : Vec Ideal S1x16x1024 .f32) (ix3 0 t j) = tokens m c (ix3 b t j) := by
  have e : win0_0.index (point b) = ![b.val, 0, 0] := (idx_facts (point b)).1.1
  have e1 : ((cfg0.win 0).blk (point b)).view.emb (ix3 0 t j : S1x16x1024.Idx) = (ix3 b t j : S32x16x1024.Idx) := by
    blk_ext [e]
  unfold iblk
  rw [View.read_apply]
  refine (congrArg (V m c main_arg0) e1).trans ?_
  simp only [V, V0, hostOps0, hostOps0_1, hostOps0_2, List.flatten_cons, List.flatten_nil, List.append_nil, List.cons_append, List.nil_append]
  after_reads_simp
  rfl

/-- The gate of a point. -/
theorem blk1 (b : Fin 32) (t : Fin 16) (j : Fin 1024) :
    (iblk m c 1 (point b) : Vec Ideal S1x16x1024 .bf16) (ix3 0 t j) = gate m c (ix3 b t j) := by
  have e : win0_1.index (point b) = ![b.val, 0, 0] := (idx_facts (point b)).1.2.1
  have e1 : ((cfg0.win 1).blk (point b)).view.emb (ix3 0 t j : S1x16x1024.Idx) = (ix3 b t j : S32x16x1024.Idx) := by
    blk_ext [e]
  unfold iblk
  rw [View.read_apply]
  refine (congrArg (V m c main_v1) e1).trans ?_
  simp only [V, V0, hostOps0, hostOps0_1, hostOps0_2, List.flatten_cons, List.flatten_nil, List.append_nil, List.cons_append, List.nil_append]
  after_reads_simp
  pointwise []
  rfl

/-- The history of a point, from its third row on. -/
theorem blk2 (b : Fin 32) (r : Fin 30) (j : Fin 1024) :
    (iblk m c 2 (point b) : Vec Ideal S1x32x1024 .f32) (ix3 0 ⟨2 + r.val, by omega⟩ j) = cache m c (ix3 b r j) := by
  have e : win0_2.index (point b) = ![b.val, 0, 0] := (idx_facts (point b)).1.2.2
  have e1 : ((cfg0.win 2).blk (point b)).view.emb (ix3 0 ⟨2 + r.val, by omega⟩ j : S1x32x1024.Idx) = (ix3 b ⟨2 + r.val, by omega⟩ j : S32x32x1024.Idx) := by
    blk_ext [e]
  unfold iblk
  rw [View.read_apply]
  refine (congrArg (V m c main_v0) e1).trans ?_
  simp only [V, V0, hostOps0, hostOps0_1, hostOps0_2, List.flatten_cons, List.flatten_nil, List.append_nil, List.cons_append, List.nil_append]
  after_reads_simp
  show pad S32x32x1024 ![0, 2, 0] ![0, 0, 0] ![0, 0, 0] (cache m c) (sitofp (F := Ideal) .f32 (constantI S_ 32 0#32))
    pads_S32x30x1024_S32x32x1024_000_200_000 h_S_ (ix3 b ⟨2 + r.val, by omega⟩ j) = _
  pointwise []

/-- The taps. -/
theorem blk3 (t : Fin cfg0.N) (k : Fin 31) (j : Fin 1024) : (iblk m c 3 t : Vec Ideal S31x1024 .f32) (ix2 k j) = taps m c (ix2 k j) := by
  have e := (idx_facts t).2.1.1
  have e1 : ((cfg0.win 3).blk t).view.emb (ix2 k j : S31x1024.Idx) = (ix2 k j : S31x1024.Idx) := by
    blk_ext [e]
  unfold iblk
  rw [View.read_apply]
  refine (congrArg (V m c main_arg3) e1).trans ?_
  simp only [V, V0, hostOps0, hostOps0_1, hostOps0_2, List.flatten_cons, List.flatten_nil, List.append_nil, List.cons_append, List.nil_append]
  after_reads_simp
  rfl

/-- The bias. -/
theorem blk4 (t : Fin cfg0.N) (j : Fin 1024) : (iblk m c 4 t : Vec Ideal S1x1024 .f32) (ix2 0 j) = bias m c (ix1 j) := by
  have e := (idx_facts t).2.1.2.1
  have e1 : ((cfg0.win 4).blk t).view.emb (ix2 0 j : S1x1024.Idx) = (ix2 0 j : S1x1024.Idx) := by
    blk_ext [e]
  unfold iblk
  rw [View.read_apply]
  refine (congrArg (V m c main_v2) e1).trans ?_
  simp only [V, V0, hostOps0, hostOps0_1, hostOps0_2, List.flatten_cons, List.flatten_nil, List.append_nil, List.cons_append, List.nil_append]
  after_reads_simp
  pointwise []
  rfl

/-- The norm's gain. -/
theorem blk5 (t : Fin cfg0.N) (j : Fin 1024) : (iblk m c 5 t : Vec Ideal S1x1024 .f32) (ix2 0 j) = lnGain m c (ix1 j) := by
  have e := (idx_facts t).2.1.2.2.1
  have e1 : ((cfg0.win 5).blk t).view.emb (ix2 0 j : S1x1024.Idx) = (ix2 0 j : S1x1024.Idx) := by
    blk_ext [e]
  unfold iblk
  rw [View.read_apply]
  refine (congrArg (V m c main_v3) e1).trans ?_
  simp only [V, V0, hostOps0, hostOps0_1, hostOps0_2, List.flatten_cons, List.flatten_nil, List.append_nil, List.cons_append, List.nil_append]
  after_reads_simp
  pointwise []
  rfl

/-- The norm's bias. -/
theorem blk6 (t : Fin cfg0.N) (j : Fin 1024) : (iblk m c 6 t : Vec Ideal S1x1024 .f32) (ix2 0 j) = lnBias m c (ix1 j) := by
  have e := (idx_facts t).2.1.2.2.2
  have e1 : ((cfg0.win 6).blk t).view.emb (ix2 0 j : S1x1024.Idx) = (ix2 0 j : S1x1024.Idx) := by
    blk_ext [e]
  unfold iblk
  rw [View.read_apply]
  refine (congrArg (V m c main_v4) e1).trans ?_
  simp only [V, V0, hostOps0, hostOps0_1, hostOps0_2, List.flatten_cons, List.flatten_nil, List.append_nil, List.cons_append, List.nil_append]
  after_reads_simp
  pointwise []
  rfl

/-- A row of a sequence: the cache's, then the tokens'. -/
def seqRow (b : Fin 32) (j : Fin 1024) (R : ℕ) : EReal :=
  if h : R < 30 then cache m c (ix3 b ⟨R, h⟩ j) else if h' : R < 46 then tokens m c (ix3 b ⟨R - 30, by omega⟩ j) else 0

/-- A point's rows from the third on are its sequence's. -/
theorem rows_seq (b : Fin 32) (j : Fin 1024) (R : ℕ) :
    rows (iblk m c 0 (point b) : Vec Ideal S1x16x1024 .f32) (iblk m c 2 (point b) : Vec Ideal S1x32x1024 .f32) j (2 + R) = seqRow m c b j R := by
  unfold rows seqRow
  by_cases h : R < 30
  · rw [dif_pos (by omega), dif_pos h]
    exact blk2 m c b ⟨R, h⟩ j
  · rw [dif_neg (by omega), dif_neg h]
    by_cases h' : R < 46
    · rw [dif_pos (by omega), dif_pos h', blk0]
      exact congrArg (tokens m c) (Shape.idx3_ext rfl (show 2 + R - 32 = R - 30 by omega) rfl)
    · rw [dif_neg (by omega), dif_neg h']

/-- A token's convolution. -/
def tokenConv (b : Fin 32) (t : Fin 16) (j : Fin 1024) : EReal :=
  (∑ k : Fin 31, seqRow m c b j (k.val + t.val) * taps m c (ix2 k j)) + bias m c (ix1 j)

/-- A point's convolution is its sequence's. -/
theorem conv_seq (b : Fin 32) (t : Fin 16) (j : Fin 1024) :
    convRow (iblk m c 0 (point b) : Vec Ideal S1x16x1024 .f32) (iblk m c 2 (point b) : Vec Ideal S1x32x1024 .f32)
      (iblk m c 3 (point b) : Vec Ideal S31x1024 .f32) (iblk m c 4 (point b) : Vec Ideal S1x1024 .f32) t j = tokenConv m c b t j := by
  unfold convRow tokenConv
  rw [blk4, Finset.sum_range]
  refine congrArg (· + bias m c (ix1 j)) (Finset.sum_congr rfl fun k _ => ?_)
  rw [Nat.add_assoc, rows_seq]
  unfold weightAt
  rw [dif_pos k.isLt, blk3]

/-- What a point leaves of the gated result, from its blocks. -/
theorem after_gated (p : Fin cfg0.N) (t : Fin 16) (j : Fin 1024) :
    (outsAt0 m c p).1 (ix3 0 t j)
      = gatedRow (convRow (iblk m c 0 p) (iblk m c 2 p) (iblk m c 3 p) (iblk m c 4 p) t) ((iblk m c 5 p : Vec Ideal S1x1024 .f32) (ix2 0 j))
          ((iblk m c 6 p : Vec Ideal S1x1024 .f32) (ix2 0 j)) ((iblk m c 1 p : Vec Ideal S1x16x1024 .bf16) (ix3 0 t j)) j := by
  unfold outsAt0
  dsimp only
  rw [out_apply]

/-- What a point leaves of the kept rows, from its blocks. -/
theorem after_kept (p : Fin cfg0.N) (r : Fin 32) (j : Fin 1024) :
    (outsAt0 m c p).2 (ix3 0 r j) = rows (iblk m c 0 p) (iblk m c 2 p) j (4 + r.val) := by
  unfold outsAt0
  dsimp only
  rw [out_kept_apply]

/-- Blocks of different points lie apart. -/
theorem apart {a b : ℕ} (h : (![a, 0, 0] : Fin 3 → ℕ) = ![b, 0, 0]) : a = b := congrFun h 0

/-- The gated array at a token. -/
theorem gated_array (b : Fin 32) (t : Fin 16) (j : Fin 1024) :
    ((dats m 0 c).arrAt 7 cfg0.N : S32x16x1024.Idx → EReal) (ix3 b t j)
      = gatedRow (tokenConv m c b t) (lnGain m c (ix1 j)) (lnBias m c (ix1 j)) (gate m c (ix3 b t j)) j := by
  have e : win0_7.index (point b) = ![b.val, 0, 0] := (idx_facts (point b)).2.2.1
  have e1 : ((cfg0.win 7).blk (point b)).view.emb (ix3 0 t j : S1x16x1024.Idx) = (ix3 b t j : S32x16x1024.Idx) := by
    blk_ext [e]
  have g := (dats m 0 c).arrAt_emb_eq_flushed 7 (fun t t' _ _ hne => (cfg0.win 7).disjoint_blk fun h =>
    hne (Fin.ext (apart ((idx_facts t).2.2.1.symm.trans (Eq.trans h (idx_facts t').2.2.1))))) (point b) (flush0_7 (point b)) (ix3 0 t j : S1x16x1024.Idx)
  rw [e1] at g
  refine (g.trans (eq_of_heq (cast_heq _ _))).trans ?_
  show (cfg0.win 7).cut (grid0.coords (point b)) ((dats m 0 c).after 7 (point b)) (ix3 0 t j) = _
  rw [after0_7]
  refine (after_gated m c (point b) t j).trans ?_
  rw [blk1, blk5, blk6, show convRow (iblk m c 0 (point b)) (iblk m c 2 (point b)) (iblk m c 3 (point b)) (iblk m c 4 (point b)) t = tokenConv m c b t from
    funext fun j => conv_seq m c b t j]

/-- The kept rows' array, from its third row on. -/
theorem kept_array (b : Fin 32) (r : Fin 30) (j : Fin 1024) :
    ((dats m 0 c).arrAt 8 cfg0.N : S32x32x1024.Idx → EReal) (ix3 b ⟨2 + r.val, by omega⟩ j) = seqRow m c b j (4 + r.val) := by
  have e : win0_8.index (point b) = ![b.val, 0, 0] := (idx_facts (point b)).2.2.2
  have e1 : ((cfg0.win 8).blk (point b)).view.emb (ix3 0 ⟨2 + r.val, by omega⟩ j : S1x32x1024.Idx) = (ix3 b ⟨2 + r.val, by omega⟩ j : S32x32x1024.Idx) := by
    blk_ext [e]
  have g := (dats m 0 c).arrAt_emb_eq_flushed 8 (fun t t' _ _ hne => (cfg0.win 8).disjoint_blk fun h =>
    hne (Fin.ext (apart ((idx_facts t).2.2.2.symm.trans (Eq.trans h (idx_facts t').2.2.2))))) (point b) (flush0_8 (point b))
    (ix3 0 ⟨2 + r.val, by omega⟩ j : S1x32x1024.Idx)
  rw [e1] at g
  refine (g.trans (eq_of_heq (cast_heq _ _))).trans ?_
  show (cfg0.win 8).cut (grid0.coords (point b)) ((dats m 0 c).after 8 (point b)) (ix3 0 ⟨2 + r.val, by omega⟩ j) = _
  rw [after0_8]
  refine (after_kept m c (point b) ⟨2 + r.val, by omega⟩ j).trans ?_
  rw [← rows_seq]
  exact congrArg (rows _ _ j) (show 4 + (2 + r.val) = 2 + (4 + r.val) by omega)

/-- The gated result that the host leaves. -/
def gatedOut : S32x4x1024.Idx → EReal := Pipeline.afterTail₀ cfgs (dats (F := Ideal) m) 0 (V0 m) [hostOps1] c main_v6

/-- The kept rows that the host leaves. -/
def keptOut : S32x30x1024.Idx → EReal := Pipeline.afterTail₀ cfgs (dats (F := Ideal) m) 0 (V0 m) [hostOps1] c main_v7

/-- THE RUN, its results named: the host leaves `gatedOut` and `keptOut`, and the arguments are unchanged. -/
theorem run_out (ρ : Dev nD → PrngReg) : θ_run defs (onTc (τ := τ) (main (F := Ideal))) ⟨m, fun _ => 0, ρ⟩ (fun r => ∀ c : Dev nD,
      r.2.mem ((c.tc : Thread nD τ).loc main_v6) = gatedOut m c
      ∧ r.2.mem ((c.tc : Thread nD τ).loc main_v7) = keptOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1 c).2 main_v6 (Pipeline.mem_restRefs_of main_v6 (by decide) (by decide)),
    (h.1 c).2 main_v7 (Pipeline.mem_restRefs_of main_v7 (by decide) (by decide)), h.2 c⟩)
    (θ_run_and (run_main m ρ) (unchanged m ρ))

/-- The gated result at a place. -/
theorem gatedOut_apply (b : Fin 32) (s : Fin 4) (j : Fin 1024) :
    gatedOut m c (ix3 b s j) = gatedRow (tokenConv m c b ⟨s.val, by omega⟩) (lnGain m c (ix1 j)) (lnBias m c (ix1 j)) (gate m c (ix3 b ⟨s.val, by omega⟩ j)) j := by
  refine Eq.trans ?_ (gated_array m c b ⟨s.val, by omega⟩ j)
  have a := Pipeline.withArrays_arr spec0 (by decide) c (V0 m c) (fun w => (dats m 0 c).arrAt w cfg0.N) 7
  unfold gatedOut Pipeline.afterTail₀
  simp only [hostOps1, List.flatten_cons, List.flatten_nil, List.append_nil]
  after_reads_simp
  refine Eq.trans ?_ (congrFun a _)
  generalize (Pipeline.withArrays spec0 c (V0 m c) (fun w => (dats m 0 c).arrAt w cfg0.N) (Proc.devRef .tc (Pipeline.arrRef spec0 7)) : S32x16x1024.Idx → EReal) = z
  pointwise []

/-- The kept rows at a place. -/
theorem keptOut_apply (b : Fin 32) (r : Fin 30) (j : Fin 1024) : keptOut m c (ix3 b r j) = seqRow m c b j (4 + r.val) := by
  refine Eq.trans ?_ (kept_array m c b r j)
  have a := Pipeline.withArrays_arr spec0 (by decide) c (V0 m c) (fun w => (dats m 0 c).arrAt w cfg0.N) 8
  unfold keptOut Pipeline.afterTail₀
  simp only [hostOps1, List.flatten_cons, List.flatten_nil, List.append_nil]
  after_reads_simp
  refine Eq.trans ?_ (congrFun a _)
  generalize (Pipeline.withArrays spec0 c (V0 m c) (fun w => (dats m 0 c).arrAt w cfg0.N) (Proc.devRef .tc (Pipeline.arrRef spec0 8)) : S32x32x1024.Idx → EReal) = z
  pointwise []

end Cert.Conv

end
-- ==== Proof.ConvReference.lean ====
module

public import proofs.«01_k».proof.Defs
public import proofs.«01_k».proof.Proof.ConvKernel
public import proofs.«01_k».proof.Proof.Gen.Reference7Ideal.Run

/-! # The sample's convolution in the reference, at a place -/

@[expose] public section

set_option maxRecDepth 16384

noncomputable section

namespace Cert.Conv

open Cert.Reference7Ideal Cert.Reference7Ideal.Gen Cert.Reference7Ideal.Value Idealize.ShloMosaic Idealize.ShloMosaic.TcCoe Idealize.SL.Sem Cert.Gates

/-- A tap's product, by its number. -/
def product (z : FVec Ideal S32x34x1024 .f32) (w : FVec Ideal S31x1024 .f32) (b : Fin 32) (s : Fin 4) (j : Fin 1024) (k : ℕ) : EReal :=
  if h : k < 31 then z (ix3 b ⟨k + s.val, by omega⟩ j) * w (ix2 ⟨k, h⟩ j) else 0

/-- A tap's product in the reference. -/
theorem product_apply (z : FVec Ideal S32x34x1024 .f32) (w : FVec Ideal S31x1024 .f32) (k : ℕ) (hk : k < 31)
    (h1 : S32x34x1024.Slices ![0, k, 0] S32x4x1024) (h2 : S31x1024.Slices ![k, 0] S1x1024) (b : Fin 32) (s : Fin 4) (j : Fin 1024) :
    mulf (extractStridedSlice S32x4x1024 ![0, k, 0] z h1) (broadcastInDim S32x4x1024 ![0, 1, 2] bcast_S1x1x1024_S32x4x1024_0_1_2
      (broadcastInDim S1x1x1024 ![2] bcast_S1024_S1x1x1024_2 (shapeCast S1024 (extractStridedSlice S1x1024 ![k, 0] w h2) shapeCasts_S1x1024_S1024)))
      (ix3 b s j) = product z w b s j k := by
  unfold product
  rw [dif_pos hk]
  pointwise []

variable (V : Valuation τ sig (Elt Ideal))

/-- The rows of the cache and the tokens. -/
def joinedRows : FVec Ideal S32x34x1024 .f32 := res_main_v2 V

/-- The convolution of the reference at a place. -/
theorem reference_conv (b : Fin 32) (s : Fin 4) (j : Fin 1024) :
    (res_main_v223 V : FVec Ideal S32x4x1024 .f32) (ix3 b s j)
      = (∑ k ∈ Finset.range 31, product (joinedRows V) (V (Proc.devRef .tc main_arg3)) b s j k) + (V (Proc.devRef .tc main_arg4) : FVec Ideal S1024 .f32) (ix1 j) := by
  have eb : (broadcastInDim S32x4x1024 ![0, 1, 2] bcast_S1x1x1024_S32x4x1024_0_1_2 (broadcastInDim S1x1x1024 ![2] bcast_S1024_S1x1x1024_2
      (V (Proc.devRef .tc main_arg4) : FVec Ideal S1024 .f32)) : FVec Ideal S32x4x1024 .f32) (ix3 b s j) = (V (Proc.devRef .tc main_arg4) : FVec Ideal S1024 .f32) (ix1 j) := by
    pointwise []
  have e0 : (broadcastInDim S32x4x1024 ![] bcast_S_S32x4x1024 (constant S_ .f32 0x00000000#32) : FVec Ideal S32x4x1024 .f32) (ix3 b s j) = (0 : EReal) := by
    pointwise []
  unfold res_main_v223 res_main_v157 res_main_v80
  simp only [addf_apply]
  simp only [Finset.sum_range_succ, Finset.sum_range_zero]
  refine congrArg₂ (· + ·) ?_ eb
  iterate 31 refine congrArg₂ (· + ·) ?_ (product_apply (joinedRows V) _ _ (by decide) _ _ b s j)
  exact e0

/-- A row of the reference less its mean. -/
theorem reference_centered (b : Fin 32) (s : Fin 4) (j : Fin 1024) :
    (res_main_v229 V : FVec Ideal S32x4x1024 .f32) (ix3 b s j) = centered (fun k => (res_main_v223 V : FVec Ideal S32x4x1024 .f32) (ix3 b s k)) j := by
  unfold res_main_v229
  generalize (res_main_v223 V : FVec Ideal S32x4x1024 .f32) = y
  pointwise []
  rfl

/-- A row of the reference, normed. -/
theorem reference_normed (b : Fin 32) (s : Fin 4) (j : Fin 1024) :
    (res_main_v245 V : FVec Ideal S32x4x1024 .f32) (ix3 b s j)
      = scaled (fun k => (res_main_v223 V : FVec Ideal S32x4x1024 .f32) (ix3 b s k)) j * (V (Proc.devRef .tc main_arg5) : FVec Ideal S1024 .f32) (ix1 j)
        + (V (Proc.devRef .tc main_arg6) : FVec Ideal S1024 .f32) (ix1 j) := by
  unfold scaled
  simp only [← reference_centered]
  unfold res_main_v245
  generalize (res_main_v229 V : FVec Ideal S32x4x1024 .f32) = y
  pointwise []

/-- The logistic as the reference writes it. -/
def sigmoids (z : FVec Ideal S32x4x1024 .f32) : FVec Ideal S32x4x1024 .f32 :=
  Host.divf (broadcastInDim S32x4x1024 ![] bcast_S_S32x4x1024 (constant S_ .f32 0x3F800000#32))
    (addf (broadcastInDim S32x4x1024 ![] bcast_S_S32x4x1024 (constant S_ .f32 0x3F800000#32)) (Host.exp (Host.negf z)))

/-- The logistic, at a place. -/
theorem sigmoids_apply (z : FVec Ideal S32x4x1024 .f32) (i : S32x4x1024.Idx) : sigmoids z i = Ideal.logistic (z i) := by
  pointwise [sigmoids]
  rfl

/-- The gated result as the reference writes it. -/
theorem reference_gated (z : FVec Ideal S32x4x1024 .f32) (g : FVec Ideal S32x16x1024 .f32) (b : Fin 32) (s : Fin 4) (j : Fin 1024) :
    truncf .bf16 (mulf (mulf z (sigmoids z)) (extractStridedSlice S32x4x1024 ![0, 0, 0] g slices_S32x16x1024_S32x4x1024_0_0_0)) bitsLt_bf16_f32 (ix3 b s j)
      = silu (z (ix3 b s j)) * g (ix3 b ⟨s.val, by omega⟩ j) := by
  unfold silu
  rw [← sigmoids_apply]
  pointwise []

/-- The kept rows as the reference writes them. -/
theorem reference_kept (z : FVec Ideal S32x34x1024 .f32) (b : Fin 32) (r : Fin 30) (j : Fin 1024) :
    extractStridedSlice S32x30x1024 ![0, 4, 0] z slices_S32x34x1024_S32x30x1024_0_4_0 (ix3 b r j) = z (ix3 b ⟨4 + r.val, by omega⟩ j) := by
  pointwise []

/-- A joined row: the cache's, then the tokens'. -/
theorem joined_apply (b : Fin 32) (R : Fin 34) (j : Fin 1024) :
    joinedRows V (ix3 b R j) = if h : R.val < 30 then (V (Proc.devRef .tc main_arg2) : FVec Ideal S32x30x1024 .f32) (ix3 b ⟨R.val, h⟩ j)
      else (V (Proc.devRef .tc main_arg0) : FVec Ideal S32x16x1024 .f32) (ix3 b ⟨R.val - 30, by omega⟩ j) := by
  unfold joinedRows res_main_v2
  pointwise []

section Agree

variable (m : (ℓ : Loc Kernel7Ideal.nD Kernel7Ideal.τ Kernel7Ideal.sig) → Buf (Elt Ideal) ℓ) (c : Dev Kernel7Ideal.nD)

/-- The joined rows of the same cache and tokens are the sequence's. -/
theorem joined_seq (h0 : (V (Proc.devRef .tc main_arg0) : FVec Ideal S32x16x1024 .f32) = tokens m c)
    (h2 : (V (Proc.devRef .tc main_arg2) : FVec Ideal S32x30x1024 .f32) = cache m c) (b : Fin 32) (R : Fin 34) (j : Fin 1024) :
    joinedRows V (ix3 b R j) = seqRow m c b j R.val := by
  rw [joined_apply, h0, h2]
  unfold seqRow
  split
  · rfl
  · rw [dif_pos (by omega)]

/-- The convolution of the same arguments is the token's. -/
theorem conv_token (h0 : (V (Proc.devRef .tc main_arg0) : FVec Ideal S32x16x1024 .f32) = tokens m c)
    (h2 : (V (Proc.devRef .tc main_arg2) : FVec Ideal S32x30x1024 .f32) = cache m c)
    (h3 : (V (Proc.devRef .tc main_arg3) : FVec Ideal S31x1024 .f32) = taps m c)
    (h4 : (V (Proc.devRef .tc main_arg4) : FVec Ideal S1024 .f32) = bias m c) (b : Fin 32) (s : Fin 4) (j : Fin 1024) :
    (res_main_v223 V : FVec Ideal S32x4x1024 .f32) (ix3 b s j) = tokenConv m c b ⟨s.val, by omega⟩ j := by
  rw [reference_conv, h3, h4, Finset.sum_range]
  unfold tokenConv
  refine congrArg (· + bias m c (ix1 j)) (Finset.sum_congr rfl fun k _ => ?_)
  unfold product
  rw [dif_pos k.isLt, joined_seq V m c h0 h2]

end Agree

/-- THE VALUES of the sample's convolution: the reference's results are the kernel's. -/
theorem value : Cert.algebraic_Kernel7Ideal_Reference7Ideal := by
  intro m g m' g' _ hm
  refine ⟨fun c => gatedOut m c, fun c => keptOut m c, run_out m g, ?_⟩
  refine (θ_run Cert.Reference7Ideal.defs _ _).mono (fun r h c => ⟨(h c).1.trans ?_, (h c).2.1.trans ?_, (h c).2.2⟩) (Cert.Reference7Ideal.Value.run m' g')
  · obtain ⟨e0, e1, e2, e3, e4, e5, e6⟩ := hm c
    funext i
    rw [eq_ix3 i]
    refine (reference_gated (res_main_v245 (StableHlo.launchContents m' c)) _ (i 0) (i 1) (i 2)).trans (Eq.trans ?_ (gatedOut_apply m c (i 0) (i 1) (i 2)).symm)
    refine congrArg₂ (fun x y => silu x * y) ((reference_normed (StableHlo.launchContents m' c) (i 0) (i 1) (i 2)).trans ?_) (congrFun e1 _)
    exact congrArg₂ (· + ·) (congrArg₂ (· * ·)
      (congrArg (scaled · (i 2)) (funext fun k => conv_token (StableHlo.launchContents m' c) m c e0 e2 e3 e4 (i 0) (i 1) k)) (congrFun e5 _)) (congrFun e6 _)
  · obtain ⟨e0, e1, e2, e3, e4, e5, e6⟩ := hm c
    funext i
    rw [eq_ix3 i]
    refine (reference_kept (joinedRows (StableHlo.launchContents m' c)) (i 0) (i 1) (i 2)).trans (Eq.trans ?_ (keptOut_apply m c (i 0) (i 1) (i 2)).symm)
    exact joined_seq (StableHlo.launchContents m' c) m c e0 e2 (i 0) _ (i 2)

end Cert.Conv

end
-- ==== Proof.lean ====
module

public import proofs.«01_k».proof.Defs
public import proofs.«01_k».proof.Proof.Gen.Pre_finite_decaying
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Grid
public import proofs.«01_k».proof.Proof.Result
public import proofs.«01_k».proof.Proof.OddReference
public import proofs.«01_k».proof.Proof.OutReference
public import proofs.«01_k».proof.Proof.OutEvenReference
public import proofs.«01_k».proof.Proof.EvenReference
public import proofs.«01_k».proof.Proof.OutSampleReference
public import proofs.«01_k».proof.Proof.ConvReference
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The two named constants: each literal's name reads as the real it stands for. -/
theorem names : Cert.preserves_Kernel_KernelIdeal :=
  ⟨IdealRules.named_const.statement _ _ _ _ _ rfl, IdealRules.named_const.statement _ _ _ _ _ rfl⟩

/-- The reference's frame: its run leaves the arguments unchanged, and it declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- The frame of the reference's odd layer's input projection. -/
theorem frame_reference2 : Cert.quiescent_Reference2Ideal := fun m ρ _ =>
  (θ_run Cert.Reference2Ideal.defs _ _).mono (fun r h => ⟨fun c => (h c).2.2.2.2.2, sem_eq_zero_of_no_sems (by decide) r.2⟩)
    (Cert.Reference2Ideal.Value.run m ρ)

/-- The frame of the reference's odd layer's output projection. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- The frame of the reference's even layer's output projection. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

/-- The frame of the reference's even layer's input projection. -/
theorem frame_reference5 : Cert.quiescent_Reference5Ideal := fun m ρ _ =>
  (θ_run Cert.Reference5Ideal.defs _ _).mono (fun r h => ⟨fun c => (h c).2.2.2.2.2.2, sem_eq_zero_of_no_sems (by decide) r.2⟩)
    (Cert.Reference5Ideal.Value.run m ρ)

/-- The arguments of the reference of the sample's output projection end unchanged, and nothing is left to wait for. -/
theorem frame_reference6 : Cert.quiescent_Reference6Ideal := fun m ρ _ =>
  (θ_run Cert.Reference6Ideal.defs _ _).mono (fun r h => ⟨fun c => (h c).2, sem_eq_zero_of_no_sems (by decide) r.2⟩) (Cert.Reference6Ideal.Value.run m ρ)

/-- The arguments of the reference of the sample's convolution end unchanged, and nothing is left to wait for. -/
theorem frame_reference7 : Cert.quiescent_Reference7Ideal := fun m ρ _ =>
  (θ_run Cert.Reference7Ideal.defs _ _).mono (fun r h => ⟨fun c => (h c).2.2, sem_eq_zero_of_no_sems (by decide) r.2⟩) (Cert.Reference7Ideal.Value.run m ρ)

/-- What the precondition says of the launch's arrays. -/
theorem tame (m : (ℓ : Loc Cert.KernelIdeal.nD Cert.KernelIdeal.τ Cert.KernelIdeal.sig) → Buf (Elt Ideal) ℓ) (h : Cert.Pre_KernelIdeal_finite_decaying m)
    (c : Dev Cert.KernelIdeal.nD) : Arrays.Tame (Head.aq m c) (Head.af m c) (Head.ak m c) (Head.av m c) (Head.ast m c) := by
  obtain ⟨h1, h2, h3, h4, h5⟩ := Pre_finite_decaying.decode _ _ _ _ _ _ _ (h c)
  exact ⟨fun i => (h1 i).1, fun i => (h1 i).2, h2, h3, h4, h5⟩

/-- A place of an output block, its last coordinate as a head's lane. -/
theorem lane_split (i : (⟨3, ![8, 2048, 2048]⟩ : Shape).Idx) :
    ∃ (b : Fin 8) (t : Fin 2048) (n : ℕ) (hn : n < 16) (e : Fin 128), i = ix3 b t ⟨128 * n + e.val, by omega⟩ := by
  have h2 : (i 2).val < 2048 := (i 2).isLt
  refine ⟨i 0, i 1, (i 2).val / 128, by omega, ⟨(i 2).val % 128, by omega⟩, (eq_ix3 i).trans (congrArg (ix3 (i 0) (i 1)) (Fin.ext ?_))⟩
  show (i 2).val = 128 * ((i 2).val / 128) + (i 2).val % 128
  omega

/-- THE VALUES: from launches that agree, the reference's two results are the kernel's. -/
theorem value : Cert.algebraic_KernelIdeal_ReferenceIdeal_pre_finite_decaying := by
  intro m g m' g' hp hm
  refine ⟨fun c => KernelIdeal.Value.G7 m c, fun c => KernelIdeal.Value.G8 m c, KernelIdeal.Value.run m g, ?_⟩
  refine (θ_run Cert.ReferenceIdeal.defs _ _).mono (fun r h c => ⟨?_, ?_, (h c).2.2⟩) (Cert.ReferenceIdeal.Value.run m' g')
  · refine (h c).1.trans ?_
    have T := tame m hp c
    obtain ⟨e0, e1, e2, e3, e4, e5, e6⟩ := hm c
    have T' : Arrays.Tame (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg6)) := by
      rw [e0, e1, e2, e3, e6]
      exact T
    funext i
    obtain ⟨b, t, n, hn, e, rfl⟩ := lane_split i
    refine (Loop.result_out m' c T' b t n hn e).trans (Eq.trans ?_ (Head.G7_apply m c T b t n hn e).symm)
    rw [e0, e1, e2, e3, e4, e5, e6]
  · refine (h c).2.1.trans ?_
    have T := tame m hp c
    obtain ⟨e0, e1, e2, e3, e4, e5, e6⟩ := hm c
    have T' : Arrays.Tame (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg6)) := by
      rw [e0, e1, e2, e3, e6]
      exact T
    funext i
    rw [eq_ix4 i]
    refine (Loop.result_state m' c T' (i 0) (i 1) (i 2) (i 3)).trans (Eq.trans ?_ (Head.G8_apply m c T (i 0) (i 1) (i 2) (i 3)).symm)
    rw [e1, e2, e3, e6]

/-- `Cert.Claim`: the side facts, the frames, the rewrites' statements and the values. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Pre_finite_decaying.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    names, value, trivial, Cert.InOdd.value, trivial, Cert.OutOdd.value, trivial, Cert.OutEven.value, trivial, Cert.InEven.value,
    trivial, Cert.OutSample.value, trivial, Cert.Conv.value⟩

end Cert.Proof

end
